-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_steps_finite [hPre_steps_finite : Cert.Pre_steps_finite.Facts] (m : (ℓ : Loc Cert.KernelIdeal.nD Cert.KernelIdeal.τ Cert.KernelIdeal.sig) → Buf (Elt Ideal) ℓ) : Prop :=
  ∀ c : Dev Cert.KernelIdeal.nD,
    (Cert.Pre_steps_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_steps_finite [hPre_steps_finite : Cert.Pre_steps_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_steps_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelZ (m : (ℓ : Loc Cert.KernelZ.nD Cert.KernelZ.τ Cert.KernelZ.sig) → Buf (Elt Bits) ℓ) : Prop :=
  True

def Pre_KernelZIdeal (m : (ℓ : Loc Cert.KernelZIdeal.nD Cert.KernelZIdeal.τ Cert.KernelZIdeal.sig) → Buf (Elt Ideal) ℓ) : Prop :=
  True

def Pre_ReferenceZIdeal (m : (ℓ : Loc Cert.ReferenceZIdeal.nD Cert.ReferenceZIdeal.τ Cert.ReferenceZIdeal.sig) → Buf (Elt Ideal) ℓ) : Prop :=
  True

def Pre_KernelGrid (m : (ℓ : Loc Cert.KernelGrid.nD Cert.KernelGrid.τ Cert.KernelGrid.sig) → Buf (Elt Bits) ℓ) : Prop :=
  True

def Pre_KernelGridIdeal (m : (ℓ : Loc Cert.KernelGridIdeal.nD Cert.KernelGridIdeal.τ Cert.KernelGridIdeal.sig) → Buf (Elt Ideal) ℓ) : Prop :=
  True

def Pre_ReferenceGridIdeal (m : (ℓ : Loc Cert.ReferenceGridIdeal.nD Cert.ReferenceGridIdeal.τ Cert.ReferenceGridIdeal.sig) → Buf (Elt Ideal) ℓ) : Prop :=
  True

def Pre_KernelSeq (m : (ℓ : Loc Cert.KernelSeq.nD Cert.KernelSeq.τ Cert.KernelSeq.sig) → Buf (Elt Bits) ℓ) : Prop :=
  True

def Pre_KernelSeqIdeal (m : (ℓ : Loc Cert.KernelSeqIdeal.nD Cert.KernelSeqIdeal.τ Cert.KernelSeqIdeal.sig) → Buf (Elt Ideal) ℓ) : Prop :=
  True

def Pre_ReferenceSeqIdeal (m : (ℓ : Loc Cert.ReferenceSeqIdeal.nD Cert.ReferenceSeqIdeal.τ Cert.ReferenceSeqIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelDt (m : (ℓ : Loc Cert.KernelDt.nD Cert.KernelDt.τ Cert.KernelDt.sig) → Buf (Elt Bits) ℓ) : Prop :=
  True

def Pre_KernelDtIdeal (m : (ℓ : Loc Cert.KernelDtIdeal.nD Cert.KernelDtIdeal.τ Cert.KernelDtIdeal.sig) → Buf (Elt Ideal) ℓ) : Prop :=
  True

def Pre_ReferenceDtIdeal (m : (ℓ : Loc Cert.ReferenceDtIdeal.nD Cert.ReferenceDtIdeal.τ Cert.ReferenceDtIdeal.sig) → Buf (Elt Ideal) ℓ) : Prop :=
  True

def Pre_KernelCtxDt (m : (ℓ : Loc Cert.KernelCtxDt.nD Cert.KernelCtxDt.τ Cert.KernelCtxDt.sig) → Buf (Elt Bits) ℓ) : Prop :=
  True

def Pre_KernelCtxDtIdeal (m : (ℓ : Loc Cert.KernelCtxDtIdeal.nD Cert.KernelCtxDtIdeal.τ Cert.KernelCtxDtIdeal.sig) → Buf (Elt Ideal) ℓ) : Prop :=
  True

def Pre_ReferenceCtxDtIdeal (m : (ℓ : Loc Cert.ReferenceCtxDtIdeal.nD Cert.ReferenceCtxDtIdeal.τ Cert.ReferenceCtxDtIdeal.sig) → Buf (Elt Ideal) ℓ) : Prop :=
  True

def Pre_KernelCtx (m : (ℓ : Loc Cert.KernelCtx.nD Cert.KernelCtx.τ Cert.KernelCtx.sig) → Buf (Elt Bits) ℓ) : Prop :=
  True

def Pre_KernelCtxIdeal (m : (ℓ : Loc Cert.KernelCtxIdeal.nD Cert.KernelCtxIdeal.τ Cert.KernelCtxIdeal.sig) → Buf (Elt Ideal) ℓ) : Prop :=
  True

def Pre_ReferenceCtxIdeal (m : (ℓ : Loc Cert.ReferenceCtxIdeal.nD Cert.ReferenceCtxIdeal.τ Cert.ReferenceCtxIdeal.sig) → Buf (Elt Ideal) ℓ) : Prop :=
  True

def Pre_KernelStates (m : (ℓ : Loc Cert.KernelStates.nD Cert.KernelStates.τ Cert.KernelStates.sig) → Buf (Elt Bits) ℓ) : Prop :=
  True

def Pre_KernelStatesIdeal (m : (ℓ : Loc Cert.KernelStatesIdeal.nD Cert.KernelStatesIdeal.τ Cert.KernelStatesIdeal.sig) → Buf (Elt Ideal) ℓ) : Prop :=
  True

def Pre_KernelStatesIdeal_context_steps_finite [hPre_context_steps_finite : Cert.Pre_context_steps_finite.Facts] (m : (ℓ : Loc Cert.KernelStatesIdeal.nD Cert.KernelStatesIdeal.τ Cert.KernelStatesIdeal.sig) → Buf (Elt Ideal) ℓ) : Prop :=
  ∀ c : Dev Cert.KernelStatesIdeal.nD,
    (Cert.Pre_context_steps_finite.fn (F := Ideal) (m ((c.tc : Thread Cert.KernelStatesIdeal.nD Cert.KernelStatesIdeal.τ).loc Cert.KernelStatesIdeal.main_arg0)) (m ((c.tc : Thread Cert.KernelStatesIdeal.nD Cert.KernelStatesIdeal.τ).loc Cert.KernelStatesIdeal.main_arg1)) (m ((c.tc : Thread Cert.KernelStatesIdeal.nD Cert.KernelStatesIdeal.τ).loc Cert.KernelStatesIdeal.main_arg2)) (m ((c.tc : Thread Cert.KernelStatesIdeal.nD Cert.KernelStatesIdeal.τ).loc Cert.KernelStatesIdeal.main_arg3))) = (fun _ => 1#1)

def Pre_ReferenceStatesIdeal (m : (ℓ : Loc Cert.ReferenceStatesIdeal.nD Cert.ReferenceStatesIdeal.τ Cert.ReferenceStatesIdeal.sig) → Buf (Elt Ideal) ℓ) : Prop :=
  True

def Pre_ReferenceStatesIdeal_context_steps_finite [hPre_context_steps_finite : Cert.Pre_context_steps_finite.Facts] (m : (ℓ : Loc Cert.ReferenceStatesIdeal.nD Cert.ReferenceStatesIdeal.τ Cert.ReferenceStatesIdeal.sig) → Buf (Elt Ideal) ℓ) : Prop :=
  ∀ c : Dev Cert.ReferenceStatesIdeal.nD,
    (Cert.Pre_context_steps_finite.fn (F := Ideal) (m ((c.tc : Thread Cert.ReferenceStatesIdeal.nD Cert.ReferenceStatesIdeal.τ).loc Cert.ReferenceStatesIdeal.main_arg0)) (m ((c.tc : Thread Cert.ReferenceStatesIdeal.nD Cert.ReferenceStatesIdeal.τ).loc Cert.ReferenceStatesIdeal.main_arg1)) (m ((c.tc : Thread Cert.ReferenceStatesIdeal.nD Cert.ReferenceStatesIdeal.τ).loc Cert.ReferenceStatesIdeal.main_arg2)) (m ((c.tc : Thread Cert.ReferenceStatesIdeal.nD Cert.ReferenceStatesIdeal.τ).loc Cert.ReferenceStatesIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_steps_finite [hKernelIdeal : Cert.KernelIdeal.Facts] [hPre_steps_finite : Cert.Pre_steps_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_steps_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_steps_finite [hReferenceIdeal : Cert.ReferenceIdeal.Facts] [hPre_steps_finite : Cert.Pre_steps_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_steps_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelZ [hKernelZ : Cert.KernelZ.Facts] : Prop :=
  ∀ (m : (ℓ : Loc Cert.KernelZ.nD Cert.KernelZ.τ Cert.KernelZ.sig) → Buf (Elt Bits) ℓ) (g : Dev Cert.KernelZ.nD → PrngReg), Pre_KernelZ m →
    θ_run (Cert.KernelZ.defs (F := Bits)) (onTc (τ := Cert.KernelZ.τ) (Cert.KernelZ.main (F := Bits))) ⟨m, fun _ => 0, g⟩ (fun r => (∀ c : Dev Cert.KernelZ.nD,
      r.2.mem ((c.tc : Thread Cert.KernelZ.nD Cert.KernelZ.τ).loc Cert.KernelZ.main_arg0) = m ((c.tc : Thread Cert.KernelZ.nD Cert.KernelZ.τ).loc Cert.KernelZ.main_arg0)
      ∧ r.2.mem ((c.tc : Thread Cert.KernelZ.nD Cert.KernelZ.τ).loc Cert.KernelZ.main_arg1) = m ((c.tc : Thread Cert.KernelZ.nD Cert.KernelZ.τ).loc Cert.KernelZ.main_arg1)
      ∧ r.2.mem ((c.tc : Thread Cert.KernelZ.nD Cert.KernelZ.τ).loc Cert.KernelZ.main_arg2) = m ((c.tc : Thread Cert.KernelZ.nD Cert.KernelZ.τ).loc Cert.KernelZ.main_arg2)
      ∧ r.2.mem ((c.tc : Thread Cert.KernelZ.nD Cert.KernelZ.τ).loc Cert.KernelZ.main_arg3) = m ((c.tc : Thread Cert.KernelZ.nD Cert.KernelZ.τ).loc Cert.KernelZ.main_arg3))
      ∧ r.2.sem = fun _ => 0)

def quiescent_KernelZIdeal [hKernelZIdeal : Cert.KernelZIdeal.Facts] : Prop :=
  ∀ (m : (ℓ : Loc Cert.KernelZIdeal.nD Cert.KernelZIdeal.τ Cert.KernelZIdeal.sig) → Buf (Elt Ideal) ℓ) (g : Dev Cert.KernelZIdeal.nD → PrngReg), Pre_KernelZIdeal m →
    θ_run (Cert.KernelZIdeal.defs (F := Ideal)) (onTc (τ := Cert.KernelZIdeal.τ) (Cert.KernelZIdeal.main (F := Ideal))) ⟨m, fun _ => 0, g⟩ (fun r => (∀ c : Dev Cert.KernelZIdeal.nD,
      r.2.mem ((c.tc : Thread Cert.KernelZIdeal.nD Cert.KernelZIdeal.τ).loc Cert.KernelZIdeal.main_arg0) = m ((c.tc : Thread Cert.KernelZIdeal.nD Cert.KernelZIdeal.τ).loc Cert.KernelZIdeal.main_arg0)
      ∧ r.2.mem ((c.tc : Thread Cert.KernelZIdeal.nD Cert.KernelZIdeal.τ).loc Cert.KernelZIdeal.main_arg1) = m ((c.tc : Thread Cert.KernelZIdeal.nD Cert.KernelZIdeal.τ).loc Cert.KernelZIdeal.main_arg1)
      ∧ r.2.mem ((c.tc : Thread Cert.KernelZIdeal.nD Cert.KernelZIdeal.τ).loc Cert.KernelZIdeal.main_arg2) = m ((c.tc : Thread Cert.KernelZIdeal.nD Cert.KernelZIdeal.τ).loc Cert.KernelZIdeal.main_arg2)
      ∧ r.2.mem ((c.tc : Thread Cert.KernelZIdeal.nD Cert.KernelZIdeal.τ).loc Cert.KernelZIdeal.main_arg3) = m ((c.tc : Thread Cert.KernelZIdeal.nD Cert.KernelZIdeal.τ).loc Cert.KernelZIdeal.main_arg3))
      ∧ r.2.sem = fun _ => 0)

def quiescent_ReferenceZIdeal [hReferenceZIdeal : Cert.ReferenceZIdeal.Facts] : Prop :=
  ∀ (m : (ℓ : Loc Cert.ReferenceZIdeal.nD Cert.ReferenceZIdeal.τ Cert.ReferenceZIdeal.sig) → Buf (Elt Ideal) ℓ) (g : Dev Cert.ReferenceZIdeal.nD → PrngReg), Pre_ReferenceZIdeal m →
    θ_run (Cert.ReferenceZIdeal.defs (F := Ideal)) (onTc (τ := Cert.ReferenceZIdeal.τ) (Cert.ReferenceZIdeal.main (F := Ideal))) ⟨m, fun _ => 0, g⟩ (fun r => (∀ c : Dev Cert.ReferenceZIdeal.nD,
      r.2.mem ((c.tc : Thread Cert.ReferenceZIdeal.nD Cert.ReferenceZIdeal.τ).loc Cert.ReferenceZIdeal.main_arg0) = m ((c.tc : Thread Cert.ReferenceZIdeal.nD Cert.ReferenceZIdeal.τ).loc Cert.ReferenceZIdeal.main_arg0)
      ∧ r.2.mem ((c.tc : Thread Cert.ReferenceZIdeal.nD Cert.ReferenceZIdeal.τ).loc Cert.ReferenceZIdeal.main_arg1) = m ((c.tc : Thread Cert.ReferenceZIdeal.nD Cert.ReferenceZIdeal.τ).loc Cert.ReferenceZIdeal.main_arg1)
      ∧ r.2.mem ((c.tc : Thread Cert.ReferenceZIdeal.nD Cert.ReferenceZIdeal.τ).loc Cert.ReferenceZIdeal.main_arg2) = m ((c.tc : Thread Cert.ReferenceZIdeal.nD Cert.ReferenceZIdeal.τ).loc Cert.ReferenceZIdeal.main_arg2)
      ∧ r.2.mem ((c.tc : Thread Cert.ReferenceZIdeal.nD Cert.ReferenceZIdeal.τ).loc Cert.ReferenceZIdeal.main_arg3) = m ((c.tc : Thread Cert.ReferenceZIdeal.nD Cert.ReferenceZIdeal.τ).loc Cert.ReferenceZIdeal.main_arg3))
      ∧ r.2.sem = fun _ => 0)

def quiescent_KernelGrid [hKernelGrid : Cert.KernelGrid.Facts] : Prop :=
  ∀ (m : (ℓ : Loc Cert.KernelGrid.nD Cert.KernelGrid.τ Cert.KernelGrid.sig) → Buf (Elt Bits) ℓ) (g : Dev Cert.KernelGrid.nD → PrngReg), Pre_KernelGrid m →
    θ_run (Cert.KernelGrid.defs (F := Bits)) (onTc (τ := Cert.KernelGrid.τ) (Cert.KernelGrid.main (F := Bits))) ⟨m, fun _ => 0, g⟩ (fun r => (∀ c : Dev Cert.KernelGrid.nD,
      r.2.mem ((c.tc : Thread Cert.KernelGrid.nD Cert.KernelGrid.τ).loc Cert.KernelGrid.main_arg0) = m ((c.tc : Thread Cert.KernelGrid.nD Cert.KernelGrid.τ).loc Cert.KernelGrid.main_arg0)
      ∧ r.2.mem ((c.tc : Thread Cert.KernelGrid.nD Cert.KernelGrid.τ).loc Cert.KernelGrid.main_arg1) = m ((c.tc : Thread Cert.KernelGrid.nD Cert.KernelGrid.τ).loc Cert.KernelGrid.main_arg1)
      ∧ r.2.mem ((c.tc : Thread Cert.KernelGrid.nD Cert.KernelGrid.τ).loc Cert.KernelGrid.main_arg2) = m ((c.tc : Thread Cert.KernelGrid.nD Cert.KernelGrid.τ).loc Cert.KernelGrid.main_arg2)
      ∧ r.2.mem ((c.tc : Thread Cert.KernelGrid.nD Cert.KernelGrid.τ).loc Cert.KernelGrid.main_arg3) = m ((c.tc : Thread Cert.KernelGrid.nD Cert.KernelGrid.τ).loc Cert.KernelGrid.main_arg3)
      ∧ r.2.mem ((c.tc : Thread Cert.KernelGrid.nD Cert.KernelGrid.τ).loc Cert.KernelGrid.main_arg4) = m ((c.tc : Thread Cert.KernelGrid.nD Cert.KernelGrid.τ).loc Cert.KernelGrid.main_arg4)
      ∧ r.2.mem ((c.tc : Thread Cert.KernelGrid.nD Cert.KernelGrid.τ).loc Cert.KernelGrid.main_arg5) = m ((c.tc : Thread Cert.KernelGrid.nD Cert.KernelGrid.τ).loc Cert.KernelGrid.main_arg5))
      ∧ r.2.sem = fun _ => 0)

def quiescent_KernelGridIdeal [hKernelGridIdeal : Cert.KernelGridIdeal.Facts] : Prop :=
  ∀ (m : (ℓ : Loc Cert.KernelGridIdeal.nD Cert.KernelGridIdeal.τ Cert.KernelGridIdeal.sig) → Buf (Elt Ideal) ℓ) (g : Dev Cert.KernelGridIdeal.nD → PrngReg), Pre_KernelGridIdeal m →
    θ_run (Cert.KernelGridIdeal.defs (F := Ideal)) (onTc (τ := Cert.KernelGridIdeal.τ) (Cert.KernelGridIdeal.main (F := Ideal))) ⟨m, fun _ => 0, g⟩ (fun r => (∀ c : Dev Cert.KernelGridIdeal.nD,
      r.2.mem ((c.tc : Thread Cert.KernelGridIdeal.nD Cert.KernelGridIdeal.τ).loc Cert.KernelGridIdeal.main_arg0) = m ((c.tc : Thread Cert.KernelGridIdeal.nD Cert.KernelGridIdeal.τ).loc Cert.KernelGridIdeal.main_arg0)
      ∧ r.2.mem ((c.tc : Thread Cert.KernelGridIdeal.nD Cert.KernelGridIdeal.τ).loc Cert.KernelGridIdeal.main_arg1) = m ((c.tc : Thread Cert.KernelGridIdeal.nD Cert.KernelGridIdeal.τ).loc Cert.KernelGridIdeal.main_arg1)
      ∧ r.2.mem ((c.tc : Thread Cert.KernelGridIdeal.nD Cert.KernelGridIdeal.τ).loc Cert.KernelGridIdeal.main_arg2) = m ((c.tc : Thread Cert.KernelGridIdeal.nD Cert.KernelGridIdeal.τ).loc Cert.KernelGridIdeal.main_arg2)
      ∧ r.2.mem ((c.tc : Thread Cert.KernelGridIdeal.nD Cert.KernelGridIdeal.τ).loc Cert.KernelGridIdeal.main_arg3) = m ((c.tc : Thread Cert.KernelGridIdeal.nD Cert.KernelGridIdeal.τ).loc Cert.KernelGridIdeal.main_arg3)
      ∧ r.2.mem ((c.tc : Thread Cert.KernelGridIdeal.nD Cert.KernelGridIdeal.τ).loc Cert.KernelGridIdeal.main_arg4) = m ((c.tc : Thread Cert.KernelGridIdeal.nD Cert.KernelGridIdeal.τ).loc Cert.KernelGridIdeal.main_arg4)
      ∧ r.2.mem ((c.tc : Thread Cert.KernelGridIdeal.nD Cert.KernelGridIdeal.τ).loc Cert.KernelGridIdeal.main_arg5) = m ((c.tc : Thread Cert.KernelGridIdeal.nD Cert.KernelGridIdeal.τ).loc Cert.KernelGridIdeal.main_arg5))
      ∧ r.2.sem = fun _ => 0)

def quiescent_ReferenceGridIdeal [hReferenceGridIdeal : Cert.ReferenceGridIdeal.Facts] : Prop :=
  ∀ (m : (ℓ : Loc Cert.ReferenceGridIdeal.nD Cert.ReferenceGridIdeal.τ Cert.ReferenceGridIdeal.sig) → Buf (Elt Ideal) ℓ) (g : Dev Cert.ReferenceGridIdeal.nD → PrngReg), Pre_ReferenceGridIdeal m →
    θ_run (Cert.ReferenceGridIdeal.defs (F := Ideal)) (onTc (τ := Cert.ReferenceGridIdeal.τ) (Cert.ReferenceGridIdeal.main (F := Ideal))) ⟨m, fun _ => 0, g⟩ (fun r => (∀ c : Dev Cert.ReferenceGridIdeal.nD,
      r.2.mem ((c.tc : Thread Cert.ReferenceGridIdeal.nD Cert.ReferenceGridIdeal.τ).loc Cert.ReferenceGridIdeal.main_arg0) = m ((c.tc : Thread Cert.ReferenceGridIdeal.nD Cert.ReferenceGridIdeal.τ).loc Cert.ReferenceGridIdeal.main_arg0)
      ∧ r.2.mem ((c.tc : Thread Cert.ReferenceGridIdeal.nD Cert.ReferenceGridIdeal.τ).loc Cert.ReferenceGridIdeal.main_arg1) = m ((c.tc : Thread Cert.ReferenceGridIdeal.nD Cert.ReferenceGridIdeal.τ).loc Cert.ReferenceGridIdeal.main_arg1)
      ∧ r.2.mem ((c.tc : Thread Cert.ReferenceGridIdeal.nD Cert.ReferenceGridIdeal.τ).loc Cert.ReferenceGridIdeal.main_arg2) = m ((c.tc : Thread Cert.ReferenceGridIdeal.nD Cert.ReferenceGridIdeal.τ).loc Cert.ReferenceGridIdeal.main_arg2)
      ∧ r.2.mem ((c.tc : Thread Cert.ReferenceGridIdeal.nD Cert.ReferenceGridIdeal.τ).loc Cert.ReferenceGridIdeal.main_arg3) = m ((c.tc : Thread Cert.ReferenceGridIdeal.nD Cert.ReferenceGridIdeal.τ).loc Cert.ReferenceGridIdeal.main_arg3)
      ∧ r.2.mem ((c.tc : Thread Cert.ReferenceGridIdeal.nD Cert.ReferenceGridIdeal.τ).loc Cert.ReferenceGridIdeal.main_arg4) = m ((c.tc : Thread Cert.ReferenceGridIdeal.nD Cert.ReferenceGridIdeal.τ).loc Cert.ReferenceGridIdeal.main_arg4)
      ∧ r.2.mem ((c.tc : Thread Cert.ReferenceGridIdeal.nD Cert.ReferenceGridIdeal.τ).loc Cert.ReferenceGridIdeal.main_arg5) = m ((c.tc : Thread Cert.ReferenceGridIdeal.nD Cert.ReferenceGridIdeal.τ).loc Cert.ReferenceGridIdeal.main_arg5))
      ∧ r.2.sem = fun _ => 0)

def quiescent_KernelSeq [hKernelSeq : Cert.KernelSeq.Facts] : Prop :=
  ∀ (m : (ℓ : Loc Cert.KernelSeq.nD Cert.KernelSeq.τ Cert.KernelSeq.sig) → Buf (Elt Bits) ℓ) (g : Dev Cert.KernelSeq.nD → PrngReg), Pre_KernelSeq m →
    θ_run (Cert.KernelSeq.defs (F := Bits)) (onTc (τ := Cert.KernelSeq.τ) (Cert.KernelSeq.main (F := Bits))) ⟨m, fun _ => 0, g⟩ (fun r => (∀ c : Dev Cert.KernelSeq.nD,
      r.2.mem ((c.tc : Thread Cert.KernelSeq.nD Cert.KernelSeq.τ).loc Cert.KernelSeq.main_arg0) = m ((c.tc : Thread Cert.KernelSeq.nD Cert.KernelSeq.τ).loc Cert.KernelSeq.main_arg0)
      ∧ r.2.mem ((c.tc : Thread Cert.KernelSeq.nD Cert.KernelSeq.τ).loc Cert.KernelSeq.main_arg1) = m ((c.tc : Thread Cert.KernelSeq.nD Cert.KernelSeq.τ).loc Cert.KernelSeq.main_arg1)
      ∧ r.2.mem ((c.tc : Thread Cert.KernelSeq.nD Cert.KernelSeq.τ).loc Cert.KernelSeq.main_arg2) = m ((c.tc : Thread Cert.KernelSeq.nD Cert.KernelSeq.τ).loc Cert.KernelSeq.main_arg2)
      ∧ r.2.mem ((c.tc : Thread Cert.KernelSeq.nD Cert.KernelSeq.τ).loc Cert.KernelSeq.main_arg3) = m ((c.tc : Thread Cert.KernelSeq.nD Cert.KernelSeq.τ).loc Cert.KernelSeq.main_arg3)
      ∧ r.2.mem ((c.tc : Thread Cert.KernelSeq.nD Cert.KernelSeq.τ).loc Cert.KernelSeq.main_arg4) = m ((c.tc : Thread Cert.KernelSeq.nD Cert.KernelSeq.τ).loc Cert.KernelSeq.main_arg4)
      ∧ r.2.mem ((c.tc : Thread Cert.KernelSeq.nD Cert.KernelSeq.τ).loc Cert.KernelSeq.main_arg5) = m ((c.tc : Thread Cert.KernelSeq.nD Cert.KernelSeq.τ).loc Cert.KernelSeq.main_arg5))
      ∧ r.2.sem = fun _ => 0)

def quiescent_KernelSeqIdeal [hKernelSeqIdeal : Cert.KernelSeqIdeal.Facts] : Prop :=
  ∀ (m : (ℓ : Loc Cert.KernelSeqIdeal.nD Cert.KernelSeqIdeal.τ Cert.KernelSeqIdeal.sig) → Buf (Elt Ideal) ℓ) (g : Dev Cert.KernelSeqIdeal.nD → PrngReg), Pre_KernelSeqIdeal m →
    θ_run (Cert.KernelSeqIdeal.defs (F := Ideal)) (onTc (τ := Cert.KernelSeqIdeal.τ) (Cert.KernelSeqIdeal.main (F := Ideal))) ⟨m, fun _ => 0, g⟩ (fun r => (∀ c : Dev Cert.KernelSeqIdeal.nD,
      r.2.mem ((c.tc : Thread Cert.KernelSeqIdeal.nD Cert.KernelSeqIdeal.τ).loc Cert.KernelSeqIdeal.main_arg0) = m ((c.tc : Thread Cert.KernelSeqIdeal.nD Cert.KernelSeqIdeal.τ).loc Cert.KernelSeqIdeal.main_arg0)
      ∧ r.2.mem ((c.tc : Thread Cert.KernelSeqIdeal.nD Cert.KernelSeqIdeal.τ).loc Cert.KernelSeqIdeal.main_arg1) = m ((c.tc : Thread Cert.KernelSeqIdeal.nD Cert.KernelSeqIdeal.τ).loc Cert.KernelSeqIdeal.main_arg1)
      ∧ r.2.mem ((c.tc : Thread Cert.KernelSeqIdeal.nD Cert.KernelSeqIdeal.τ).loc Cert.KernelSeqIdeal.main_arg2) = m ((c.tc : Thread Cert.KernelSeqIdeal.nD Cert.KernelSeqIdeal.τ).loc Cert.KernelSeqIdeal.main_arg2)
      ∧ r.2.mem ((c.tc : Thread Cert.KernelSeqIdeal.nD Cert.KernelSeqIdeal.τ).loc Cert.KernelSeqIdeal.main_arg3) = m ((c.tc : Thread Cert.KernelSeqIdeal.nD Cert.KernelSeqIdeal.τ).loc Cert.KernelSeqIdeal.main_arg3)
      ∧ r.2.mem ((c.tc : Thread Cert.KernelSeqIdeal.nD Cert.KernelSeqIdeal.τ).loc Cert.KernelSeqIdeal.main_arg4) = m ((c.tc : Thread Cert.KernelSeqIdeal.nD Cert.KernelSeqIdeal.τ).loc Cert.KernelSeqIdeal.main_arg4)
      ∧ r.2.mem ((c.tc : Thread Cert.KernelSeqIdeal.nD Cert.KernelSeqIdeal.τ).loc Cert.KernelSeqIdeal.main_arg5) = m ((c.tc : Thread Cert.KernelSeqIdeal.nD Cert.KernelSeqIdeal.τ).loc Cert.KernelSeqIdeal.main_arg5))
      ∧ r.2.sem = fun _ => 0)

def quiescent_ReferenceSeqIdeal [hReferenceSeqIdeal : Cert.ReferenceSeqIdeal.Facts] : Prop :=
  ∀ (m : (ℓ : Loc Cert.ReferenceSeqIdeal.nD Cert.ReferenceSeqIdeal.τ Cert.ReferenceSeqIdeal.sig) → Buf (Elt Ideal) ℓ) (g : Dev Cert.ReferenceSeqIdeal.nD → PrngReg), Pre_ReferenceSeqIdeal m →
    θ_run (Cert.ReferenceSeqIdeal.defs (F := Ideal)) (onTc (τ := Cert.ReferenceSeqIdeal.τ) (Cert.ReferenceSeqIdeal.main (F := Ideal))) ⟨m, fun _ => 0, g⟩ (fun r => (∀ c : Dev Cert.ReferenceSeqIdeal.nD,
      r.2.mem ((c.tc : Thread Cert.ReferenceSeqIdeal.nD Cert.ReferenceSeqIdeal.τ).loc Cert.ReferenceSeqIdeal.main_arg0) = m ((c.tc : Thread Cert.ReferenceSeqIdeal.nD Cert.ReferenceSeqIdeal.τ).loc Cert.ReferenceSeqIdeal.main_arg0)
      ∧ r.2.mem ((c.tc : Thread Cert.ReferenceSeqIdeal.nD Cert.ReferenceSeqIdeal.τ).loc Cert.ReferenceSeqIdeal.main_arg1) = m ((c.tc : Thread Cert.ReferenceSeqIdeal.nD Cert.ReferenceSeqIdeal.τ).loc Cert.ReferenceSeqIdeal.main_arg1)
      ∧ r.2.mem ((c.tc : Thread Cert.ReferenceSeqIdeal.nD Cert.ReferenceSeqIdeal.τ).loc Cert.ReferenceSeqIdeal.main_arg2) = m ((c.tc : Thread Cert.ReferenceSeqIdeal.nD Cert.ReferenceSeqIdeal.τ).loc Cert.ReferenceSeqIdeal.main_arg2)
      ∧ r.2.mem ((c.tc : Thread Cert.ReferenceSeqIdeal.nD Cert.ReferenceSeqIdeal.τ).loc Cert.ReferenceSeqIdeal.main_arg3) = m ((c.tc : Thread Cert.ReferenceSeqIdeal.nD Cert.ReferenceSeqIdeal.τ).loc Cert.ReferenceSeqIdeal.main_arg3)
      ∧ r.2.mem ((c.tc : Thread Cert.ReferenceSeqIdeal.nD Cert.ReferenceSeqIdeal.τ).loc Cert.ReferenceSeqIdeal.main_arg4) = m ((c.tc : Thread Cert.ReferenceSeqIdeal.nD Cert.ReferenceSeqIdeal.τ).loc Cert.ReferenceSeqIdeal.main_arg4)
      ∧ r.2.mem ((c.tc : Thread Cert.ReferenceSeqIdeal.nD Cert.ReferenceSeqIdeal.τ).loc Cert.ReferenceSeqIdeal.main_arg5) = m ((c.tc : Thread Cert.ReferenceSeqIdeal.nD Cert.ReferenceSeqIdeal.τ).loc Cert.ReferenceSeqIdeal.main_arg5))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5)
      ∧ r.2.mem ((c.tc : Thread Cert.KernelOut.nD Cert.KernelOut.τ).loc Cert.KernelOut.main_arg6) = m ((c.tc : Thread Cert.KernelOut.nD Cert.KernelOut.τ).loc Cert.KernelOut.main_arg6)
      ∧ r.2.mem ((c.tc : Thread Cert.KernelOut.nD Cert.KernelOut.τ).loc Cert.KernelOut.main_arg7) = m ((c.tc : Thread Cert.KernelOut.nD Cert.KernelOut.τ).loc Cert.KernelOut.main_arg7)
      ∧ r.2.mem ((c.tc : Thread Cert.KernelOut.nD Cert.KernelOut.τ).loc Cert.KernelOut.main_arg8) = m ((c.tc : Thread Cert.KernelOut.nD Cert.KernelOut.τ).loc Cert.KernelOut.main_arg8)
      ∧ r.2.mem ((c.tc : Thread Cert.KernelOut.nD Cert.KernelOut.τ).loc Cert.KernelOut.main_arg9) = m ((c.tc : Thread Cert.KernelOut.nD Cert.KernelOut.τ).loc Cert.KernelOut.main_arg9))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
      ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6)
      ∧ r.2.mem ((c.tc : Thread Cert.KernelOutIdeal.nD Cert.KernelOutIdeal.τ).loc Cert.KernelOutIdeal.main_arg7) = m ((c.tc : Thread Cert.KernelOutIdeal.nD Cert.KernelOutIdeal.τ).loc Cert.KernelOutIdeal.main_arg7)
      ∧ r.2.mem ((c.tc : Thread Cert.KernelOutIdeal.nD Cert.KernelOutIdeal.τ).loc Cert.KernelOutIdeal.main_arg8) = m ((c.tc : Thread Cert.KernelOutIdeal.nD Cert.KernelOutIdeal.τ).loc Cert.KernelOutIdeal.main_arg8)
      ∧ r.2.mem ((c.tc : Thread Cert.KernelOutIdeal.nD Cert.KernelOutIdeal.τ).loc Cert.KernelOutIdeal.main_arg9) = m ((c.tc : Thread Cert.KernelOutIdeal.nD Cert.KernelOutIdeal.τ).loc Cert.KernelOutIdeal.main_arg9))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5)
      ∧ r.2.mem ((c.tc : Thread Cert.ReferenceOutIdeal.nD Cert.ReferenceOutIdeal.τ).loc Cert.ReferenceOutIdeal.main_arg6) = m ((c.tc : Thread Cert.ReferenceOutIdeal.nD Cert.ReferenceOutIdeal.τ).loc Cert.ReferenceOutIdeal.main_arg6)
      ∧ r.2.mem ((c.tc : Thread Cert.ReferenceOutIdeal.nD Cert.ReferenceOutIdeal.τ).loc Cert.ReferenceOutIdeal.main_arg7) = m ((c.tc : Thread Cert.ReferenceOutIdeal.nD Cert.ReferenceOutIdeal.τ).loc Cert.ReferenceOutIdeal.main_arg7)
      ∧ r.2.mem ((c.tc : Thread Cert.ReferenceOutIdeal.nD Cert.ReferenceOutIdeal.τ).loc Cert.ReferenceOutIdeal.main_arg8) = m ((c.tc : Thread Cert.ReferenceOutIdeal.nD Cert.ReferenceOutIdeal.τ).loc Cert.ReferenceOutIdeal.main_arg8)
      ∧ r.2.mem ((c.tc : Thread Cert.ReferenceOutIdeal.nD Cert.ReferenceOutIdeal.τ).loc Cert.ReferenceOutIdeal.main_arg9) = m ((c.tc : Thread Cert.ReferenceOutIdeal.nD Cert.ReferenceOutIdeal.τ).loc Cert.ReferenceOutIdeal.main_arg9))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2)
      ∧ r.2.mem ((c.tc : Thread Cert.KernelProj.nD Cert.KernelProj.τ).loc Cert.KernelProj.main_arg3) = m ((c.tc : Thread Cert.KernelProj.nD Cert.KernelProj.τ).loc Cert.KernelProj.main_arg3)
      ∧ r.2.mem ((c.tc : Thread Cert.KernelProj.nD Cert.KernelProj.τ).loc Cert.KernelProj.main_arg4) = m ((c.tc : Thread Cert.KernelProj.nD Cert.KernelProj.τ).loc Cert.KernelProj.main_arg4)
      ∧ r.2.mem ((c.tc : Thread Cert.KernelProj.nD Cert.KernelProj.τ).loc Cert.KernelProj.main_arg5) = m ((c.tc : Thread Cert.KernelProj.nD Cert.KernelProj.τ).loc Cert.KernelProj.main_arg5))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
      ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4)
      ∧ r.2.mem ((c.tc : Thread Cert.KernelProjIdeal.nD Cert.KernelProjIdeal.τ).loc Cert.KernelProjIdeal.main_arg5) = m ((c.tc : Thread Cert.KernelProjIdeal.nD Cert.KernelProjIdeal.τ).loc Cert.KernelProjIdeal.main_arg5))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3)
      ∧ r.2.mem ((c.tc : Thread Cert.ReferenceProjIdeal.nD Cert.ReferenceProjIdeal.τ).loc Cert.ReferenceProjIdeal.main_arg4) = m ((c.tc : Thread Cert.ReferenceProjIdeal.nD Cert.ReferenceProjIdeal.τ).loc Cert.ReferenceProjIdeal.main_arg4)
      ∧ r.2.mem ((c.tc : Thread Cert.ReferenceProjIdeal.nD Cert.ReferenceProjIdeal.τ).loc Cert.ReferenceProjIdeal.main_arg5) = m ((c.tc : Thread Cert.ReferenceProjIdeal.nD Cert.ReferenceProjIdeal.τ).loc Cert.ReferenceProjIdeal.main_arg5))
      ∧ r.2.sem = fun _ => 0)

def quiescent_KernelDt [hKernelDt : Cert.KernelDt.Facts] : Prop :=
  ∀ (m : (ℓ : Loc Cert.KernelDt.nD Cert.KernelDt.τ Cert.KernelDt.sig) → Buf (Elt Bits) ℓ) (g : Dev Cert.KernelDt.nD → PrngReg), Pre_KernelDt m →
    θ_run (Cert.KernelDt.defs (F := Bits)) (onTc (τ := Cert.KernelDt.τ) (Cert.KernelDt.main (F := Bits))) ⟨m, fun _ => 0, g⟩ (fun r => (∀ c : Dev Cert.KernelDt.nD,
      r.2.mem ((c.tc : Thread Cert.KernelDt.nD Cert.KernelDt.τ).loc Cert.KernelDt.main_arg0) = m ((c.tc : Thread Cert.KernelDt.nD Cert.KernelDt.τ).loc Cert.KernelDt.main_arg0)
      ∧ r.2.mem ((c.tc : Thread Cert.KernelDt.nD Cert.KernelDt.τ).loc Cert.KernelDt.main_arg1) = m ((c.tc : Thread Cert.KernelDt.nD Cert.KernelDt.τ).loc Cert.KernelDt.main_arg1)
      ∧ r.2.mem ((c.tc : Thread Cert.KernelDt.nD Cert.KernelDt.τ).loc Cert.KernelDt.main_arg2) = m ((c.tc : Thread Cert.KernelDt.nD Cert.KernelDt.τ).loc Cert.KernelDt.main_arg2)
      ∧ r.2.mem ((c.tc : Thread Cert.KernelDt.nD Cert.KernelDt.τ).loc Cert.KernelDt.main_arg3) = m ((c.tc : Thread Cert.KernelDt.nD Cert.KernelDt.τ).loc Cert.KernelDt.main_arg3))
      ∧ r.2.sem = fun _ => 0)

def quiescent_KernelDtIdeal [hKernelDtIdeal : Cert.KernelDtIdeal.Facts] : Prop :=
  ∀ (m : (ℓ : Loc Cert.KernelDtIdeal.nD Cert.KernelDtIdeal.τ Cert.KernelDtIdeal.sig) → Buf (Elt Ideal) ℓ) (g : Dev Cert.KernelDtIdeal.nD → PrngReg), Pre_KernelDtIdeal m →
    θ_run (Cert.KernelDtIdeal.defs (F := Ideal)) (onTc (τ := Cert.KernelDtIdeal.τ) (Cert.KernelDtIdeal.main (F := Ideal))) ⟨m, fun _ => 0, g⟩ (fun r => (∀ c : Dev Cert.KernelDtIdeal.nD,
      r.2.mem ((c.tc : Thread Cert.KernelDtIdeal.nD Cert.KernelDtIdeal.τ).loc Cert.KernelDtIdeal.main_arg0) = m ((c.tc : Thread Cert.KernelDtIdeal.nD Cert.KernelDtIdeal.τ).loc Cert.KernelDtIdeal.main_arg0)
      ∧ r.2.mem ((c.tc : Thread Cert.KernelDtIdeal.nD Cert.KernelDtIdeal.τ).loc Cert.KernelDtIdeal.main_arg1) = m ((c.tc : Thread Cert.KernelDtIdeal.nD Cert.KernelDtIdeal.τ).loc Cert.KernelDtIdeal.main_arg1)
      ∧ r.2.mem ((c.tc : Thread Cert.KernelDtIdeal.nD Cert.KernelDtIdeal.τ).loc Cert.KernelDtIdeal.main_arg2) = m ((c.tc : Thread Cert.KernelDtIdeal.nD Cert.KernelDtIdeal.τ).loc Cert.KernelDtIdeal.main_arg2)
      ∧ r.2.mem ((c.tc : Thread Cert.KernelDtIdeal.nD Cert.KernelDtIdeal.τ).loc Cert.KernelDtIdeal.main_arg3) = m ((c.tc : Thread Cert.KernelDtIdeal.nD Cert.KernelDtIdeal.τ).loc Cert.KernelDtIdeal.main_arg3))
      ∧ r.2.sem = fun _ => 0)

def quiescent_ReferenceDtIdeal [hReferenceDtIdeal : Cert.ReferenceDtIdeal.Facts] : Prop :=
  ∀ (m : (ℓ : Loc Cert.ReferenceDtIdeal.nD Cert.ReferenceDtIdeal.τ Cert.ReferenceDtIdeal.sig) → Buf (Elt Ideal) ℓ) (g : Dev Cert.ReferenceDtIdeal.nD → PrngReg), Pre_ReferenceDtIdeal m →
    θ_run (Cert.ReferenceDtIdeal.defs (F := Ideal)) (onTc (τ := Cert.ReferenceDtIdeal.τ) (Cert.ReferenceDtIdeal.main (F := Ideal))) ⟨m, fun _ => 0, g⟩ (fun r => (∀ c : Dev Cert.ReferenceDtIdeal.nD,
      r.2.mem ((c.tc : Thread Cert.ReferenceDtIdeal.nD Cert.ReferenceDtIdeal.τ).loc Cert.ReferenceDtIdeal.main_arg0) = m ((c.tc : Thread Cert.ReferenceDtIdeal.nD Cert.ReferenceDtIdeal.τ).loc Cert.ReferenceDtIdeal.main_arg0)
      ∧ r.2.mem ((c.tc : Thread Cert.ReferenceDtIdeal.nD Cert.ReferenceDtIdeal.τ).loc Cert.ReferenceDtIdeal.main_arg1) = m ((c.tc : Thread Cert.ReferenceDtIdeal.nD Cert.ReferenceDtIdeal.τ).loc Cert.ReferenceDtIdeal.main_arg1)
      ∧ r.2.mem ((c.tc : Thread Cert.ReferenceDtIdeal.nD Cert.ReferenceDtIdeal.τ).loc Cert.ReferenceDtIdeal.main_arg2) = m ((c.tc : Thread Cert.ReferenceDtIdeal.nD Cert.ReferenceDtIdeal.τ).loc Cert.ReferenceDtIdeal.main_arg2)
      ∧ r.2.mem ((c.tc : Thread Cert.ReferenceDtIdeal.nD Cert.ReferenceDtIdeal.τ).loc Cert.ReferenceDtIdeal.main_arg3) = m ((c.tc : Thread Cert.ReferenceDtIdeal.nD Cert.ReferenceDtIdeal.τ).loc Cert.ReferenceDtIdeal.main_arg3))
      ∧ r.2.sem = fun _ => 0)

def quiescent_KernelCtxDt [hKernelCtxDt : Cert.KernelCtxDt.Facts] : Prop :=
  ∀ (m : (ℓ : Loc Cert.KernelCtxDt.nD Cert.KernelCtxDt.τ Cert.KernelCtxDt.sig) → Buf (Elt Bits) ℓ) (g : Dev Cert.KernelCtxDt.nD → PrngReg), Pre_KernelCtxDt m →
    θ_run (Cert.KernelCtxDt.defs (F := Bits)) (onTc (τ := Cert.KernelCtxDt.τ) (Cert.KernelCtxDt.main (F := Bits))) ⟨m, fun _ => 0, g⟩ (fun r => (∀ c : Dev Cert.KernelCtxDt.nD,
      r.2.mem ((c.tc : Thread Cert.KernelCtxDt.nD Cert.KernelCtxDt.τ).loc Cert.KernelCtxDt.main_arg0) = m ((c.tc : Thread Cert.KernelCtxDt.nD Cert.KernelCtxDt.τ).loc Cert.KernelCtxDt.main_arg0)
      ∧ r.2.mem ((c.tc : Thread Cert.KernelCtxDt.nD Cert.KernelCtxDt.τ).loc Cert.KernelCtxDt.main_arg1) = m ((c.tc : Thread Cert.KernelCtxDt.nD Cert.KernelCtxDt.τ).loc Cert.KernelCtxDt.main_arg1)
      ∧ r.2.mem ((c.tc : Thread Cert.KernelCtxDt.nD Cert.KernelCtxDt.τ).loc Cert.KernelCtxDt.main_arg2) = m ((c.tc : Thread Cert.KernelCtxDt.nD Cert.KernelCtxDt.τ).loc Cert.KernelCtxDt.main_arg2)
      ∧ r.2.mem ((c.tc : Thread Cert.KernelCtxDt.nD Cert.KernelCtxDt.τ).loc Cert.KernelCtxDt.main_arg3) = m ((c.tc : Thread Cert.KernelCtxDt.nD Cert.KernelCtxDt.τ).loc Cert.KernelCtxDt.main_arg3))
      ∧ r.2.sem = fun _ => 0)

def quiescent_KernelCtxDtIdeal [hKernelCtxDtIdeal : Cert.KernelCtxDtIdeal.Facts] : Prop :=
  ∀ (m : (ℓ : Loc Cert.KernelCtxDtIdeal.nD Cert.KernelCtxDtIdeal.τ Cert.KernelCtxDtIdeal.sig) → Buf (Elt Ideal) ℓ) (g : Dev Cert.KernelCtxDtIdeal.nD → PrngReg), Pre_KernelCtxDtIdeal m →
    θ_run (Cert.KernelCtxDtIdeal.defs (F := Ideal)) (onTc (τ := Cert.KernelCtxDtIdeal.τ) (Cert.KernelCtxDtIdeal.main (F := Ideal))) ⟨m, fun _ => 0, g⟩ (fun r => (∀ c : Dev Cert.KernelCtxDtIdeal.nD,
      r.2.mem ((c.tc : Thread Cert.KernelCtxDtIdeal.nD Cert.KernelCtxDtIdeal.τ).loc Cert.KernelCtxDtIdeal.main_arg0) = m ((c.tc : Thread Cert.KernelCtxDtIdeal.nD Cert.KernelCtxDtIdeal.τ).loc Cert.KernelCtxDtIdeal.main_arg0)
      ∧ r.2.mem ((c.tc : Thread Cert.KernelCtxDtIdeal.nD Cert.KernelCtxDtIdeal.τ).loc Cert.KernelCtxDtIdeal.main_arg1) = m ((c.tc : Thread Cert.KernelCtxDtIdeal.nD Cert.KernelCtxDtIdeal.τ).loc Cert.KernelCtxDtIdeal.main_arg1)
      ∧ r.2.mem ((c.tc : Thread Cert.KernelCtxDtIdeal.nD Cert.KernelCtxDtIdeal.τ).loc Cert.KernelCtxDtIdeal.main_arg2) = m ((c.tc : Thread Cert.KernelCtxDtIdeal.nD Cert.KernelCtxDtIdeal.τ).loc Cert.KernelCtxDtIdeal.main_arg2)
      ∧ r.2.mem ((c.tc : Thread Cert.KernelCtxDtIdeal.nD Cert.KernelCtxDtIdeal.τ).loc Cert.KernelCtxDtIdeal.main_arg3) = m ((c.tc : Thread Cert.KernelCtxDtIdeal.nD Cert.KernelCtxDtIdeal.τ).loc Cert.KernelCtxDtIdeal.main_arg3))
      ∧ r.2.sem = fun _ => 0)

def quiescent_ReferenceCtxDtIdeal [hReferenceCtxDtIdeal : Cert.ReferenceCtxDtIdeal.Facts] : Prop :=
  ∀ (m : (ℓ : Loc Cert.ReferenceCtxDtIdeal.nD Cert.ReferenceCtxDtIdeal.τ Cert.ReferenceCtxDtIdeal.sig) → Buf (Elt Ideal) ℓ) (g : Dev Cert.ReferenceCtxDtIdeal.nD → PrngReg), Pre_ReferenceCtxDtIdeal m →
    θ_run (Cert.ReferenceCtxDtIdeal.defs (F := Ideal)) (onTc (τ := Cert.ReferenceCtxDtIdeal.τ) (Cert.ReferenceCtxDtIdeal.main (F := Ideal))) ⟨m, fun _ => 0, g⟩ (fun r => (∀ c : Dev Cert.ReferenceCtxDtIdeal.nD,
      r.2.mem ((c.tc : Thread Cert.ReferenceCtxDtIdeal.nD Cert.ReferenceCtxDtIdeal.τ).loc Cert.ReferenceCtxDtIdeal.main_arg0) = m ((c.tc : Thread Cert.ReferenceCtxDtIdeal.nD Cert.ReferenceCtxDtIdeal.τ).loc Cert.ReferenceCtxDtIdeal.main_arg0)
      ∧ r.2.mem ((c.tc : Thread Cert.ReferenceCtxDtIdeal.nD Cert.ReferenceCtxDtIdeal.τ).loc Cert.ReferenceCtxDtIdeal.main_arg1) = m ((c.tc : Thread Cert.ReferenceCtxDtIdeal.nD Cert.ReferenceCtxDtIdeal.τ).loc Cert.ReferenceCtxDtIdeal.main_arg1)
      ∧ r.2.mem ((c.tc : Thread Cert.ReferenceCtxDtIdeal.nD Cert.ReferenceCtxDtIdeal.τ).loc Cert.ReferenceCtxDtIdeal.main_arg2) = m ((c.tc : Thread Cert.ReferenceCtxDtIdeal.nD Cert.ReferenceCtxDtIdeal.τ).loc Cert.ReferenceCtxDtIdeal.main_arg2)
      ∧ r.2.mem ((c.tc : Thread Cert.ReferenceCtxDtIdeal.nD Cert.ReferenceCtxDtIdeal.τ).loc Cert.ReferenceCtxDtIdeal.main_arg3) = m ((c.tc : Thread Cert.ReferenceCtxDtIdeal.nD Cert.ReferenceCtxDtIdeal.τ).loc Cert.ReferenceCtxDtIdeal.main_arg3))
      ∧ r.2.sem = fun _ => 0)

def quiescent_KernelCtx [hKernelCtx : Cert.KernelCtx.Facts] : Prop :=
  ∀ (m : (ℓ : Loc Cert.KernelCtx.nD Cert.KernelCtx.τ Cert.KernelCtx.sig) → Buf (Elt Bits) ℓ) (g : Dev Cert.KernelCtx.nD → PrngReg), Pre_KernelCtx m →
    θ_run (Cert.KernelCtx.defs (F := Bits)) (onTc (τ := Cert.KernelCtx.τ) (Cert.KernelCtx.main (F := Bits))) ⟨m, fun _ => 0, g⟩ (fun r => (∀ c : Dev Cert.KernelCtx.nD,
      r.2.mem ((c.tc : Thread Cert.KernelCtx.nD Cert.KernelCtx.τ).loc Cert.KernelCtx.main_arg0) = m ((c.tc : Thread Cert.KernelCtx.nD Cert.KernelCtx.τ).loc Cert.KernelCtx.main_arg0)
      ∧ r.2.mem ((c.tc : Thread Cert.KernelCtx.nD Cert.KernelCtx.τ).loc Cert.KernelCtx.main_arg1) = m ((c.tc : Thread Cert.KernelCtx.nD Cert.KernelCtx.τ).loc Cert.KernelCtx.main_arg1)
      ∧ r.2.mem ((c.tc : Thread Cert.KernelCtx.nD Cert.KernelCtx.τ).loc Cert.KernelCtx.main_arg2) = m ((c.tc : Thread Cert.KernelCtx.nD Cert.KernelCtx.τ).loc Cert.KernelCtx.main_arg2)
      ∧ r.2.mem ((c.tc : Thread Cert.KernelCtx.nD Cert.KernelCtx.τ).loc Cert.KernelCtx.main_arg3) = m ((c.tc : Thread Cert.KernelCtx.nD Cert.KernelCtx.τ).loc Cert.KernelCtx.main_arg3)
      ∧ r.2.mem ((c.tc : Thread Cert.KernelCtx.nD Cert.KernelCtx.τ).loc Cert.KernelCtx.main_arg4) = m ((c.tc : Thread Cert.KernelCtx.nD Cert.KernelCtx.τ).loc Cert.KernelCtx.main_arg4)
      ∧ r.2.mem ((c.tc : Thread Cert.KernelCtx.nD Cert.KernelCtx.τ).loc Cert.KernelCtx.main_arg5) = m ((c.tc : Thread Cert.KernelCtx.nD Cert.KernelCtx.τ).loc Cert.KernelCtx.main_arg5))
      ∧ r.2.sem = fun _ => 0)

def quiescent_KernelCtxIdeal [hKernelCtxIdeal : Cert.KernelCtxIdeal.Facts] : Prop :=
  ∀ (m : (ℓ : Loc Cert.KernelCtxIdeal.nD Cert.KernelCtxIdeal.τ Cert.KernelCtxIdeal.sig) → Buf (Elt Ideal) ℓ) (g : Dev Cert.KernelCtxIdeal.nD → PrngReg), Pre_KernelCtxIdeal m →
    θ_run (Cert.KernelCtxIdeal.defs (F := Ideal)) (onTc (τ := Cert.KernelCtxIdeal.τ) (Cert.KernelCtxIdeal.main (F := Ideal))) ⟨m, fun _ => 0, g⟩ (fun r => (∀ c : Dev Cert.KernelCtxIdeal.nD,
      r.2.mem ((c.tc : Thread Cert.KernelCtxIdeal.nD Cert.KernelCtxIdeal.τ).loc Cert.KernelCtxIdeal.main_arg0) = m ((c.tc : Thread Cert.KernelCtxIdeal.nD Cert.KernelCtxIdeal.τ).loc Cert.KernelCtxIdeal.main_arg0)
      ∧ r.2.mem ((c.tc : Thread Cert.KernelCtxIdeal.nD Cert.KernelCtxIdeal.τ).loc Cert.KernelCtxIdeal.main_arg1) = m ((c.tc : Thread Cert.KernelCtxIdeal.nD Cert.KernelCtxIdeal.τ).loc Cert.KernelCtxIdeal.main_arg1)
      ∧ r.2.mem ((c.tc : Thread Cert.KernelCtxIdeal.nD Cert.KernelCtxIdeal.τ).loc Cert.KernelCtxIdeal.main_arg2) = m ((c.tc : Thread Cert.KernelCtxIdeal.nD Cert.KernelCtxIdeal.τ).loc Cert.KernelCtxIdeal.main_arg2)
      ∧ r.2.mem ((c.tc : Thread Cert.KernelCtxIdeal.nD Cert.KernelCtxIdeal.τ).loc Cert.KernelCtxIdeal.main_arg3) = m ((c.tc : Thread Cert.KernelCtxIdeal.nD Cert.KernelCtxIdeal.τ).loc Cert.KernelCtxIdeal.main_arg3)
      ∧ r.2.mem ((c.tc : Thread Cert.KernelCtxIdeal.nD Cert.KernelCtxIdeal.τ).loc Cert.KernelCtxIdeal.main_arg4) = m ((c.tc : Thread Cert.KernelCtxIdeal.nD Cert.KernelCtxIdeal.τ).loc Cert.KernelCtxIdeal.main_arg4)
      ∧ r.2.mem ((c.tc : Thread Cert.KernelCtxIdeal.nD Cert.KernelCtxIdeal.τ).loc Cert.KernelCtxIdeal.main_arg5) = m ((c.tc : Thread Cert.KernelCtxIdeal.nD Cert.KernelCtxIdeal.τ).loc Cert.KernelCtxIdeal.main_arg5))
      ∧ r.2.sem = fun _ => 0)

def quiescent_ReferenceCtxIdeal [hReferenceCtxIdeal : Cert.ReferenceCtxIdeal.Facts] : Prop :=
  ∀ (m : (ℓ : Loc Cert.ReferenceCtxIdeal.nD Cert.ReferenceCtxIdeal.τ Cert.ReferenceCtxIdeal.sig) → Buf (Elt Ideal) ℓ) (g : Dev Cert.ReferenceCtxIdeal.nD → PrngReg), Pre_ReferenceCtxIdeal m →
    θ_run (Cert.ReferenceCtxIdeal.defs (F := Ideal)) (onTc (τ := Cert.ReferenceCtxIdeal.τ) (Cert.ReferenceCtxIdeal.main (F := Ideal))) ⟨m, fun _ => 0, g⟩ (fun r => (∀ c : Dev Cert.ReferenceCtxIdeal.nD,
      r.2.mem ((c.tc : Thread Cert.ReferenceCtxIdeal.nD Cert.ReferenceCtxIdeal.τ).loc Cert.ReferenceCtxIdeal.main_arg0) = m ((c.tc : Thread Cert.ReferenceCtxIdeal.nD Cert.ReferenceCtxIdeal.τ).loc Cert.ReferenceCtxIdeal.main_arg0)
      ∧ r.2.mem ((c.tc : Thread Cert.ReferenceCtxIdeal.nD Cert.ReferenceCtxIdeal.τ).loc Cert.ReferenceCtxIdeal.main_arg1) = m ((c.tc : Thread Cert.ReferenceCtxIdeal.nD Cert.ReferenceCtxIdeal.τ).loc Cert.ReferenceCtxIdeal.main_arg1)
      ∧ r.2.mem ((c.tc : Thread Cert.ReferenceCtxIdeal.nD Cert.ReferenceCtxIdeal.τ).loc Cert.ReferenceCtxIdeal.main_arg2) = m ((c.tc : Thread Cert.ReferenceCtxIdeal.nD Cert.ReferenceCtxIdeal.τ).loc Cert.ReferenceCtxIdeal.main_arg2)
      ∧ r.2.mem ((c.tc : Thread Cert.ReferenceCtxIdeal.nD Cert.ReferenceCtxIdeal.τ).loc Cert.ReferenceCtxIdeal.main_arg3) = m ((c.tc : Thread Cert.ReferenceCtxIdeal.nD Cert.ReferenceCtxIdeal.τ).loc Cert.ReferenceCtxIdeal.main_arg3)
      ∧ r.2.mem ((c.tc : Thread Cert.ReferenceCtxIdeal.nD Cert.ReferenceCtxIdeal.τ).loc Cert.ReferenceCtxIdeal.main_arg4) = m ((c.tc : Thread Cert.ReferenceCtxIdeal.nD Cert.ReferenceCtxIdeal.τ).loc Cert.ReferenceCtxIdeal.main_arg4)
      ∧ r.2.mem ((c.tc : Thread Cert.ReferenceCtxIdeal.nD Cert.ReferenceCtxIdeal.τ).loc Cert.ReferenceCtxIdeal.main_arg5) = m ((c.tc : Thread Cert.ReferenceCtxIdeal.nD Cert.ReferenceCtxIdeal.τ).loc Cert.ReferenceCtxIdeal.main_arg5))
      ∧ r.2.sem = fun _ => 0)

def quiescent_KernelStates [hKernelStates : Cert.KernelStates.Facts] : Prop :=
  ∀ (m : (ℓ : Loc Cert.KernelStates.nD Cert.KernelStates.τ Cert.KernelStates.sig) → Buf (Elt Bits) ℓ) (g : Dev Cert.KernelStates.nD → PrngReg), Pre_KernelStates m →
    θ_run (Cert.KernelStates.defs (F := Bits)) (onTc (τ := Cert.KernelStates.τ) (Cert.KernelStates.main (F := Bits))) ⟨m, fun _ => 0, g⟩ (fun r => (∀ c : Dev Cert.KernelStates.nD,
      r.2.mem ((c.tc : Thread Cert.KernelStates.nD Cert.KernelStates.τ).loc Cert.KernelStates.main_arg0) = m ((c.tc : Thread Cert.KernelStates.nD Cert.KernelStates.τ).loc Cert.KernelStates.main_arg0)
      ∧ r.2.mem ((c.tc : Thread Cert.KernelStates.nD Cert.KernelStates.τ).loc Cert.KernelStates.main_arg1) = m ((c.tc : Thread Cert.KernelStates.nD Cert.KernelStates.τ).loc Cert.KernelStates.main_arg1)
      ∧ r.2.mem ((c.tc : Thread Cert.KernelStates.nD Cert.KernelStates.τ).loc Cert.KernelStates.main_arg2) = m ((c.tc : Thread Cert.KernelStates.nD Cert.KernelStates.τ).loc Cert.KernelStates.main_arg2)
      ∧ r.2.mem ((c.tc : Thread Cert.KernelStates.nD Cert.KernelStates.τ).loc Cert.KernelStates.main_arg3) = m ((c.tc : Thread Cert.KernelStates.nD Cert.KernelStates.τ).loc Cert.KernelStates.main_arg3))
      ∧ r.2.sem = fun _ => 0)

def quiescent_KernelStatesIdeal [hKernelStatesIdeal : Cert.KernelStatesIdeal.Facts] : Prop :=
  ∀ (m : (ℓ : Loc Cert.KernelStatesIdeal.nD Cert.KernelStatesIdeal.τ Cert.KernelStatesIdeal.sig) → Buf (Elt Ideal) ℓ) (g : Dev Cert.KernelStatesIdeal.nD → PrngReg), Pre_KernelStatesIdeal m →
    θ_run (Cert.KernelStatesIdeal.defs (F := Ideal)) (onTc (τ := Cert.KernelStatesIdeal.τ) (Cert.KernelStatesIdeal.main (F := Ideal))) ⟨m, fun _ => 0, g⟩ (fun r => (∀ c : Dev Cert.KernelStatesIdeal.nD,
      r.2.mem ((c.tc : Thread Cert.KernelStatesIdeal.nD Cert.KernelStatesIdeal.τ).loc Cert.KernelStatesIdeal.main_arg0) = m ((c.tc : Thread Cert.KernelStatesIdeal.nD Cert.KernelStatesIdeal.τ).loc Cert.KernelStatesIdeal.main_arg0)
      ∧ r.2.mem ((c.tc : Thread Cert.KernelStatesIdeal.nD Cert.KernelStatesIdeal.τ).loc Cert.KernelStatesIdeal.main_arg1) = m ((c.tc : Thread Cert.KernelStatesIdeal.nD Cert.KernelStatesIdeal.τ).loc Cert.KernelStatesIdeal.main_arg1)
      ∧ r.2.mem ((c.tc : Thread Cert.KernelStatesIdeal.nD Cert.KernelStatesIdeal.τ).loc Cert.KernelStatesIdeal.main_arg2) = m ((c.tc : Thread Cert.KernelStatesIdeal.nD Cert.KernelStatesIdeal.τ).loc Cert.KernelStatesIdeal.main_arg2)
      ∧ r.2.mem ((c.tc : Thread Cert.KernelStatesIdeal.nD Cert.KernelStatesIdeal.τ).loc Cert.KernelStatesIdeal.main_arg3) = m ((c.tc : Thread Cert.KernelStatesIdeal.nD Cert.KernelStatesIdeal.τ).loc Cert.KernelStatesIdeal.main_arg3))
      ∧ r.2.sem = fun _ => 0)

def quiescent_KernelStatesIdeal_pre_context_steps_finite [hKernelStatesIdeal : Cert.KernelStatesIdeal.Facts] [hPre_context_steps_finite : Cert.Pre_context_steps_finite.Facts] : Prop :=
  ∀ (m : (ℓ : Loc Cert.KernelStatesIdeal.nD Cert.KernelStatesIdeal.τ Cert.KernelStatesIdeal.sig) → Buf (Elt Ideal) ℓ) (g : Dev Cert.KernelStatesIdeal.nD → PrngReg), Pre_KernelStatesIdeal_context_steps_finite m →
    θ_run (Cert.KernelStatesIdeal.defs (F := Ideal)) (onTc (τ := Cert.KernelStatesIdeal.τ) (Cert.KernelStatesIdeal.main (F := Ideal))) ⟨m, fun _ => 0, g⟩ (fun r => (∀ c : Dev Cert.KernelStatesIdeal.nD,
      r.2.mem ((c.tc : Thread Cert.KernelStatesIdeal.nD Cert.KernelStatesIdeal.τ).loc Cert.KernelStatesIdeal.main_arg0) = m ((c.tc : Thread Cert.KernelStatesIdeal.nD Cert.KernelStatesIdeal.τ).loc Cert.KernelStatesIdeal.main_arg0)
      ∧ r.2.mem ((c.tc : Thread Cert.KernelStatesIdeal.nD Cert.KernelStatesIdeal.τ).loc Cert.KernelStatesIdeal.main_arg1) = m ((c.tc : Thread Cert.KernelStatesIdeal.nD Cert.KernelStatesIdeal.τ).loc Cert.KernelStatesIdeal.main_arg1)
      ∧ r.2.mem ((c.tc : Thread Cert.KernelStatesIdeal.nD Cert.KernelStatesIdeal.τ).loc Cert.KernelStatesIdeal.main_arg2) = m ((c.tc : Thread Cert.KernelStatesIdeal.nD Cert.KernelStatesIdeal.τ).loc Cert.KernelStatesIdeal.main_arg2)
      ∧ r.2.mem ((c.tc : Thread Cert.KernelStatesIdeal.nD Cert.KernelStatesIdeal.τ).loc Cert.KernelStatesIdeal.main_arg3) = m ((c.tc : Thread Cert.KernelStatesIdeal.nD Cert.KernelStatesIdeal.τ).loc Cert.KernelStatesIdeal.main_arg3))
      ∧ r.2.sem = fun _ => 0)

def quiescent_ReferenceStatesIdeal [hReferenceStatesIdeal : Cert.ReferenceStatesIdeal.Facts] : Prop :=
  ∀ (m : (ℓ : Loc Cert.ReferenceStatesIdeal.nD Cert.ReferenceStatesIdeal.τ Cert.ReferenceStatesIdeal.sig) → Buf (Elt Ideal) ℓ) (g : Dev Cert.ReferenceStatesIdeal.nD → PrngReg), Pre_ReferenceStatesIdeal m →
    θ_run (Cert.ReferenceStatesIdeal.defs (F := Ideal)) (onTc (τ := Cert.ReferenceStatesIdeal.τ) (Cert.ReferenceStatesIdeal.main (F := Ideal))) ⟨m, fun _ => 0, g⟩ (fun r => (∀ c : Dev Cert.ReferenceStatesIdeal.nD,
      r.2.mem ((c.tc : Thread Cert.ReferenceStatesIdeal.nD Cert.ReferenceStatesIdeal.τ).loc Cert.ReferenceStatesIdeal.main_arg0) = m ((c.tc : Thread Cert.ReferenceStatesIdeal.nD Cert.ReferenceStatesIdeal.τ).loc Cert.ReferenceStatesIdeal.main_arg0)
      ∧ r.2.mem ((c.tc : Thread Cert.ReferenceStatesIdeal.nD Cert.ReferenceStatesIdeal.τ).loc Cert.ReferenceStatesIdeal.main_arg1) = m ((c.tc : Thread Cert.ReferenceStatesIdeal.nD Cert.ReferenceStatesIdeal.τ).loc Cert.ReferenceStatesIdeal.main_arg1)
      ∧ r.2.mem ((c.tc : Thread Cert.ReferenceStatesIdeal.nD Cert.ReferenceStatesIdeal.τ).loc Cert.ReferenceStatesIdeal.main_arg2) = m ((c.tc : Thread Cert.ReferenceStatesIdeal.nD Cert.ReferenceStatesIdeal.τ).loc Cert.ReferenceStatesIdeal.main_arg2)
      ∧ r.2.mem ((c.tc : Thread Cert.ReferenceStatesIdeal.nD Cert.ReferenceStatesIdeal.τ).loc Cert.ReferenceStatesIdeal.main_arg3) = m ((c.tc : Thread Cert.ReferenceStatesIdeal.nD Cert.ReferenceStatesIdeal.τ).loc Cert.ReferenceStatesIdeal.main_arg3))
      ∧ r.2.sem = fun _ => 0)

def quiescent_ReferenceStatesIdeal_pre_context_steps_finite [hReferenceStatesIdeal : Cert.ReferenceStatesIdeal.Facts] [hPre_context_steps_finite : Cert.Pre_context_steps_finite.Facts] : Prop :=
  ∀ (m : (ℓ : Loc Cert.ReferenceStatesIdeal.nD Cert.ReferenceStatesIdeal.τ Cert.ReferenceStatesIdeal.sig) → Buf (Elt Ideal) ℓ) (g : Dev Cert.ReferenceStatesIdeal.nD → PrngReg), Pre_ReferenceStatesIdeal_context_steps_finite m →
    θ_run (Cert.ReferenceStatesIdeal.defs (F := Ideal)) (onTc (τ := Cert.ReferenceStatesIdeal.τ) (Cert.ReferenceStatesIdeal.main (F := Ideal))) ⟨m, fun _ => 0, g⟩ (fun r => (∀ c : Dev Cert.ReferenceStatesIdeal.nD,
      r.2.mem ((c.tc : Thread Cert.ReferenceStatesIdeal.nD Cert.ReferenceStatesIdeal.τ).loc Cert.ReferenceStatesIdeal.main_arg0) = m ((c.tc : Thread Cert.ReferenceStatesIdeal.nD Cert.ReferenceStatesIdeal.τ).loc Cert.ReferenceStatesIdeal.main_arg0)
      ∧ r.2.mem ((c.tc : Thread Cert.ReferenceStatesIdeal.nD Cert.ReferenceStatesIdeal.τ).loc Cert.ReferenceStatesIdeal.main_arg1) = m ((c.tc : Thread Cert.ReferenceStatesIdeal.nD Cert.ReferenceStatesIdeal.τ).loc Cert.ReferenceStatesIdeal.main_arg1)
      ∧ r.2.mem ((c.tc : Thread Cert.ReferenceStatesIdeal.nD Cert.ReferenceStatesIdeal.τ).loc Cert.ReferenceStatesIdeal.main_arg2) = m ((c.tc : Thread Cert.ReferenceStatesIdeal.nD Cert.ReferenceStatesIdeal.τ).loc Cert.ReferenceStatesIdeal.main_arg2)
      ∧ r.2.mem ((c.tc : Thread Cert.ReferenceStatesIdeal.nD Cert.ReferenceStatesIdeal.τ).loc Cert.ReferenceStatesIdeal.main_arg3) = m ((c.tc : Thread Cert.ReferenceStatesIdeal.nD Cert.ReferenceStatesIdeal.τ).loc Cert.ReferenceStatesIdeal.main_arg3))
      ∧ r.2.sem = fun _ => 0)

def preserves_Kernel_KernelIdeal : Prop :=
  True

def algebraic_KernelIdeal_ReferenceIdeal_pre_steps_finite [hKernelIdeal : Cert.KernelIdeal.Facts] [hReferenceIdeal : Cert.ReferenceIdeal.Facts] [hPre_steps_finite : Cert.Pre_steps_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_steps_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelZ_KernelZIdeal : Prop :=
  True

def algebraic_KernelZIdeal_ReferenceZIdeal [hKernelZIdeal : Cert.KernelZIdeal.Facts] [hReferenceZIdeal : Cert.ReferenceZIdeal.Facts] : Prop :=
  ∀ (m : (ℓ : Loc Cert.KernelZIdeal.nD Cert.KernelZIdeal.τ Cert.KernelZIdeal.sig) → Buf (Elt Ideal) ℓ) (g : Dev Cert.KernelZIdeal.nD → PrngReg)
    (m' : (ℓ : Loc Cert.ReferenceZIdeal.nD Cert.ReferenceZIdeal.τ Cert.ReferenceZIdeal.sig) → Buf (Elt Ideal) ℓ) (g' : Dev Cert.ReferenceZIdeal.nD → PrngReg), Pre_KernelZIdeal m →
    (∀ c : Dev Cert.KernelZIdeal.nD,
      m' ((c.tc : Thread Cert.ReferenceZIdeal.nD Cert.ReferenceZIdeal.τ).loc Cert.ReferenceZIdeal.main_arg0) = m ((c.tc : Thread Cert.KernelZIdeal.nD Cert.KernelZIdeal.τ).loc Cert.KernelZIdeal.main_arg0)
      ∧ m' ((c.tc : Thread Cert.ReferenceZIdeal.nD Cert.ReferenceZIdeal.τ).loc Cert.ReferenceZIdeal.main_arg1) = m ((c.tc : Thread Cert.KernelZIdeal.nD Cert.KernelZIdeal.τ).loc Cert.KernelZIdeal.main_arg1)
      ∧ m' ((c.tc : Thread Cert.ReferenceZIdeal.nD Cert.ReferenceZIdeal.τ).loc Cert.ReferenceZIdeal.main_arg2) = m ((c.tc : Thread Cert.KernelZIdeal.nD Cert.KernelZIdeal.τ).loc Cert.KernelZIdeal.main_arg2)
      ∧ m' ((c.tc : Thread Cert.ReferenceZIdeal.nD Cert.ReferenceZIdeal.τ).loc Cert.ReferenceZIdeal.main_arg3) = m ((c.tc : Thread Cert.KernelZIdeal.nD Cert.KernelZIdeal.τ).loc Cert.KernelZIdeal.main_arg3)) →
    ∃ (v0 : (c : Dev Cert.KernelZIdeal.nD) → Buf (Elt Ideal) ((c.tc : Thread Cert.KernelZIdeal.nD Cert.KernelZIdeal.τ).loc Cert.KernelZIdeal.main_v1)),
      θ_run (Cert.KernelZIdeal.defs (F := Ideal)) (onTc (τ := Cert.KernelZIdeal.τ) (Cert.KernelZIdeal.main (F := Ideal))) ⟨m, fun _ => 0, g⟩ (fun r => ∀ c : Dev Cert.KernelZIdeal.nD,
          r.2.mem ((c.tc : Thread Cert.KernelZIdeal.nD Cert.KernelZIdeal.τ).loc Cert.KernelZIdeal.main_v1) = v0 c
          ∧ r.2.mem ((c.tc : Thread Cert.KernelZIdeal.nD Cert.KernelZIdeal.τ).loc Cert.KernelZIdeal.main_arg0) = m ((c.tc : Thread Cert.KernelZIdeal.nD Cert.KernelZIdeal.τ).loc Cert.KernelZIdeal.main_arg0)
          ∧ r.2.mem ((c.tc : Thread Cert.KernelZIdeal.nD Cert.KernelZIdeal.τ).loc Cert.KernelZIdeal.main_arg1) = m ((c.tc : Thread Cert.KernelZIdeal.nD Cert.KernelZIdeal.τ).loc Cert.KernelZIdeal.main_arg1)
          ∧ r.2.mem ((c.tc : Thread Cert.KernelZIdeal.nD Cert.KernelZIdeal.τ).loc Cert.KernelZIdeal.main_arg2) = m ((c.tc : Thread Cert.KernelZIdeal.nD Cert.KernelZIdeal.τ).loc Cert.KernelZIdeal.main_arg2)
          ∧ r.2.mem ((c.tc : Thread Cert.KernelZIdeal.nD Cert.KernelZIdeal.τ).loc Cert.KernelZIdeal.main_arg3) = m ((c.tc : Thread Cert.KernelZIdeal.nD Cert.KernelZIdeal.τ).loc Cert.KernelZIdeal.main_arg3))
      ∧ θ_run (Cert.ReferenceZIdeal.defs (F := Ideal)) (onTc (τ := Cert.ReferenceZIdeal.τ) (Cert.ReferenceZIdeal.main (F := Ideal))) ⟨m', fun _ => 0, g'⟩ (fun r => ∀ c : Dev Cert.ReferenceZIdeal.nD,
          r.2.mem ((c.tc : Thread Cert.ReferenceZIdeal.nD Cert.ReferenceZIdeal.τ).loc Cert.ReferenceZIdeal.main_v8) = v0 c
          ∧ r.2.mem ((c.tc : Thread Cert.ReferenceZIdeal.nD Cert.ReferenceZIdeal.τ).loc Cert.ReferenceZIdeal.main_arg0) = m' ((c.tc : Thread Cert.ReferenceZIdeal.nD Cert.ReferenceZIdeal.τ).loc Cert.ReferenceZIdeal.main_arg0)
          ∧ r.2.mem ((c.tc : Thread Cert.ReferenceZIdeal.nD Cert.ReferenceZIdeal.τ).loc Cert.ReferenceZIdeal.main_arg1) = m' ((c.tc : Thread Cert.ReferenceZIdeal.nD Cert.ReferenceZIdeal.τ).loc Cert.ReferenceZIdeal.main_arg1)
          ∧ r.2.mem ((c.tc : Thread Cert.ReferenceZIdeal.nD Cert.ReferenceZIdeal.τ).loc Cert.ReferenceZIdeal.main_arg2) = m' ((c.tc : Thread Cert.ReferenceZIdeal.nD Cert.ReferenceZIdeal.τ).loc Cert.ReferenceZIdeal.main_arg2)
          ∧ r.2.mem ((c.tc : Thread Cert.ReferenceZIdeal.nD Cert.ReferenceZIdeal.τ).loc Cert.ReferenceZIdeal.main_arg3) = m' ((c.tc : Thread Cert.ReferenceZIdeal.nD Cert.ReferenceZIdeal.τ).loc Cert.ReferenceZIdeal.main_arg3))

def preserves_KernelGrid_KernelGridIdeal : Prop :=
  True

def algebraic_KernelGridIdeal_ReferenceGridIdeal [hKernelGridIdeal : Cert.KernelGridIdeal.Facts] [hReferenceGridIdeal : Cert.ReferenceGridIdeal.Facts] : Prop :=
  ∀ (m : (ℓ : Loc Cert.KernelGridIdeal.nD Cert.KernelGridIdeal.τ Cert.KernelGridIdeal.sig) → Buf (Elt Ideal) ℓ) (g : Dev Cert.KernelGridIdeal.nD → PrngReg)
    (m' : (ℓ : Loc Cert.ReferenceGridIdeal.nD Cert.ReferenceGridIdeal.τ Cert.ReferenceGridIdeal.sig) → Buf (Elt Ideal) ℓ) (g' : Dev Cert.ReferenceGridIdeal.nD → PrngReg), Pre_KernelGridIdeal m →
    (∀ c : Dev Cert.KernelGridIdeal.nD,
      m' ((c.tc : Thread Cert.ReferenceGridIdeal.nD Cert.ReferenceGridIdeal.τ).loc Cert.ReferenceGridIdeal.main_arg0) = m ((c.tc : Thread Cert.KernelGridIdeal.nD Cert.KernelGridIdeal.τ).loc Cert.KernelGridIdeal.main_arg0)
      ∧ m' ((c.tc : Thread Cert.ReferenceGridIdeal.nD Cert.ReferenceGridIdeal.τ).loc Cert.ReferenceGridIdeal.main_arg1) = m ((c.tc : Thread Cert.KernelGridIdeal.nD Cert.KernelGridIdeal.τ).loc Cert.KernelGridIdeal.main_arg1)
      ∧ m' ((c.tc : Thread Cert.ReferenceGridIdeal.nD Cert.ReferenceGridIdeal.τ).loc Cert.ReferenceGridIdeal.main_arg2) = m ((c.tc : Thread Cert.KernelGridIdeal.nD Cert.KernelGridIdeal.τ).loc Cert.KernelGridIdeal.main_arg2)
      ∧ m' ((c.tc : Thread Cert.ReferenceGridIdeal.nD Cert.ReferenceGridIdeal.τ).loc Cert.ReferenceGridIdeal.main_arg3) = m ((c.tc : Thread Cert.KernelGridIdeal.nD Cert.KernelGridIdeal.τ).loc Cert.KernelGridIdeal.main_arg3)
      ∧ m' ((c.tc : Thread Cert.ReferenceGridIdeal.nD Cert.ReferenceGridIdeal.τ).loc Cert.ReferenceGridIdeal.main_arg4) = m ((c.tc : Thread Cert.KernelGridIdeal.nD Cert.KernelGridIdeal.τ).loc Cert.KernelGridIdeal.main_arg4)
      ∧ m' ((c.tc : Thread Cert.ReferenceGridIdeal.nD Cert.ReferenceGridIdeal.τ).loc Cert.ReferenceGridIdeal.main_arg5) = m ((c.tc : Thread Cert.KernelGridIdeal.nD Cert.KernelGridIdeal.τ).loc Cert.KernelGridIdeal.main_arg5)) →
    ∃ (v0 : (c : Dev Cert.KernelGridIdeal.nD) → Buf (Elt Ideal) ((c.tc : Thread Cert.KernelGridIdeal.nD Cert.KernelGridIdeal.τ).loc Cert.KernelGridIdeal.main_v2)),
      θ_run (Cert.KernelGridIdeal.defs (F := Ideal)) (onTc (τ := Cert.KernelGridIdeal.τ) (Cert.KernelGridIdeal.main (F := Ideal))) ⟨m, fun _ => 0, g⟩ (fun r => ∀ c : Dev Cert.KernelGridIdeal.nD,
          r.2.mem ((c.tc : Thread Cert.KernelGridIdeal.nD Cert.KernelGridIdeal.τ).loc Cert.KernelGridIdeal.main_v2) = v0 c
          ∧ r.2.mem ((c.tc : Thread Cert.KernelGridIdeal.nD Cert.KernelGridIdeal.τ).loc Cert.KernelGridIdeal.main_arg0) = m ((c.tc : Thread Cert.KernelGridIdeal.nD Cert.KernelGridIdeal.τ).loc Cert.KernelGridIdeal.main_arg0)
          ∧ r.2.mem ((c.tc : Thread Cert.KernelGridIdeal.nD Cert.KernelGridIdeal.τ).loc Cert.KernelGridIdeal.main_arg1) = m ((c.tc : Thread Cert.KernelGridIdeal.nD Cert.KernelGridIdeal.τ).loc Cert.KernelGridIdeal.main_arg1)
          ∧ r.2.mem ((c.tc : Thread Cert.KernelGridIdeal.nD Cert.KernelGridIdeal.τ).loc Cert.KernelGridIdeal.main_arg2) = m ((c.tc : Thread Cert.KernelGridIdeal.nD Cert.KernelGridIdeal.τ).loc Cert.KernelGridIdeal.main_arg2)
          ∧ r.2.mem ((c.tc : Thread Cert.KernelGridIdeal.nD Cert.KernelGridIdeal.τ).loc Cert.KernelGridIdeal.main_arg3) = m ((c.tc : Thread Cert.KernelGridIdeal.nD Cert.KernelGridIdeal.τ).loc Cert.KernelGridIdeal.main_arg3)
          ∧ r.2.mem ((c.tc : Thread Cert.KernelGridIdeal.nD Cert.KernelGridIdeal.τ).loc Cert.KernelGridIdeal.main_arg4) = m ((c.tc : Thread Cert.KernelGridIdeal.nD Cert.KernelGridIdeal.τ).loc Cert.KernelGridIdeal.main_arg4)
          ∧ r.2.mem ((c.tc : Thread Cert.KernelGridIdeal.nD Cert.KernelGridIdeal.τ).loc Cert.KernelGridIdeal.main_arg5) = m ((c.tc : Thread Cert.KernelGridIdeal.nD Cert.KernelGridIdeal.τ).loc Cert.KernelGridIdeal.main_arg5))
      ∧ θ_run (Cert.ReferenceGridIdeal.defs (F := Ideal)) (onTc (τ := Cert.ReferenceGridIdeal.τ) (Cert.ReferenceGridIdeal.main (F := Ideal))) ⟨m', fun _ => 0, g'⟩ (fun r => ∀ c : Dev Cert.ReferenceGridIdeal.nD,
          r.2.mem ((c.tc : Thread Cert.ReferenceGridIdeal.nD Cert.ReferenceGridIdeal.τ).loc Cert.ReferenceGridIdeal.main_v79) = v0 c
          ∧ r.2.mem ((c.tc : Thread Cert.ReferenceGridIdeal.nD Cert.ReferenceGridIdeal.τ).loc Cert.ReferenceGridIdeal.main_arg0) = m' ((c.tc : Thread Cert.ReferenceGridIdeal.nD Cert.ReferenceGridIdeal.τ).loc Cert.ReferenceGridIdeal.main_arg0)
          ∧ r.2.mem ((c.tc : Thread Cert.ReferenceGridIdeal.nD Cert.ReferenceGridIdeal.τ).loc Cert.ReferenceGridIdeal.main_arg1) = m' ((c.tc : Thread Cert.ReferenceGridIdeal.nD Cert.ReferenceGridIdeal.τ).loc Cert.ReferenceGridIdeal.main_arg1)
          ∧ r.2.mem ((c.tc : Thread Cert.ReferenceGridIdeal.nD Cert.ReferenceGridIdeal.τ).loc Cert.ReferenceGridIdeal.main_arg2) = m' ((c.tc : Thread Cert.ReferenceGridIdeal.nD Cert.ReferenceGridIdeal.τ).loc Cert.ReferenceGridIdeal.main_arg2)
          ∧ r.2.mem ((c.tc : Thread Cert.ReferenceGridIdeal.nD Cert.ReferenceGridIdeal.τ).loc Cert.ReferenceGridIdeal.main_arg3) = m' ((c.tc : Thread Cert.ReferenceGridIdeal.nD Cert.ReferenceGridIdeal.τ).loc Cert.ReferenceGridIdeal.main_arg3)
          ∧ r.2.mem ((c.tc : Thread Cert.ReferenceGridIdeal.nD Cert.ReferenceGridIdeal.τ).loc Cert.ReferenceGridIdeal.main_arg4) = m' ((c.tc : Thread Cert.ReferenceGridIdeal.nD Cert.ReferenceGridIdeal.τ).loc Cert.ReferenceGridIdeal.main_arg4)
          ∧ r.2.mem ((c.tc : Thread Cert.ReferenceGridIdeal.nD Cert.ReferenceGridIdeal.τ).loc Cert.ReferenceGridIdeal.main_arg5) = m' ((c.tc : Thread Cert.ReferenceGridIdeal.nD Cert.ReferenceGridIdeal.τ).loc Cert.ReferenceGridIdeal.main_arg5))

def preserves_KernelSeq_KernelSeqIdeal : Prop :=
  True

def algebraic_KernelSeqIdeal_ReferenceSeqIdeal [hKernelSeqIdeal : Cert.KernelSeqIdeal.Facts] [hReferenceSeqIdeal : Cert.ReferenceSeqIdeal.Facts] : Prop :=
  ∀ (m : (ℓ : Loc Cert.KernelSeqIdeal.nD Cert.KernelSeqIdeal.τ Cert.KernelSeqIdeal.sig) → Buf (Elt Ideal) ℓ) (g : Dev Cert.KernelSeqIdeal.nD → PrngReg)
    (m' : (ℓ : Loc Cert.ReferenceSeqIdeal.nD Cert.ReferenceSeqIdeal.τ Cert.ReferenceSeqIdeal.sig) → Buf (Elt Ideal) ℓ) (g' : Dev Cert.ReferenceSeqIdeal.nD → PrngReg), Pre_KernelSeqIdeal m →
    (∀ c : Dev Cert.KernelSeqIdeal.nD,
      m' ((c.tc : Thread Cert.ReferenceSeqIdeal.nD Cert.ReferenceSeqIdeal.τ).loc Cert.ReferenceSeqIdeal.main_arg0) = m ((c.tc : Thread Cert.KernelSeqIdeal.nD Cert.KernelSeqIdeal.τ).loc Cert.KernelSeqIdeal.main_arg0)
      ∧ m' ((c.tc : Thread Cert.ReferenceSeqIdeal.nD Cert.ReferenceSeqIdeal.τ).loc Cert.ReferenceSeqIdeal.main_arg1) = m ((c.tc : Thread Cert.KernelSeqIdeal.nD Cert.KernelSeqIdeal.τ).loc Cert.KernelSeqIdeal.main_arg1)
      ∧ m' ((c.tc : Thread Cert.ReferenceSeqIdeal.nD Cert.ReferenceSeqIdeal.τ).loc Cert.ReferenceSeqIdeal.main_arg2) = m ((c.tc : Thread Cert.KernelSeqIdeal.nD Cert.KernelSeqIdeal.τ).loc Cert.KernelSeqIdeal.main_arg2)
      ∧ m' ((c.tc : Thread Cert.ReferenceSeqIdeal.nD Cert.ReferenceSeqIdeal.τ).loc Cert.ReferenceSeqIdeal.main_arg3) = m ((c.tc : Thread Cert.KernelSeqIdeal.nD Cert.KernelSeqIdeal.τ).loc Cert.KernelSeqIdeal.main_arg3)
      ∧ m' ((c.tc : Thread Cert.ReferenceSeqIdeal.nD Cert.ReferenceSeqIdeal.τ).loc Cert.ReferenceSeqIdeal.main_arg4) = m ((c.tc : Thread Cert.KernelSeqIdeal.nD Cert.KernelSeqIdeal.τ).loc Cert.KernelSeqIdeal.main_arg4)
      ∧ m' ((c.tc : Thread Cert.ReferenceSeqIdeal.nD Cert.ReferenceSeqIdeal.τ).loc Cert.ReferenceSeqIdeal.main_arg5) = m ((c.tc : Thread Cert.KernelSeqIdeal.nD Cert.KernelSeqIdeal.τ).loc Cert.KernelSeqIdeal.main_arg5)) →
    ∃ (v0 : (c : Dev Cert.KernelSeqIdeal.nD) → Buf (Elt Ideal) ((c.tc : Thread Cert.KernelSeqIdeal.nD Cert.KernelSeqIdeal.τ).loc Cert.KernelSeqIdeal.main_v3)),
      θ_run (Cert.KernelSeqIdeal.defs (F := Ideal)) (onTc (τ := Cert.KernelSeqIdeal.τ) (Cert.KernelSeqIdeal.main (F := Ideal))) ⟨m, fun _ => 0, g⟩ (fun r => ∀ c : Dev Cert.KernelSeqIdeal.nD,
          r.2.mem ((c.tc : Thread Cert.KernelSeqIdeal.nD Cert.KernelSeqIdeal.τ).loc Cert.KernelSeqIdeal.main_v3) = v0 c
          ∧ r.2.mem ((c.tc : Thread Cert.KernelSeqIdeal.nD Cert.KernelSeqIdeal.τ).loc Cert.KernelSeqIdeal.main_arg0) = m ((c.tc : Thread Cert.KernelSeqIdeal.nD Cert.KernelSeqIdeal.τ).loc Cert.KernelSeqIdeal.main_arg0)
          ∧ r.2.mem ((c.tc : Thread Cert.KernelSeqIdeal.nD Cert.KernelSeqIdeal.τ).loc Cert.KernelSeqIdeal.main_arg1) = m ((c.tc : Thread Cert.KernelSeqIdeal.nD Cert.KernelSeqIdeal.τ).loc Cert.KernelSeqIdeal.main_arg1)
          ∧ r.2.mem ((c.tc : Thread Cert.KernelSeqIdeal.nD Cert.KernelSeqIdeal.τ).loc Cert.KernelSeqIdeal.main_arg2) = m ((c.tc : Thread Cert.KernelSeqIdeal.nD Cert.KernelSeqIdeal.τ).loc Cert.KernelSeqIdeal.main_arg2)
          ∧ r.2.mem ((c.tc : Thread Cert.KernelSeqIdeal.nD Cert.KernelSeqIdeal.τ).loc Cert.KernelSeqIdeal.main_arg3) = m ((c.tc : Thread Cert.KernelSeqIdeal.nD Cert.KernelSeqIdeal.τ).loc Cert.KernelSeqIdeal.main_arg3)
          ∧ r.2.mem ((c.tc : Thread Cert.KernelSeqIdeal.nD Cert.KernelSeqIdeal.τ).loc Cert.KernelSeqIdeal.main_arg4) = m ((c.tc : Thread Cert.KernelSeqIdeal.nD Cert.KernelSeqIdeal.τ).loc Cert.KernelSeqIdeal.main_arg4)
          ∧ r.2.mem ((c.tc : Thread Cert.KernelSeqIdeal.nD Cert.KernelSeqIdeal.τ).loc Cert.KernelSeqIdeal.main_arg5) = m ((c.tc : Thread Cert.KernelSeqIdeal.nD Cert.KernelSeqIdeal.τ).loc Cert.KernelSeqIdeal.main_arg5))
      ∧ θ_run (Cert.ReferenceSeqIdeal.defs (F := Ideal)) (onTc (τ := Cert.ReferenceSeqIdeal.τ) (Cert.ReferenceSeqIdeal.main (F := Ideal))) ⟨m', fun _ => 0, g'⟩ (fun r => ∀ c : Dev Cert.ReferenceSeqIdeal.nD,
          r.2.mem ((c.tc : Thread Cert.ReferenceSeqIdeal.nD Cert.ReferenceSeqIdeal.τ).loc Cert.ReferenceSeqIdeal.main_v32) = v0 c
          ∧ r.2.mem ((c.tc : Thread Cert.ReferenceSeqIdeal.nD Cert.ReferenceSeqIdeal.τ).loc Cert.ReferenceSeqIdeal.main_arg0) = m' ((c.tc : Thread Cert.ReferenceSeqIdeal.nD Cert.ReferenceSeqIdeal.τ).loc Cert.ReferenceSeqIdeal.main_arg0)
          ∧ r.2.mem ((c.tc : Thread Cert.ReferenceSeqIdeal.nD Cert.ReferenceSeqIdeal.τ).loc Cert.ReferenceSeqIdeal.main_arg1) = m' ((c.tc : Thread Cert.ReferenceSeqIdeal.nD Cert.ReferenceSeqIdeal.τ).loc Cert.ReferenceSeqIdeal.main_arg1)
          ∧ r.2.mem ((c.tc : Thread Cert.ReferenceSeqIdeal.nD Cert.ReferenceSeqIdeal.τ).loc Cert.ReferenceSeqIdeal.main_arg2) = m' ((c.tc : Thread Cert.ReferenceSeqIdeal.nD Cert.ReferenceSeqIdeal.τ).loc Cert.ReferenceSeqIdeal.main_arg2)
          ∧ r.2.mem ((c.tc : Thread Cert.ReferenceSeqIdeal.nD Cert.ReferenceSeqIdeal.τ).loc Cert.ReferenceSeqIdeal.main_arg3) = m' ((c.tc : Thread Cert.ReferenceSeqIdeal.nD Cert.ReferenceSeqIdeal.τ).loc Cert.ReferenceSeqIdeal.main_arg3)
          ∧ r.2.mem ((c.tc : Thread Cert.ReferenceSeqIdeal.nD Cert.ReferenceSeqIdeal.τ).loc Cert.ReferenceSeqIdeal.main_arg4) = m' ((c.tc : Thread Cert.ReferenceSeqIdeal.nD Cert.ReferenceSeqIdeal.τ).loc Cert.ReferenceSeqIdeal.main_arg4)
          ∧ r.2.mem ((c.tc : Thread Cert.ReferenceSeqIdeal.nD Cert.ReferenceSeqIdeal.τ).loc Cert.ReferenceSeqIdeal.main_arg5) = m' ((c.tc : Thread Cert.ReferenceSeqIdeal.nD Cert.ReferenceSeqIdeal.τ).loc Cert.ReferenceSeqIdeal.main_arg5))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)
      ∧ m' ((c.tc : Thread Cert.ReferenceOutIdeal.nD Cert.ReferenceOutIdeal.τ).loc Cert.ReferenceOutIdeal.main_arg6) = m ((c.tc : Thread Cert.KernelOutIdeal.nD Cert.KernelOutIdeal.τ).loc Cert.KernelOutIdeal.main_arg6)
      ∧ m' ((c.tc : Thread Cert.ReferenceOutIdeal.nD Cert.ReferenceOutIdeal.τ).loc Cert.ReferenceOutIdeal.main_arg7) = m ((c.tc : Thread Cert.KernelOutIdeal.nD Cert.KernelOutIdeal.τ).loc Cert.KernelOutIdeal.main_arg7)
      ∧ m' ((c.tc : Thread Cert.ReferenceOutIdeal.nD Cert.ReferenceOutIdeal.τ).loc Cert.ReferenceOutIdeal.main_arg8) = m ((c.tc : Thread Cert.KernelOutIdeal.nD Cert.KernelOutIdeal.τ).loc Cert.KernelOutIdeal.main_arg8)
      ∧ m' ((c.tc : Thread Cert.ReferenceOutIdeal.nD Cert.ReferenceOutIdeal.τ).loc Cert.ReferenceOutIdeal.main_arg9) = m ((c.tc : Thread Cert.KernelOutIdeal.nD Cert.KernelOutIdeal.τ).loc Cert.KernelOutIdeal.main_arg9)) →
    ∃ (v0 : (c : Dev Cert.KernelOutIdeal.nD) → Buf (Elt Ideal) ((c.tc : Thread Cert.KernelOutIdeal.nD Cert.KernelOutIdeal.τ).loc Cert.KernelOutIdeal.main_v7)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v7) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
          ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6)
          ∧ r.2.mem ((c.tc : Thread Cert.KernelOutIdeal.nD Cert.KernelOutIdeal.τ).loc Cert.KernelOutIdeal.main_arg7) = m ((c.tc : Thread Cert.KernelOutIdeal.nD Cert.KernelOutIdeal.τ).loc Cert.KernelOutIdeal.main_arg7)
          ∧ r.2.mem ((c.tc : Thread Cert.KernelOutIdeal.nD Cert.KernelOutIdeal.τ).loc Cert.KernelOutIdeal.main_arg8) = m ((c.tc : Thread Cert.KernelOutIdeal.nD Cert.KernelOutIdeal.τ).loc Cert.KernelOutIdeal.main_arg8)
          ∧ r.2.mem ((c.tc : Thread Cert.KernelOutIdeal.nD Cert.KernelOutIdeal.τ).loc Cert.KernelOutIdeal.main_arg9) = m ((c.tc : Thread Cert.KernelOutIdeal.nD Cert.KernelOutIdeal.τ).loc Cert.KernelOutIdeal.main_arg9))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v63) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5)
          ∧ r.2.mem ((c.tc : Thread Cert.ReferenceOutIdeal.nD Cert.ReferenceOutIdeal.τ).loc Cert.ReferenceOutIdeal.main_arg6) = m' ((c.tc : Thread Cert.ReferenceOutIdeal.nD Cert.ReferenceOutIdeal.τ).loc Cert.ReferenceOutIdeal.main_arg6)
          ∧ r.2.mem ((c.tc : Thread Cert.ReferenceOutIdeal.nD Cert.ReferenceOutIdeal.τ).loc Cert.ReferenceOutIdeal.main_arg7) = m' ((c.tc : Thread Cert.ReferenceOutIdeal.nD Cert.ReferenceOutIdeal.τ).loc Cert.ReferenceOutIdeal.main_arg7)
          ∧ r.2.mem ((c.tc : Thread Cert.ReferenceOutIdeal.nD Cert.ReferenceOutIdeal.τ).loc Cert.ReferenceOutIdeal.main_arg8) = m' ((c.tc : Thread Cert.ReferenceOutIdeal.nD Cert.ReferenceOutIdeal.τ).loc Cert.ReferenceOutIdeal.main_arg8)
          ∧ r.2.mem ((c.tc : Thread Cert.ReferenceOutIdeal.nD Cert.ReferenceOutIdeal.τ).loc Cert.ReferenceOutIdeal.main_arg9) = m' ((c.tc : Thread Cert.ReferenceOutIdeal.nD Cert.ReferenceOutIdeal.τ).loc Cert.ReferenceOutIdeal.main_arg9))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)
      ∧ m' ((c.tc : Thread Cert.ReferenceProjIdeal.nD Cert.ReferenceProjIdeal.τ).loc Cert.ReferenceProjIdeal.main_arg3) = m ((c.tc : Thread Cert.KernelProjIdeal.nD Cert.KernelProjIdeal.τ).loc Cert.KernelProjIdeal.main_arg3)
      ∧ m' ((c.tc : Thread Cert.ReferenceProjIdeal.nD Cert.ReferenceProjIdeal.τ).loc Cert.ReferenceProjIdeal.main_arg4) = m ((c.tc : Thread Cert.KernelProjIdeal.nD Cert.KernelProjIdeal.τ).loc Cert.KernelProjIdeal.main_arg4)
      ∧ m' ((c.tc : Thread Cert.ReferenceProjIdeal.nD Cert.ReferenceProjIdeal.τ).loc Cert.ReferenceProjIdeal.main_arg5) = m ((c.tc : Thread Cert.KernelProjIdeal.nD Cert.KernelProjIdeal.τ).loc Cert.KernelProjIdeal.main_arg5)) →
    ∃ (v0 : (c : Dev Cert.KernelProjIdeal.nD) → Buf (Elt Ideal) ((c.tc : Thread Cert.KernelProjIdeal.nD Cert.KernelProjIdeal.τ).loc Cert.KernelProjIdeal.main_v3)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v3) = v0 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
          ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
          ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4)
          ∧ r.2.mem ((c.tc : Thread Cert.KernelProjIdeal.nD Cert.KernelProjIdeal.τ).loc Cert.KernelProjIdeal.main_arg5) = m ((c.tc : Thread Cert.KernelProjIdeal.nD Cert.KernelProjIdeal.τ).loc Cert.KernelProjIdeal.main_arg5))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v32) = v0 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2)
          ∧ r.2.mem ((c.tc : Thread Cert.ReferenceProjIdeal.nD Cert.ReferenceProjIdeal.τ).loc Cert.ReferenceProjIdeal.main_arg3) = m' ((c.tc : Thread Cert.ReferenceProjIdeal.nD Cert.ReferenceProjIdeal.τ).loc Cert.ReferenceProjIdeal.main_arg3)
          ∧ r.2.mem ((c.tc : Thread Cert.ReferenceProjIdeal.nD Cert.ReferenceProjIdeal.τ).loc Cert.ReferenceProjIdeal.main_arg4) = m' ((c.tc : Thread Cert.ReferenceProjIdeal.nD Cert.ReferenceProjIdeal.τ).loc Cert.ReferenceProjIdeal.main_arg4)
          ∧ r.2.mem ((c.tc : Thread Cert.ReferenceProjIdeal.nD Cert.ReferenceProjIdeal.τ).loc Cert.ReferenceProjIdeal.main_arg5) = m' ((c.tc : Thread Cert.ReferenceProjIdeal.nD Cert.ReferenceProjIdeal.τ).loc Cert.ReferenceProjIdeal.main_arg5))

def preserves_KernelDt_KernelDtIdeal : Prop :=
  True

def algebraic_KernelDtIdeal_ReferenceDtIdeal [hKernelDtIdeal : Cert.KernelDtIdeal.Facts] [hReferenceDtIdeal : Cert.ReferenceDtIdeal.Facts] : Prop :=
  ∀ (m : (ℓ : Loc Cert.KernelDtIdeal.nD Cert.KernelDtIdeal.τ Cert.KernelDtIdeal.sig) → Buf (Elt Ideal) ℓ) (g : Dev Cert.KernelDtIdeal.nD → PrngReg)
    (m' : (ℓ : Loc Cert.ReferenceDtIdeal.nD Cert.ReferenceDtIdeal.τ Cert.ReferenceDtIdeal.sig) → Buf (Elt Ideal) ℓ) (g' : Dev Cert.ReferenceDtIdeal.nD → PrngReg), Pre_KernelDtIdeal m →
    (∀ c : Dev Cert.KernelDtIdeal.nD,
      m' ((c.tc : Thread Cert.ReferenceDtIdeal.nD Cert.ReferenceDtIdeal.τ).loc Cert.ReferenceDtIdeal.main_arg0) = m ((c.tc : Thread Cert.KernelDtIdeal.nD Cert.KernelDtIdeal.τ).loc Cert.KernelDtIdeal.main_arg0)
      ∧ m' ((c.tc : Thread Cert.ReferenceDtIdeal.nD Cert.ReferenceDtIdeal.τ).loc Cert.ReferenceDtIdeal.main_arg1) = m ((c.tc : Thread Cert.KernelDtIdeal.nD Cert.KernelDtIdeal.τ).loc Cert.KernelDtIdeal.main_arg1)
      ∧ m' ((c.tc : Thread Cert.ReferenceDtIdeal.nD Cert.ReferenceDtIdeal.τ).loc Cert.ReferenceDtIdeal.main_arg2) = m ((c.tc : Thread Cert.KernelDtIdeal.nD Cert.KernelDtIdeal.τ).loc Cert.KernelDtIdeal.main_arg2)
      ∧ m' ((c.tc : Thread Cert.ReferenceDtIdeal.nD Cert.ReferenceDtIdeal.τ).loc Cert.ReferenceDtIdeal.main_arg3) = m ((c.tc : Thread Cert.KernelDtIdeal.nD Cert.KernelDtIdeal.τ).loc Cert.KernelDtIdeal.main_arg3)) →
    ∃ (v0 : (c : Dev Cert.KernelDtIdeal.nD) → Buf (Elt Ideal) ((c.tc : Thread Cert.KernelDtIdeal.nD Cert.KernelDtIdeal.τ).loc Cert.KernelDtIdeal.main_v1)),
      θ_run (Cert.KernelDtIdeal.defs (F := Ideal)) (onTc (τ := Cert.KernelDtIdeal.τ) (Cert.KernelDtIdeal.main (F := Ideal))) ⟨m, fun _ => 0, g⟩ (fun r => ∀ c : Dev Cert.KernelDtIdeal.nD,
          r.2.mem ((c.tc : Thread Cert.KernelDtIdeal.nD Cert.KernelDtIdeal.τ).loc Cert.KernelDtIdeal.main_v1) = v0 c
          ∧ r.2.mem ((c.tc : Thread Cert.KernelDtIdeal.nD Cert.KernelDtIdeal.τ).loc Cert.KernelDtIdeal.main_arg0) = m ((c.tc : Thread Cert.KernelDtIdeal.nD Cert.KernelDtIdeal.τ).loc Cert.KernelDtIdeal.main_arg0)
          ∧ r.2.mem ((c.tc : Thread Cert.KernelDtIdeal.nD Cert.KernelDtIdeal.τ).loc Cert.KernelDtIdeal.main_arg1) = m ((c.tc : Thread Cert.KernelDtIdeal.nD Cert.KernelDtIdeal.τ).loc Cert.KernelDtIdeal.main_arg1)
          ∧ r.2.mem ((c.tc : Thread Cert.KernelDtIdeal.nD Cert.KernelDtIdeal.τ).loc Cert.KernelDtIdeal.main_arg2) = m ((c.tc : Thread Cert.KernelDtIdeal.nD Cert.KernelDtIdeal.τ).loc Cert.KernelDtIdeal.main_arg2)
          ∧ r.2.mem ((c.tc : Thread Cert.KernelDtIdeal.nD Cert.KernelDtIdeal.τ).loc Cert.KernelDtIdeal.main_arg3) = m ((c.tc : Thread Cert.KernelDtIdeal.nD Cert.KernelDtIdeal.τ).loc Cert.KernelDtIdeal.main_arg3))
      ∧ θ_run (Cert.ReferenceDtIdeal.defs (F := Ideal)) (onTc (τ := Cert.ReferenceDtIdeal.τ) (Cert.ReferenceDtIdeal.main (F := Ideal))) ⟨m', fun _ => 0, g'⟩ (fun r => ∀ c : Dev Cert.ReferenceDtIdeal.nD,
          r.2.mem ((c.tc : Thread Cert.ReferenceDtIdeal.nD Cert.ReferenceDtIdeal.τ).loc Cert.ReferenceDtIdeal.main_v8) = v0 c
          ∧ r.2.mem ((c.tc : Thread Cert.ReferenceDtIdeal.nD Cert.ReferenceDtIdeal.τ).loc Cert.ReferenceDtIdeal.main_arg0) = m' ((c.tc : Thread Cert.ReferenceDtIdeal.nD Cert.ReferenceDtIdeal.τ).loc Cert.ReferenceDtIdeal.main_arg0)
          ∧ r.2.mem ((c.tc : Thread Cert.ReferenceDtIdeal.nD Cert.ReferenceDtIdeal.τ).loc Cert.ReferenceDtIdeal.main_arg1) = m' ((c.tc : Thread Cert.ReferenceDtIdeal.nD Cert.ReferenceDtIdeal.τ).loc Cert.ReferenceDtIdeal.main_arg1)
          ∧ r.2.mem ((c.tc : Thread Cert.ReferenceDtIdeal.nD Cert.ReferenceDtIdeal.τ).loc Cert.ReferenceDtIdeal.main_arg2) = m' ((c.tc : Thread Cert.ReferenceDtIdeal.nD Cert.ReferenceDtIdeal.τ).loc Cert.ReferenceDtIdeal.main_arg2)
          ∧ r.2.mem ((c.tc : Thread Cert.ReferenceDtIdeal.nD Cert.ReferenceDtIdeal.τ).loc Cert.ReferenceDtIdeal.main_arg3) = m' ((c.tc : Thread Cert.ReferenceDtIdeal.nD Cert.ReferenceDtIdeal.τ).loc Cert.ReferenceDtIdeal.main_arg3))

def preserves_KernelCtxDt_KernelCtxDtIdeal : Prop :=
  True

def algebraic_KernelCtxDtIdeal_ReferenceCtxDtIdeal [hKernelCtxDtIdeal : Cert.KernelCtxDtIdeal.Facts] [hReferenceCtxDtIdeal : Cert.ReferenceCtxDtIdeal.Facts] : Prop :=
  ∀ (m : (ℓ : Loc Cert.KernelCtxDtIdeal.nD Cert.KernelCtxDtIdeal.τ Cert.KernelCtxDtIdeal.sig) → Buf (Elt Ideal) ℓ) (g : Dev Cert.KernelCtxDtIdeal.nD → PrngReg)
    (m' : (ℓ : Loc Cert.ReferenceCtxDtIdeal.nD Cert.ReferenceCtxDtIdeal.τ Cert.ReferenceCtxDtIdeal.sig) → Buf (Elt Ideal) ℓ) (g' : Dev Cert.ReferenceCtxDtIdeal.nD → PrngReg), Pre_KernelCtxDtIdeal m →
    (∀ c : Dev Cert.KernelCtxDtIdeal.nD,
      m' ((c.tc : Thread Cert.ReferenceCtxDtIdeal.nD Cert.ReferenceCtxDtIdeal.τ).loc Cert.ReferenceCtxDtIdeal.main_arg0) = m ((c.tc : Thread Cert.KernelCtxDtIdeal.nD Cert.KernelCtxDtIdeal.τ).loc Cert.KernelCtxDtIdeal.main_arg0)
      ∧ m' ((c.tc : Thread Cert.ReferenceCtxDtIdeal.nD Cert.ReferenceCtxDtIdeal.τ).loc Cert.ReferenceCtxDtIdeal.main_arg1) = m ((c.tc : Thread Cert.KernelCtxDtIdeal.nD Cert.KernelCtxDtIdeal.τ).loc Cert.KernelCtxDtIdeal.main_arg1)
      ∧ m' ((c.tc : Thread Cert.ReferenceCtxDtIdeal.nD Cert.ReferenceCtxDtIdeal.τ).loc Cert.ReferenceCtxDtIdeal.main_arg2) = m ((c.tc : Thread Cert.KernelCtxDtIdeal.nD Cert.KernelCtxDtIdeal.τ).loc Cert.KernelCtxDtIdeal.main_arg2)
      ∧ m' ((c.tc : Thread Cert.ReferenceCtxDtIdeal.nD Cert.ReferenceCtxDtIdeal.τ).loc Cert.ReferenceCtxDtIdeal.main_arg3) = m ((c.tc : Thread Cert.KernelCtxDtIdeal.nD Cert.KernelCtxDtIdeal.τ).loc Cert.KernelCtxDtIdeal.main_arg3)) →
    ∃ (v0 : (c : Dev Cert.KernelCtxDtIdeal.nD) → Buf (Elt Ideal) ((c.tc : Thread Cert.KernelCtxDtIdeal.nD Cert.KernelCtxDtIdeal.τ).loc Cert.KernelCtxDtIdeal.main_v1)),
      θ_run (Cert.KernelCtxDtIdeal.defs (F := Ideal)) (onTc (τ := Cert.KernelCtxDtIdeal.τ) (Cert.KernelCtxDtIdeal.main (F := Ideal))) ⟨m, fun _ => 0, g⟩ (fun r => ∀ c : Dev Cert.KernelCtxDtIdeal.nD,
          r.2.mem ((c.tc : Thread Cert.KernelCtxDtIdeal.nD Cert.KernelCtxDtIdeal.τ).loc Cert.KernelCtxDtIdeal.main_v1) = v0 c
          ∧ r.2.mem ((c.tc : Thread Cert.KernelCtxDtIdeal.nD Cert.KernelCtxDtIdeal.τ).loc Cert.KernelCtxDtIdeal.main_arg0) = m ((c.tc : Thread Cert.KernelCtxDtIdeal.nD Cert.KernelCtxDtIdeal.τ).loc Cert.KernelCtxDtIdeal.main_arg0)
          ∧ r.2.mem ((c.tc : Thread Cert.KernelCtxDtIdeal.nD Cert.KernelCtxDtIdeal.τ).loc Cert.KernelCtxDtIdeal.main_arg1) = m ((c.tc : Thread Cert.KernelCtxDtIdeal.nD Cert.KernelCtxDtIdeal.τ).loc Cert.KernelCtxDtIdeal.main_arg1)
          ∧ r.2.mem ((c.tc : Thread Cert.KernelCtxDtIdeal.nD Cert.KernelCtxDtIdeal.τ).loc Cert.KernelCtxDtIdeal.main_arg2) = m ((c.tc : Thread Cert.KernelCtxDtIdeal.nD Cert.KernelCtxDtIdeal.τ).loc Cert.KernelCtxDtIdeal.main_arg2)
          ∧ r.2.mem ((c.tc : Thread Cert.KernelCtxDtIdeal.nD Cert.KernelCtxDtIdeal.τ).loc Cert.KernelCtxDtIdeal.main_arg3) = m ((c.tc : Thread Cert.KernelCtxDtIdeal.nD Cert.KernelCtxDtIdeal.τ).loc Cert.KernelCtxDtIdeal.main_arg3))
      ∧ θ_run (Cert.ReferenceCtxDtIdeal.defs (F := Ideal)) (onTc (τ := Cert.ReferenceCtxDtIdeal.τ) (Cert.ReferenceCtxDtIdeal.main (F := Ideal))) ⟨m', fun _ => 0, g'⟩ (fun r => ∀ c : Dev Cert.ReferenceCtxDtIdeal.nD,
          r.2.mem ((c.tc : Thread Cert.ReferenceCtxDtIdeal.nD Cert.ReferenceCtxDtIdeal.τ).loc Cert.ReferenceCtxDtIdeal.main_v8) = v0 c
          ∧ r.2.mem ((c.tc : Thread Cert.ReferenceCtxDtIdeal.nD Cert.ReferenceCtxDtIdeal.τ).loc Cert.ReferenceCtxDtIdeal.main_arg0) = m' ((c.tc : Thread Cert.ReferenceCtxDtIdeal.nD Cert.ReferenceCtxDtIdeal.τ).loc Cert.ReferenceCtxDtIdeal.main_arg0)
          ∧ r.2.mem ((c.tc : Thread Cert.ReferenceCtxDtIdeal.nD Cert.ReferenceCtxDtIdeal.τ).loc Cert.ReferenceCtxDtIdeal.main_arg1) = m' ((c.tc : Thread Cert.ReferenceCtxDtIdeal.nD Cert.ReferenceCtxDtIdeal.τ).loc Cert.ReferenceCtxDtIdeal.main_arg1)
          ∧ r.2.mem ((c.tc : Thread Cert.ReferenceCtxDtIdeal.nD Cert.ReferenceCtxDtIdeal.τ).loc Cert.ReferenceCtxDtIdeal.main_arg2) = m' ((c.tc : Thread Cert.ReferenceCtxDtIdeal.nD Cert.ReferenceCtxDtIdeal.τ).loc Cert.ReferenceCtxDtIdeal.main_arg2)
          ∧ r.2.mem ((c.tc : Thread Cert.ReferenceCtxDtIdeal.nD Cert.ReferenceCtxDtIdeal.τ).loc Cert.ReferenceCtxDtIdeal.main_arg3) = m' ((c.tc : Thread Cert.ReferenceCtxDtIdeal.nD Cert.ReferenceCtxDtIdeal.τ).loc Cert.ReferenceCtxDtIdeal.main_arg3))

def preserves_KernelCtx_KernelCtxIdeal : Prop :=
  True

def algebraic_KernelCtxIdeal_ReferenceCtxIdeal [hKernelCtxIdeal : Cert.KernelCtxIdeal.Facts] [hReferenceCtxIdeal : Cert.ReferenceCtxIdeal.Facts] : Prop :=
  ∀ (m : (ℓ : Loc Cert.KernelCtxIdeal.nD Cert.KernelCtxIdeal.τ Cert.KernelCtxIdeal.sig) → Buf (Elt Ideal) ℓ) (g : Dev Cert.KernelCtxIdeal.nD → PrngReg)
    (m' : (ℓ : Loc Cert.ReferenceCtxIdeal.nD Cert.ReferenceCtxIdeal.τ Cert.ReferenceCtxIdeal.sig) → Buf (Elt Ideal) ℓ) (g' : Dev Cert.ReferenceCtxIdeal.nD → PrngReg), Pre_KernelCtxIdeal m →
    (∀ c : Dev Cert.KernelCtxIdeal.nD,
      m' ((c.tc : Thread Cert.ReferenceCtxIdeal.nD Cert.ReferenceCtxIdeal.τ).loc Cert.ReferenceCtxIdeal.main_arg0) = m ((c.tc : Thread Cert.KernelCtxIdeal.nD Cert.KernelCtxIdeal.τ).loc Cert.KernelCtxIdeal.main_arg0)
      ∧ m' ((c.tc : Thread Cert.ReferenceCtxIdeal.nD Cert.ReferenceCtxIdeal.τ).loc Cert.ReferenceCtxIdeal.main_arg1) = m ((c.tc : Thread Cert.KernelCtxIdeal.nD Cert.KernelCtxIdeal.τ).loc Cert.KernelCtxIdeal.main_arg1)
      ∧ m' ((c.tc : Thread Cert.ReferenceCtxIdeal.nD Cert.ReferenceCtxIdeal.τ).loc Cert.ReferenceCtxIdeal.main_arg2) = m ((c.tc : Thread Cert.KernelCtxIdeal.nD Cert.KernelCtxIdeal.τ).loc Cert.KernelCtxIdeal.main_arg2)
      ∧ m' ((c.tc : Thread Cert.ReferenceCtxIdeal.nD Cert.ReferenceCtxIdeal.τ).loc Cert.ReferenceCtxIdeal.main_arg3) = m ((c.tc : Thread Cert.KernelCtxIdeal.nD Cert.KernelCtxIdeal.τ).loc Cert.KernelCtxIdeal.main_arg3)
      ∧ m' ((c.tc : Thread Cert.ReferenceCtxIdeal.nD Cert.ReferenceCtxIdeal.τ).loc Cert.ReferenceCtxIdeal.main_arg4) = m ((c.tc : Thread Cert.KernelCtxIdeal.nD Cert.KernelCtxIdeal.τ).loc Cert.KernelCtxIdeal.main_arg4)
      ∧ m' ((c.tc : Thread Cert.ReferenceCtxIdeal.nD Cert.ReferenceCtxIdeal.τ).loc Cert.ReferenceCtxIdeal.main_arg5) = m ((c.tc : Thread Cert.KernelCtxIdeal.nD Cert.KernelCtxIdeal.τ).loc Cert.KernelCtxIdeal.main_arg5)) →
    ∃ (v0 : (c : Dev Cert.KernelCtxIdeal.nD) → Buf (Elt Ideal) ((c.tc : Thread Cert.KernelCtxIdeal.nD Cert.KernelCtxIdeal.τ).loc Cert.KernelCtxIdeal.main_v3)),
      θ_run (Cert.KernelCtxIdeal.defs (F := Ideal)) (onTc (τ := Cert.KernelCtxIdeal.τ) (Cert.KernelCtxIdeal.main (F := Ideal))) ⟨m, fun _ => 0, g⟩ (fun r => ∀ c : Dev Cert.KernelCtxIdeal.nD,
          r.2.mem ((c.tc : Thread Cert.KernelCtxIdeal.nD Cert.KernelCtxIdeal.τ).loc Cert.KernelCtxIdeal.main_v3) = v0 c
          ∧ r.2.mem ((c.tc : Thread Cert.KernelCtxIdeal.nD Cert.KernelCtxIdeal.τ).loc Cert.KernelCtxIdeal.main_arg0) = m ((c.tc : Thread Cert.KernelCtxIdeal.nD Cert.KernelCtxIdeal.τ).loc Cert.KernelCtxIdeal.main_arg0)
          ∧ r.2.mem ((c.tc : Thread Cert.KernelCtxIdeal.nD Cert.KernelCtxIdeal.τ).loc Cert.KernelCtxIdeal.main_arg1) = m ((c.tc : Thread Cert.KernelCtxIdeal.nD Cert.KernelCtxIdeal.τ).loc Cert.KernelCtxIdeal.main_arg1)
          ∧ r.2.mem ((c.tc : Thread Cert.KernelCtxIdeal.nD Cert.KernelCtxIdeal.τ).loc Cert.KernelCtxIdeal.main_arg2) = m ((c.tc : Thread Cert.KernelCtxIdeal.nD Cert.KernelCtxIdeal.τ).loc Cert.KernelCtxIdeal.main_arg2)
          ∧ r.2.mem ((c.tc : Thread Cert.KernelCtxIdeal.nD Cert.KernelCtxIdeal.τ).loc Cert.KernelCtxIdeal.main_arg3) = m ((c.tc : Thread Cert.KernelCtxIdeal.nD Cert.KernelCtxIdeal.τ).loc Cert.KernelCtxIdeal.main_arg3)
          ∧ r.2.mem ((c.tc : Thread Cert.KernelCtxIdeal.nD Cert.KernelCtxIdeal.τ).loc Cert.KernelCtxIdeal.main_arg4) = m ((c.tc : Thread Cert.KernelCtxIdeal.nD Cert.KernelCtxIdeal.τ).loc Cert.KernelCtxIdeal.main_arg4)
          ∧ r.2.mem ((c.tc : Thread Cert.KernelCtxIdeal.nD Cert.KernelCtxIdeal.τ).loc Cert.KernelCtxIdeal.main_arg5) = m ((c.tc : Thread Cert.KernelCtxIdeal.nD Cert.KernelCtxIdeal.τ).loc Cert.KernelCtxIdeal.main_arg5))
      ∧ θ_run (Cert.ReferenceCtxIdeal.defs (F := Ideal)) (onTc (τ := Cert.ReferenceCtxIdeal.τ) (Cert.ReferenceCtxIdeal.main (F := Ideal))) ⟨m', fun _ => 0, g'⟩ (fun r => ∀ c : Dev Cert.ReferenceCtxIdeal.nD,
          r.2.mem ((c.tc : Thread Cert.ReferenceCtxIdeal.nD Cert.ReferenceCtxIdeal.τ).loc Cert.ReferenceCtxIdeal.main_v79) = v0 c
          ∧ r.2.mem ((c.tc : Thread Cert.ReferenceCtxIdeal.nD Cert.ReferenceCtxIdeal.τ).loc Cert.ReferenceCtxIdeal.main_arg0) = m' ((c.tc : Thread Cert.ReferenceCtxIdeal.nD Cert.ReferenceCtxIdeal.τ).loc Cert.ReferenceCtxIdeal.main_arg0)
          ∧ r.2.mem ((c.tc : Thread Cert.ReferenceCtxIdeal.nD Cert.ReferenceCtxIdeal.τ).loc Cert.ReferenceCtxIdeal.main_arg1) = m' ((c.tc : Thread Cert.ReferenceCtxIdeal.nD Cert.ReferenceCtxIdeal.τ).loc Cert.ReferenceCtxIdeal.main_arg1)
          ∧ r.2.mem ((c.tc : Thread Cert.ReferenceCtxIdeal.nD Cert.ReferenceCtxIdeal.τ).loc Cert.ReferenceCtxIdeal.main_arg2) = m' ((c.tc : Thread Cert.ReferenceCtxIdeal.nD Cert.ReferenceCtxIdeal.τ).loc Cert.ReferenceCtxIdeal.main_arg2)
          ∧ r.2.mem ((c.tc : Thread Cert.ReferenceCtxIdeal.nD Cert.ReferenceCtxIdeal.τ).loc Cert.ReferenceCtxIdeal.main_arg3) = m' ((c.tc : Thread Cert.ReferenceCtxIdeal.nD Cert.ReferenceCtxIdeal.τ).loc Cert.ReferenceCtxIdeal.main_arg3)
          ∧ r.2.mem ((c.tc : Thread Cert.ReferenceCtxIdeal.nD Cert.ReferenceCtxIdeal.τ).loc Cert.ReferenceCtxIdeal.main_arg4) = m' ((c.tc : Thread Cert.ReferenceCtxIdeal.nD Cert.ReferenceCtxIdeal.τ).loc Cert.ReferenceCtxIdeal.main_arg4)
          ∧ r.2.mem ((c.tc : Thread Cert.ReferenceCtxIdeal.nD Cert.ReferenceCtxIdeal.τ).loc Cert.ReferenceCtxIdeal.main_arg5) = m' ((c.tc : Thread Cert.ReferenceCtxIdeal.nD Cert.ReferenceCtxIdeal.τ).loc Cert.ReferenceCtxIdeal.main_arg5))

def preserves_KernelStates_KernelStatesIdeal : Prop :=
  True

def algebraic_KernelStatesIdeal_ReferenceStatesIdeal_pre_context_steps_finite [hKernelStatesIdeal : Cert.KernelStatesIdeal.Facts] [hReferenceStatesIdeal : Cert.ReferenceStatesIdeal.Facts] [hPre_context_steps_finite : Cert.Pre_context_steps_finite.Facts] : Prop :=
  ∀ (m : (ℓ : Loc Cert.KernelStatesIdeal.nD Cert.KernelStatesIdeal.τ Cert.KernelStatesIdeal.sig) → Buf (Elt Ideal) ℓ) (g : Dev Cert.KernelStatesIdeal.nD → PrngReg)
    (m' : (ℓ : Loc Cert.ReferenceStatesIdeal.nD Cert.ReferenceStatesIdeal.τ Cert.ReferenceStatesIdeal.sig) → Buf (Elt Ideal) ℓ) (g' : Dev Cert.ReferenceStatesIdeal.nD → PrngReg), Pre_KernelStatesIdeal_context_steps_finite m →
    (∀ c : Dev Cert.KernelStatesIdeal.nD,
      m' ((c.tc : Thread Cert.ReferenceStatesIdeal.nD Cert.ReferenceStatesIdeal.τ).loc Cert.ReferenceStatesIdeal.main_arg0) = m ((c.tc : Thread Cert.KernelStatesIdeal.nD Cert.KernelStatesIdeal.τ).loc Cert.KernelStatesIdeal.main_arg0)
      ∧ m' ((c.tc : Thread Cert.ReferenceStatesIdeal.nD Cert.ReferenceStatesIdeal.τ).loc Cert.ReferenceStatesIdeal.main_arg1) = m ((c.tc : Thread Cert.KernelStatesIdeal.nD Cert.KernelStatesIdeal.τ).loc Cert.KernelStatesIdeal.main_arg1)
      ∧ m' ((c.tc : Thread Cert.ReferenceStatesIdeal.nD Cert.ReferenceStatesIdeal.τ).loc Cert.ReferenceStatesIdeal.main_arg2) = m ((c.tc : Thread Cert.KernelStatesIdeal.nD Cert.KernelStatesIdeal.τ).loc Cert.KernelStatesIdeal.main_arg2)
      ∧ m' ((c.tc : Thread Cert.ReferenceStatesIdeal.nD Cert.ReferenceStatesIdeal.τ).loc Cert.ReferenceStatesIdeal.main_arg3) = m ((c.tc : Thread Cert.KernelStatesIdeal.nD Cert.KernelStatesIdeal.τ).loc Cert.KernelStatesIdeal.main_arg3)) →
    ∃ (v0 : (c : Dev Cert.KernelStatesIdeal.nD) → Buf (Elt Ideal) ((c.tc : Thread Cert.KernelStatesIdeal.nD Cert.KernelStatesIdeal.τ).loc Cert.KernelStatesIdeal.main_v2)),
      θ_run (Cert.KernelStatesIdeal.defs (F := Ideal)) (onTc (τ := Cert.KernelStatesIdeal.τ) (Cert.KernelStatesIdeal.main (F := Ideal))) ⟨m, fun _ => 0, g⟩ (fun r => ∀ c : Dev Cert.KernelStatesIdeal.nD,
          r.2.mem ((c.tc : Thread Cert.KernelStatesIdeal.nD Cert.KernelStatesIdeal.τ).loc Cert.KernelStatesIdeal.main_v2) = v0 c
          ∧ r.2.mem ((c.tc : Thread Cert.KernelStatesIdeal.nD Cert.KernelStatesIdeal.τ).loc Cert.KernelStatesIdeal.main_arg0) = m ((c.tc : Thread Cert.KernelStatesIdeal.nD Cert.KernelStatesIdeal.τ).loc Cert.KernelStatesIdeal.main_arg0)
          ∧ r.2.mem ((c.tc : Thread Cert.KernelStatesIdeal.nD Cert.KernelStatesIdeal.τ).loc Cert.KernelStatesIdeal.main_arg1) = m ((c.tc : Thread Cert.KernelStatesIdeal.nD Cert.KernelStatesIdeal.τ).loc Cert.KernelStatesIdeal.main_arg1)
          ∧ r.2.mem ((c.tc : Thread Cert.KernelStatesIdeal.nD Cert.KernelStatesIdeal.τ).loc Cert.KernelStatesIdeal.main_arg2) = m ((c.tc : Thread Cert.KernelStatesIdeal.nD Cert.KernelStatesIdeal.τ).loc Cert.KernelStatesIdeal.main_arg2)
          ∧ r.2.mem ((c.tc : Thread Cert.KernelStatesIdeal.nD Cert.KernelStatesIdeal.τ).loc Cert.KernelStatesIdeal.main_arg3) = m ((c.tc : Thread Cert.KernelStatesIdeal.nD Cert.KernelStatesIdeal.τ).loc Cert.KernelStatesIdeal.main_arg3))
      ∧ θ_run (Cert.ReferenceStatesIdeal.defs (F := Ideal)) (onTc (τ := Cert.ReferenceStatesIdeal.τ) (Cert.ReferenceStatesIdeal.main (F := Ideal))) ⟨m', fun _ => 0, g'⟩ (fun r => ∀ c : Dev Cert.ReferenceStatesIdeal.nD,
          r.2.mem ((c.tc : Thread Cert.ReferenceStatesIdeal.nD Cert.ReferenceStatesIdeal.τ).loc Cert.ReferenceStatesIdeal.main_v47) = v0 c
          ∧ r.2.mem ((c.tc : Thread Cert.ReferenceStatesIdeal.nD Cert.ReferenceStatesIdeal.τ).loc Cert.ReferenceStatesIdeal.main_arg0) = m' ((c.tc : Thread Cert.ReferenceStatesIdeal.nD Cert.ReferenceStatesIdeal.τ).loc Cert.ReferenceStatesIdeal.main_arg0)
          ∧ r.2.mem ((c.tc : Thread Cert.ReferenceStatesIdeal.nD Cert.ReferenceStatesIdeal.τ).loc Cert.ReferenceStatesIdeal.main_arg1) = m' ((c.tc : Thread Cert.ReferenceStatesIdeal.nD Cert.ReferenceStatesIdeal.τ).loc Cert.ReferenceStatesIdeal.main_arg1)
          ∧ r.2.mem ((c.tc : Thread Cert.ReferenceStatesIdeal.nD Cert.ReferenceStatesIdeal.τ).loc Cert.ReferenceStatesIdeal.main_arg2) = m' ((c.tc : Thread Cert.ReferenceStatesIdeal.nD Cert.ReferenceStatesIdeal.τ).loc Cert.ReferenceStatesIdeal.main_arg2)
          ∧ r.2.mem ((c.tc : Thread Cert.ReferenceStatesIdeal.nD Cert.ReferenceStatesIdeal.τ).loc Cert.ReferenceStatesIdeal.main_arg3) = m' ((c.tc : Thread Cert.ReferenceStatesIdeal.nD Cert.ReferenceStatesIdeal.τ).loc Cert.ReferenceStatesIdeal.main_arg3))

def Claim : Prop :=
  ∃ (hKernel : Cert.Kernel.Facts) (hKernelIdeal : Cert.KernelIdeal.Facts) (hReferenceIdeal : Cert.ReferenceIdeal.Facts) (hKernelZ : Cert.KernelZ.Facts) (hKernelZIdeal : Cert.KernelZIdeal.Facts) (hReferenceZIdeal : Cert.ReferenceZIdeal.Facts) (hKernelGrid : Cert.KernelGrid.Facts) (hKernelGridIdeal : Cert.KernelGridIdeal.Facts) (hReferenceGridIdeal : Cert.ReferenceGridIdeal.Facts) (hKernelSeq : Cert.KernelSeq.Facts) (hKernelSeqIdeal : Cert.KernelSeqIdeal.Facts) (hReferenceSeqIdeal : Cert.ReferenceSeqIdeal.Facts) (hKernelOut : Cert.KernelOut.Facts) (hKernelOutIdeal : Cert.KernelOutIdeal.Facts) (hReferenceOutIdeal : Cert.ReferenceOutIdeal.Facts) (hKernelProj : Cert.KernelProj.Facts) (hKernelProjIdeal : Cert.KernelProjIdeal.Facts) (hReferenceProjIdeal : Cert.ReferenceProjIdeal.Facts) (hKernelDt : Cert.KernelDt.Facts) (hKernelDtIdeal : Cert.KernelDtIdeal.Facts) (hReferenceDtIdeal : Cert.ReferenceDtIdeal.Facts) (hKernelCtxDt : Cert.KernelCtxDt.Facts) (hKernelCtxDtIdeal : Cert.KernelCtxDtIdeal.Facts) (hReferenceCtxDtIdeal : Cert.ReferenceCtxDtIdeal.Facts) (hKernelCtx : Cert.KernelCtx.Facts) (hKernelCtxIdeal : Cert.KernelCtxIdeal.Facts) (hReferenceCtxIdeal : Cert.ReferenceCtxIdeal.Facts) (hKernelStates : Cert.KernelStates.Facts) (hKernelStatesIdeal : Cert.KernelStatesIdeal.Facts) (hReferenceStatesIdeal : Cert.ReferenceStatesIdeal.Facts) (hPre_steps_finite : Cert.Pre_steps_finite.Facts) (hPre_context_steps_finite : Cert.Pre_context_steps_finite.Facts),
    quiescent_Kernel (hKernel := hKernel)
    ∧ quiescent_KernelIdeal (hKernelIdeal := hKernelIdeal)
    ∧ quiescent_KernelIdeal_pre_steps_finite (hKernelIdeal := hKernelIdeal) (hPre_steps_finite := hPre_steps_finite)
    ∧ quiescent_ReferenceIdeal (hReferenceIdeal := hReferenceIdeal)
    ∧ quiescent_ReferenceIdeal_pre_steps_finite (hReferenceIdeal := hReferenceIdeal) (hPre_steps_finite := hPre_steps_finite)
    ∧ quiescent_KernelZ (hKernelZ := hKernelZ)
    ∧ quiescent_KernelZIdeal (hKernelZIdeal := hKernelZIdeal)
    ∧ quiescent_ReferenceZIdeal (hReferenceZIdeal := hReferenceZIdeal)
    ∧ quiescent_KernelGrid (hKernelGrid := hKernelGrid)
    ∧ quiescent_KernelGridIdeal (hKernelGridIdeal := hKernelGridIdeal)
    ∧ quiescent_ReferenceGridIdeal (hReferenceGridIdeal := hReferenceGridIdeal)
    ∧ quiescent_KernelSeq (hKernelSeq := hKernelSeq)
    ∧ quiescent_KernelSeqIdeal (hKernelSeqIdeal := hKernelSeqIdeal)
    ∧ quiescent_ReferenceSeqIdeal (hReferenceSeqIdeal := hReferenceSeqIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelDt (hKernelDt := hKernelDt)
    ∧ quiescent_KernelDtIdeal (hKernelDtIdeal := hKernelDtIdeal)
    ∧ quiescent_ReferenceDtIdeal (hReferenceDtIdeal := hReferenceDtIdeal)
    ∧ quiescent_KernelCtxDt (hKernelCtxDt := hKernelCtxDt)
    ∧ quiescent_KernelCtxDtIdeal (hKernelCtxDtIdeal := hKernelCtxDtIdeal)
    ∧ quiescent_ReferenceCtxDtIdeal (hReferenceCtxDtIdeal := hReferenceCtxDtIdeal)
    ∧ quiescent_KernelCtx (hKernelCtx := hKernelCtx)
    ∧ quiescent_KernelCtxIdeal (hKernelCtxIdeal := hKernelCtxIdeal)
    ∧ quiescent_ReferenceCtxIdeal (hReferenceCtxIdeal := hReferenceCtxIdeal)
    ∧ quiescent_KernelStates (hKernelStates := hKernelStates)
    ∧ quiescent_KernelStatesIdeal (hKernelStatesIdeal := hKernelStatesIdeal)
    ∧ quiescent_KernelStatesIdeal_pre_context_steps_finite (hKernelStatesIdeal := hKernelStatesIdeal) (hPre_context_steps_finite := hPre_context_steps_finite)
    ∧ quiescent_ReferenceStatesIdeal (hReferenceStatesIdeal := hReferenceStatesIdeal)
    ∧ quiescent_ReferenceStatesIdeal_pre_context_steps_finite (hReferenceStatesIdeal := hReferenceStatesIdeal) (hPre_context_steps_finite := hPre_context_steps_finite)
    ∧ preserves_Kernel_KernelIdeal
    ∧ algebraic_KernelIdeal_ReferenceIdeal_pre_steps_finite (hKernelIdeal := hKernelIdeal) (hReferenceIdeal := hReferenceIdeal) (hPre_steps_finite := hPre_steps_finite)
    ∧ preserves_KernelZ_KernelZIdeal
    ∧ algebraic_KernelZIdeal_ReferenceZIdeal (hKernelZIdeal := hKernelZIdeal) (hReferenceZIdeal := hReferenceZIdeal)
    ∧ preserves_KernelGrid_KernelGridIdeal
    ∧ algebraic_KernelGridIdeal_ReferenceGridIdeal (hKernelGridIdeal := hKernelGridIdeal) (hReferenceGridIdeal := hReferenceGridIdeal)
    ∧ preserves_KernelSeq_KernelSeqIdeal
    ∧ algebraic_KernelSeqIdeal_ReferenceSeqIdeal (hKernelSeqIdeal := hKernelSeqIdeal) (hReferenceSeqIdeal := hReferenceSeqIdeal)
    ∧ preserves_KernelOut_KernelOutIdeal
    ∧ algebraic_KernelOutIdeal_ReferenceOutIdeal (hKernelOutIdeal := hKernelOutIdeal) (hReferenceOutIdeal := hReferenceOutIdeal)
    ∧ preserves_KernelProj_KernelProjIdeal
    ∧ algebraic_KernelProjIdeal_ReferenceProjIdeal (hKernelProjIdeal := hKernelProjIdeal) (hReferenceProjIdeal := hReferenceProjIdeal)
    ∧ preserves_KernelDt_KernelDtIdeal
    ∧ algebraic_KernelDtIdeal_ReferenceDtIdeal (hKernelDtIdeal := hKernelDtIdeal) (hReferenceDtIdeal := hReferenceDtIdeal)
    ∧ preserves_KernelCtxDt_KernelCtxDtIdeal
    ∧ algebraic_KernelCtxDtIdeal_ReferenceCtxDtIdeal (hKernelCtxDtIdeal := hKernelCtxDtIdeal) (hReferenceCtxDtIdeal := hReferenceCtxDtIdeal)
    ∧ preserves_KernelCtx_KernelCtxIdeal
    ∧ algebraic_KernelCtxIdeal_ReferenceCtxIdeal (hKernelCtxIdeal := hKernelCtxIdeal) (hReferenceCtxIdeal := hReferenceCtxIdeal)
    ∧ preserves_KernelStates_KernelStatesIdeal
    ∧ algebraic_KernelStatesIdeal_ReferenceStatesIdeal_pre_context_steps_finite (hKernelStatesIdeal := hKernelStatesIdeal) (hReferenceStatesIdeal := hReferenceStatesIdeal) (hPre_context_steps_finite := hPre_context_steps_finite)
-- ==== Pre_context_steps_finite.lean ====
abbrev S8x256x3072 : Shape := ⟨3, ![8, 256, 3072]⟩
abbrev S8x256x2x32 : Shape := ⟨4, ![8, 256, 2, 32]⟩
abbrev S2x32 : Shape := ⟨2, ![2, 32]⟩
abbrev S8x2x32x64x128 : Shape := ⟨5, ![8, 2, 32, 64, 128]⟩
abbrev S_ : Shape := ⟨0, ![]⟩
abbrev S1x1x2x32 : Shape := ⟨4, ![1, 1, 2, 32]⟩

class Facts : Prop where
  bcast_S_S8x256x2x32 : S_.BroadcastsInDim S8x256x2x32 (![] : Fin 0 → Fin S8x256x2x32.rank)
  bcast_S_S2x32 : S_.BroadcastsInDim S2x32 (![] : Fin 0 → Fin S2x32.rank)
  bcast_S2x32_S1x1x2x32_2_3 : S2x32.BroadcastsInDim S1x1x2x32 (![2, 3] : Fin 2 → Fin S1x1x2x32.rank)
  bcast_S1x1x2x32_S8x256x2x32_0_1_2_3 : S1x1x2x32.BroadcastsInDim S8x256x2x32 (![0, 1, 2, 3] : Fin 4 → Fin S8x256x2x32.rank)

variable [Facts]

def fn {F : FTy → Type} [FloatOps F] (main_arg0 : FVec F S8x256x3072 .f32) (main_arg1 : FVec F S8x256x2x32 .f32) (main_arg2 : FVec F S2x32 .f32) (main_arg3 : FVec F S8x2x32x64x128 .f32) : IVec S8x256x2x32 1 :=
  let main_v0 : FVec F S8x256x2x32 .f32 := Host.absf main_arg1
  let main_cst : FVec F S_ .f32 := constant S_ .f32 0x7F800000#32
  let main_v1 : FVec F S8x256x2x32 .f32 := broadcastInDim S8x256x2x32 ![] bcast_S_S8x256x2x32 main_cst
  let main_v2 : IVec S8x256x2x32 1 := cmpf .olt main_v0 main_v1
  let main_v3 : FVec F S2x32 .f32 := Host.absf main_arg2
  let main_cst_0 : FVec F S_ .f32 := constant S_ .f32 0x7F800000#32
  let main_v4 : FVec F S2x32 .f32 := broadcastInDim S2x32 ![] bcast_S_S2x32 main_cst_0
  let main_v5 : IVec S2x32 1 := cmpf .olt main_v3 main_v4
  let main_v6 : IVec S1x1x2x32 1 := broadcastInDim S1x1x2x32 ![2, 3] bcast_S2x32_S1x1x2x32_2_3 main_v5
  let main_v7 : IVec S8x256x2x32 1 := broadcastInDim S8x256x2x32 ![0, 1, 2, 3] bcast_S1x1x2x32_S8x256x2x32_0_1_2_3 main_v6
  let main_v8 : IVec S8x256x2x32 1 := andi main_v2 main_v7
  main_v8
-- ==== Pre_steps_finite.lean ====
abbrev S8x4096x3072 : Shape := ⟨3, ![8, 4096, 3072]⟩
abbrev S8x4096x2x32 : Shape := ⟨4, ![8, 4096, 2, 32]⟩
abbrev S2x32 : Shape := ⟨2, ![2, 32]⟩
abbrev S8x2x32x64x128 : Shape := ⟨5, ![8, 2, 32, 64, 128]⟩
abbrev S_ : Shape := ⟨0, ![]⟩
abbrev S1x1x2x32 : Shape := ⟨4, ![1, 1, 2, 32]⟩

class Facts : Prop where
  bcast_S_S8x4096x2x32 : S_.BroadcastsInDim S8x4096x2x32 (![] : Fin 0 → Fin S8x4096x2x32.rank)
  bcast_S_S2x32 : S_.BroadcastsInDim S2x32 (![] : Fin 0 → Fin S2x32.rank)
  bcast_S2x32_S1x1x2x32_2_3 : S2x32.BroadcastsInDim S1x1x2x32 (![2, 3] : Fin 2 → Fin S1x1x2x32.rank)
  bcast_S1x1x2x32_S8x4096x2x32_0_1_2_3 : S1x1x2x32.BroadcastsInDim S8x4096x2x32 (![0, 1, 2, 3] : Fin 4 → Fin S8x4096x2x32.rank)

variable [Facts]

def fn {F : FTy → Type} [FloatOps F] (main_arg0 : FVec F S8x4096x3072 .f32) (main_arg1 : FVec F S8x4096x2x32 .f32) (main_arg2 : FVec F S2x32 .f32) (main_arg3 : FVec F S8x2x32x64x128 .f32) : IVec S8x4096x2x32 1 :=
  let main_v0 : FVec F S8x4096x2x32 .f32 := Host.absf main_arg1
  let main_cst : FVec F S_ .f32 := constant S_ .f32 0x7F800000#32
  let main_v1 : FVec F S8x4096x2x32 .f32 := broadcastInDim S8x4096x2x32 ![] bcast_S_S8x4096x2x32 main_cst
  let main_v2 : IVec S8x4096x2x32 1 := cmpf .olt main_v0 main_v1
  let main_v3 : FVec F S2x32 .f32 := Host.absf main_arg2
  let main_cst_0 : FVec F S_ .f32 := constant S_ .f32 0x7F800000#32
  let main_v4 : FVec F S2x32 .f32 := broadcastInDim S2x32 ![] bcast_S_S2x32 main_cst_0
  let main_v5 : IVec S2x32 1 := cmpf .olt main_v3 main_v4
  let main_v6 : IVec S1x1x2x32 1 := broadcastInDim S1x1x2x32 ![2, 3] bcast_S2x32_S1x1x2x32_2_3 main_v5
  let main_v7 : IVec S8x4096x2x32 1 := broadcastInDim S8x4096x2x32 ![0, 1, 2, 3] bcast_S1x1x2x32_S8x4096x2x32_0_1_2_3 main_v6
  let main_v8 : IVec S8x4096x2x32 1 := andi main_v2 main_v7
  main_v8
-- ==== Kernel.lean ====
abbrev S8x4096x3072 : Shape := ⟨3, ![8, 4096, 3072]⟩
abbrev S8x4096x2x32 : Shape := ⟨4, ![8, 4096, 2, 32]⟩
abbrev S2x32 : Shape := ⟨2, ![2, 32]⟩
abbrev S8x2x32x64x128 : Shape := ⟨5, ![8, 2, 32, 64, 128]⟩
abbrev S8x2x4096x32 : Shape := ⟨4, ![8, 2, 4096, 32]⟩
abbrev S2x1x32 : Shape := ⟨3, ![2, 1, 32]⟩
abbrev S2x8x4096x2048 : Shape := ⟨4, ![2, 8, 4096, 2048]⟩
abbrev S1x128x2048 : Shape := ⟨3, ![1, 128, 2048]⟩
abbrev S1x128x512 : Shape := ⟨3, ![1, 128, 512]⟩
abbrev S1x1x128x32 : Shape := ⟨4, ![1, 1, 128, 32]⟩
abbrev S1x1x32 : Shape := ⟨3, ![1, 1, 32]⟩
abbrev S1x1x32x64x128 : Shape := ⟨5, ![1, 1, 32, 64, 128]⟩
abbrev S1x1x128x2048 : Shape := ⟨4, ![1, 1, 128, 2048]⟩
abbrev S2048x128 : Shape := ⟨2, ![2048, 128]⟩
abbrev S32x64x128 : Shape := ⟨3, ![32, 64, 128]⟩
abbrev S128x32 : Shape := ⟨2, ![128, 32]⟩
abbrev S1x32 : Shape := ⟨2, ![1, 32]⟩
abbrev S128x128 : Shape := ⟨2, ![128, 128]⟩
abbrev S32x128 : Shape := ⟨2, ![32, 128]⟩
abbrev S32 : Shape := ⟨1, ![32]⟩
abbrev S32x2048 : Shape := ⟨2, ![32, 2048]⟩
abbrev S128x2048 : Shape := ⟨2, ![128, 2048]⟩
abbrev S32x1 : Shape := ⟨2, ![32, 1]⟩
abbrev S1x128x128 : Shape := ⟨3, ![1, 128, 128]⟩
abbrev S512x128 : Shape := ⟨2, ![512, 128]⟩
abbrev S128x1 : Shape := ⟨2, ![128, 1]⟩
abbrev S1x128 : Shape := ⟨2, ![1, 128]⟩
abbrev S256x128 : Shape := ⟨2, ![256, 128]⟩
abbrev S128x256 : Shape := ⟨2, ![128, 256]⟩
abbrev S128x512 : Shape := ⟨2, ![128, 512]⟩
abbrev S1x1x128x512 : Shape := ⟨4, ![1, 1, 128, 512]⟩

abbrev nBuf : Space → Nat
  | .hbm => 8
  | .vmem => 17
  | .smem => 0
  | _ => 0

abbrev bufTy : (tb : Table) → Fin (tcTables nBuf tb) → BufTy
  | .hbm, ⟨0, _⟩ => ⟨S8x4096x3072, .f32⟩
  | .hbm, ⟨1, _⟩ => ⟨S8x4096x2x32, .f32⟩
  | .hbm, ⟨2, _⟩ => ⟨S2x32, .f32⟩
  | .hbm, ⟨3, _⟩ => ⟨S8x2x32x64x128, .f32⟩
  | .hbm, ⟨4, _⟩ => ⟨S8x2x4096x32, .f32⟩
  | .hbm, ⟨5, _⟩ => ⟨S2x1x32, .f32⟩
  | .hbm, ⟨6, _⟩ => ⟨S2x8x4096x2048, .f32⟩
  | .hbm, ⟨7, _⟩ => ⟨S8x2x32x64x128, .f32⟩
  | .local _ .vmem, ⟨0, _⟩ => ⟨S1x128x2048, .f32⟩
  | .local _ .vmem, ⟨1, _⟩ => ⟨S1x128x2048, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x1x128x32, .f32⟩
  | .local _ .vmem, ⟨7, _⟩ => ⟨S1x1x128x32, .f32⟩
  | .local _ .vmem, ⟨8, _⟩ => ⟨S1x1x32, .f32⟩
  | .local _ .vmem, ⟨9, _⟩ => ⟨S1x1x32, .f32⟩
  | .local _ .vmem, ⟨10, _⟩ => ⟨S1x1x32x64x128, .f32⟩
  | .local _ .vmem, ⟨11, _⟩ => ⟨S1x1x32x64x128, .f32⟩
  | .local _ .vmem, ⟨12, _⟩ => ⟨S1x1x128x2048, .f32⟩
  | .local _ .vmem, ⟨13, _⟩ => ⟨S1x1x128x2048, .f32⟩
  | .local _ .vmem, ⟨14, _⟩ => ⟨S1x1x32x64x128, .f32⟩
  | .local _ .vmem, ⟨15, _⟩ => ⟨S1x1x32x64x128, .f32⟩
  | .local _ .vmem, ⟨16, _⟩ => ⟨S2048x128, .f32⟩
  | _, _ => ⟨S8x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 2, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c31_i32 : BitVec 32 := 31#32
  let v1 : BitVec 32 := Scalar.subi c31_i32 v0
  let v2 : BitVec 32 := Scalar.muli arg1 v1
  let v3 : BitVec 32 := Scalar.addi arg2 v2
  let c0_i32 : BitVec 32 := 0#32
  let c0_i32_0 : BitVec 32 := 0#32
  ![arg0.toNat, v3.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c31_i32 : BitVec 32 := 31#32
  let v1 : BitVec 32 := Scalar.subi c31_i32 v0
  let v2 : BitVec 32 := Scalar.muli arg1 v1
  let v3 : BitVec 32 := Scalar.addi arg2 v2
  let c4_i32 : BitVec 32 := 4#32
  let c0_i32 : BitVec 32 := 0#32
  ![arg0.toNat, v3.toNat, c4_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c31_i32 : BitVec 32 := 31#32
  let v1 : BitVec 32 := Scalar.subi c31_i32 v0
  let v2 : BitVec 32 := Scalar.muli arg1 v1
  let v3 : BitVec 32 := Scalar.addi arg2 v2
  let c5_i32 : BitVec 32 := 5#32
  let c0_i32 : BitVec 32 := 0#32
  ![arg0.toNat, v3.toNat, c5_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c31_i32 : BitVec 32 := 31#32
  let v1 : BitVec 32 := Scalar.subi c31_i32 v0
  let v2 : BitVec 32 := Scalar.muli arg1 v1
  let v3 : BitVec 32 := Scalar.addi arg2 v2
  let c0_i32 : BitVec 32 := 0#32
  let c0_i32_0 : BitVec 32 := 0#32
  ![arg0.toNat, arg1.toNat, v3.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c31_i32 : BitVec 32 := 31#32
  let v1 : BitVec 32 := Scalar.subi c31_i32 v0
  let v2 : BitVec 32 := Scalar.muli arg1 v1
  let v3 : BitVec 32 := Scalar.addi arg2 v2
  let c0_i32 : BitVec 32 := 0#32
  let c0_i32_0 : BitVec 32 := 0#32
  ![arg1.toNat, arg0.toNat, v3.toNat, c0_i32.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x128x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1x32x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x32x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== ReferenceIdeal.lean ====
abbrev S8x4096x3072 : Shape := ⟨3, ![8, 4096, 3072]⟩
abbrev S8x4096x2x32 : Shape := ⟨4, ![8, 4096, 2, 32]⟩
abbrev S2x32 : Shape := ⟨2, ![2, 32]⟩
abbrev S8x2x32x64x128 : Shape := ⟨5, ![8, 2, 32, 64, 128]⟩
abbrev S8x4096x2048 : Shape := ⟨3, ![8, 4096, 2048]⟩
abbrev S8x4096x32x64 : Shape := ⟨4, ![8, 4096, 32, 64]⟩
abbrev S8x4096x512 : Shape := ⟨3, ![8, 4096, 512]⟩
abbrev S8x4096x4x128 : Shape := ⟨4, ![8, 4096, 4, 128]⟩
abbrev S1x8x4096x32x64 : Shape := ⟨5, ![1, 8, 4096, 32, 64]⟩
abbrev S2x8x4096x32x64 : Shape := ⟨5, ![2, 8, 4096, 32, 64]⟩
abbrev S8x4096x1x32 : Shape := ⟨4, ![8, 4096, 1, 32]⟩
abbrev S8x4096x32 : Shape := ⟨3, ![8, 4096, 32]⟩
abbrev S1x8x4096x32 : Shape := ⟨4, ![1, 8, 4096, 32]⟩
abbrev S2x8x4096x32 : Shape := ⟨4, ![2, 8, 4096, 32]⟩
abbrev S1x8x4096x4x128 : Shape := ⟨5, ![1, 8, 4096, 4, 128]⟩
abbrev S2x8x4096x4x128 : Shape := ⟨5, ![2, 8, 4096, 4, 128]⟩
abbrev S2x8x32x64x128 : Shape := ⟨5, ![2, 8, 32, 64, 128]⟩
abbrev S2x8x4096x32x1 : Shape := ⟨5, ![2, 8, 4096, 32, 1]⟩
abbrev S2x8x32x128x4x8x64 : Shape := ⟨7, ![2, 8, 32, 128, 4, 8, 64]⟩
abbrev S2x8x32x128x4x128 : Shape := ⟨6, ![2, 8, 32, 128, 4, 128]⟩
abbrev S2x1x1x32 : Shape := ⟨4, ![2, 1, 1, 32]⟩
abbrev S2x8x32x128x4x8 : Shape := ⟨6, ![2, 8, 32, 128, 4, 8]⟩
abbrev S_ : Shape := ⟨0, ![]⟩
abbrev S2x8x32x1x4x8 : Shape := ⟨6, ![2, 8, 32, 1, 4, 8]⟩
abbrev S2x8x32x128x4x8x1 : Shape := ⟨7, ![2, 8, 32, 128, 4, 8, 1]⟩
abbrev S2x8x32x4x8x64x128 : Shape := ⟨7, ![2, 8, 32, 4, 8, 64, 128]⟩
abbrev S2x8x32x4x8 : Shape := ⟨5, ![2, 8, 32, 4, 8]⟩
abbrev S2x8x32x128x1x4x8 : Shape := ⟨7, ![2, 8, 32, 128, 1, 4, 8]⟩
abbrev S2x8x32x1x128x4x8 : Shape := ⟨7, ![2, 8, 32, 1, 128, 4, 8]⟩
abbrev S2x8x32x128x128x4x8 : Shape := ⟨7, ![2, 8, 32, 128, 128, 4, 8]⟩
abbrev S128x128 : Shape := ⟨2, ![128, 128]⟩
abbrev S1x1x1x128x128x1x1 : Shape := ⟨7, ![1, 1, 1, 128, 128, 1, 1]⟩
abbrev S2x8x32x4x128x128 : Shape := ⟨6, ![2, 8, 32, 4, 128, 128]⟩
abbrev S2x8x32x128x128x4 : Shape := ⟨6, ![2, 8, 32, 128, 128, 4]⟩
abbrev S2x8x32x128x128x4x1 : Shape := ⟨7, ![2, 8, 32, 128, 128, 4, 1]⟩
abbrev S32x2x8x4x8x64x128 : Shape := ⟨7, ![32, 2, 8, 4, 8, 64, 128]⟩
abbrev S32x2x8x4x8 : Shape := ⟨5, ![32, 2, 8, 4, 8]⟩
abbrev S32x2x8x128x4x128 : Shape := ⟨6, ![32, 2, 8, 128, 4, 128]⟩
abbrev S32x2x8x128x4x8x64 : Shape := ⟨7, ![32, 2, 8, 128, 4, 8, 64]⟩
abbrev S32x2x8x128x4x8 : Shape := ⟨6, ![32, 2, 8, 128, 4, 8]⟩
abbrev S2x8x4x8x64x128 : Shape := ⟨6, ![2, 8, 4, 8, 64, 128]⟩
abbrev S1x2x8x4x8x64x128 : Shape := ⟨7, ![1, 2, 8, 4, 8, 64, 128]⟩
abbrev S1x2x8x4x8 : Shape := ⟨5, ![1, 2, 8, 4, 8]⟩
abbrev S2x8x4x8 : Shape := ⟨4, ![2, 8, 4, 8]⟩
abbrev S1x2x8x128x4x128 : Shape := ⟨6, ![1, 2, 8, 128, 4, 128]⟩
abbrev S2x8x128x4x128 : Shape := ⟨5, ![2, 8, 128, 4, 128]⟩
abbrev S1x2x8x128x4x8x64 : Shape := ⟨7, ![1, 2, 8, 128, 4, 8, 64]⟩
abbrev S2x8x128x4x8x64 : Shape := ⟨6, ![2, 8, 128, 4, 8, 64]⟩
abbrev S1x2x8x128x4x8 : Shape := ⟨6, ![1, 2, 8, 128, 4, 8]⟩
abbrev S2x8x128x4x8 : Shape := ⟨5, ![2, 8, 128, 4, 8]⟩
abbrev S2x8x128x4x8x1 : Shape := ⟨6, ![2, 8, 128, 4, 8, 1]⟩
abbrev S2x8x4x8x1x1 : Shape := ⟨6, ![2, 8, 4, 8, 1, 1]⟩
abbrev S2x8x4096x2048 : Shape := ⟨4, ![2, 8, 4096, 2048]⟩

abbrev nBuf : Space → Nat
  | .hbm => 174
  | .vmem => 0
  | .smem => 0
  | _ => 0

abbrev hbmTy0_0 (i : Nat) : BufTy := match i % 128 with
  | 0 => ⟨S8x4096x3072, .f32⟩
  | 1 => ⟨S8x4096x2x32, .f32⟩
  | 2 => ⟨S2x32, .f32⟩
  | 3 => ⟨S8x2x32x64x128, .f32⟩
  | 4 => ⟨S8x4096x2048, .f32⟩
  | 5 => ⟨S8x4096x32x64, .f32⟩
  | 6 => ⟨S8x4096x512, .f32⟩
  | 7 => ⟨S8x4096x4x128, .f32⟩
  | 8 => ⟨S8x4096x512, .f32⟩
  | 9 => ⟨S8x4096x4x128, .f32⟩
  | 10 => ⟨S8x4096x32x64, .f32⟩
  | 11 => ⟨S1x8x4096x32x64, .f32⟩
  | 12 => ⟨S1x8x4096x32x64, .f32⟩
  | 13 => ⟨S2x8x4096x32x64, .f32⟩
  | 14 => ⟨S8x4096x1x32, .f32⟩
  | 15 => ⟨S8x4096x32, .f32⟩
  | 16 => ⟨S8x4096x1x32, .f32⟩
  | 17 => ⟨S8x4096x32, .f32⟩
  | 18 => ⟨S8x4096x32, .f32⟩
  | 19 => ⟨S1x8x4096x32, .f32⟩
  | 20 => ⟨S1x8x4096x32, .f32⟩
  | 21 => ⟨S2x8x4096x32, .f32⟩
  | 22 => ⟨S8x4096x4x128, .f32⟩
  | 23 => ⟨S1x8x4096x4x128, .f32⟩
  | 24 => ⟨S1x8x4096x4x128, .f32⟩
  | 25 => ⟨S2x8x4096x4x128, .f32⟩
  | 26 => ⟨S8x4096x4x128, .f32⟩
  | 27 => ⟨S1x8x4096x4x128, .f32⟩
  | 28 => ⟨S1x8x4096x4x128, .f32⟩
  | 29 => ⟨S2x8x4096x4x128, .f32⟩
  | 30 => ⟨S2x8x32x64x128, .f32⟩
  | 31 => ⟨S2x8x4096x32x1, .f32⟩
  | 32 => ⟨S2x8x4096x32x64, .f32⟩
  | 33 => ⟨S2x8x4096x32x64, .f32⟩
  | 34 => ⟨S2x8x32x128x4x8x64, .f32⟩
  | 35 => ⟨S2x8x32x128x4x128, .f32⟩
  | 36 => ⟨S2x8x32x128x4x128, .f32⟩
  | 37 => ⟨S2x1x1x32, .f32⟩
  | 38 => ⟨S2x8x4096x32, .f32⟩
  | 39 => ⟨S2x8x4096x32, .f32⟩
  | 40 => ⟨S2x8x32x128x4x8, .f32⟩
  | 41 => ⟨S_, .f32⟩
  | 42 => ⟨S_, .f32⟩
  | 43 => ⟨S2x8x32x128x4x8, .f32⟩
  | 44 => ⟨S2x8x32x1x4x8, .f32⟩
  | 45 => ⟨S2x8x32x128x4x8, .f32⟩
  | 46 => ⟨S2x8x32x128x4x8, .f32⟩
  | 47 => ⟨S2x8x32x128x4x8, .f32⟩
  | 48 => ⟨S2x8x32x128x4x8x1, .f32⟩
  | 49 => ⟨S2x8x32x128x4x8x64, .f32⟩
  | 50 => ⟨S2x8x32x128x4x8x64, .f32⟩
  | 51 => ⟨S2x8x32x4x8x64x128, .f32⟩
  | 52 => ⟨S2x8x32x1x4x8, .f32⟩
  | 53 => ⟨S2x8x32x4x8, .f32⟩
  | 54 => ⟨S2x8x32x4x8, .f32⟩
  | 55 => ⟨S2x8x32x128x1x4x8, .f32⟩
  | 56 => ⟨S2x8x32x1x128x4x8, .f32⟩
  | 57 => ⟨S2x8x32x128x128x4x8, .f32⟩
  | 58 => ⟨S2x8x32x128x128x4x8, .f32⟩
  | 59 => ⟨S2x8x32x128x128x4x8, .f32⟩
  | 60 => ⟨S_, .i1⟩
  | 61 => ⟨S128x128, .i1⟩
  | 62 => ⟨S128x128, .i32⟩
  | 63 => ⟨S_, .i32⟩
  | 64 => ⟨S128x128, .i32⟩
  | 65 => ⟨S128x128, .i32⟩
  | 66 => ⟨S128x128, .i32⟩
  | 67 => ⟨S128x128, .i1⟩
  | 68 => ⟨S_, .i1⟩
  | 69 => ⟨S128x128, .i1⟩
  | 70 => ⟨S128x128, .i1⟩
  | 71 => ⟨S1x1x1x128x128x1x1, .i1⟩
  | 72 => ⟨S_, .f32⟩
  | 73 => ⟨S_, .f32⟩
  | 74 => ⟨S2x8x32x128x128x4x8, .i1⟩
  | 75 => ⟨S2x8x32x128x128x4x8, .f32⟩
  | 76 => ⟨S2x8x32x128x128x4x8, .f32⟩
  | 77 => ⟨S2x8x32x128x128x4x8, .f32⟩
  | 78 => ⟨S2x8x32x4x128x128, .f32⟩
  | 79 => ⟨S2x8x32x128x128x4, .f32⟩
  | 80 => ⟨S2x8x32x128x128x4x1, .f32⟩
  | 81 => ⟨S2x8x32x128x128x4x8, .f32⟩
  | 82 => ⟨S2x8x32x128x128x4x8, .f32⟩
  | 83 => ⟨S2x8x32x4x8x64x128, .f32⟩
  | 84 => ⟨S2x8x32x128x4x8x64, .f32⟩
  | 85 => ⟨S2x8x32x128x4x8, .f32⟩
  | 86 => ⟨S32x2x8x4x8x64x128, .f32⟩
  | 87 => ⟨S32x2x8x4x8, .f32⟩
  | 88 => ⟨S32x2x8x128x4x128, .f32⟩
  | 89 => ⟨S32x2x8x128x4x8x64, .f32⟩
  | 90 => ⟨S32x2x8x128x4x8, .f32⟩
  | 91 => ⟨S2x8x4x8x64x128, .f32⟩
  | 92 => ⟨S_, .f32⟩
  | 93 => ⟨S32x2x8x128x4x8x64, .f32⟩
  | 94 => ⟨S_, .i32⟩
  | 95 => ⟨S32x2x8x4x8x64x128, .f32⟩
  | 96 => ⟨S32x2x8x4x8, .f32⟩
  | 97 => ⟨S32x2x8x128x4x128, .f32⟩
  | 98 => ⟨S32x2x8x128x4x8x64, .f32⟩
  | 99 => ⟨S32x2x8x128x4x8, .f32⟩
  | 100 => ⟨S_, .i32⟩
  | 101 => ⟨S2x8x4x8x64x128, .f32⟩
  | 102 => ⟨S32x2x8x128x4x8x64, .f32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S1x2x8x4x8x64x128, .f32⟩
  | 112 => ⟨S2x8x4x8x64x128, .f32⟩
  | 113 => ⟨S_, .i32⟩
  | 114 => ⟨S_, .i32⟩
  | 115 => ⟨S_, .i32⟩
  | 116 => ⟨S_, .i32⟩
  | 117 => ⟨S1x2x8x4x8, .f32⟩
  | 118 => ⟨S2x8x4x8, .f32⟩
  | 119 => ⟨S_, .i32⟩
  | 120 => ⟨S_, .i32⟩
  | 121 => ⟨S_, .i32⟩
  | 122 => ⟨S_, .i32⟩
  | 123 => ⟨S_, .i32⟩
  | 124 => ⟨S1x2x8x128x4x128, .f32⟩
  | 125 => ⟨S2x8x128x4x128, .f32⟩
  | 126 => ⟨S_, .i32⟩
  | 127 => ⟨S_, .i32⟩
  | _ => ⟨S8x4096x3072, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S1x2x8x128x4x8x64, .f32⟩
  | 5 => ⟨S2x8x128x4x8x64, .f32⟩
  | 6 => ⟨S_, .i32⟩
  | 7 => ⟨S_, .i32⟩
  | 8 => ⟨S_, .i32⟩
  | 9 => ⟨S_, .i32⟩
  | 10 => ⟨S_, .i32⟩
  | 11 => ⟨S1x2x8x128x4x8, .f32⟩
  | 12 => ⟨S2x8x128x4x8, .f32⟩
  | 13 => ⟨S2x8x4x8x64x128, .f32⟩
  | 14 => ⟨S2x8x128x4x8x64, .f32⟩
  | 15 => ⟨S2x8x128x4x8x1, .f32⟩
  | 16 => ⟨S2x8x128x4x8x64, .f32⟩
  | 17 => ⟨S2x8x128x4x8x64, .f32⟩
  | 18 => ⟨S2x8x4x8x1x1, .f32⟩
  | 19 => ⟨S2x8x4x8x64x128, .f32⟩
  | 20 => ⟨S2x8x4x8x64x128, .f32⟩
  | 21 => ⟨S2x8x4x8x64x128, .f32⟩
  | 22 => ⟨S2x8x128x4x8x64, .f32⟩
  | 23 => ⟨S1x2x8x128x4x8x64, .f32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S32x2x8x128x4x8x64, .f32⟩
  | 31 => ⟨S_, .i32⟩
  | 32 => ⟨S_, .i32⟩
  | 33 => ⟨S2x8x32x64x128, .f32⟩
  | 34 => ⟨S2x8x32x128x4x8x64, .f32⟩
  | 35 => ⟨S2x8x4096x32x64, .f32⟩
  | 36 => ⟨S1x8x4096x32x64, .f32⟩
  | 37 => ⟨S8x4096x32x64, .f32⟩
  | 38 => ⟨S1x8x4096x32x64, .f32⟩
  | 39 => ⟨S8x4096x32x64, .f32⟩
  | 40 => ⟨S8x4096x32x64, .f32⟩
  | 41 => ⟨S1x8x4096x32x64, .f32⟩
  | 42 => ⟨S1x8x4096x32x64, .f32⟩
  | 43 => ⟨S2x8x4096x32x64, .f32⟩
  | 44 => ⟨S2x8x4096x2048, .f32⟩
  | 45 => ⟨S8x2x32x64x128, .f32⟩
  | _ => ⟨S8x4096x3072, .f32⟩

abbrev hbmTy (i : Nat) : BufTy := match i / 128 with
  | 0 => hbmTy0_0 i
  | 1 => hbmTy0_1 i
  | _ => ⟨S8x4096x3072, .f32⟩

abbrev bufTy : (tb : Table) → Fin (tcTables nBuf tb) → BufTy
  | .hbm, ⟨i, _⟩ => hbmTy i
  | _, _ => ⟨S8x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_call4_call0_cst : Ref sig .tc := ⟨.hbm, 41, rfl⟩
abbrev main_call4_call0_v0 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_c : Ref sig .tc := ⟨.hbm, 60, rfl⟩
abbrev main_v54 : Ref sig .tc := ⟨.hbm, 61, rfl⟩
abbrev main_call5_v0 : Ref sig .tc := ⟨.hbm, 62, rfl⟩
abbrev main_call5_c : Ref sig .tc := ⟨.hbm, 63, rfl⟩
abbrev main_call5_v1 : Ref sig .tc := ⟨.hbm, 64, rfl⟩
abbrev main_call5_v2 : Ref sig .tc := ⟨.hbm, 65, rfl⟩
abbrev main_call5_v3 : Ref sig .tc := ⟨.hbm, 66, rfl⟩
abbrev main_call5_v4 : Ref sig .tc := ⟨.hbm, 67, rfl⟩
abbrev main_call5_c_0 : Ref sig .tc := ⟨.hbm, 68, rfl⟩
abbrev main_call5_v5 : Ref sig .tc := ⟨.hbm, 69, rfl⟩
abbrev main_v55 : Ref sig .tc := ⟨.hbm, 70, rfl⟩
abbrev main_v56 : Ref sig .tc := ⟨.hbm, 71, rfl⟩
abbrev main_cst : Ref sig .tc := ⟨.hbm, 72, rfl⟩
abbrev main_call6_v0 : Ref sig .tc := ⟨.hbm, 73, rfl⟩
abbrev main_call6_v1 : Ref sig .tc := ⟨.hbm, 74, rfl⟩
abbrev main_call6_v2 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_0 : Ref sig .tc := ⟨.hbm, 92, rfl⟩
abbrev main_v73 : Ref sig .tc := ⟨.hbm, 93, rfl⟩
abbrev main_c_1 : Ref sig .tc := ⟨.hbm, 94, rfl⟩
abbrev main_v74_0 : Ref sig .tc := ⟨.hbm, 95, rfl⟩
abbrev main_v74_1 : Ref sig .tc := ⟨.hbm, 96, rfl⟩
abbrev main_v74_2 : Ref sig .tc := ⟨.hbm, 97, rfl⟩
abbrev main_v74_3 : Ref sig .tc := ⟨.hbm, 98, rfl⟩
abbrev main_v74_4 : Ref sig .tc := ⟨.hbm, 99, rfl⟩
abbrev main_v74_5 : Ref sig .tc := ⟨.hbm, 100, rfl⟩
abbrev main_v74_6 : Ref sig .tc := ⟨.hbm, 101, rfl⟩
abbrev main_v74_7 : Ref sig .tc := ⟨.hbm, 102, rfl⟩
abbrev main_while0c_c_9 : Ref sig .tc := ⟨.hbm, 103, rfl⟩
abbrev main_while0c_v88 : Ref sig .tc := ⟨.hbm, 104, rfl⟩
abbrev main_while0b_call7_c : Ref sig .tc := ⟨.hbm, 105, rfl⟩
abbrev main_while0b_call7_c_0 : Ref sig .tc := ⟨.hbm, 106, rfl⟩
abbrev main_while0b_call7_c_1 : Ref sig .tc := ⟨.hbm, 107, rfl⟩
abbrev main_while0b_call7_c_2 : Ref sig .tc := ⟨.hbm, 108, rfl⟩
abbrev main_while0b_call7_c_3 : Ref sig .tc := ⟨.hbm, 109, rfl⟩
abbrev main_while0b_call7_c_4 : Ref sig .tc := ⟨.hbm, 110, rfl⟩
abbrev main_while0b_call7_v0 : Ref sig .tc := ⟨.hbm, 111, rfl⟩
abbrev main_while0b_v88 : Ref sig .tc := ⟨.hbm, 112, rfl⟩
abbrev main_while0b_call8_c : Ref sig .tc := ⟨.hbm, 113, rfl⟩
abbrev main_while0b_call8_c_0 : Ref sig .tc := ⟨.hbm, 114, rfl⟩
abbrev main_while0b_call8_c_1 : Ref sig .tc := ⟨.hbm, 115, rfl⟩
abbrev main_while0b_call8_c_2 : Ref sig .tc := ⟨.hbm, 116, rfl⟩
abbrev main_while0b_call8_v0 : Ref sig .tc := ⟨.hbm, 117, rfl⟩
abbrev main_while0b_v89 : Ref sig .tc := ⟨.hbm, 118, rfl⟩
abbrev main_while0b_call9_c : Ref sig .tc := ⟨.hbm, 119, rfl⟩
abbrev main_while0b_call9_c_0 : Ref sig .tc := ⟨.hbm, 120, rfl⟩
abbrev main_while0b_call9_c_1 : Ref sig .tc := ⟨.hbm, 121, rfl⟩
abbrev main_while0b_call9_c_2 : Ref sig .tc := ⟨.hbm, 122, rfl⟩
abbrev main_while0b_call9_c_3 : Ref sig .tc := ⟨.hbm, 123, rfl⟩
abbrev main_while0b_call9_v0 : Ref sig .tc := ⟨.hbm, 124, rfl⟩
abbrev main_while0b_v90 : Ref sig .tc := ⟨.hbm, 125, rfl⟩
abbrev main_while0b_call10_c : Ref sig .tc := ⟨.hbm, 126, rfl⟩
abbrev main_while0b_call10_c_0 : Ref sig .tc := ⟨.hbm, 127, rfl⟩
abbrev main_while0b_call10_c_1 : Ref sig .tc := ⟨.hbm, 128, rfl⟩
abbrev main_while0b_call10_c_2 : Ref sig .tc := ⟨.hbm, 129, rfl⟩
abbrev main_while0b_call10_c_3 : Ref sig .tc := ⟨.hbm, 130, rfl⟩
abbrev main_while0b_call10_c_4 : Ref sig .tc := ⟨.hbm, 131, rfl⟩
abbrev main_while0b_call10_v0 : Ref sig .tc := ⟨.hbm, 132, rfl⟩
abbrev main_while0b_v91 : Ref sig .tc := ⟨.hbm, 133, rfl⟩
abbrev main_while0b_call11_c : Ref sig .tc := ⟨.hbm, 134, rfl⟩
abbrev main_while0b_call11_c_0 : Ref sig .tc := ⟨.hbm, 135, rfl⟩
abbrev main_while0b_call11_c_1 : Ref sig .tc := ⟨.hbm, 136, rfl⟩
abbrev main_while0b_call11_c_2 : Ref sig .tc := ⟨.hbm, 137, rfl⟩
abbrev main_while0b_call11_c_3 : Ref sig .tc := ⟨.hbm, 138, rfl⟩
abbrev main_while0b_call11_v0 : Ref sig .tc := ⟨.hbm, 139, rfl⟩
abbrev main_while0b_v92 : Ref sig .tc := ⟨.hbm, 140, rfl⟩
abbrev main_while0b_v93 : Ref sig .tc := ⟨.hbm, 141, rfl⟩
abbrev main_while0b_v94 : Ref sig .tc := ⟨.hbm, 142, rfl⟩
abbrev main_while0b_v95 : Ref sig .tc := ⟨.hbm, 143, rfl⟩
abbrev main_while0b_v96 : Ref sig .tc := ⟨.hbm, 144, rfl⟩
abbrev main_while0b_v97 : Ref sig .tc := ⟨.hbm, 145, rfl⟩
abbrev main_while0b_v98 : Ref sig .tc := ⟨.hbm, 146, rfl⟩
abbrev main_while0b_v99 : Ref sig .tc := ⟨.hbm, 147, rfl⟩
abbrev main_while0b_v100 : Ref sig .tc := ⟨.hbm, 148, rfl⟩
abbrev main_while0b_v101 : Ref sig .tc := ⟨.hbm, 149, rfl⟩
abbrev main_while0b_v102 : Ref sig .tc := ⟨.hbm, 150, rfl⟩
abbrev main_while0b_call12_v0 : Ref sig .tc := ⟨.hbm, 151, rfl⟩
abbrev main_while0b_call12_c : Ref sig .tc := ⟨.hbm, 152, rfl⟩
abbrev main_while0b_call12_c_0 : Ref sig .tc := ⟨.hbm, 153, rfl⟩
abbrev main_while0b_call12_c_1 : Ref sig .tc := ⟨.hbm, 154, rfl⟩
abbrev main_while0b_call12_c_2 : Ref sig .tc := ⟨.hbm, 155, rfl⟩
abbrev main_while0b_call12_c_3 : Ref sig .tc := ⟨.hbm, 156, rfl⟩
abbrev main_while0b_call12_c_4 : Ref sig .tc := ⟨.hbm, 157, rfl⟩
abbrev main_while0b_v103 : Ref sig .tc := ⟨.hbm, 158, rfl⟩
abbrev main_while0b_c_9 : Ref sig .tc := ⟨.hbm, 159, rfl⟩
abbrev main_while0b_v104 : Ref sig .tc := ⟨.hbm, 160, rfl⟩
abbrev main_v75 : Ref sig .tc := ⟨.hbm, 161, rfl⟩
abbrev main_v76 : Ref sig .tc := ⟨.hbm, 162, rfl⟩
abbrev main_v77 : Ref sig .tc := ⟨.hbm, 163, rfl⟩
abbrev main_v78 : Ref sig .tc := ⟨.hbm, 164, rfl⟩
abbrev main_v79 : Ref sig .tc := ⟨.hbm, 165, rfl⟩
abbrev main_v80 : Ref sig .tc := ⟨.hbm, 166, rfl⟩
abbrev main_v81 : Ref sig .tc := ⟨.hbm, 167, rfl⟩
abbrev main_v82 : Ref sig .tc := ⟨.hbm, 168, rfl⟩
abbrev main_v83 : Ref sig .tc := ⟨.hbm, 169, rfl⟩
abbrev main_v84 : Ref sig .tc := ⟨.hbm, 170, rfl⟩
abbrev main_v85 : Ref sig .tc := ⟨.hbm, 171, rfl⟩
abbrev main_v86 : Ref sig .tc := ⟨.hbm, 172, rfl⟩
abbrev main_v87 : Ref sig .tc := ⟨.hbm, 173, rfl⟩

abbrev nD : Nat := 1
abbrev τ : Topo := Topo.v7x

variable {F : FTy → Type} [FloatOps F]

abbrev main_while0_count : Scf.Loop 32 := ⟨0#32, 32#32, 1#32⟩
-- ==== KernelZ.lean ====
abbrev S32768x1024 : Shape := ⟨2, ![32768, 1024]⟩
abbrev S8x1x1024 : Shape := ⟨3, ![8, 1, 1024]⟩
abbrev S1024x2048 : Shape := ⟨2, ![1024, 2048]⟩
abbrev S32768x2048 : Shape := ⟨2, ![32768, 2048]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S8x1x1024, .f32⟩
  | .hbm, ⟨2, _⟩ => ⟨S8x1x1024, .f32⟩
  | .hbm, ⟨3, _⟩ => ⟨S1024x2048, .f32⟩
  | .hbm, ⟨4, _⟩ => ⟨S1024x2048, .bf16⟩
  | .hbm, ⟨5, _⟩ => ⟨S32768x2048, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceZIdeal.lean ====
abbrev S32768x1024 : Shape := ⟨2, ![32768, 1024]⟩
abbrev S8x1x1024 : Shape := ⟨3, ![8, 1, 1024]⟩
abbrev S1024x2048 : Shape := ⟨2, ![1024, 2048]⟩
abbrev S8x4096x1024 : Shape := ⟨3, ![8, 4096, 1024]⟩
abbrev S_ : Shape := ⟨0, ![]⟩
abbrev S8x4096x2048 : Shape := ⟨3, ![8, 4096, 2048]⟩
abbrev S32768x2048 : Shape := ⟨2, ![32768, 2048]⟩

abbrev nBuf : Space → Nat
  | .hbm => 14
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8x1x1024, .f32⟩
  | .hbm, ⟨2, _⟩ => ⟨S8x1x1024, .f32⟩
  | .hbm, ⟨3, _⟩ => ⟨S1024x2048, .f32⟩
  | .hbm, ⟨4, _⟩ => ⟨S8x4096x1024, .f32⟩
  | .hbm, ⟨5, _⟩ => ⟨S_, .f32⟩
  | .hbm, ⟨6, _⟩ => ⟨S8x1x1024, .f32⟩
  | .hbm, ⟨7, _⟩ => ⟨S8x1x1024, .f32⟩
  | .hbm, ⟨8, _⟩ => ⟨S8x4096x1024, .f32⟩
  | .hbm, ⟨9, _⟩ => ⟨S8x4096x1024, .f32⟩
  | .hbm, ⟨10, _⟩ => ⟨S8x4096x1024, .f32⟩
  | .hbm, ⟨11, _⟩ => ⟨S8x4096x1024, .f32⟩
  | .hbm, ⟨12, _⟩ => ⟨S8x4096x2048, .f32⟩
  | .hbm, ⟨13, _⟩ => ⟨S32768x2048, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== KernelGrid.lean ====
abbrev S32768x1024 : Shape := ⟨2, ![32768, 1024]⟩
abbrev S8x1x1024 : Shape := ⟨3, ![8, 1, 1024]⟩
abbrev S1024x3072 : Shape := ⟨2, ![1024, 3072]⟩
abbrev S3x3x3072 : Shape := ⟨3, ![3, 3, 3072]⟩
abbrev S3072 : Shape := ⟨1, ![3072]⟩
abbrev S1x3072 : Shape := ⟨2, ![1, 3072]⟩
abbrev S32768x3072 : Shape := ⟨2, ![32768, 3072]⟩
abbrev S4096x1024 : Shape := ⟨2, ![4096, 1024]⟩
abbrev S1x1x1024 : Shape := ⟨3, ![1, 1, 1024]⟩
abbrev S1024x256 : Shape := ⟨2, ![1024, 256]⟩
abbrev S3x3x256 : Shape := ⟨3, ![3, 3, 256]⟩
abbrev S1x256 : Shape := ⟨2, ![1, 256]⟩
abbrev S4096x256 : Shape := ⟨2, ![4096, 256]⟩
abbrev S1x1024 : Shape := ⟨2, ![1, 1024]⟩
abbrev S1x1x256 : Shape := ⟨3, ![1, 1, 256]⟩

abbrev nBuf : Space → Nat
  | .hbm => 9
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S8x1x1024, .f32⟩
  | .hbm, ⟨2, _⟩ => ⟨S8x1x1024, .f32⟩
  | .hbm, ⟨3, _⟩ => ⟨S1024x3072, .f32⟩
  | .hbm, ⟨4, _⟩ => ⟨S3x3x3072, .f32⟩
  | .hbm, ⟨5, _⟩ => ⟨S3072, .f32⟩
  | .hbm, ⟨6, _⟩ => ⟨S1024x3072, .bf16⟩
  | .hbm, ⟨7, _⟩ => ⟨S1x3072, .f32⟩
  | .hbm, ⟨8, _⟩ => ⟨S32768x3072, .f32⟩
  | .local _ .vmem, ⟨0, _⟩ => ⟨S4096x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1024x256, .bf16⟩
  | .local _ .vmem, ⟨6, _⟩ => ⟨S1024x256, .bf16⟩
  | .local _ .vmem, ⟨7, _⟩ => ⟨S3x3x256, .f32⟩
  | .local _ .vmem, ⟨8, _⟩ => ⟨S3x3x256, .f32⟩
  | .local _ .vmem, ⟨9, _⟩ => ⟨S1x256, .f32⟩
  | .local _ .vmem, ⟨10, _⟩ => ⟨S1x256, .f32⟩
  | .local _ .vmem, ⟨11, _⟩ => ⟨S4096x256, .f32⟩
  | .local _ .vmem, ⟨12, _⟩ => ⟨S4096x256, .f32⟩
  | .local _ .vmem, ⟨13, _⟩ => ⟨S4096x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceGridIdeal.lean ====
abbrev S32768x1024 : Shape := ⟨2, ![32768, 1024]⟩
abbrev S8x1x1024 : Shape := ⟨3, ![8, 1, 1024]⟩
abbrev S1024x3072 : Shape := ⟨2, ![1024, 3072]⟩
abbrev S3x3x3072 : Shape := ⟨3, ![3, 3, 3072]⟩
abbrev S3072 : Shape := ⟨1, ![3072]⟩
abbrev S8x4096x1024 : Shape := ⟨3, ![8, 4096, 1024]⟩
abbrev S_ : Shape := ⟨0, ![]⟩
abbrev S8x4096x3072 : Shape := ⟨3, ![8, 4096, 3072]⟩
abbrev S8x64x64x3072 : Shape := ⟨4, ![8, 64, 64, 3072]⟩
abbrev S8x66x66x3072 : Shape := ⟨4, ![8, 66, 66, 3072]⟩
abbrev S1x1x3072 : Shape := ⟨3, ![1, 1, 3072]⟩
abbrev S1x1x1x3072 : Shape := ⟨4, ![1, 1, 1, 3072]⟩
abbrev S32768x3072 : Shape := ⟨2, ![32768, 3072]⟩

abbrev nBuf : Space → Nat
  | .hbm => 98
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8x1x1024, .f32⟩
  | .hbm, ⟨2, _⟩ => ⟨S8x1x1024, .f32⟩
  | .hbm, ⟨3, _⟩ => ⟨S1024x3072, .f32⟩
  | .hbm, ⟨4, _⟩ => ⟨S3x3x3072, .f32⟩
  | .hbm, ⟨5, _⟩ => ⟨S3072, .f32⟩
  | .hbm, ⟨6, _⟩ => ⟨S8x4096x1024, .f32⟩
  | .hbm, ⟨7, _⟩ => ⟨S_, .f32⟩
  | .hbm, ⟨8, _⟩ => ⟨S8x1x1024, .f32⟩
  | .hbm, ⟨9, _⟩ => ⟨S8x1x1024, .f32⟩
  | .hbm, ⟨10, _⟩ => ⟨S8x4096x1024, .f32⟩
  | .hbm, ⟨11, _⟩ => ⟨S8x4096x1024, .f32⟩
  | .hbm, ⟨12, _⟩ => ⟨S8x4096x1024, .f32⟩
  | .hbm, ⟨13, _⟩ => ⟨S8x4096x1024, .f32⟩
  | .hbm, ⟨14, _⟩ => ⟨S8x4096x3072, .f32⟩
  | .hbm, ⟨15, _⟩ => ⟨S8x64x64x3072, .f32⟩
  | .hbm, ⟨16, _⟩ => ⟨S_, .i32⟩
  | .hbm, ⟨17, _⟩ => ⟨S_, .f32⟩
  | .hbm, ⟨18, _⟩ => ⟨S8x66x66x3072, .f32⟩
  | .hbm, ⟨19, _⟩ => ⟨S8x64x64x3072, .f32⟩
  | .hbm, ⟨20, _⟩ => ⟨S1x1x3072, .f32⟩
  | .hbm, ⟨21, _⟩ => ⟨S3072, .f32⟩
  | .hbm, ⟨22, _⟩ => ⟨S1x1x1x3072, .f32⟩
  | .hbm, ⟨23, _⟩ => ⟨S8x64x64x3072, .f32⟩
  | .hbm, ⟨24, _⟩ => ⟨S8x64x64x3072, .f32⟩
  | .hbm, ⟨25, _⟩ => ⟨S_, .f32⟩
  | .hbm, ⟨26, _⟩ => ⟨S8x64x64x3072, .f32⟩
  | .hbm, ⟨27, _⟩ => ⟨S8x64x64x3072, .f32⟩
  | .hbm, ⟨28, _⟩ => ⟨S8x64x64x3072, .f32⟩
  | .hbm, ⟨29, _⟩ => ⟨S1x1x3072, .f32⟩
  | .hbm, ⟨30, _⟩ => ⟨S3072, .f32⟩
  | .hbm, ⟨31, _⟩ => ⟨S1x1x1x3072, .f32⟩
  | .hbm, ⟨32, _⟩ => ⟨S8x64x64x3072, .f32⟩
  | .hbm, ⟨33, _⟩ => ⟨S8x64x64x3072, .f32⟩
  | .hbm, ⟨34, _⟩ => ⟨S8x64x64x3072, .f32⟩
  | .hbm, ⟨35, _⟩ => ⟨S8x64x64x3072, .f32⟩
  | .hbm, ⟨36, _⟩ => ⟨S1x1x3072, .f32⟩
  | .hbm, ⟨37, _⟩ => ⟨S3072, .f32⟩
  | .hbm, ⟨38, _⟩ => ⟨S1x1x1x3072, .f32⟩
  | .hbm, ⟨39, _⟩ => ⟨S8x64x64x3072, .f32⟩
  | .hbm, ⟨40, _⟩ => ⟨S8x64x64x3072, .f32⟩
  | .hbm, ⟨41, _⟩ => ⟨S8x64x64x3072, .f32⟩
  | .hbm, ⟨42, _⟩ => ⟨S8x64x64x3072, .f32⟩
  | .hbm, ⟨43, _⟩ => ⟨S1x1x3072, .f32⟩
  | .hbm, ⟨44, _⟩ => ⟨S3072, .f32⟩
  | .hbm, ⟨45, _⟩ => ⟨S1x1x1x3072, .f32⟩
  | .hbm, ⟨46, _⟩ => ⟨S8x64x64x3072, .f32⟩
  | .hbm, ⟨47, _⟩ => ⟨S8x64x64x3072, .f32⟩
  | .hbm, ⟨48, _⟩ => ⟨S8x64x64x3072, .f32⟩
  | .hbm, ⟨49, _⟩ => ⟨S8x64x64x3072, .f32⟩
  | .hbm, ⟨50, _⟩ => ⟨S1x1x3072, .f32⟩
  | .hbm, ⟨51, _⟩ => ⟨S3072, .f32⟩
  | .hbm, ⟨52, _⟩ => ⟨S1x1x1x3072, .f32⟩
  | .hbm, ⟨53, _⟩ => ⟨S8x64x64x3072, .f32⟩
  | .hbm, ⟨54, _⟩ => ⟨S8x64x64x3072, .f32⟩
  | .hbm, ⟨55, _⟩ => ⟨S8x64x64x3072, .f32⟩
  | .hbm, ⟨56, _⟩ => ⟨S8x64x64x3072, .f32⟩
  | .hbm, ⟨57, _⟩ => ⟨S1x1x3072, .f32⟩
  | .hbm, ⟨58, _⟩ => ⟨S3072, .f32⟩
  | .hbm, ⟨59, _⟩ => ⟨S1x1x1x3072, .f32⟩
  | .hbm, ⟨60, _⟩ => ⟨S8x64x64x3072, .f32⟩
  | .hbm, ⟨61, _⟩ => ⟨S8x64x64x3072, .f32⟩
  | .hbm, ⟨62, _⟩ => ⟨S8x64x64x3072, .f32⟩
  | .hbm, ⟨63, _⟩ => ⟨S8x64x64x3072, .f32⟩
  | .hbm, ⟨64, _⟩ => ⟨S1x1x3072, .f32⟩
  | .hbm, ⟨65, _⟩ => ⟨S3072, .f32⟩
  | .hbm, ⟨66, _⟩ => ⟨S1x1x1x3072, .f32⟩
  | .hbm, ⟨67, _⟩ => ⟨S8x64x64x3072, .f32⟩
  | .hbm, ⟨68, _⟩ => ⟨S8x64x64x3072, .f32⟩
  | .hbm, ⟨69, _⟩ => ⟨S8x64x64x3072, .f32⟩
  | .hbm, ⟨70, _⟩ => ⟨S8x64x64x3072, .f32⟩
  | .hbm, ⟨71, _⟩ => ⟨S1x1x3072, .f32⟩
  | .hbm, ⟨72, _⟩ => ⟨S3072, .f32⟩
  | .hbm, ⟨73, _⟩ => ⟨S1x1x1x3072, .f32⟩
  | .hbm, ⟨74, _⟩ => ⟨S8x64x64x3072, .f32⟩
  | .hbm, ⟨75, _⟩ => ⟨S8x64x64x3072, .f32⟩
  | .hbm, ⟨76, _⟩ => ⟨S8x64x64x3072, .f32⟩
  | .hbm, ⟨77, _⟩ => ⟨S8x64x64x3072, .f32⟩
  | .hbm, ⟨78, _⟩ => ⟨S1x1x3072, .f32⟩
  | .hbm, ⟨79, _⟩ => ⟨S3072, .f32⟩
  | .hbm, ⟨80, _⟩ => ⟨S1x1x1x3072, .f32⟩
  | .hbm, ⟨81, _⟩ => ⟨S8x64x64x3072, .f32⟩
  | .hbm, ⟨82, _⟩ => ⟨S8x64x64x3072, .f32⟩
  | .hbm, ⟨83, _⟩ => ⟨S8x64x64x3072, .f32⟩
  | .hbm, ⟨84, _⟩ => ⟨S8x4096x3072, .f32⟩
  | .hbm, ⟨85, _⟩ => ⟨S1x1x3072, .f32⟩
  | .hbm, ⟨86, _⟩ => ⟨S8x4096x3072, .f32⟩
  | .hbm, ⟨87, _⟩ => ⟨S8x4096x3072, .f32⟩
  | .hbm, ⟨88, _⟩ => ⟨S8x4096x3072, .f32⟩
  | .hbm, ⟨89, _⟩ => ⟨S8x4096x3072, .f32⟩
  | .hbm, ⟨90, _⟩ => ⟨S_, .f32⟩
  | .hbm, ⟨91, _⟩ => ⟨S8x4096x3072, .f32⟩
  | .hbm, ⟨92, _⟩ => ⟨S8x4096x3072, .f32⟩
  | .hbm, ⟨93, _⟩ => ⟨S_, .f32⟩
  | .hbm, ⟨94, _⟩ => ⟨S8x4096x3072, .f32⟩
  | .hbm, ⟨95, _⟩ => ⟨S8x4096x3072, .f32⟩
  | .hbm, ⟨96, _⟩ => ⟨S8x4096x3072, .f32⟩
  | .hbm, ⟨97, _⟩ => ⟨S32768x3072, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_call1_v0 : Ref sig .tc := ⟨.hbm, 88, rfl⟩
abbrev main_call1_v1 : Ref sig .tc := ⟨.hbm, 89, rfl⟩
abbrev main_call1_cst : Ref sig .tc := ⟨.hbm, 90, rfl⟩
abbrev main_call1_v2 : Ref sig .tc := ⟨.hbm, 91, rfl⟩
abbrev main_call1_v3 : Ref sig .tc := ⟨.hbm, 92, rfl⟩
abbrev main_call1_cst_0 : Ref sig .tc := ⟨.hbm, 93, rfl⟩
abbrev main_call1_v4 : Ref sig .tc := ⟨.hbm, 94, rfl⟩
abbrev main_call1_v5 : Ref sig .tc := ⟨.hbm, 95, rfl⟩
abbrev main_v78 : Ref sig .tc := ⟨.hbm, 96, rfl⟩
abbrev main_v79 : Ref sig .tc := ⟨.hbm, 97, rfl⟩

abbrev nD : Nat := 1
abbrev τ : Topo := Topo.v7x

variable {F : FTy → Type} [FloatOps F]
-- ==== KernelSeq.lean ====
abbrev S32768x1024 : Shape := ⟨2, ![32768, 1024]⟩
abbrev S8x1x1024 : Shape := ⟨3, ![8, 1, 1024]⟩
abbrev S1024x3072 : Shape := ⟨2, ![1024, 3072]⟩
abbrev S3x3072 : Shape := ⟨2, ![3, 3072]⟩
abbrev S3072 : Shape := ⟨1, ![3072]⟩
abbrev S1x3x3072 : Shape := ⟨3, ![1, 3, 3072]⟩
abbrev S1x3072 : Shape := ⟨2, ![1, 3072]⟩
abbrev S32768x3072 : Shape := ⟨2, ![32768, 3072]⟩
abbrev S4096x1024 : Shape := ⟨2, ![4096, 1024]⟩
abbrev S1x1x1024 : Shape := ⟨3, ![1, 1, 1024]⟩
abbrev S1024x256 : Shape := ⟨2, ![1024, 256]⟩
abbrev S1x3x256 : Shape := ⟨3, ![1, 3, 256]⟩
abbrev S1x256 : Shape := ⟨2, ![1, 256]⟩
abbrev S4096x256 : Shape := ⟨2, ![4096, 256]⟩
abbrev S1x1024 : Shape := ⟨2, ![1, 1024]⟩
abbrev S1x1x256 : Shape := ⟨3, ![1, 1, 256]⟩

abbrev nBuf : Space → Nat
  | .hbm => 10
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S8x1x1024, .f32⟩
  | .hbm, ⟨2, _⟩ => ⟨S8x1x1024, .f32⟩
  | .hbm, ⟨3, _⟩ => ⟨S1024x3072, .f32⟩
  | .hbm, ⟨4, _⟩ => ⟨S3x3072, .f32⟩
  | .hbm, ⟨5, _⟩ => ⟨S3072, .f32⟩
  | .hbm, ⟨6, _⟩ => ⟨S1x3x3072, .f32⟩
  | .hbm, ⟨7, _⟩ => ⟨S1024x3072, .bf16⟩
  | .hbm, ⟨8, _⟩ => ⟨S1x3072, .f32⟩
  | .hbm, ⟨9, _⟩ => ⟨S32768x3072, .f32⟩
  | .local _ .vmem, ⟨0, _⟩ => ⟨S4096x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1024x256, .bf16⟩
  | .local _ .vmem, ⟨6, _⟩ => ⟨S1024x256, .bf16⟩
  | .local _ .vmem, ⟨7, _⟩ => ⟨S1x3x256, .f32⟩
  | .local _ .vmem, ⟨8, _⟩ => ⟨S1x3x256, .f32⟩
  | .local _ .vmem, ⟨9, _⟩ => ⟨S1x256, .f32⟩
  | .local _ .vmem, ⟨10, _⟩ => ⟨S1x256, .f32⟩
  | .local _ .vmem, ⟨11, _⟩ => ⟨S4096x256, .f32⟩
  | .local _ .vmem, ⟨12, _⟩ => ⟨S4096x256, .f32⟩
  | .local _ .vmem, ⟨13, _⟩ => ⟨S4096x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceSeqIdeal.lean ====
abbrev S32768x1024 : Shape := ⟨2, ![32768, 1024]⟩
abbrev S8x1x1024 : Shape := ⟨3, ![8, 1, 1024]⟩
abbrev S1024x3072 : Shape := ⟨2, ![1024, 3072]⟩
abbrev S3x3072 : Shape := ⟨2, ![3, 3072]⟩
abbrev S3072 : Shape := ⟨1, ![3072]⟩
abbrev S8x4096x1024 : Shape := ⟨3, ![8, 4096, 1024]⟩
abbrev S_ : Shape := ⟨0, ![]⟩
abbrev S8x4096x3072 : Shape := ⟨3, ![8, 4096, 3072]⟩
abbrev S8x4098x3072 : Shape := ⟨3, ![8, 4098, 3072]⟩
abbrev S1x3072 : Shape := ⟨2, ![1, 3072]⟩
abbrev S1x1x3072 : Shape := ⟨3, ![1, 1, 3072]⟩
abbrev S32768x3072 : Shape := ⟨2, ![32768, 3072]⟩

abbrev nBuf : Space → Nat
  | .hbm => 42
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8x1x1024, .f32⟩
  | .hbm, ⟨2, _⟩ => ⟨S8x1x1024, .f32⟩
  | .hbm, ⟨3, _⟩ => ⟨S1024x3072, .f32⟩
  | .hbm, ⟨4, _⟩ => ⟨S3x3072, .f32⟩
  | .hbm, ⟨5, _⟩ => ⟨S3072, .f32⟩
  | .hbm, ⟨6, _⟩ => ⟨S8x4096x1024, .f32⟩
  | .hbm, ⟨7, _⟩ => ⟨S_, .f32⟩
  | .hbm, ⟨8, _⟩ => ⟨S8x1x1024, .f32⟩
  | .hbm, ⟨9, _⟩ => ⟨S8x1x1024, .f32⟩
  | .hbm, ⟨10, _⟩ => ⟨S8x4096x1024, .f32⟩
  | .hbm, ⟨11, _⟩ => ⟨S8x4096x1024, .f32⟩
  | .hbm, ⟨12, _⟩ => ⟨S8x4096x1024, .f32⟩
  | .hbm, ⟨13, _⟩ => ⟨S8x4096x1024, .f32⟩
  | .hbm, ⟨14, _⟩ => ⟨S8x4096x3072, .f32⟩
  | .hbm, ⟨15, _⟩ => ⟨S_, .i32⟩
  | .hbm, ⟨16, _⟩ => ⟨S_, .f32⟩
  | .hbm, ⟨17, _⟩ => ⟨S8x4098x3072, .f32⟩
  | .hbm, ⟨18, _⟩ => ⟨S8x4096x3072, .f32⟩
  | .hbm, ⟨19, _⟩ => ⟨S1x3072, .f32⟩
  | .hbm, ⟨20, _⟩ => ⟨S3072, .f32⟩
  | .hbm, ⟨21, _⟩ => ⟨S1x1x3072, .f32⟩
  | .hbm, ⟨22, _⟩ => ⟨S8x4096x3072, .f32⟩
  | .hbm, ⟨23, _⟩ => ⟨S8x4096x3072, .f32⟩
  | .hbm, ⟨24, _⟩ => ⟨S8x4096x3072, .f32⟩
  | .hbm, ⟨25, _⟩ => ⟨S1x3072, .f32⟩
  | .hbm, ⟨26, _⟩ => ⟨S3072, .f32⟩
  | .hbm, ⟨27, _⟩ => ⟨S1x1x3072, .f32⟩
  | .hbm, ⟨28, _⟩ => ⟨S8x4096x3072, .f32⟩
  | .hbm, ⟨29, _⟩ => ⟨S8x4096x3072, .f32⟩
  | .hbm, ⟨30, _⟩ => ⟨S8x4096x3072, .f32⟩
  | .hbm, ⟨31, _⟩ => ⟨S8x4096x3072, .f32⟩
  | .hbm, ⟨32, _⟩ => ⟨S1x3072, .f32⟩
  | .hbm, ⟨33, _⟩ => ⟨S3072, .f32⟩
  | .hbm, ⟨34, _⟩ => ⟨S1x1x3072, .f32⟩
  | .hbm, ⟨35, _⟩ => ⟨S8x4096x3072, .f32⟩
  | .hbm, ⟨36, _⟩ => ⟨S8x4096x3072, .f32⟩
  | .hbm, ⟨37, _⟩ => ⟨S8x4096x3072, .f32⟩
  | .hbm, ⟨38, _⟩ => ⟨S1x1x3072, .f32⟩
  | .hbm, ⟨39, _⟩ => ⟨S8x4096x3072, .f32⟩
  | .hbm, ⟨40, _⟩ => ⟨S8x4096x3072, .f32⟩
  | .hbm, ⟨41, _⟩ => ⟨S32768x3072, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== KernelOut.lean ====
abbrev S2x32768x2048 : Shape := ⟨3, ![2, 32768, 2048]⟩
abbrev S32768x3072 : Shape := ⟨2, ![32768, 3072]⟩
abbrev S32768x2048 : Shape := ⟨2, ![32768, 2048]⟩
abbrev S32 : Shape := ⟨1, ![32]⟩
abbrev S2048 : Shape := ⟨1, ![2048]⟩
abbrev S2048x1024 : Shape := ⟨2, ![2048, 1024]⟩
abbrev S32768x1024 : Shape := ⟨2, ![32768, 1024]⟩
abbrev S8x1x1024 : Shape := ⟨3, ![8, 1, 1024]⟩
abbrev S1024 : Shape := ⟨1, ![1024]⟩
abbrev S32x64 : Shape := ⟨2, ![32, 64]⟩
abbrev S1x2048 : Shape := ⟨2, ![1, 2048]⟩
abbrev S1x1024 : Shape := ⟨2, ![1, 1024]⟩
abbrev S2x256x2048 : Shape := ⟨3, ![2, 256, 2048]⟩
abbrev S256x2048 : Shape := ⟨2, ![256, 2048]⟩
abbrev S256x1024 : Shape := ⟨2, ![256, 1024]⟩
abbrev S1x1x1024 : Shape := ⟨3, ![1, 1, 1024]⟩
abbrev S1x256x2048 : Shape := ⟨3, ![1, 256, 2048]⟩
abbrev S256x512 : Shape := ⟨2, ![256, 512]⟩
abbrev S256 : Shape := ⟨1, ![256]⟩
abbrev S256x1 : Shape := ⟨2, ![256, 1]⟩

abbrev nBuf : Space → Nat
  | .hbm => 18
  | .vmem => 17
  | .smem => 0
  | _ => 0

abbrev bufTy : (tb : Table) → Fin (tcTables nBuf tb) → BufTy
  | .hbm, ⟨0, _⟩ => ⟨S2x32768x2048, .f32⟩
  | .hbm, ⟨1, _⟩ => ⟨S32768x3072, .f32⟩
  | .hbm, ⟨2, _⟩ => ⟨S32768x2048, .f32⟩
  | .hbm, ⟨3, _⟩ => ⟨S32, .f32⟩
  | .hbm, ⟨4, _⟩ => ⟨S2048, .f32⟩
  | .hbm, ⟨5, _⟩ => ⟨S2048x1024, .f32⟩
  | .hbm, ⟨6, _⟩ => ⟨S32768x1024, .f32⟩
  | .hbm, ⟨7, _⟩ => ⟨S8x1x1024, .f32⟩
  | .hbm, ⟨8, _⟩ => ⟨S1024, .f32⟩
  | .hbm, ⟨9, _⟩ => ⟨S1024, .f32⟩
  | .hbm, ⟨10, _⟩ => ⟨S32x64, .f32⟩
  | .hbm, ⟨11, _⟩ => ⟨S2048, .f32⟩
  | .hbm, ⟨12, _⟩ => ⟨S1x2048, .f32⟩
  | .hbm, ⟨13, _⟩ => ⟨S1x2048, .f32⟩
  | .hbm, ⟨14, _⟩ => ⟨S2048x1024, .bf16⟩
  | .hbm, ⟨15, _⟩ => ⟨S1x1024, .f32⟩
  | .hbm, ⟨16, _⟩ => ⟨S1x1024, .f32⟩
  | .hbm, ⟨17, _⟩ => ⟨S32768x1024, .f32⟩
  | .local _ .vmem, ⟨0, _⟩ => ⟨S2x256x2048, .f32⟩
  | .local _ .vmem, ⟨1, _⟩ => ⟨S2x256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S2048x1024, .bf16⟩
  | .local _ .vmem, ⟨9, _⟩ => ⟨S256x1024, .f32⟩
  | .local _ .vmem, ⟨10, _⟩ => ⟨S256x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | _, _ => ⟨S2x32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceOutIdeal.lean ====
abbrev S2x32768x2048 : Shape := ⟨3, ![2, 32768, 2048]⟩
abbrev S32768x3072 : Shape := ⟨2, ![32768, 3072]⟩
abbrev S32768x2048 : Shape := ⟨2, ![32768, 2048]⟩
abbrev S32 : Shape := ⟨1, ![32]⟩
abbrev S2048 : Shape := ⟨1, ![2048]⟩
abbrev S2048x1024 : Shape := ⟨2, ![2048, 1024]⟩
abbrev S32768x1024 : Shape := ⟨2, ![32768, 1024]⟩
abbrev S8x1x1024 : Shape := ⟨3, ![8, 1, 1024]⟩
abbrev S1024 : Shape := ⟨1, ![1024]⟩
abbrev S8x4096x32x64 : Shape := ⟨4, ![8, 4096, 32, 64]⟩
abbrev S2x8x4096x32x64 : Shape := ⟨5, ![2, 8, 4096, 32, 64]⟩
abbrev S1x8x4096x32x64 : Shape := ⟨5, ![1, 8, 4096, 32, 64]⟩
abbrev S32x1 : Shape := ⟨2, ![32, 1]⟩
abbrev S1x1x32x1 : Shape := ⟨4, ![1, 1, 32, 1]⟩
abbrev S8x4096x2048 : Shape := ⟨3, ![8, 4096, 2048]⟩
abbrev S_ : Shape := ⟨0, ![]⟩
abbrev S8x4096x4x512 : Shape := ⟨4, ![8, 4096, 4, 512]⟩
abbrev S8x4096x4 : Shape := ⟨3, ![8, 4096, 4]⟩
abbrev S8x4096x4x1 : Shape := ⟨4, ![8, 4096, 4, 1]⟩
abbrev S1x1x2048 : Shape := ⟨3, ![1, 1, 2048]⟩
abbrev S8x4096x1024 : Shape := ⟨3, ![8, 4096, 1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 91
  | .vmem => 0
  | .smem => 0
  | _ => 0

abbrev bufTy : (tb : Table) → Fin (tcTables nBuf tb) → BufTy
  | .hbm, ⟨0, _⟩ => ⟨S2x32768x2048, .f32⟩
  | .hbm, ⟨1, _⟩ => ⟨S32768x3072, .f32⟩
  | .hbm, ⟨2, _⟩ => ⟨S32768x2048, .f32⟩
  | .hbm, ⟨3, _⟩ => ⟨S32, .f32⟩
  | .hbm, ⟨4, _⟩ => ⟨S2048, .f32⟩
  | .hbm, ⟨5, _⟩ => ⟨S2048x1024, .f32⟩
  | .hbm, ⟨6, _⟩ => ⟨S32768x1024, .f32⟩
  | .hbm, ⟨7, _⟩ => ⟨S8x1x1024, .f32⟩
  | .hbm, ⟨8, _⟩ => ⟨S1024, .f32⟩
  | .hbm, ⟨9, _⟩ => ⟨S1024, .f32⟩
  | .hbm, ⟨10, _⟩ => ⟨S32768x2048, .f32⟩
  | .hbm, ⟨11, _⟩ => ⟨S8x4096x32x64, .f32⟩
  | .hbm, ⟨12, _⟩ => ⟨S2x8x4096x32x64, .f32⟩
  | .hbm, ⟨13, _⟩ => ⟨S1x8x4096x32x64, .f32⟩
  | .hbm, ⟨14, _⟩ => ⟨S8x4096x32x64, .f32⟩
  | .hbm, ⟨15, _⟩ => ⟨S1x8x4096x32x64, .f32⟩
  | .hbm, ⟨16, _⟩ => ⟨S8x4096x32x64, .f32⟩
  | .hbm, ⟨17, _⟩ => ⟨S8x4096x32x64, .f32⟩
  | .hbm, ⟨18, _⟩ => ⟨S32x1, .f32⟩
  | .hbm, ⟨19, _⟩ => ⟨S1x1x32x1, .f32⟩
  | .hbm, ⟨20, _⟩ => ⟨S8x4096x32x64, .f32⟩
  | .hbm, ⟨21, _⟩ => ⟨S8x4096x32x64, .f32⟩
  | .hbm, ⟨22, _⟩ => ⟨S8x4096x32x64, .f32⟩
  | .hbm, ⟨23, _⟩ => ⟨S8x4096x2048, .f32⟩
  | .hbm, ⟨24, _⟩ => ⟨S8x4096x2048, .f32⟩
  | .hbm, ⟨25, _⟩ => ⟨S8x4096x2048, .f32⟩
  | .hbm, ⟨26, _⟩ => ⟨S8x4096x2048, .f32⟩
  | .hbm, ⟨27, _⟩ => ⟨S_, .f32⟩
  | .hbm, ⟨28, _⟩ => ⟨S8x4096x2048, .f32⟩
  | .hbm, ⟨29, _⟩ => ⟨S8x4096x2048, .f32⟩
  | .hbm, ⟨30, _⟩ => ⟨S_, .f32⟩
  | .hbm, ⟨31, _⟩ => ⟨S8x4096x2048, .f32⟩
  | .hbm, ⟨32, _⟩ => ⟨S8x4096x2048, .f32⟩
  | .hbm, ⟨33, _⟩ => ⟨S8x4096x2048, .f32⟩
  | .hbm, ⟨34, _⟩ => ⟨S8x4096x2048, .f32⟩
  | .hbm, ⟨35, _⟩ => ⟨S8x4096x4x512, .f32⟩
  | .hbm, ⟨36, _⟩ => ⟨S8x4096x4x512, .f32⟩
  | .hbm, ⟨37, _⟩ => ⟨S_, .f32⟩
  | .hbm, ⟨38, _⟩ => ⟨S8x4096x4, .f32⟩
  | .hbm, ⟨39, _⟩ => ⟨S8x4096x4x1, .f32⟩
  | .hbm, ⟨40, _⟩ => ⟨S_, .f32⟩
  | .hbm, ⟨41, _⟩ => ⟨S8x4096x4x1, .f32⟩
  | .hbm, ⟨42, _⟩ => ⟨S8x4096x4x1, .f32⟩
  | .hbm, ⟨43, _⟩ => ⟨S_, .f32⟩
  | .hbm, ⟨44, _⟩ => ⟨S8x4096x4x1, .f32⟩
  | .hbm, ⟨45, _⟩ => ⟨S8x4096x4x1, .f32⟩
  | .hbm, ⟨46, _⟩ => ⟨S8x4096x4x1, .f32⟩
  | .hbm, ⟨47, _⟩ => ⟨S8x4096x4x512, .f32⟩
  | .hbm, ⟨48, _⟩ => ⟨S8x4096x4x512, .f32⟩
  | .hbm, ⟨49, _⟩ => ⟨S8x4096x2048, .f32⟩
  | .hbm, ⟨50, _⟩ => ⟨S1x1x2048, .f32⟩
  | .hbm, ⟨51, _⟩ => ⟨S8x4096x2048, .f32⟩
  | .hbm, ⟨52, _⟩ => ⟨S8x4096x2048, .f32⟩
  | .hbm, ⟨53, _⟩ => ⟨S8x4096x1024, .f32⟩
  | .hbm, ⟨54, _⟩ => ⟨S8x4096x1024, .f32⟩
  | .hbm, ⟨55, _⟩ => ⟨S_, .f32⟩
  | .hbm, ⟨56, _⟩ => ⟨S8x4096x1024, .f32⟩
  | .hbm, ⟨57, _⟩ => ⟨S8x4096x1024, .f32⟩
  | .hbm, ⟨58, _⟩ => ⟨S8x4096x1024, .f32⟩
  | .hbm, ⟨59, _⟩ => ⟨S8x4096x1024, .f32⟩
  | .hbm, ⟨60, _⟩ => ⟨S8x4096x1024, .f32⟩
  | .hbm, ⟨61, _⟩ => ⟨S_, .f32⟩
  | .hbm, ⟨62, _⟩ => ⟨S8x4096, .f32⟩
  | .hbm, ⟨63, _⟩ => ⟨S8x4096x1, .f32⟩
  | .hbm, ⟨64, _⟩ => ⟨S_, .f32⟩
  | .hbm, ⟨65, _⟩ => ⟨S8x4096x1, .f32⟩
  | .hbm, ⟨66, _⟩ => ⟨S8x4096x1, .f32⟩
  | .hbm, ⟨67, _⟩ => ⟨S8x4096x1024, .f32⟩
  | .hbm, ⟨68, _⟩ => ⟨S8x4096x1024, .f32⟩
  | .hbm, ⟨69, _⟩ => ⟨S8x4096x1024, .f32⟩
  | .hbm, ⟨70, _⟩ => ⟨S_, .f32⟩
  | .hbm, ⟨71, _⟩ => ⟨S8x4096, .f32⟩
  | .hbm, ⟨72, _⟩ => ⟨S8x4096x1, .f32⟩
  | .hbm, ⟨73, _⟩ => ⟨S_, .f32⟩
  | .hbm, ⟨74, _⟩ => ⟨S8x4096x1, .f32⟩
  | .hbm, ⟨75, _⟩ => ⟨S8x4096x1, .f32⟩
  | .hbm, ⟨76, _⟩ => ⟨S8x4096x1024, .f32⟩
  | .hbm, ⟨77, _⟩ => ⟨S8x4096x1024, .f32⟩
  | .hbm, ⟨78, _⟩ => ⟨S_, .f32⟩
  | .hbm, ⟨79, _⟩ => ⟨S8x4096x1, .f32⟩
  | .hbm, ⟨80, _⟩ => ⟨S8x4096x1, .f32⟩
  | .hbm, ⟨81, _⟩ => ⟨S8x4096x1, .f32⟩
  | .hbm, ⟨82, _⟩ => ⟨S8x4096x1024, .f32⟩
  | .hbm, ⟨83, _⟩ => ⟨S8x4096x1024, .f32⟩
  | .hbm, ⟨84, _⟩ => ⟨S1x1x1024, .f32⟩
  | .hbm, ⟨85, _⟩ => ⟨S8x4096x1024, .f32⟩
  | .hbm, ⟨86, _⟩ => ⟨S8x4096x1024, .f32⟩
  | .hbm, ⟨87, _⟩ => ⟨S1x1x1024, .f32⟩
  | .hbm, ⟨88, _⟩ => ⟨S8x4096x1024, .f32⟩
  | .hbm, ⟨89, _⟩ => ⟨S8x4096x1024, .f32⟩
  | .hbm, ⟨90, _⟩ => ⟨S32768x1024, .f32⟩
  | _, _ => ⟨S2x32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst : Ref sig .tc := ⟨.hbm, 37, rfl⟩
abbrev main_v19 : Ref sig .tc := ⟨.hbm, 38, rfl⟩
abbrev main_v20 : Ref sig .tc := ⟨.hbm, 39, rfl⟩
abbrev main_cst_0 : Ref sig .tc := ⟨.hbm, 40, rfl⟩
abbrev main_v21 : Ref sig .tc := ⟨.hbm, 41, rfl⟩
abbrev main_v22 : Ref sig .tc := ⟨.hbm, 42, rfl⟩
abbrev main_cst_1 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_2 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_3 : Ref sig .tc := ⟨.hbm, 61, rfl⟩
abbrev main_v39 : Ref sig .tc := ⟨.hbm, 62, rfl⟩
abbrev main_v40 : Ref sig .tc := ⟨.hbm, 63, rfl⟩
abbrev main_cst_4 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_5 : Ref sig .tc := ⟨.hbm, 70, rfl⟩
abbrev main_v46 : Ref sig .tc := ⟨.hbm, 71, rfl⟩
abbrev main_v47 : Ref sig .tc := ⟨.hbm, 72, rfl⟩
abbrev main_cst_6 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_7 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩

abbrev nD : Nat := 1
abbrev τ : Topo := Topo.v7x

variable {F : FTy → Type} [FloatOps F]
-- ==== KernelProj.lean ====
abbrev S32768x1024 : Shape := ⟨2, ![32768, 1024]⟩
abbrev S1024x1024 : Shape := ⟨2, ![1024, 1024]⟩
abbrev S8x1x1024 : Shape := ⟨3, ![8, 1, 1024]⟩
abbrev S1024 : Shape := ⟨1, ![1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S32768x1024, .f32⟩
  | .hbm, ⟨3, _⟩ => ⟨S8x1x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceProjIdeal.lean ====
abbrev S32768x1024 : Shape := ⟨2, ![32768, 1024]⟩
abbrev S1024x1024 : Shape := ⟨2, ![1024, 1024]⟩
abbrev S8x1x1024 : Shape := ⟨3, ![8, 1, 1024]⟩
abbrev S1024 : Shape := ⟨1, ![1024]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S32768x1024, .f32⟩
  | .hbm, ⟨3, _⟩ => ⟨S8x1x1024, .f32⟩
  | .hbm, ⟨4, _⟩ => ⟨S1024, .f32⟩
  | .hbm, ⟨5, _⟩ => ⟨S1024, .f32⟩
  | .hbm, ⟨6, _⟩ => ⟨S8x4096x1024, .f32⟩
  | .hbm, ⟨7, _⟩ => ⟨S8x4096x1024, .f32⟩
  | .hbm, ⟨8, _⟩ => ⟨S8x4096x1024, .f32⟩
  | .hbm, ⟨9, _⟩ => ⟨S_, .f32⟩
  | .hbm, ⟨10, _⟩ => ⟨S8x4096x1024, .f32⟩
  | .hbm, ⟨11, _⟩ => ⟨S8x4096x1024, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S8x4096x1024, .f32⟩
  | .hbm, ⟨31, _⟩ => ⟨S8x4096x1024, .f32⟩
  | .hbm, ⟨32, _⟩ => ⟨S_, .f32⟩
  | .hbm, ⟨33, _⟩ => ⟨S8x4096x1, .f32⟩
  | .hbm, ⟨34, _⟩ => ⟨S8x4096x1, .f32⟩
  | .hbm, ⟨35, _⟩ => ⟨S8x4096x1, .f32⟩
  | .hbm, ⟨36, _⟩ => ⟨S8x4096x1024, .f32⟩
  | .hbm, ⟨37, _⟩ => ⟨S8x4096x1024, .f32⟩
  | .hbm, ⟨38, _⟩ => ⟨S1x1x1024, .f32⟩
  | .hbm, ⟨39, _⟩ => ⟨S8x4096x1024, .f32⟩
  | .hbm, ⟨40, _⟩ => ⟨S8x4096x1024, .f32⟩
  | .hbm, ⟨41, _⟩ => ⟨S1x1x1024, .f32⟩
  | .hbm, ⟨42, _⟩ => ⟨S8x4096x1024, .f32⟩
  | .hbm, ⟨43, _⟩ => ⟨S8x4096x1024, .f32⟩
  | .hbm, ⟨44, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== KernelDt.lean ====
abbrev S32768x1024 : Shape := ⟨2, ![32768, 1024]⟩
abbrev S8x1x1024 : Shape := ⟨3, ![8, 1, 1024]⟩
abbrev S1024x64 : Shape := ⟨2, ![1024, 64]⟩
abbrev S32768x64 : Shape := ⟨2, ![32768, 64]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 6
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S8x1x1024, .f32⟩
  | .hbm, ⟨2, _⟩ => ⟨S8x1x1024, .f32⟩
  | .hbm, ⟨3, _⟩ => ⟨S1024x64, .f32⟩
  | .hbm, ⟨4, _⟩ => ⟨S1024x64, .bf16⟩
  | .hbm, ⟨5, _⟩ => ⟨S32768x64, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x64, .bf16⟩
  | .local _ .vmem, ⟨7, _⟩ => ⟨S1024x64, .f32⟩
  | .local _ .vmem, ⟨8, _⟩ => ⟨S1024x64, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceDtIdeal.lean ====
abbrev S32768x1024 : Shape := ⟨2, ![32768, 1024]⟩
abbrev S8x1x1024 : Shape := ⟨3, ![8, 1, 1024]⟩
abbrev S1024x64 : Shape := ⟨2, ![1024, 64]⟩
abbrev S8x4096x1024 : Shape := ⟨3, ![8, 4096, 1024]⟩
abbrev S_ : Shape := ⟨0, ![]⟩
abbrev S8x4096x64 : Shape := ⟨3, ![8, 4096, 64]⟩
abbrev S32768x64 : Shape := ⟨2, ![32768, 64]⟩

abbrev nBuf : Space → Nat
  | .hbm => 14
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8x1x1024, .f32⟩
  | .hbm, ⟨2, _⟩ => ⟨S8x1x1024, .f32⟩
  | .hbm, ⟨3, _⟩ => ⟨S1024x64, .f32⟩
  | .hbm, ⟨4, _⟩ => ⟨S8x4096x1024, .f32⟩
  | .hbm, ⟨5, _⟩ => ⟨S_, .f32⟩
  | .hbm, ⟨6, _⟩ => ⟨S8x1x1024, .f32⟩
  | .hbm, ⟨7, _⟩ => ⟨S8x1x1024, .f32⟩
  | .hbm, ⟨8, _⟩ => ⟨S8x4096x1024, .f32⟩
  | .hbm, ⟨9, _⟩ => ⟨S8x4096x1024, .f32⟩
  | .hbm, ⟨10, _⟩ => ⟨S8x4096x1024, .f32⟩
  | .hbm, ⟨11, _⟩ => ⟨S8x4096x1024, .f32⟩
  | .hbm, ⟨12, _⟩ => ⟨S8x4096x64, .f32⟩
  | .hbm, ⟨13, _⟩ => ⟨S32768x64, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== KernelCtxDt.lean ====
abbrev S2048x1024 : Shape := ⟨2, ![2048, 1024]⟩
abbrev S1x1x1024 : Shape := ⟨3, ![1, 1, 1024]⟩
abbrev S1024x64 : Shape := ⟨2, ![1024, 64]⟩
abbrev S2048x64 : Shape := ⟨2, ![2048, 64]⟩
abbrev S512x1024 : Shape := ⟨2, ![512, 1024]⟩
abbrev S512x64 : Shape := ⟨2, ![512, 64]⟩
abbrev S1x1024 : Shape := ⟨2, ![1, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1x1x1024, .f32⟩
  | .hbm, ⟨2, _⟩ => ⟨S1x1x1024, .f32⟩
  | .hbm, ⟨3, _⟩ => ⟨S1024x64, .f32⟩
  | .hbm, ⟨4, _⟩ => ⟨S1024x64, .bf16⟩
  | .hbm, ⟨5, _⟩ => ⟨S2048x64, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x64, .bf16⟩
  | .local _ .vmem, ⟨7, _⟩ => ⟨S512x64, .f32⟩
  | .local _ .vmem, ⟨8, _⟩ => ⟨S512x64, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceCtxDtIdeal.lean ====
abbrev S2048x1024 : Shape := ⟨2, ![2048, 1024]⟩
abbrev S1x1x1024 : Shape := ⟨3, ![1, 1, 1024]⟩
abbrev S1024x64 : Shape := ⟨2, ![1024, 64]⟩
abbrev S1x2048x1024 : Shape := ⟨3, ![1, 2048, 1024]⟩
abbrev S_ : Shape := ⟨0, ![]⟩
abbrev S1x2048x64 : Shape := ⟨3, ![1, 2048, 64]⟩
abbrev S2048x64 : Shape := ⟨2, ![2048, 64]⟩

abbrev nBuf : Space → Nat
  | .hbm => 14
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1x1024, .f32⟩
  | .hbm, ⟨2, _⟩ => ⟨S1x1x1024, .f32⟩
  | .hbm, ⟨3, _⟩ => ⟨S1024x64, .f32⟩
  | .hbm, ⟨4, _⟩ => ⟨S1x2048x1024, .f32⟩
  | .hbm, ⟨5, _⟩ => ⟨S_, .f32⟩
  | .hbm, ⟨6, _⟩ => ⟨S1x1x1024, .f32⟩
  | .hbm, ⟨7, _⟩ => ⟨S1x1x1024, .f32⟩
  | .hbm, ⟨8, _⟩ => ⟨S1x2048x1024, .f32⟩
  | .hbm, ⟨9, _⟩ => ⟨S1x2048x1024, .f32⟩
  | .hbm, ⟨10, _⟩ => ⟨S1x2048x1024, .f32⟩
  | .hbm, ⟨11, _⟩ => ⟨S1x2048x1024, .f32⟩
  | .hbm, ⟨12, _⟩ => ⟨S1x2048x64, .f32⟩
  | .hbm, ⟨13, _⟩ => ⟨S2048x64, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== KernelCtx.lean ====
abbrev S2048x1024 : Shape := ⟨2, ![2048, 1024]⟩
abbrev S1x1x1024 : Shape := ⟨3, ![1, 1, 1024]⟩
abbrev S1024x3072 : Shape := ⟨2, ![1024, 3072]⟩
abbrev S3x3x3072 : Shape := ⟨3, ![3, 3, 3072]⟩
abbrev S3072 : Shape := ⟨1, ![3072]⟩
abbrev S1x3x3072 : Shape := ⟨3, ![1, 3, 3072]⟩
abbrev S1x3072 : Shape := ⟨2, ![1, 3072]⟩
abbrev S2048x3072 : Shape := ⟨2, ![2048, 3072]⟩
abbrev S256x1024 : Shape := ⟨2, ![256, 1024]⟩
abbrev S1024x256 : Shape := ⟨2, ![1024, 256]⟩
abbrev S1x3x256 : Shape := ⟨3, ![1, 3, 256]⟩
abbrev S1x256 : Shape := ⟨2, ![1, 256]⟩
abbrev S256x256 : Shape := ⟨2, ![256, 256]⟩
abbrev S1x1024 : Shape := ⟨2, ![1, 1024]⟩
abbrev S1x1x256 : Shape := ⟨3, ![1, 1, 256]⟩

abbrev nBuf : Space → Nat
  | .hbm => 10
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S1x1x1024, .f32⟩
  | .hbm, ⟨2, _⟩ => ⟨S1x1x1024, .f32⟩
  | .hbm, ⟨3, _⟩ => ⟨S1024x3072, .f32⟩
  | .hbm, ⟨4, _⟩ => ⟨S3x3x3072, .f32⟩
  | .hbm, ⟨5, _⟩ => ⟨S3072, .f32⟩
  | .hbm, ⟨6, _⟩ => ⟨S1x3x3072, .f32⟩
  | .hbm, ⟨7, _⟩ => ⟨S1024x3072, .bf16⟩
  | .hbm, ⟨8, _⟩ => ⟨S1x3072, .f32⟩
  | .hbm, ⟨9, _⟩ => ⟨S2048x3072, .f32⟩
  | .local _ .vmem, ⟨0, _⟩ => ⟨S256x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1024x256, .bf16⟩
  | .local _ .vmem, ⟨6, _⟩ => ⟨S1024x256, .bf16⟩
  | .local _ .vmem, ⟨7, _⟩ => ⟨S1x3x256, .f32⟩
  | .local _ .vmem, ⟨8, _⟩ => ⟨S1x3x256, .f32⟩
  | .local _ .vmem, ⟨9, _⟩ => ⟨S1x256, .f32⟩
  | .local _ .vmem, ⟨10, _⟩ => ⟨S1x256, .f32⟩
  | .local _ .vmem, ⟨11, _⟩ => ⟨S256x256, .f32⟩
  | .local _ .vmem, ⟨12, _⟩ => ⟨S256x256, .f32⟩
  | .local _ .vmem, ⟨13, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceCtxIdeal.lean ====
abbrev S2048x1024 : Shape := ⟨2, ![2048, 1024]⟩
abbrev S1x1x1024 : Shape := ⟨3, ![1, 1, 1024]⟩
abbrev S1024x3072 : Shape := ⟨2, ![1024, 3072]⟩
abbrev S3x3x3072 : Shape := ⟨3, ![3, 3, 3072]⟩
abbrev S3072 : Shape := ⟨1, ![3072]⟩
abbrev S1x2048x1024 : Shape := ⟨3, ![1, 2048, 1024]⟩
abbrev S_ : Shape := ⟨0, ![]⟩
abbrev S1x2048x3072 : Shape := ⟨3, ![1, 2048, 3072]⟩
abbrev S8x1x256x3072 : Shape := ⟨4, ![8, 1, 256, 3072]⟩
abbrev S8x3x258x3072 : Shape := ⟨4, ![8, 3, 258, 3072]⟩
abbrev S1x1x3072 : Shape := ⟨3, ![1, 1, 3072]⟩
abbrev S1x1x1x3072 : Shape := ⟨4, ![1, 1, 1, 3072]⟩
abbrev S8x256x3072 : Shape := ⟨3, ![8, 256, 3072]⟩
abbrev S2048x3072 : Shape := ⟨2, ![2048, 3072]⟩

abbrev nBuf : Space → Nat
  | .hbm => 98
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1x1024, .f32⟩
  | .hbm, ⟨2, _⟩ => ⟨S1x1x1024, .f32⟩
  | .hbm, ⟨3, _⟩ => ⟨S1024x3072, .f32⟩
  | .hbm, ⟨4, _⟩ => ⟨S3x3x3072, .f32⟩
  | .hbm, ⟨5, _⟩ => ⟨S3072, .f32⟩
  | .hbm, ⟨6, _⟩ => ⟨S1x2048x1024, .f32⟩
  | .hbm, ⟨7, _⟩ => ⟨S_, .f32⟩
  | .hbm, ⟨8, _⟩ => ⟨S1x1x1024, .f32⟩
  | .hbm, ⟨9, _⟩ => ⟨S1x1x1024, .f32⟩
  | .hbm, ⟨10, _⟩ => ⟨S1x2048x1024, .f32⟩
  | .hbm, ⟨11, _⟩ => ⟨S1x2048x1024, .f32⟩
  | .hbm, ⟨12, _⟩ => ⟨S1x2048x1024, .f32⟩
  | .hbm, ⟨13, _⟩ => ⟨S1x2048x1024, .f32⟩
  | .hbm, ⟨14, _⟩ => ⟨S1x2048x3072, .f32⟩
  | .hbm, ⟨15, _⟩ => ⟨S8x1x256x3072, .f32⟩
  | .hbm, ⟨16, _⟩ => ⟨S_, .i32⟩
  | .hbm, ⟨17, _⟩ => ⟨S_, .f32⟩
  | .hbm, ⟨18, _⟩ => ⟨S8x3x258x3072, .f32⟩
  | .hbm, ⟨19, _⟩ => ⟨S8x1x256x3072, .f32⟩
  | .hbm, ⟨20, _⟩ => ⟨S1x1x3072, .f32⟩
  | .hbm, ⟨21, _⟩ => ⟨S3072, .f32⟩
  | .hbm, ⟨22, _⟩ => ⟨S1x1x1x3072, .f32⟩
  | .hbm, ⟨23, _⟩ => ⟨S8x1x256x3072, .f32⟩
  | .hbm, ⟨24, _⟩ => ⟨S8x1x256x3072, .f32⟩
  | .hbm, ⟨25, _⟩ => ⟨S_, .f32⟩
  | .hbm, ⟨26, _⟩ => ⟨S8x1x256x3072, .f32⟩
  | .hbm, ⟨27, _⟩ => ⟨S8x1x256x3072, .f32⟩
  | .hbm, ⟨28, _⟩ => ⟨S8x1x256x3072, .f32⟩
  | .hbm, ⟨29, _⟩ => ⟨S1x1x3072, .f32⟩
  | .hbm, ⟨30, _⟩ => ⟨S3072, .f32⟩
  | .hbm, ⟨31, _⟩ => ⟨S1x1x1x3072, .f32⟩
  | .hbm, ⟨32, _⟩ => ⟨S8x1x256x3072, .f32⟩
  | .hbm, ⟨33, _⟩ => ⟨S8x1x256x3072, .f32⟩
  | .hbm, ⟨34, _⟩ => ⟨S8x1x256x3072, .f32⟩
  | .hbm, ⟨35, _⟩ => ⟨S8x1x256x3072, .f32⟩
  | .hbm, ⟨36, _⟩ => ⟨S1x1x3072, .f32⟩
  | .hbm, ⟨37, _⟩ => ⟨S3072, .f32⟩
  | .hbm, ⟨38, _⟩ => ⟨S1x1x1x3072, .f32⟩
  | .hbm, ⟨39, _⟩ => ⟨S8x1x256x3072, .f32⟩
  | .hbm, ⟨40, _⟩ => ⟨S8x1x256x3072, .f32⟩
  | .hbm, ⟨41, _⟩ => ⟨S8x1x256x3072, .f32⟩
  | .hbm, ⟨42, _⟩ => ⟨S8x1x256x3072, .f32⟩
  | .hbm, ⟨43, _⟩ => ⟨S1x1x3072, .f32⟩
  | .hbm, ⟨44, _⟩ => ⟨S3072, .f32⟩
  | .hbm, ⟨45, _⟩ => ⟨S1x1x1x3072, .f32⟩
  | .hbm, ⟨46, _⟩ => ⟨S8x1x256x3072, .f32⟩
  | .hbm, ⟨47, _⟩ => ⟨S8x1x256x3072, .f32⟩
  | .hbm, ⟨48, _⟩ => ⟨S8x1x256x3072, .f32⟩
  | .hbm, ⟨49, _⟩ => ⟨S8x1x256x3072, .f32⟩
  | .hbm, ⟨50, _⟩ => ⟨S1x1x3072, .f32⟩
  | .hbm, ⟨51, _⟩ => ⟨S3072, .f32⟩
  | .hbm, ⟨52, _⟩ => ⟨S1x1x1x3072, .f32⟩
  | .hbm, ⟨53, _⟩ => ⟨S8x1x256x3072, .f32⟩
  | .hbm, ⟨54, _⟩ => ⟨S8x1x256x3072, .f32⟩
  | .hbm, ⟨55, _⟩ => ⟨S8x1x256x3072, .f32⟩
  | .hbm, ⟨56, _⟩ => ⟨S8x1x256x3072, .f32⟩
  | .hbm, ⟨57, _⟩ => ⟨S1x1x3072, .f32⟩
  | .hbm, ⟨58, _⟩ => ⟨S3072, .f32⟩
  | .hbm, ⟨59, _⟩ => ⟨S1x1x1x3072, .f32⟩
  | .hbm, ⟨60, _⟩ => ⟨S8x1x256x3072, .f32⟩
  | .hbm, ⟨61, _⟩ => ⟨S8x1x256x3072, .f32⟩
  | .hbm, ⟨62, _⟩ => ⟨S8x1x256x3072, .f32⟩
  | .hbm, ⟨63, _⟩ => ⟨S8x1x256x3072, .f32⟩
  | .hbm, ⟨64, _⟩ => ⟨S1x1x3072, .f32⟩
  | .hbm, ⟨65, _⟩ => ⟨S3072, .f32⟩
  | .hbm, ⟨66, _⟩ => ⟨S1x1x1x3072, .f32⟩
  | .hbm, ⟨67, _⟩ => ⟨S8x1x256x3072, .f32⟩
  | .hbm, ⟨68, _⟩ => ⟨S8x1x256x3072, .f32⟩
  | .hbm, ⟨69, _⟩ => ⟨S8x1x256x3072, .f32⟩
  | .hbm, ⟨70, _⟩ => ⟨S8x1x256x3072, .f32⟩
  | .hbm, ⟨71, _⟩ => ⟨S1x1x3072, .f32⟩
  | .hbm, ⟨72, _⟩ => ⟨S3072, .f32⟩
  | .hbm, ⟨73, _⟩ => ⟨S1x1x1x3072, .f32⟩
  | .hbm, ⟨74, _⟩ => ⟨S8x1x256x3072, .f32⟩
  | .hbm, ⟨75, _⟩ => ⟨S8x1x256x3072, .f32⟩
  | .hbm, ⟨76, _⟩ => ⟨S8x1x256x3072, .f32⟩
  | .hbm, ⟨77, _⟩ => ⟨S8x1x256x3072, .f32⟩
  | .hbm, ⟨78, _⟩ => ⟨S1x1x3072, .f32⟩
  | .hbm, ⟨79, _⟩ => ⟨S3072, .f32⟩
  | .hbm, ⟨80, _⟩ => ⟨S1x1x1x3072, .f32⟩
  | .hbm, ⟨81, _⟩ => ⟨S8x1x256x3072, .f32⟩
  | .hbm, ⟨82, _⟩ => ⟨S8x1x256x3072, .f32⟩
  | .hbm, ⟨83, _⟩ => ⟨S8x1x256x3072, .f32⟩
  | .hbm, ⟨84, _⟩ => ⟨S8x256x3072, .f32⟩
  | .hbm, ⟨85, _⟩ => ⟨S1x1x3072, .f32⟩
  | .hbm, ⟨86, _⟩ => ⟨S8x256x3072, .f32⟩
  | .hbm, ⟨87, _⟩ => ⟨S8x256x3072, .f32⟩
  | .hbm, ⟨88, _⟩ => ⟨S8x256x3072, .f32⟩
  | .hbm, ⟨89, _⟩ => ⟨S8x256x3072, .f32⟩
  | .hbm, ⟨90, _⟩ => ⟨S_, .f32⟩
  | .hbm, ⟨91, _⟩ => ⟨S8x256x3072, .f32⟩
  | .hbm, ⟨92, _⟩ => ⟨S8x256x3072, .f32⟩
  | .hbm, ⟨93, _⟩ => ⟨S_, .f32⟩
  | .hbm, ⟨94, _⟩ => ⟨S8x256x3072, .f32⟩
  | .hbm, ⟨95, _⟩ => ⟨S8x256x3072, .f32⟩
  | .hbm, ⟨96, _⟩ => ⟨S8x256x3072, .f32⟩
  | .hbm, ⟨97, _⟩ => ⟨S2048x3072, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_call1_v0 : Ref sig .tc := ⟨.hbm, 88, rfl⟩
abbrev main_call1_v1 : Ref sig .tc := ⟨.hbm, 89, rfl⟩
abbrev main_call1_cst : Ref sig .tc := ⟨.hbm, 90, rfl⟩
abbrev main_call1_v2 : Ref sig .tc := ⟨.hbm, 91, rfl⟩
abbrev main_call1_v3 : Ref sig .tc := ⟨.hbm, 92, rfl⟩
abbrev main_call1_cst_0 : Ref sig .tc := ⟨.hbm, 93, rfl⟩
abbrev main_call1_v4 : Ref sig .tc := ⟨.hbm, 94, rfl⟩
abbrev main_call1_v5 : Ref sig .tc := ⟨.hbm, 95, rfl⟩
abbrev main_v78 : Ref sig .tc := ⟨.hbm, 96, rfl⟩
abbrev main_v79 : Ref sig .tc := ⟨.hbm, 97, rfl⟩

abbrev nD : Nat := 1
abbrev τ : Topo := Topo.v7x

variable {F : FTy → Type} [FloatOps F]
-- ==== KernelStates.lean ====
abbrev S8x256x3072 : Shape := ⟨3, ![8, 256, 3072]⟩
abbrev S8x256x2x32 : Shape := ⟨4, ![8, 256, 2, 32]⟩
abbrev S2x32 : Shape := ⟨2, ![2, 32]⟩
abbrev S8x2x32x64x128 : Shape := ⟨5, ![8, 2, 32, 64, 128]⟩
abbrev S8x2x256x32 : Shape := ⟨4, ![8, 2, 256, 32]⟩
abbrev S2x1x32 : Shape := ⟨3, ![2, 1, 32]⟩
abbrev S1x128x2048 : Shape := ⟨3, ![1, 128, 2048]⟩
abbrev S1x128x512 : Shape := ⟨3, ![1, 128, 512]⟩
abbrev S1x1x128x32 : Shape := ⟨4, ![1, 1, 128, 32]⟩
abbrev S1x1x32 : Shape := ⟨3, ![1, 1, 32]⟩
abbrev S1x1x32x64x128 : Shape := ⟨5, ![1, 1, 32, 64, 128]⟩
abbrev S2048x128 : Shape := ⟨2, ![2048, 128]⟩
abbrev S32x64x128 : Shape := ⟨3, ![32, 64, 128]⟩
abbrev S128x32 : Shape := ⟨2, ![128, 32]⟩
abbrev S1x32 : Shape := ⟨2, ![1, 32]⟩
abbrev S128x128 : Shape := ⟨2, ![128, 128]⟩
abbrev S32x128 : Shape := ⟨2, ![32, 128]⟩
abbrev S32 : Shape := ⟨1, ![32]⟩
abbrev S32x2048 : Shape := ⟨2, ![32, 2048]⟩
abbrev S128x2048 : Shape := ⟨2, ![128, 2048]⟩
abbrev S32x1 : Shape := ⟨2, ![32, 1]⟩
abbrev S1x128x128 : Shape := ⟨3, ![1, 128, 128]⟩
abbrev S512x128 : Shape := ⟨2, ![512, 128]⟩
abbrev S128x512 : Shape := ⟨2, ![128, 512]⟩

abbrev nBuf : Space → Nat
  | .hbm => 7
  | .vmem => 15
  | .smem => 0
  | _ => 0

abbrev bufTy : (tb : Table) → Fin (tcTables nBuf tb) → BufTy
  | .hbm, ⟨0, _⟩ => ⟨S8x256x3072, .f32⟩
  | .hbm, ⟨1, _⟩ => ⟨S8x256x2x32, .f32⟩
  | .hbm, ⟨2, _⟩ => ⟨S2x32, .f32⟩
  | .hbm, ⟨3, _⟩ => ⟨S8x2x32x64x128, .f32⟩
  | .hbm, ⟨4, _⟩ => ⟨S8x2x256x32, .f32⟩
  | .hbm, ⟨5, _⟩ => ⟨S2x1x32, .f32⟩
  | .hbm, ⟨6, _⟩ => ⟨S8x2x32x64x128, .f32⟩
  | .local _ .vmem, ⟨0, _⟩ => ⟨S1x128x2048, .f32⟩
  | .local _ .vmem, ⟨1, _⟩ => ⟨S1x128x2048, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x1x128x32, .f32⟩
  | .local _ .vmem, ⟨7, _⟩ => ⟨S1x1x128x32, .f32⟩
  | .local _ .vmem, ⟨8, _⟩ => ⟨S1x1x32, .f32⟩
  | .local _ .vmem, ⟨9, _⟩ => ⟨S1x1x32, .f32⟩
  | .local _ .vmem, ⟨10, _⟩ => ⟨S1x1x32x64x128, .f32⟩
  | .local _ .vmem, ⟨11, _⟩ => ⟨S1x1x32x64x128, .f32⟩
  | .local _ .vmem, ⟨12, _⟩ => ⟨S1x1x32x64x128, .f32⟩
  | .local _ .vmem, ⟨13, _⟩ => ⟨S1x1x32x64x128, .f32⟩
  | .local _ .vmem, ⟨14, _⟩ => ⟨S2048x128, .f32⟩
  | _, _ => ⟨S8x256x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.subi c1_i32 v0
  let v2 : BitVec 32 := Scalar.muli arg1 v1
  let v3 : BitVec 32 := Scalar.addi arg2 v2
  let c0_i32 : BitVec 32 := 0#32
  let c0_i32_0 : BitVec 32 := 0#32
  ![arg0.toNat, v3.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.subi c1_i32 v0
  let v2 : BitVec 32 := Scalar.muli arg1 v1
  let v3 : BitVec 32 := Scalar.addi arg2 v2
  let c4_i32 : BitVec 32 := 4#32
  let c0_i32 : BitVec 32 := 0#32
  ![arg0.toNat, v3.toNat, c4_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.subi c1_i32 v0
  let v2 : BitVec 32 := Scalar.muli arg1 v1
  let v3 : BitVec 32 := Scalar.addi arg2 v2
  let c5_i32 : BitVec 32 := 5#32
  let c0_i32 : BitVec 32 := 0#32
  ![arg0.toNat, v3.toNat, c5_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.subi c1_i32 v0
  let v2 : BitVec 32 := Scalar.muli arg1 v1
  let v3 : BitVec 32 := Scalar.addi arg2 v2
  let c0_i32 : BitVec 32 := 0#32
  let c0_i32_0 : BitVec 32 := 0#32
  ![arg0.toNat, arg1.toNat, v3.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x128x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1x32x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x32x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== ReferenceStatesIdeal.lean ====
abbrev S8x256x3072 : Shape := ⟨3, ![8, 256, 3072]⟩
abbrev S8x256x2x32 : Shape := ⟨4, ![8, 256, 2, 32]⟩
abbrev S2x32 : Shape := ⟨2, ![2, 32]⟩
abbrev S8x2x32x64x128 : Shape := ⟨5, ![8, 2, 32, 64, 128]⟩
abbrev S8x256x2048 : Shape := ⟨3, ![8, 256, 2048]⟩
abbrev S8x256x32x64 : Shape := ⟨4, ![8, 256, 32, 64]⟩
abbrev S8x256x512 : Shape := ⟨3, ![8, 256, 512]⟩
abbrev S8x256x4x128 : Shape := ⟨4, ![8, 256, 4, 128]⟩
abbrev S1x8x256x32x64 : Shape := ⟨5, ![1, 8, 256, 32, 64]⟩
abbrev S2x8x256x32x64 : Shape := ⟨5, ![2, 8, 256, 32, 64]⟩
abbrev S8x256x1x32 : Shape := ⟨4, ![8, 256, 1, 32]⟩
abbrev S8x256x32 : Shape := ⟨3, ![8, 256, 32]⟩
abbrev S1x8x256x32 : Shape := ⟨4, ![1, 8, 256, 32]⟩
abbrev S2x8x256x32 : Shape := ⟨4, ![2, 8, 256, 32]⟩
abbrev S1x8x256x4x128 : Shape := ⟨5, ![1, 8, 256, 4, 128]⟩
abbrev S2x8x256x4x128 : Shape := ⟨5, ![2, 8, 256, 4, 128]⟩
abbrev S2x8x32x64x128 : Shape := ⟨5, ![2, 8, 32, 64, 128]⟩
abbrev S2x8x256x32x1 : Shape := ⟨5, ![2, 8, 256, 32, 1]⟩
abbrev S2x8x2x128x4x8x64 : Shape := ⟨7, ![2, 8, 2, 128, 4, 8, 64]⟩
abbrev S2x8x2x128x4x128 : Shape := ⟨6, ![2, 8, 2, 128, 4, 128]⟩
abbrev S2x1x1x32 : Shape := ⟨4, ![2, 1, 1, 32]⟩
abbrev S2x8x2x128x4x8 : Shape := ⟨6, ![2, 8, 2, 128, 4, 8]⟩
abbrev S_ : Shape := ⟨0, ![]⟩
abbrev S2x8x2x1x4x8 : Shape := ⟨6, ![2, 8, 2, 1, 4, 8]⟩
abbrev S2x8x2x128x4x8x1 : Shape := ⟨7, ![2, 8, 2, 128, 4, 8, 1]⟩
abbrev S2x8x2x4x8x64x128 : Shape := ⟨7, ![2, 8, 2, 4, 8, 64, 128]⟩
abbrev S2x8x2x4x8 : Shape := ⟨5, ![2, 8, 2, 4, 8]⟩
abbrev S2x8x4x8x64x128 : Shape := ⟨6, ![2, 8, 4, 8, 64, 128]⟩
abbrev S2x2x8x4x8x64x128 : Shape := ⟨7, ![2, 2, 8, 4, 8, 64, 128]⟩
abbrev S2x2x8x4x8 : Shape := ⟨5, ![2, 2, 8, 4, 8]⟩
abbrev S1x2x8x4x8x64x128 : Shape := ⟨7, ![1, 2, 8, 4, 8, 64, 128]⟩
abbrev S1x2x8x4x8 : Shape := ⟨5, ![1, 2, 8, 4, 8]⟩
abbrev S2x8x4x8 : Shape := ⟨4, ![2, 8, 4, 8]⟩
abbrev S2x8x4x8x1x1 : Shape := ⟨6, ![2, 8, 4, 8, 1, 1]⟩

abbrev nBuf : Space → Nat
  | .hbm => 80
  | .vmem => 0
  | .smem => 0
  | _ => 0

abbrev bufTy : (tb : Table) → Fin (tcTables nBuf tb) → BufTy
  | .hbm, ⟨0, _⟩ => ⟨S8x256x3072, .f32⟩
  | .hbm, ⟨1, _⟩ => ⟨S8x256x2x32, .f32⟩
  | .hbm, ⟨2, _⟩ => ⟨S2x32, .f32⟩
  | .hbm, ⟨3, _⟩ => ⟨S8x2x32x64x128, .f32⟩
  | .hbm, ⟨4, _⟩ => ⟨S8x256x2048, .f32⟩
  | .hbm, ⟨5, _⟩ => ⟨S8x256x32x64, .f32⟩
  | .hbm, ⟨6, _⟩ => ⟨S8x256x512, .f32⟩
  | .hbm, ⟨7, _⟩ => ⟨S8x256x4x128, .f32⟩
  | .hbm, ⟨8, _⟩ => ⟨S8x256x32x64, .f32⟩
  | .hbm, ⟨9, _⟩ => ⟨S1x8x256x32x64, .f32⟩
  | .hbm, ⟨10, _⟩ => ⟨S1x8x256x32x64, .f32⟩
  | .hbm, ⟨11, _⟩ => ⟨S2x8x256x32x64, .f32⟩
  | .hbm, ⟨12, _⟩ => ⟨S8x256x1x32, .f32⟩
  | .hbm, ⟨13, _⟩ => ⟨S8x256x32, .f32⟩
  | .hbm, ⟨14, _⟩ => ⟨S8x256x1x32, .f32⟩
  | .hbm, ⟨15, _⟩ => ⟨S8x256x32, .f32⟩
  | .hbm, ⟨16, _⟩ => ⟨S8x256x32, .f32⟩
  | .hbm, ⟨17, _⟩ => ⟨S1x8x256x32, .f32⟩
  | .hbm, ⟨18, _⟩ => ⟨S1x8x256x32, .f32⟩
  | .hbm, ⟨19, _⟩ => ⟨S2x8x256x32, .f32⟩
  | .hbm, ⟨20, _⟩ => ⟨S8x256x4x128, .f32⟩
  | .hbm, ⟨21, _⟩ => ⟨S1x8x256x4x128, .f32⟩
  | .hbm, ⟨22, _⟩ => ⟨S1x8x256x4x128, .f32⟩
  | .hbm, ⟨23, _⟩ => ⟨S2x8x256x4x128, .f32⟩
  | .hbm, ⟨24, _⟩ => ⟨S2x8x32x64x128, .f32⟩
  | .hbm, ⟨25, _⟩ => ⟨S2x8x256x32x1, .f32⟩
  | .hbm, ⟨26, _⟩ => ⟨S2x8x256x32x64, .f32⟩
  | .hbm, ⟨27, _⟩ => ⟨S2x8x256x32x64, .f32⟩
  | .hbm, ⟨28, _⟩ => ⟨S2x8x2x128x4x8x64, .f32⟩
  | .hbm, ⟨29, _⟩ => ⟨S2x8x2x128x4x128, .f32⟩
  | .hbm, ⟨30, _⟩ => ⟨S2x1x1x32, .f32⟩
  | .hbm, ⟨31, _⟩ => ⟨S2x8x256x32, .f32⟩
  | .hbm, ⟨32, _⟩ => ⟨S2x8x256x32, .f32⟩
  | .hbm, ⟨33, _⟩ => ⟨S2x8x2x128x4x8, .f32⟩
  | .hbm, ⟨34, _⟩ => ⟨S_, .f32⟩
  | .hbm, ⟨35, _⟩ => ⟨S_, .f32⟩
  | .hbm, ⟨36, _⟩ => ⟨S2x8x2x128x4x8, .f32⟩
  | .hbm, ⟨37, _⟩ => ⟨S2x8x2x1x4x8, .f32⟩
  | .hbm, ⟨38, _⟩ => ⟨S2x8x2x128x4x8, .f32⟩
  | .hbm, ⟨39, _⟩ => ⟨S2x8x2x128x4x8, .f32⟩
  | .hbm, ⟨40, _⟩ => ⟨S2x8x2x128x4x8, .f32⟩
  | .hbm, ⟨41, _⟩ => ⟨S2x8x2x128x4x8x1, .f32⟩
  | .hbm, ⟨42, _⟩ => ⟨S2x8x2x128x4x8x64, .f32⟩
  | .hbm, ⟨43, _⟩ => ⟨S2x8x2x128x4x8x64, .f32⟩
  | .hbm, ⟨44, _⟩ => ⟨S2x8x2x4x8x64x128, .f32⟩
  | .hbm, ⟨45, _⟩ => ⟨S2x8x2x1x4x8, .f32⟩
  | .hbm, ⟨46, _⟩ => ⟨S2x8x2x4x8, .f32⟩
  | .hbm, ⟨47, _⟩ => ⟨S2x8x2x4x8, .f32⟩
  | .hbm, ⟨48, _⟩ => ⟨S2x8x4x8x64x128, .f32⟩
  | .hbm, ⟨49, _⟩ => ⟨S2x2x8x4x8x64x128, .f32⟩
  | .hbm, ⟨50, _⟩ => ⟨S2x2x8x4x8, .f32⟩
  | .hbm, ⟨51, _⟩ => ⟨S_, .i32⟩
  | .hbm, ⟨52, _⟩ => ⟨S2x2x8x4x8x64x128, .f32⟩
  | .hbm, ⟨53, _⟩ => ⟨S2x2x8x4x8, .f32⟩
  | .hbm, ⟨54, _⟩ => ⟨S_, .i32⟩
  | .hbm, ⟨55, _⟩ => ⟨S2x8x4x8x64x128, .f32⟩
  | .hbm, ⟨56, _⟩ => ⟨S_, .i32⟩
  | .hbm, ⟨57, _⟩ => ⟨S_, .i1⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S1x2x8x4x8x64x128, .f32⟩
  | .hbm, ⟨65, _⟩ => ⟨S2x8x4x8x64x128, .f32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S1x2x8x4x8, .f32⟩
  | .hbm, ⟨71, _⟩ => ⟨S2x8x4x8, .f32⟩
  | .hbm, ⟨72, _⟩ => ⟨S2x8x4x8x1x1, .f32⟩
  | .hbm, ⟨73, _⟩ => ⟨S2x8x4x8x64x128, .f32⟩
  | .hbm, ⟨74, _⟩ => ⟨S2x8x4x8x64x128, .f32⟩
  | .hbm, ⟨75, _⟩ => ⟨S2x8x4x8x64x128, .f32⟩
  | .hbm, ⟨76, _⟩ => ⟨S_, .i32⟩
  | .hbm, ⟨77, _⟩ => ⟨S_, .i32⟩
  | .hbm, ⟨78, _⟩ => ⟨S2x8x32x64x128, .f32⟩
  | .hbm, ⟨79, _⟩ => ⟨S8x2x32x64x128, .f32⟩
  | _, _ => ⟨S8x256x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_call3_call0_cst : Ref sig .tc := ⟨.hbm, 34, rfl⟩
abbrev main_call3_call0_v0 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_c : Ref sig .tc := ⟨.hbm, 51, rfl⟩
abbrev main_v45_0 : Ref sig .tc := ⟨.hbm, 52, rfl⟩
abbrev main_v45_1 : Ref sig .tc := ⟨.hbm, 53, rfl⟩
abbrev main_v45_2 : Ref sig .tc := ⟨.hbm, 54, rfl⟩
abbrev main_v45_3 : Ref sig .tc := ⟨.hbm, 55, rfl⟩
abbrev main_while0c_c_3 : Ref sig .tc := ⟨.hbm, 56, rfl⟩
abbrev main_while0c_v48 : Ref sig .tc := ⟨.hbm, 57, rfl⟩
abbrev main_while0b_call4_c : Ref sig .tc := ⟨.hbm, 58, rfl⟩
abbrev main_while0b_call4_c_0 : Ref sig .tc := ⟨.hbm, 59, rfl⟩
abbrev main_while0b_call4_c_1 : Ref sig .tc := ⟨.hbm, 60, rfl⟩
abbrev main_while0b_call4_c_2 : Ref sig .tc := ⟨.hbm, 61, rfl⟩
abbrev main_while0b_call4_c_3 : Ref sig .tc := ⟨.hbm, 62, rfl⟩
abbrev main_while0b_call4_c_4 : Ref sig .tc := ⟨.hbm, 63, rfl⟩
abbrev main_while0b_call4_v0 : Ref sig .tc := ⟨.hbm, 64, rfl⟩
abbrev main_while0b_v48 : Ref sig .tc := ⟨.hbm, 65, rfl⟩
abbrev main_while0b_call5_c : Ref sig .tc := ⟨.hbm, 66, rfl⟩
abbrev main_while0b_call5_c_0 : Ref sig .tc := ⟨.hbm, 67, rfl⟩
abbrev main_while0b_call5_c_1 : Ref sig .tc := ⟨.hbm, 68, rfl⟩
abbrev main_while0b_call5_c_2 : Ref sig .tc := ⟨.hbm, 69, rfl⟩
abbrev main_while0b_call5_v0 : Ref sig .tc := ⟨.hbm, 70, rfl⟩
abbrev main_while0b_v49 : Ref sig .tc := ⟨.hbm, 71, rfl⟩
abbrev main_while0b_v50 : Ref sig .tc := ⟨.hbm, 72, rfl⟩
abbrev main_while0b_v51 : Ref sig .tc := ⟨.hbm, 73, rfl⟩
abbrev main_while0b_v52 : Ref sig .tc := ⟨.hbm, 74, rfl⟩
abbrev main_while0b_v53 : Ref sig .tc := ⟨.hbm, 75, rfl⟩
abbrev main_while0b_c_3 : Ref sig .tc := ⟨.hbm, 76, rfl⟩
abbrev main_while0b_v54 : Ref sig .tc := ⟨.hbm, 77, rfl⟩
abbrev main_v46 : Ref sig .tc := ⟨.hbm, 78, rfl⟩
abbrev main_v47 : Ref sig .tc := ⟨.hbm, 79, rfl⟩

abbrev nD : Nat := 1
abbrev τ : Topo := Topo.v7x

variable {F : FTy → Type} [FloatOps F]

abbrev main_while0_count : Scf.Loop 32 := ⟨0#32, 2#32, 1#32⟩
-- ==== Proof.Ssd.Group.lean ====
module

public import proofs.«01_k».proof.Proof.Gen.KernelIdeal.Skeleton
public import Idealize.ShloMosaic.Lib.Pointwise
public import Idealize.ShloMosaic.PureOps.Ideal

/-! The part of the scan's body that is the same for every group of heads, with the group a variable. -/

@[expose] public section
set_option maxRecDepth 16384
noncomputable section
namespace Cert.KernelIdeal.Group
open Idealize.ShloMosaic Cert.KernelIdeal.Gen

variable [Facts]
open Facts

theorem slices_col (h : Fin 32) : S128x32.Slices ![0, h.val] S128x1 := by
  refine ⟨rfl, ?_⟩; intro a; fin_cases a
  · exact Nat.le_refl 128
  · exact h.isLt
theorem slices_row (h : Fin 32) : S32x128.Slices ![h.val, 0] S1x128 := by
  refine ⟨rfl, ?_⟩; intro a; fin_cases a
  · exact h.isLt
  · exact Nat.le_refl 128
theorem slices_pair (q : Fin 16) : S128x2048.Slices ![0, 128 * q.val] S128x128 := by
  refine ⟨rfl, ?_⟩; intro a; fin_cases a
  · exact Nat.le_refl 128
  · show 128 * q.val + 128 ≤ 2048; omega
theorem slices_group (g : Fin 4) : S128x2048.Slices ![0, 512 * g.val] S128x512 := by
  refine ⟨rfl, ?_⟩; intro a; fin_cases a
  · exact Nat.le_refl 128
  · show 512 * g.val + 512 ≤ 2048; omega
theorem slices_rows (g : Fin 4) : S2048x128.Slices ![512 * g.val, 0] S512x128 := by
  refine ⟨rfl, ?_⟩; intro a; fin_cases a
  · show 512 * g.val + 512 ≤ 2048; omega
  · exact Nat.le_refl 128

/-- One head's scores: the products of the group's C and B rows, times the decay between the two rows where the mask holds. -/
def scores (v16 : IVec S128x128 1) (ac : FVec Ideal S128x32 .f32) (act : FVec Ideal S32x128 .f32)
    (cb : FVec Ideal S128x128 .f32) (h : Fin 32) : FVec Ideal S128x128 .bf16 :=
  truncf .bf16 (mulf cb (select v16 (exp (subf
      (broadcastTo S128x128 (extractStridedSlice S128x1 ![0, h.val] ac (slices_col h)) broadcasts_S128x1_S128x128)
      (broadcastTo S128x128 (extractStridedSlice S1x128 ![h.val, 0] act (slices_row h)) broadcasts_S1x128_S128x128)))
    (broadcast S128x128 (Scalar.ofBits .f32 0x00000000#32)))) bitsLt_bf16_f32

/-- The two heads of pair `q`, side by side in 128 lanes. -/
def pair (v16 : IVec S128x128 1) (ac : FVec Ideal S128x32 .f32) (act : FVec Ideal S32x128 .f32)
    (x : FVec Ideal S128x2048 .bf16) (cb : FVec Ideal S128x128 .f32) (q : Fin 16) : FVec Ideal S128x128 .f32 :=
  matmul dot_S128x256_S256x128_S128x128_1_0_0_1_n_n none
    (concatenate S128x256 1 [⟨S128x128, scores v16 ac act cb ⟨2 * q.val, by omega⟩⟩,
      ⟨S128x128, scores v16 ac act cb ⟨2 * q.val + 1, by omega⟩⟩] concatenates_S128x128_S128x128_S128x256_d1)
    (concatenate S256x128 0 [
      ⟨S128x128, select (cmpi .slt (iota .tc S128x128 32 [1] iota_S128x128_d1_w32) (broadcast S128x128 64#32))
        (extractStridedSlice S128x128 ![0, 128 * q.val] x (slices_pair q)) (broadcast S128x128 (Scalar.ofBits .bf16 0x0000#16))⟩,
      ⟨S128x128, select (cmpi .sge (iota .tc S128x128 32 [1] iota_S128x128_d1_w32) (broadcast S128x128 64#32))
        (extractStridedSlice S128x128 ![0, 128 * q.val] x (slices_pair q)) (broadcast S128x128 (Scalar.ofBits .bf16 0x0000#16))⟩]
      concatenates_S128x128_S128x128_S256x128_d0)
    (constant S128x128 .f32 0x00000000#32)

/-- A sum whose terms all vanish under a condition that does not depend on the term. -/
theorem sum_select (b : BitVec 1) (f : Fin 128 → EReal) :
    ∑ s, Scalar.select b (f s) 0 = if b = 1#1 then ∑ s, f s else 0 := by
  by_cases h : b = 1#1
  · simp [Scalar.select, h]
  · simp [Scalar.select, h]

theorem lane_lt (p : Fin 128) : IntOp.cmpi .slt (BitVec.ofNat 32 p.val) 64#32 = 1#1 ↔ p.val < 64 := by
  revert p; decide +kernel
theorem lane_ge (p : Fin 128) : IntOp.cmpi .sge (BitVec.ofNat 32 p.val) 64#32 = 1#1 ↔ 64 ≤ p.val := by
  revert p; decide +kernel

/-- The pair at a lane: the sum of the head that the lane belongs to. -/
theorem pair_apply (v16 ac act x cb) (q : Fin 16) (l p : Fin 128) (h : Fin 32) (hh : h.val = 2 * q.val + p.val / 64)
    (col : Fin 2048) (hc : col.val = 128 * q.val + p.val) :
    pair v16 ac act x cb q (ix2 l p) = ∑ s : Fin 128, if v16 (ix2 l s) = 1#1 then
      cb (ix2 l s) * Ideal.exp (ac (ix2 l h) - act (ix2 h s)) * x (ix2 s col) else 0 := by
  pointwise [pair, scores]
  rw [sum_select, sum_select]
  obtain ⟨col, hcol⟩ := col
  obtain rfl : col = 128 * q.val + p.val := hc
  by_cases hp : p.val < 64
  · obtain ⟨h, hl⟩ := h
    obtain rfl : h = 2 * q.val := by simp only at hh; omega
    rw [if_pos ((lane_lt p).mpr hp), if_neg (fun c => absurd ((lane_ge p).mp c) (by omega)), add_zero]
    rfl
  · obtain ⟨h, hl⟩ := h
    obtain rfl : h = 2 * q.val + 1 := by simp only at hh; omega
    rw [if_pos ((lane_ge p).mpr (by omega)), if_neg (fun c => hp ((lane_lt p).mp c)), zero_add]
    rfl

/-- The products of the group's C rows with its B rows. -/
def scoreDot (bm cm : Vec Ideal S1x128x128 .f32) : FVec Ideal S128x128 .f32 :=
  matmul dot_S128x128_S128x128_S128x128_1_1_0_0_n_n none
    (truncf .bf16 (shapeCast S128x128 (cm : FVec Ideal S1x128x128 .f32) shapeCasts_S1x128x128_S128x128) bitsLt_bf16_f32 : FVec Ideal S128x128 .bf16)
    (truncf .bf16 (shapeCast S128x128 (bm : FVec Ideal S1x128x128 .f32) shapeCasts_S1x128x128_S128x128) bitsLt_bf16_f32 : FVec Ideal S128x128 .bf16)
    (constant S128x128 .f32 0x00000000#32)

/-- The rows of y that group `g` stores. -/
def groupY (v16 : IVec S128x128 1) (ac : FVec Ideal S128x32 .f32) (act : FVec Ideal S32x128 .f32)
    (x : FVec Ideal S128x2048 .bf16) (sc : FVec Ideal S128x2048 .f32)
    (bm cm : Vec Ideal S1x128x128 .f32) (st : Vec Ideal S512x128 .f32) (g : Fin 4) : FVec Ideal S1x1x128x512 .f32 :=
  let cb : FVec Ideal S128x128 .f32 := scoreDot bm cm
  shapeCast S1x1x128x512 (addf
    (concatenate S128x512 1 [⟨S128x128, pair v16 ac act x cb ⟨4 * g.val, by omega⟩⟩, ⟨S128x128, pair v16 ac act x cb ⟨4 * g.val + 1, by omega⟩⟩,
      ⟨S128x128, pair v16 ac act x cb ⟨4 * g.val + 2, by omega⟩⟩, ⟨S128x128, pair v16 ac act x cb ⟨4 * g.val + 3, by omega⟩⟩]
      concatenates_S128x128_S128x128_S128x128_S128x128_S128x512_d1)
    (mulf (matmul dot_S128x128_S512x128_S128x512_1_1_0_0_n_n none (truncf .bf16 (shapeCast S128x128 (cm : FVec Ideal S1x128x128 .f32) shapeCasts_S1x128x128_S128x128) bitsLt_bf16_f32 : FVec Ideal S128x128 .bf16) (truncf .bf16 (st : FVec Ideal S512x128 .f32) bitsLt_bf16_f32) (constant S128x512 .f32 0x00000000#32))
      (extractStridedSlice S128x512 ![0, 512 * g.val] sc (slices_group g)))) shapeCasts_S128x512_S1x1x128x512

/-- The rows of the state that group `g` stores. -/
def groupS (xw : FVec Ideal S128x2048 .bf16) (keep : FVec Ideal S2048x128 .f32) (bm : Vec Ideal S1x128x128 .f32) (st : Vec Ideal S512x128 .f32)
    (g : Fin 4) : FVec Ideal S512x128 .f32 :=
  shapeCast S512x128 (addf (mulf (st : FVec Ideal S512x128 .f32) (extractStridedSlice S512x128 ![512 * g.val, 0] keep (slices_rows g)))
    (matmul dot_S128x512_S128x128_S512x128_0_0_1_1_n_n none (extractStridedSlice S128x512 ![0, 512 * g.val] xw (slices_group g))
      (truncf .bf16 (shapeCast S128x128 (bm : FVec Ideal S1x128x128 .f32) shapeCasts_S1x128x128_S128x128) bitsLt_bf16_f32 : FVec Ideal S128x128 .bf16)
      (constant S512x128 .f32 0x00000000#32))) shapeCasts_S512x128_S512x128

theorem groupS_apply (xw keep bm st) (g : Fin 4) (r : Fin 512) (n : Fin 128) (col : Fin 2048) (hc : col.val = 512 * g.val + r.val) :
    groupS xw keep bm st g (ix2 r n)
      = st (ix2 r n) * keep (ix2 col n) + ∑ l : Fin 128, xw (ix2 l col) * bm (ix3 0 l n) := by
  obtain ⟨col, hcol⟩ := col
  obtain rfl : col = 512 * g.val + r.val := hc
  pointwise [groupS]

theorem groupY_apply (v16 ac act x sc bm cm st) (g : Fin 4) (l : Fin 128) (j : Fin 512) (col : Fin 2048)
    (hc : col.val = 512 * g.val + j.val) (h : Fin 32) (hh : h.val = col.val / 64) :
    groupY v16 ac act x sc bm cm st g (ix4 0 0 l j) = (∑ s : Fin 128, if v16 (ix2 l s) = 1#1 then
      (∑ n : Fin 128, cm (ix3 0 l n) * bm (ix3 0 s n)) * Ideal.exp (ac (ix2 l h) - act (ix2 h s)) * x (ix2 s col) else 0)
      + (∑ n : Fin 128, cm (ix3 0 l n) * st (ix2 j n)) * sc (ix2 l col) := by
  obtain ⟨col, hcol⟩ := col
  obtain rfl : col = 512 * g.val + j.val := hc
  have hcb : ∀ l s : Fin 128, scoreDot bm cm (ix2 l s) = ∑ n : Fin 128, cm (ix3 0 l n) * bm (ix3 0 s n) := by
    intro l s
    pointwise [scoreDot]
  simp only at hh
  pointwise [groupY]
  refine congrArg (· + _) ?_
  split_ifs
  all_goals
    rw [pair_apply _ _ _ _ _ _ l _ h (by simp only; omega) ⟨512 * g.val + j.val, hcol⟩ (by simp only; omega)]
    simp only [hcb]
end Cert.KernelIdeal.Group
end
-- ==== Proof.Ssd.Spec.lean ====
module

public import Idealize.ShloMosaic.PureOps.Ideal

/-! One chunk of the scan as plain sums over extended reals. `d` is the direction: 0 reads a chunk's rows upwards, 1 downwards. -/

@[expose] public section
noncomputable section
namespace Ssd
open Idealize.ShloMosaic

/-- A finite extended real. -/
def Fi (x : EReal) : Prop := ∃ r : ℝ, x = r

theorem Fi.add {x y : EReal} (hx : Fi x) (hy : Fi y) : Fi (x + y) := by
  obtain ⟨a, rfl⟩ := hx; obtain ⟨b, rfl⟩ := hy; exact ⟨a + b, (EReal.coe_add a b).symm⟩
theorem Fi.mul {x y : EReal} (hx : Fi x) (hy : Fi y) : Fi (x * y) := by
  obtain ⟨a, rfl⟩ := hx; obtain ⟨b, rfl⟩ := hy; exact ⟨a * b, (EReal.coe_mul a b).symm⟩
theorem Fi.sub {x y : EReal} (hx : Fi x) (hy : Fi y) : Fi (x - y) := by
  obtain ⟨a, rfl⟩ := hx; obtain ⟨b, rfl⟩ := hy; exact ⟨a - b, (EReal.coe_sub a b).symm⟩
theorem Fi.zero : Fi 0 := ⟨0, rfl⟩
theorem Fi.exp {x : EReal} (hx : Fi x) : Fi (Ideal.exp x) := by
  obtain ⟨a, rfl⟩ := hx; exact ⟨Real.exp a, rfl⟩
theorem Fi.sum {ι : Type} (s : Finset ι) (f : ι → EReal) (h : ∀ i, Fi (f i)) : Fi (∑ i ∈ s, f i) := by
  classical
  induction s using Finset.induction_on with
  | empty => exact Fi.zero
  | insert a s ha ih => rw [Finset.sum_insert ha]; exact (h a).add ih
theorem Fi.sub_self {x : EReal} (hx : Fi x) : x - x = 0 := by
  obtain ⟨a, rfl⟩ := hx; exact EReal.sub_self (EReal.coe_ne_top a) (EReal.coe_ne_bot a)

/-- Row `s` of a chunk is reached no later than row `l`. -/
def Tri (d : ℕ) (l s : Fin 128) : Prop := if d = 0 then s.val ≤ l.val else l.val ≤ s.val

instance (d : ℕ) (l s : Fin 128) : Decidable (Tri d l s) := by unfold Tri; infer_instance

/-- The sum of the rows up to row `l`, in the direction's order. -/
def cum (d : ℕ) (a : Fin 128 → EReal) (l : Fin 128) : EReal := ∑ s, if Tri d l s then a s else 0

theorem Fi.cum {d : ℕ} {a : Fin 128 → EReal} (h : ∀ s, Fi (a s)) (l : Fin 128) : Fi (Ssd.cum d a l) :=
  Fi.sum _ _ fun s => by split_ifs; exacts [h s, Fi.zero]

/-- The head of a column, and the group of a column. -/
def hd (col : Fin 2048) : Fin 32 := ⟨col.val / 64, by omega⟩
def gp (col : Fin 2048) : Fin 4 := ⟨col.val / 512, by omega⟩
/-- Column `n` of group `g` among the columns of B, or of C. -/
def gcol (g : Fin 4) (n : Fin 128) : Fin 512 := ⟨128 * g.val + n.val, by omega⟩

/-- What a chunk reads: x, B, C, the step sizes, the decay rates. -/
structure Chunk where
  x : Fin 128 → Fin 2048 → EReal
  b : Fin 128 → Fin 512 → EReal
  c : Fin 128 → Fin 512 → EReal
  dt : Fin 128 → Fin 32 → EReal
  an : Fin 32 → EReal

/-- The exponents: step size times decay rate. -/
def Chunk.a (K : Chunk) (h : Fin 32) (s : Fin 128) : EReal := K.dt s h * K.an h

/-- The state after a chunk, from the state before it. -/
def Chunk.state (d : ℕ) (K : Chunk) (S : Fin 2048 → Fin 128 → EReal) (col : Fin 2048) (n : Fin 128) : EReal :=
  S col n * Ideal.exp (∑ s, K.a (hd col) s)
    + ∑ l, K.x l col * K.dt l (hd col) * Ideal.exp ((∑ s, K.a (hd col) s) - cum d (K.a (hd col)) l) * K.b l (gcol (gp col) n)

/-- The result's row `l` in a chunk, from the state before the chunk. -/
def Chunk.y (d : ℕ) (K : Chunk) (S : Fin 2048 → Fin 128 → EReal) (l : Fin 128) (col : Fin 2048) : EReal :=
  (∑ s, if Tri d l s then (∑ n, K.c l (gcol (gp col) n) * K.b s (gcol (gp col) n))
      * Ideal.exp (cum d (K.a (hd col)) l - cum d (K.a (hd col)) s) * (K.x s col * K.dt s (hd col)) else 0)
    + (∑ n, K.c l (gcol (gp col) n) * S col n) * Ideal.exp (cum d (K.a (hd col)) l)

/-- Row `l` of the chunk read at step `c`: the first direction reads the chunks upwards, the second downwards. -/
def row (d : Fin 2) (c : ℕ) (l : Fin 128) : Fin 4096 :=
  ⟨128 * (if d.val = 0 then c % 32 else 31 - c % 32) + l.val, by have := Nat.mod_lt c (by decide : 0 < 32); split <;> omega⟩

/-- The columns of B and of C behind those of x. -/
def xcol (col : Fin 2048) : Fin 3072 := ⟨col.val, by omega⟩
def bcol (k : Fin 512) : Fin 3072 := ⟨2048 + k.val, by omega⟩
def ccol (k : Fin 512) : Fin 3072 := ⟨2560 + k.val, by omega⟩

/-- The head and the place in it, as a column. -/
def hcol (h : Fin 32) (p : Fin 64) : Fin 2048 := ⟨h.val * 64 + p.val, by omega⟩

/-- The arguments of the scan, by coordinates. -/
structure Inputs where
  xbc : Fin 8 → Fin 4096 → Fin 3072 → EReal
  dt : Fin 8 → Fin 4096 → Fin 2 → Fin 32 → EReal
  an : Fin 2 → Fin 32 → EReal
  init : Fin 8 → Fin 2 → Fin 32 → Fin 64 → Fin 128 → EReal

/-- What step `c` of direction `d` reads. -/
def Inputs.chunk (I : Inputs) (b : Fin 8) (d : Fin 2) (c : ℕ) : Chunk where
  x l col := I.xbc b (row d c l) (xcol col)
  b l k := I.xbc b (row d c l) (bcol k)
  c l k := I.xbc b (row d c l) (ccol k)
  dt l h := I.dt b (row d c l) d h
  an h := I.an d h

/-- The state before step `c`. -/
def Inputs.state (I : Inputs) (b : Fin 8) (d : Fin 2) : ℕ → Fin 2048 → Fin 128 → EReal
  | 0 => fun col n => I.init b d (hd col) ⟨col.val % 64, Nat.mod_lt _ (by decide)⟩ n
  | c + 1 => (I.chunk b d c).state d.val (I.state b d c)

/-- The step sizes and the decay rates are finite. -/
structure Inputs.Finite (I : Inputs) : Prop where
  dt : ∀ b t d h, Fi (I.dt b t d h)
  an : ∀ d h, Fi (I.an d h)

/-- The two results. -/
def Inputs.out (I : Inputs) (d : Fin 2) (b : Fin 8) (t : Fin 4096) (col : Fin 2048) : EReal :=
  (I.chunk b d (if d.val = 0 then t.val / 128 else 31 - t.val / 128)).y d.val (I.state b d (if d.val = 0 then t.val / 128 else 31 - t.val / 128))
    ⟨t.val % 128, Nat.mod_lt _ (by decide)⟩ col
def Inputs.fin (I : Inputs) (b : Fin 8) (d : Fin 2) (h : Fin 32) (p : Fin 64) (n : Fin 128) : EReal := I.state b d 32 (hcol h p) n

/-- The first result at a row of a step's chunk. -/
theorem Inputs.out_row (I : Inputs) (b : Fin 8) (d : Fin 2) (c : ℕ) (hc : c < 32) (l : Fin 128) (col : Fin 2048) :
    I.out d b (row d c l) col = (I.chunk b d c).y d.val (I.state b d c) l col := by
  have e : (if d.val = 0 then (row d c l).val / 128 else 31 - (row d c l).val / 128) = c := by
    unfold row; split <;> simp_all <;> omega
  have e' : (⟨(row d c l).val % 128, Nat.mod_lt _ (by decide)⟩ : Fin 128) = l := Fin.ext (by
    unfold row; show (128 * _ + l.val) % 128 = l.val; omega)
  unfold Inputs.out
  rw [e, e']

end Ssd
end
-- ==== Proof.Ssd.Decay.lean ====
module

public import proofs.«01_k».proof.Proof.Gen.KernelIdeal.Skeleton
public import proofs.«01_k».proof.Proof.Ssd.Spec
public import Idealize.ShloMosaic.Lib.Pointwise

/-! The values that all groups of heads share, read at an index: the running sums of the exponents and what is made of
them. Each factor that the body splits in three pieces is finite, so that the pieces are the factor, zero and zero. -/

@[expose] public section
set_option maxRecDepth 16384
noncomputable section
namespace Cert.KernelIdeal.Decay
open Idealize.ShloMosaic Cert.KernelIdeal.Gen Ssd

theorem sub_ge (l s : Fin 128) : IntOp.cmpi .sge (IntOp.subi (BitVec.ofNat 32 l.val) (BitVec.ofNat 32 s.val)) 0#32 = 1#1 ↔ s.val ≤ l.val := by
  revert l s; decide +kernel

/-- The direction's flag. -/
theorem dir_eq (d : ℕ) (hd : d < 2) : Scalar.cmpi .eq (BitVec.ofNat 32 d) 0#32 = if d = 0 then 1#1 else 0#1 := by
  interval_cases d <;> rfl

theorem dir_lt (i : grid0.Coords) : (i 1).val < 2 := (i 1).isLt

theorem mask_apply (i : grid0.Coords) (l s : Fin 128) : k0_pay6 i (ix2 l s) = 1#1 ↔ Tri (i 1).val l s := by
  pointwise [k0_pay6]
  rw [dir_eq _ (dir_lt i)]
  by_cases h : (i 1).val = 0
  · rw [if_pos h, show Tri (i 1).val l s ↔ s.val ≤ l.val from by simp only [Tri, if_pos h]]
    exact sub_ge l s
  · rw [if_neg h, show Tri (i 1).val l s ↔ l.val ≤ s.val from by simp only [Tri, if_neg h]]
    exact sub_ge s l

/-- What the body computes for a column's head. -/
theorem colHead (c : Fin 2048) : (Scalar.select
            (IntOp.andi
              (IntOp.cmpi CmpIPredicate.ne
                (IntOp.subi (BitVec.setWidth 32 (IntOp.cmpi CmpIPredicate.sgt (BitVec.ofNat 32 c.val) 0#32))
                  (BitVec.setWidth 32 (IntOp.cmpi CmpIPredicate.slt (BitVec.ofNat 32 c.val) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 c.val) 64#32) 0#32))
            (IntOp.subi (IntOp.divsi ArithUnit.vector (BitVec.ofNat 32 c.val) 64#32) 1#32)
            (IntOp.divsi ArithUnit.vector (BitVec.ofNat 32 c.val) 64#32) : BitVec 32) = BitVec.ofNat 32 (c.val / 64) := by
  revert c; decide +kernel

theorem word_eq (h k : Fin 32) : IntOp.cmpi .eq (BitVec.ofNat 32 k.val) (BitVec.ofNat 32 h.val) = if h = k then 1#1 else 0#1 := by
  revert h k; decide +kernel

/-- The matrix that repeats a head's value over the head's columns. -/
theorem spread_apply (h : Fin 32) (c : Fin 2048) : k0_pay17 (F := Ideal) (ix2 h c) = if h = hd c then 1 else 0 := by
  pointwise [k0_pay17]
  rw [colHead, show c.val / 64 = (hd c).val from rfl, word_eq h (hd c)]
  split_ifs
  · show (((BitVec.setWidth 32 1#1).toInt : ℝ) : EReal) = 1
    rw [show (BitVec.setWidth 32 1#1).toInt = 1 from by decide]; norm_num
  · show (((BitVec.setWidth 32 0#1).toInt : ℝ) : EReal) = 0
    rw [show (BitVec.setWidth 32 0#1).toInt = 0 from by decide]; norm_num

theorem sum_spread (f : Fin 32 → EReal) (c : Fin 2048) : ∑ h, f h * k0_pay17 (F := Ideal) (ix2 h c) = f (hd c) := by
  simp only [spread_apply, mul_ite, mul_one, mul_zero, Finset.sum_ite_eq', Finset.mem_univ, if_true]

theorem sum_spread' (f : Fin 32 → EReal) (c : Fin 2048) : ∑ h, k0_pay17 (F := Ideal) (ix2 h c) * f h = f (hd c) := by
  simp only [spread_apply, ite_mul, one_mul, zero_mul, Finset.sum_ite_eq', Finset.mem_univ, if_true]

theorem select_mask (i : grid0.Coords) (l s : Fin 128) (x : EReal) :
    Scalar.select (k0_pay6 i (ix2 l s)) x 0 = if Tri (i 1).val l s then x else 0 := by
  by_cases h : Tri (i 1).val l s
  · rw [if_pos h, (mask_apply i l s).mpr h]; rfl
  · rw [if_neg h]
    have : ¬ k0_pay6 i (ix2 l s) = 1#1 := fun e => h ((mask_apply i l s).mp e)
    exact if_neg this

section
variable (i : grid0.Coords) (xb : Vec Ideal S1x128x2048 .f32) (v4 : Vec Ideal S1x1x128x32 .f32) (v6 : Vec Ideal S1x1x32 .f32)

/-- The running sums of the exponents. -/
def acum : FVec Ideal S128x32 .f32 := k0_pay12 i v4 v6
/-- The running sums again, heads along the rows. -/
def acumT : FVec Ideal S32x128 .f32 := k0_pay15 (k0_pay7 i) (k0_pay10 v4 v6) (k0_pay11 v4 v6) (k0_pay13 i v4 v6) k0_pay14
/-- The rows weighted by what of them is left at the end of the chunk. -/
def xw : FVec Ideal S128x2048 .bf16 := k0_pay24 (acum i v4 v6) (k0_pay16 (k0_pay5 v4 v6)) k0_pay17 (k0_pay18 xb)
  (k0_pay19 (k0_pay4 v4)) (k0_pay21 (k0_pay4 v4)) (k0_pay22 (k0_pay4 v4)) (constant S128x2048 .f32 0x00000000#32)
/-- What is left of the state at the end of the chunk. -/
def keep : FVec Ideal S2048x128 .f32 := k0_pay25 (Scalar.cmpi .eq (BitVec.ofNat 32 (i 1).val) 0#32) (acumT i v4 v6) k0_pay17
/-- The rows times their step sizes. -/
def xdt : FVec Ideal S128x2048 .bf16 := k0_pay26 k0_pay17 (k0_pay18 xb)
  (k0_pay19 (k0_pay4 v4)) (k0_pay21 (k0_pay4 v4)) (k0_pay22 (k0_pay4 v4)) (constant S128x2048 .f32 0x00000000#32)
/-- What is left of the state at each row. -/
def osc : FVec Ideal S128x2048 .f32 := k0_pay28 k0_pay17 (k0_pay27 (acum i v4 v6))

/-- The exponents. -/
def ex (h : Fin 32) (s : Fin 128) : EReal := v4 (ix4 0 0 s h) * v6 (ix3 0 0 h)

variable {v4 v6} (h4 : ∀ s h, Fi (v4 (ix4 0 0 s h))) (h6 : ∀ h, Fi (v6 (ix3 0 0 h)))
include h4 h6

theorem ex_fi (h : Fin 32) (s : Fin 128) : Fi (ex v4 v6 h s) := (h4 s h).mul (h6 h)

theorem acum_apply (l : Fin 128) (h : Fin 32) : acum i v4 v6 (ix2 l h) = cum (i 1).val (ex v4 v6 h) l := by
  have e : ∀ s, v4 (ix4 0 0 s h) * v6 (ix3 0 0 h) - v4 (ix4 0 0 s h) * v6 (ix3 0 0 h) = 0 :=
    fun s => Fi.sub_self (ex_fi h4 h6 h s)
  pointwise [acum, k0_pay12, k0_pay7, k0_pay8, k0_pay10, k0_pay11, k0_pay9, k0_pay5, k0_pay4]
  simp only [e, select_mask, sub_zero, ite_self, Finset.sum_const_zero, add_zero]
  rfl

theorem acumT_apply (l : Fin 128) (h : Fin 32) : acumT i v4 v6 (ix2 h l) = cum (i 1).val (ex v4 v6 h) l := by
  have e : ∀ s, v4 (ix4 0 0 s h) * v6 (ix3 0 0 h) - v4 (ix4 0 0 s h) * v6 (ix3 0 0 h) = 0 :=
    fun s => Fi.sub_self (ex_fi h4 h6 h s)
  pointwise [acumT, k0_pay15, k0_pay13, k0_pay14, k0_pay7, k0_pay8, k0_pay10, k0_pay11, k0_pay9, k0_pay5, k0_pay4]
  simp only [e, select_mask, sub_zero, ite_self, Finset.sum_const_zero, add_zero]
  rfl

theorem total_apply (h : Fin 32) : k0_pay16 (k0_pay5 v4 v6) (ix2 0 h) = ∑ s, ex v4 v6 h s := by
  pointwise [k0_pay16, k0_pay5, k0_pay4]
  rfl

omit h6 in
theorem xdt_apply (l : Fin 128) (c : Fin 2048) : xdt xb v4 (ix2 l c) = xb (ix3 0 l c) * v4 (ix4 0 0 l (hd c)) := by
  have e : ∀ s h, v4 (ix4 0 0 s h) - v4 (ix4 0 0 s h) = 0 := fun s h => Fi.sub_self (h4 s h)
  pointwise [xdt, k0_pay26, k0_pay23, k0_pay19, k0_pay21, k0_pay22, k0_pay20, k0_pay18, k0_pay4]
  simp only [e, sub_zero, zero_mul, Finset.sum_const_zero, add_zero, sum_spread (fun h => v4 (ix4 0 0 l h))]

theorem osc_apply (l : Fin 128) (c : Fin 2048) : osc i v4 v6 (ix2 l c) = Ideal.exp (cum (i 1).val (ex v4 v6 (hd c)) l) := by
  have e : ∀ l h, Ideal.exp (acum i v4 v6 (ix2 l h)) - Ideal.exp (acum i v4 v6 (ix2 l h)) = 0 := fun l h => by
    rw [acum_apply i h4 h6]; exact Fi.sub_self (Fi.cum (ex_fi h4 h6 h) l).exp
  pointwise [osc, k0_pay28, k0_pay27]
  simp only [e, sub_zero, zero_mul, Finset.sum_const_zero, add_zero]
  rw [sum_spread (fun h => Ideal.exp (acum i v4 v6 (ix2 l h))), acum_apply i h4 h6]

theorem xw_apply (l : Fin 128) (c : Fin 2048) : xw i xb v4 v6 (ix2 l c)
    = xb (ix3 0 l c) * v4 (ix4 0 0 l (hd c)) * Ideal.exp ((∑ s, ex v4 v6 (hd c) s) - cum (i 1).val (ex v4 v6 (hd c)) l) := by
  have e : ∀ h, v4 (ix4 0 0 l h) - v4 (ix4 0 0 l h) = 0 := fun h => Fi.sub_self (h4 l h)
  have e' : ∀ h, Ideal.exp (k0_pay16 (k0_pay5 v4 v6) (ix2 0 h) - acum i v4 v6 (ix2 l h)) - Ideal.exp (k0_pay16 (k0_pay5 v4 v6) (ix2 0 h) - acum i v4 v6 (ix2 l h)) = 0 := fun h => by
    rw [acum_apply i h4 h6, total_apply h4 h6]
    exact Fi.sub_self ((Fi.sum _ _ (ex_fi h4 h6 h)).sub (Fi.cum (ex_fi h4 h6 h) l)).exp
  pointwise [xw, k0_pay24, k0_pay23, k0_pay19, k0_pay21, k0_pay22, k0_pay20, k0_pay18, k0_pay4]
  simp only [e, e', sub_zero, zero_mul, Finset.sum_const_zero, add_zero]
  rw [sum_spread (fun h => v4 (ix4 0 0 l h)),
    sum_spread (fun h => Ideal.exp (k0_pay16 (k0_pay5 v4 v6) (ix2 0 h) - acum i v4 v6 (ix2 l h))), acum_apply i h4 h6, total_apply h4 h6]

/-- The last row in the direction's order has summed every row. -/
theorem cum_last (a : Fin 128 → EReal) (d : ℕ) : (if d = 0 then cum d a 127 else cum d a 0) = ∑ s, a s := by
  split_ifs with h
  · refine Finset.sum_congr rfl fun s _ => if_pos ?_
    rw [Tri, if_pos h]; exact Nat.le_of_lt_succ s.isLt
  · refine Finset.sum_congr rfl fun s _ => if_pos ?_
    rw [Tri, if_neg h]; exact Nat.zero_le _

theorem keep_apply (c : Fin 2048) (n : Fin 128) : keep i v4 v6 (ix2 c n) = Ideal.exp (∑ s, ex v4 v6 (hd c) s) := by
  have e0 : ∀ h, Scalar.select (Scalar.cmpi .eq (BitVec.ofNat 32 (i 1).val) 0#32) (acumT i v4 v6 (ix2 h 127)) (acumT i v4 v6 (ix2 h 0))
      = ∑ s, ex v4 v6 h s := fun h => by
    rw [acumT_apply i h4 h6, acumT_apply i h4 h6, dir_eq _ (dir_lt i), ← cum_last h4 h6 _ (i 1).val]
    split_ifs <;> rfl
  have e : ∀ h, Ideal.exp (∑ s, ex v4 v6 h s) - Ideal.exp (∑ s, ex v4 v6 h s) = 0 := fun h =>
    Fi.sub_self (Fi.sum _ _ (ex_fi h4 h6 h)).exp
  pointwise [keep, k0_pay25]
  simp only [e0, e, sub_zero, mul_zero, zero_mul, Finset.sum_const_zero, add_zero]
  rw [sum_spread' (fun h => Ideal.exp (∑ s, ex v4 v6 h s))]
end
end Cert.KernelIdeal.Decay
end
-- ==== Proof.Ssd.Pieces.lean ====
module

public import proofs.«01_k».proof.Proof.Gen.KernelIdeal.Skeleton
public import proofs.«01_k».proof.Proof.Ssd.Spec
public import Idealize.ShloMosaic.Lib.Pipeline.Value
public import Idealize.ShloMosaic.Lib.Pointwise

/-! The body stores its state four times, 512 rows a time, and its rows of the result four times, 512 columns a time. Each
store of the state reads the rows it is about to replace. -/

@[expose] public section
set_option maxRecDepth 16384
noncomputable section
namespace Cert.KernelIdeal.Pieces
open Idealize.ShloMosaic Cert.KernelIdeal.Gen Ssd

/-- A row of the state inside its group. -/
def rin (col : Fin 2048) : Fin 512 := ⟨col.val % 512, Nat.mod_lt _ (by decide)⟩
/-- The column `r` of group `g`. -/
def cat (g : Fin 4) (r : Fin 512) : Fin 2048 := ⟨512 * g.val + r.val, by omega⟩

theorem cat_gp (col : Fin 2048) : cat (gp col) (rin col) = col := Fin.ext (Nat.div_add_mod col.val 512)
theorem gp_cat (g : Fin 4) (r : Fin 512) : gp (cat g r) = g := Fin.ext (by show (512 * g.val + r.val) / 512 = g.val; omega)

theorem inb_rows (g : Fin 4) : ∀ a, (![512 * g.val, 0] : Fin 2 → ℕ) a + S512x128.size a ≤ S2048x128.size a := by
  intro a; fin_cases a
  · show 512 * g.val + 512 ≤ 2048; omega
  · exact Nat.le_refl 128
theorem inb_cols (g : Fin 4) : ∀ a, (![0, 0, 0, 512 * g.val] : Fin 4 → ℕ) a + S1x1x128x512.size a ≤ S1x1x128x2048.size a := by
  intro a; fin_cases a
  · exact Nat.le_refl 1
  · exact Nat.le_refl 1
  · exact Nat.le_refl 128
  · show 512 * g.val + 512 ≤ 2048; omega

/-- The rows of group `g` of the state. -/
def rowsOf (g : Fin 4) : Rect S2048x128 := Rect.unit ![512 * g.val, 0] S512x128.size (inb_rows g)
/-- The columns of group `g` of the result's block. -/
def colsOf (g : Fin 4) : Rect S1x1x128x2048 := Rect.unit ![0, 0, 0, 512 * g.val] S1x1x128x512.size (inb_cols g)

theorem rowsOf_idx (g : Fin 4) (r : Fin 512) (n : Fin 128) : (rowsOf g).toLoadRect.idx (ix2 r n) = ix2 (cat g r) n := by
  funext a; apply Fin.ext; fin_cases a
  · show 512 * g.val + 1 * r.val = 512 * g.val + r.val; omega
  · show 0 + 1 * n.val = n.val; omega
theorem rowsOf_emb (g : Fin 4) (r : Fin 512) (n : Fin 128) : (rowsOf g).emb (ix2 r n) = ix2 (cat g r) n := rowsOf_idx g r n
theorem colsOf_emb (g : Fin 4) (l : Fin 128) (r : Fin 512) : (colsOf g).emb (ix4 0 0 l r) = ix4 0 0 l (cat g r) := by
  funext a; apply Fin.ext; fin_cases a
  · rfl
  · rfl
  · show 0 + 1 * l.val = l.val; omega
  · show 512 * g.val + 1 * r.val = 512 * g.val + r.val; omega

theorem canon_rows (g : Fin 4) (w : S512x128.Idx → EReal) (L : List (View.Piece (Elt Ideal) S2048x128 .f32)) (col : Fin 2048) (n : Fin 128) :
    View.canon ((⟨rowsOf g, w⟩ : View.Piece (Elt Ideal) S2048x128 .f32) :: L) (ix2 col n)
      = if gp col = g then w (ix2 (rin col) n) else View.canon L (ix2 col n) := by
  by_cases h : gp col = g
  · rw [if_pos h]; subst h
    have := View.canon_cons_emb (Val := Elt Ideal) (e := .f32) (rowsOf (gp col)) w L (ix2 (rin col) n)
    rwa [rowsOf_emb, cat_gp] at this
  · rw [if_neg h]
    refine View.canon_cons_of_not_mem _ L fun hm => h ?_
    have := ((Rect.mem_set_unit (inb := inb_rows g)).mp hm) (0 : Fin 2)
    have h1 : 512 * g.val ≤ col.val := this.1
    have h2 : col.val < 512 * g.val + 512 := this.2
    exact Fin.ext (by show col.val / 512 = g.val; omega)

theorem canon_cols (g : Fin 4) (w : S1x1x128x512.Idx → EReal) (L : List (View.Piece (Elt Ideal) S1x1x128x2048 .f32)) (col : Fin 2048) (l : Fin 128) :
    View.canon ((⟨colsOf g, w⟩ : View.Piece (Elt Ideal) S1x1x128x2048 .f32) :: L) (ix4 0 0 l col)
      = if gp col = g then w (ix4 0 0 l (rin col)) else View.canon L (ix4 0 0 l col) := by
  by_cases h : gp col = g
  · rw [if_pos h]; subst h
    have := View.canon_cons_emb (Val := Elt Ideal) (e := .f32) (colsOf (gp col)) w L (ix4 0 0 l (rin col))
    rwa [colsOf_emb, cat_gp] at this
  · rw [if_neg h]
    refine View.canon_cons_of_not_mem _ L fun hm => h ?_
    have := ((Rect.mem_set_unit (inb := inb_cols g)).mp hm) (3 : Fin 4)
    have h1 : 512 * g.val ≤ col.val := this.1
    have h2 : col.val < 512 * g.val + 512 := this.2
    exact Fin.ext (by show col.val / 512 = g.val; omega)

/-- The stores of the state: `f g` of the rows that `rd` reads for group `g` after the earlier stores. -/
def rows (rd : List (View.Piece (Elt Ideal) S2048x128 .f32) → Fin 4 → Vec Ideal S512x128 .f32)
    (f : Fin 4 → Vec Ideal S512x128 .f32 → FVec Ideal S512x128 .f32) (L : List (View.Piece (Elt Ideal) S2048x128 .f32)) :
    ℕ → List (View.Piece (Elt Ideal) S2048x128 .f32)
  | 0 => L
  | k + 1 => ⟨rowsOf (Fin.ofNat 4 k), f (Fin.ofNat 4 k) (rd (rows rd f L k) (Fin.ofNat 4 k))⟩ :: rows rd f L k

/-- The stores of the result's block. -/
def cols (w : Fin 4 → FVec Ideal S1x1x128x512 .f32) : ℕ → List (View.Piece (Elt Ideal) S1x1x128x2048 .f32)
  | 0 => []
  | k + 1 => ⟨colsOf (Fin.ofNat 4 k), w (Fin.ofNat 4 k)⟩ :: cols w k

theorem ofNat4 (k : ℕ) (h : k < 4) : (Fin.ofNat 4 k).val = k := Nat.mod_eq_of_lt h

theorem canon_colsTo (w) (k : ℕ) (hk : k ≤ 4) (col : Fin 2048) (hc : (gp col).val < k) (l : Fin 128) :
    View.canon (cols w k) (ix4 0 0 l col) = w (gp col) (ix4 0 0 l (rin col)) := by
  induction k with
  | zero => exact absurd hc (Nat.not_lt_zero _)
  | succ k ih =>
    rw [cols, canon_cols]
    by_cases h : gp col = Fin.ofNat 4 k
    · rw [if_pos h, h]
    · rw [if_neg h]
      refine ih (by omega) ?_
      have : (gp col).val ≠ k := fun e => h (Fin.ext (by rw [ofNat4 k (by omega), e]))
      omega

theorem canon_cols_all (w) (col : Fin 2048) (l : Fin 128) :
    View.canon (cols w 4) (ix4 0 0 l col) = w (gp col) (ix4 0 0 l (rin col)) :=
  canon_colsTo w 4 le_rfl col (gp col).isLt l

section
variable (rd : List (View.Piece (Elt Ideal) S2048x128 .f32) → Fin 4 → Vec Ideal S512x128 .f32)
    (f : Fin 4 → Vec Ideal S512x128 .f32 → FVec Ideal S512x128 .f32) (L : List (View.Piece (Elt Ideal) S2048x128 .f32))

theorem canon_rowsTo (k : ℕ) (hk : k ≤ 4) (col : Fin 2048) (n : Fin 128) :
    View.canon (rows rd f L k) (ix2 col n) = if (gp col).val < k then
      f (gp col) (rd (rows rd f L (gp col).val) (gp col)) (ix2 (rin col) n) else View.canon L (ix2 col n) := by
  induction k with
  | zero => rw [if_neg (Nat.not_lt_zero _)]; rfl
  | succ k ih =>
    rw [rows, canon_rows]
    by_cases h : gp col = Fin.ofNat 4 k
    · have hv : (gp col).val = k := by rw [h, ofNat4 k (by omega)]
      rw [if_pos h, if_pos (by omega), ← h, hv]
    · have : (gp col).val ≠ k := fun e => h (Fin.ext (by rw [ofNat4 k (by omega), e]))
      rw [if_neg h, ih (by omega)]
      by_cases h' : (gp col).val < k
      · rw [if_pos h', if_pos (by omega)]
      · rw [if_neg h', if_neg (by omega)]

theorem canon_rows_all (col : Fin 2048) (n : Fin 128) :
    View.canon (rows rd f L 4) (ix2 col n) = f (gp col) (rd (rows rd f L (gp col).val) (gp col)) (ix2 (rin col) n) := by
  rw [canon_rowsTo rd f L 4 le_rfl, if_pos (gp col).isLt]
end

/-- A reading of the rows of a group through the earlier stores. -/
def rdA (v : View sig .tc .vmem S2048x128 .f32) (l : List (View.Piece (Elt Ideal) S2048x128 .f32)) (g : Fin 4) : Vec Ideal S512x128 .f32 :=
  v.readCov (Val := Elt Ideal) l (rowsOf g).toLoadRect

/-- Such a reading still finds the state before them: they lie in other groups. -/
theorem read_rows (v : View sig .tc .vmem S2048x128 .f32) (f L) (g : Fin 4) (r : Fin 512) (n : Fin 128) :
    rdA v (rows (rdA v) f L g.val) g (ix2 r n) = View.canon L (ix2 (cat g r) n) := by
  refine (congrFun (View.readCov_eq_canon' v _ (rowsOf g).toLoadRect) (ix2 r n)).trans ?_
  refine (congrArg (View.canon (rows (rdA v) f L g.val)) (rowsOf_idx g r n)).trans ?_
  rw [canon_rowsTo _ _ _ _ g.isLt.le, gp_cat, if_neg (lt_irrefl _)]

end Cert.KernelIdeal.Pieces
end
-- ==== Proof.Ssd.Body.lean ====
module

public import proofs.«01_k».proof.Proof.Gen.KernelIdeal.Frame
public import proofs.«01_k».proof.Proof.Ssd.Group
public import proofs.«01_k».proof.Proof.Ssd.Decay
public import proofs.«01_k».proof.Proof.Ssd.Pieces
public import Idealize.ShloMosaic.Lib.WholeRead
public import Idealize.ShloMosaic.Lib.Pipeline.ValueKit.Basic

/-! What one point of the grid leaves in the result's block, in the carried state and in the final state's block. -/

@[expose] public section
set_option maxRecDepth 16384
noncomputable section
namespace Cert.KernelIdeal.Body
open Idealize.ShloMosaic Cert.KernelIdeal.Gen Cert.KernelIdeal.Group Cert.KernelIdeal.Decay Cert.KernelIdeal.Pieces Ssd

theorem inb_bc (g : Fin 4) : ∀ a, (![0, 0, 128 * g.val] : Fin 3 → ℕ) a + S1x128x128.size a ≤ S1x128x512.size a := by
  intro a; fin_cases a
  · exact Nat.le_refl 1
  · exact Nat.le_refl 128
  · show 128 * g.val + 128 ≤ 512; omega

/-- The columns of group `g` in a block of B, or of C. -/
def bcOf (g : Fin 4) : Rect S1x128x512 := Rect.unit ![0, 0, 128 * g.val] S1x128x128.size (inb_bc g)

theorem bcOf_idx (g : Fin 4) (l n : Fin 128) : (bcOf g).toLoadRect.idx (ix3 0 l n) = ix3 0 l (gcol g n) := by
  funext a; apply Fin.ext; fin_cases a
  · rfl
  · show 0 + 1 * l.val = l.val; omega
  · show 128 * g.val + 1 * n.val = 128 * g.val + n.val; omega

section
variable (i : grid0.Coords)
  (arg3 : Memref sig .tc .vmem S1x128x2048 .f32) (harg3 : arg3.IsWhole) (arg4 : Memref sig .tc .vmem S1x128x512 .f32) (harg4 : arg4.IsWhole)
  (arg5 : Memref sig .tc .vmem S1x128x512 .f32) (harg5 : arg5.IsWhole) (arg6 : Memref sig .tc .vmem S1x1x128x32 .f32) (harg6 : arg6.IsWhole)
  (arg7 : Memref sig .tc .vmem S1x1x32 .f32) (harg7 : arg7.IsWhole) (arg8 : Memref sig .tc .vmem S1x1x32x64x128 .f32) (harg8 : arg8.IsWhole)
  (arg9 : Memref sig .tc .vmem S1x1x128x2048 .f32) (harg9 : arg9.IsWhole) (arg10 : Memref sig .tc .vmem S1x1x32x64x128 .f32) (harg10 : arg10.IsWhole)
  (arg11 : Memref sig .tc .vmem S2048x128 .f32) (harg11 : arg11.IsWhole)
  (x0 : Vec Ideal S1x128x2048 .f32) (x1 x2 : Vec Ideal S1x128x512 .f32) (x3 : Vec Ideal S1x1x128x32 .f32) (x4 : Vec Ideal S1x1x32 .f32)
  (x5 : Vec Ideal S1x1x32x64x128 .f32) (xs0 : Vec Ideal S2048x128 .f32)

def ld3 : Vec Ideal S1x128x2048 .f32 := View.readAt (Elt Ideal) arg3.view (Rect.unit ![0, 0, 0] S1x128x2048.size Facts₀.inb_S1x128x2048_S1x128x2048_0_0_0).toLoadRect (harg3.unread x0)
def ld6 : Vec Ideal S1x1x128x32 .f32 := View.readAt (Elt Ideal) arg6.view (Rect.unit ![0, 0, 0, 0] S1x1x128x32.size Facts₀.inb_S1x1x128x32_S1x1x128x32_0_0_0_0).toLoadRect (harg6.unread x3)
def ld7 : Vec Ideal S1x1x32 .f32 := View.readAt (Elt Ideal) arg7.view (Rect.unit ![0, 0, 0] S1x1x32.size Facts₀.inb_S1x1x32_S1x1x32_0_0_0).toLoadRect (harg7.unread x4)
def ldB (g : Fin 4) : Vec Ideal S1x128x128 .f32 := View.readAt (Elt Ideal) arg4.view (bcOf g).toLoadRect (harg4.unread x1)
def ldC (g : Fin 4) : Vec Ideal S1x128x128 .f32 := View.readAt (Elt Ideal) arg5.view (bcOf g).toLoadRect (harg5.unread x2)

/-- What the body stores in the state's rows of group `g`, from what it reads there. -/
def fS (g : Fin 4) (st : Vec Ideal S512x128 .f32) : FVec Ideal S512x128 .f32 :=
  groupS (xw i (ld3 arg3 harg3 x0) (ld6 arg6 harg6 x3) (ld7 arg7 harg7 x4)) (keep i (ld6 arg6 harg6 x3) (ld7 arg7 harg7 x4)) (ldB arg4 harg4 x1 g) st g
/-- What the body stores in the result's columns of group `g`. -/
def fY (g : Fin 4) (st : Vec Ideal S512x128 .f32) : FVec Ideal S1x1x128x512 .f32 :=
  groupY (k0_pay6 i) (acum i (ld6 arg6 harg6 x3) (ld7 arg7 harg7 x4)) (acumT i (ld6 arg6 harg6 x3) (ld7 arg7 harg7 x4))
    (xdt (ld3 arg3 harg3 x0) (ld6 arg6 harg6 x3)) (osc i (ld6 arg6 harg6 x3) (ld7 arg7 harg7 x4)) (ldB arg4 harg4 x1 g) (ldC arg5 harg5 x2 g) st g

def rdB (g : Fin 4) : Vec Ideal S512x128 .f32 := View.readAt (Elt Ideal) arg11.view (rowsOf g).toLoadRect (harg11.unread xs0)

/-- The store of the first state at the first chunk. -/
def initL : List (View.Piece (Elt Ideal) S2048x128 .f32) :=
  [⟨Rect.unit ![0, 0] S2048x128.size Facts₀.inb_S2048x128_S2048x128_0_0, k0_pay3 (View.readAt (Elt Ideal) arg8.view (Rect.unit ![0, 0, 0, 0, 0] S1x1x32x64x128.size Facts₀.inb_S1x1x32x64x128_S1x1x32x64x128_0_0_0_0_0).toLoadRect (harg8.unread x5))⟩]

/-- A reading of the whole state. -/
def rdW (v : View sig .tc .vmem S2048x128 .f32) (l : List (View.Piece (Elt Ideal) S2048x128 .f32)) : Vec Ideal S2048x128 .f32 :=
  v.readCov (Val := Elt Ideal) l (Rect.unit (s := S2048x128) ![0, 0] S2048x128.size Facts₀.inb_S2048x128_S2048x128_0_0).toLoadRect

theorem rdW_apply (v : View sig .tc .vmem S2048x128 .f32) (l) (col : Fin 2048) (n : Fin 128) :
    rdW v l (ix2 col n) = View.canon l (ix2 col n) := by
  unfold rdW
  rw [View.readCov_eq_canon']
  refine congrArg (View.canon l) ?_
  funext a; apply Fin.ext; fin_cases a <;> exact (Nat.zero_add _).trans (Nat.one_mul _)

theorem run_B_state (c : Dev nD) (hc0 : ¬cond0_0 i) :
    (kernelRun0_B (F := Ideal) c i arg3 harg3 arg4 harg4 arg5 harg5 arg6 harg6 arg7 harg7 arg8 harg8 arg9 harg9 arg10 harg10 arg11 harg11 hc0 x0 x1 x2 x3 x4 x5 xs0).2.2.1
      = rows (fun _ g => rdB arg11 harg11 xs0 g) (fS i arg3 harg3 arg4 harg4 arg6 harg6 arg7 harg7 x0 x1 x3 x4) [] 4 := rfl
theorem run_B_y (c : Dev nD) (hc0 : ¬cond0_0 i) :
    (kernelRun0_B (F := Ideal) c i arg3 harg3 arg4 harg4 arg5 harg5 arg6 harg6 arg7 harg7 arg8 harg8 arg9 harg9 arg10 harg10 arg11 harg11 hc0 x0 x1 x2 x3 x4 x5 xs0).1
      = cols (fun g => fY i arg3 harg3 arg4 harg4 arg5 harg5 arg6 harg6 arg7 harg7 x0 x1 x2 x3 x4 g ((fun _ g => rdB arg11 harg11 xs0 g) (rows (fun _ g => rdB arg11 harg11 xs0 g) (fS i arg3 harg3 arg4 harg4 arg6 harg6 arg7 harg7 x0 x1 x3 x4) [] g.val) g)) 4 := rfl
theorem run_B_fin (c : Dev nD) (hc0 : ¬cond0_0 i) :
    (kernelRun0_B (F := Ideal) c i arg3 harg3 arg4 harg4 arg5 harg5 arg6 harg6 arg7 harg7 arg8 harg8 arg9 harg9 arg10 harg10 arg11 harg11 hc0 x0 x1 x2 x3 x4 x5 xs0).2.1
      = [⟨Rect.unit ![0, 0, 0, 0, 0] S1x1x32x64x128.size Facts₀.inb_S1x1x32x64x128_S1x1x32x64x128_0_0_0_0_0,
          k0_pay2 (rdW arg11.view (rows (fun _ g => rdB arg11 harg11 xs0 g) (fS i arg3 harg3 arg4 harg4 arg6 harg6 arg7 harg7 x0 x1 x3 x4) [] 4))⟩] := rfl

theorem run_A_state (c : Dev nD) (hc0 : cond0_0 i) :
    (kernelRun0_A (F := Ideal) c i arg3 harg3 arg4 harg4 arg5 harg5 arg6 harg6 arg7 harg7 arg8 harg8 arg9 harg9 arg10 harg10 arg11 harg11 hc0 x0 x1 x2 x3 x4 x5).2.2.1
      = rows (rdA arg11.view) (fS i arg3 harg3 arg4 harg4 arg6 harg6 arg7 harg7 x0 x1 x3 x4) (initL arg8 harg8 x5) 4 := rfl
theorem run_A_y (c : Dev nD) (hc0 : cond0_0 i) :
    (kernelRun0_A (F := Ideal) c i arg3 harg3 arg4 harg4 arg5 harg5 arg6 harg6 arg7 harg7 arg8 harg8 arg9 harg9 arg10 harg10 arg11 harg11 hc0 x0 x1 x2 x3 x4 x5).1
      = cols (fun g => fY i arg3 harg3 arg4 harg4 arg5 harg5 arg6 harg6 arg7 harg7 x0 x1 x2 x3 x4 g ((rdA arg11.view) (rows (rdA arg11.view) (fS i arg3 harg3 arg4 harg4 arg6 harg6 arg7 harg7 x0 x1 x3 x4) (initL arg8 harg8 x5) g.val) g)) 4 := rfl
theorem run_A_fin (c : Dev nD) (hc0 : cond0_0 i) :
    (kernelRun0_A (F := Ideal) c i arg3 harg3 arg4 harg4 arg5 harg5 arg6 harg6 arg7 harg7 arg8 harg8 arg9 harg9 arg10 harg10 arg11 harg11 hc0 x0 x1 x2 x3 x4 x5).2.1
      = [⟨Rect.unit ![0, 0, 0, 0, 0] S1x1x32x64x128.size Facts₀.inb_S1x1x32x64x128_S1x1x32x64x128_0_0_0_0_0,
          k0_pay2 (rdW arg11.view (rows (rdA arg11.view) (fS i arg3 harg3 arg4 harg4 arg6 harg6 arg7 harg7 x0 x1 x3 x4) (initL arg8 harg8 x5) 4))⟩] := rfl

/-- The point's blocks as a chunk. -/
def chunkOf : Chunk where
  x l c := x0 (ix3 0 l c)
  b l c := x1 (ix3 0 l c)
  c l c := x2 (ix3 0 l c)
  dt l h := x3 (ix4 0 0 l h)
  an h := x4 (ix3 0 0 h)

theorem ld3_eq : ld3 arg3 harg3 x0 = x0 := by
  funext j
  refine (harg3.readAt_unread x0 (Rect.unit ![0, 0, 0] S1x128x2048.size Facts₀.inb_S1x128x2048_S1x128x2048_0_0_0).toLoadRect j).trans (congrArg x0 ?_)
  funext a; apply Fin.ext; fin_cases a <;> exact (Nat.zero_add _).trans (Nat.one_mul _)
theorem ld6_eq : ld6 arg6 harg6 x3 = x3 := by
  funext j
  refine (harg6.readAt_unread x3 (Rect.unit ![0, 0, 0, 0] S1x1x128x32.size Facts₀.inb_S1x1x128x32_S1x1x128x32_0_0_0_0).toLoadRect j).trans (congrArg x3 ?_)
  funext a; apply Fin.ext; fin_cases a <;> exact (Nat.zero_add _).trans (Nat.one_mul _)
theorem ld7_eq : ld7 arg7 harg7 x4 = x4 := by
  funext j
  refine (harg7.readAt_unread x4 (Rect.unit ![0, 0, 0] S1x1x32.size Facts₀.inb_S1x1x32_S1x1x32_0_0_0).toLoadRect j).trans (congrArg x4 ?_)
  funext a; apply Fin.ext; fin_cases a <;> exact (Nat.zero_add _).trans (Nat.one_mul _)
theorem ldB_apply (g : Fin 4) (l n : Fin 128) : ldB arg4 harg4 x1 g (ix3 0 l n) = x1 (ix3 0 l (gcol g n)) :=
  (harg4.readAt_unread x1 _ _).trans (congrArg x1 (bcOf_idx g l n))
theorem ldC_apply (g : Fin 4) (l n : Fin 128) : ldC arg5 harg5 x2 g (ix3 0 l n) = x2 (ix3 0 l (gcol g n)) :=
  (harg5.readAt_unread x2 _ _).trans (congrArg x2 (bcOf_idx g l n))
theorem rdB_apply (g : Fin 4) (r : Fin 512) (n : Fin 128) : rdB arg11 harg11 xs0 g (ix2 r n) = xs0 (ix2 (cat g r) n) :=
  (harg11.readAt_unread xs0 _ _).trans (congrArg xs0 (rowsOf_idx g r n))

theorem initL_apply (col : Fin 2048) (n : Fin 128) :
    View.canon (initL arg8 harg8 x5) (ix2 col n) = x5 (ix5 0 0 (hd col) ⟨col.val % 64, Nat.mod_lt _ (by decide)⟩ n) := by
  refine (congrFun (View.canon_cons_unit_lit (Val := Elt Ideal) (e := .f32) Facts₀.inb_S2048x128_S2048x128_0_0 _ [] (by intro a; fin_cases a <;> rfl)) (ix2 col n)).trans ?_
  have e : (View.readAt (Elt Ideal) arg8.view (Rect.unit ![0, 0, 0, 0, 0] S1x1x32x64x128.size Facts₀.inb_S1x1x32x64x128_S1x1x32x64x128_0_0_0_0_0).toLoadRect (harg8.unread x5)) = x5 := by
    funext j
    refine (harg8.readAt_unread x5 (Rect.unit ![0, 0, 0, 0, 0] S1x1x32x64x128.size Facts₀.inb_S1x1x32x64x128_S1x1x32x64x128_0_0_0_0_0).toLoadRect j).trans (congrArg x5 ?_)
    funext a; apply Fin.ext; fin_cases a <;> exact (Nat.zero_add _).trans (Nat.one_mul _)
  rw [e]
  pointwise [k0_pay3]
  rfl

theorem fin_apply (v : Vec Ideal S2048x128 .f32) (h : Fin 32) (p : Fin 64) (n : Fin 128) :
    k0_pay2 v (ix5 0 0 h p n) = v (ix2 (hcol h p) n) := by
  pointwise [k0_pay2]
  rfl

section
variable (h3 : ∀ s h, Fi (x3 (ix4 0 0 s h))) (h4 : ∀ h, Fi (x4 (ix3 0 0 h)))
include h3 h4

theorem fS_apply (S : Fin 2048 → Fin 128 → EReal) (col : Fin 2048) (n : Fin 128) (st : Vec Ideal S512x128 .f32)
    (hst : ∀ r n, st (ix2 r n) = S (cat (gp col) r) n) :
    fS i arg3 harg3 arg4 harg4 arg6 harg6 arg7 harg7 x0 x1 x3 x4 (gp col) st (ix2 (rin col) n)
      = (chunkOf x0 x1 x2 x3 x4).state (i 1).val S col n := by
  rw [fS, groupS_apply _ _ _ _ (gp col) (rin col) n col (congrArg Fin.val (cat_gp col)).symm, hst, cat_gp, ld6_eq, ld7_eq, ld3_eq,
    keep_apply i h3 h4]
  simp only [xw_apply i x0 h3 h4, ldB_apply]
  rfl

theorem fY_apply (S : Fin 2048 → Fin 128 → EReal) (l : Fin 128) (col : Fin 2048) (st : Vec Ideal S512x128 .f32)
    (hst : ∀ r n, st (ix2 r n) = S (cat (gp col) r) n) :
    fY i arg3 harg3 arg4 harg4 arg5 harg5 arg6 harg6 arg7 harg7 x0 x1 x2 x3 x4 (gp col) st (ix4 0 0 l (rin col))
      = (chunkOf x0 x1 x2 x3 x4).y (i 1).val S l col := by
  rw [fY, groupY_apply _ _ _ _ _ _ _ _ (gp col) l (rin col) col (congrArg Fin.val (cat_gp col)).symm (hd col) rfl, ld6_eq, ld7_eq, ld3_eq]
  simp only [hst, cat_gp, osc_apply i h3 h4, acum_apply i h3 h4, acumT_apply i h3 h4, xdt_apply x0 h3, ldB_apply, ldC_apply, mask_apply]
  rfl

theorem sout_B (c : Dev nD) (hc0 : ¬cond0_0 i) (col : Fin 2048) (n : Fin 128) :
    sout0_B_0 (F := Ideal) c i arg3 harg3 arg4 harg4 arg5 harg5 arg6 harg6 arg7 harg7 arg8 harg8 arg9 harg9 arg10 harg10 arg11 harg11 hc0 x0 x1 x2 x3 x4 x5 xs0 (ix2 col n)
      = (chunkOf x0 x1 x2 x3 x4).state (i 1).val (fun col n => xs0 (ix2 col n)) col n := by
  refine (congrFun (View.read_writes_junk_eq_canon VS0_0 _) (ix2 col n)).trans ?_
  rw [run_B_state, canon_rows_all]
  exact fS_apply i arg3 harg3 arg4 harg4 arg6 harg6 arg7 harg7 x0 x1 x2 x3 x4 h3 h4 (fun col n => xs0 (ix2 col n)) col n _ (fun r n => rdB_apply arg11 harg11 xs0 _ r n)

theorem yout_B (c : Dev nD) (hc0 : ¬cond0_0 i) (l : Fin 128) (col : Fin 2048) :
    out0_B_6 (F := Ideal) c i arg3 harg3 arg4 harg4 arg5 harg5 arg6 harg6 arg7 harg7 arg8 harg8 arg9 harg9 arg10 harg10 arg11 harg11 hc0 x0 x1 x2 x3 x4 x5 xs0 (ix4 0 0 l col)
      = (chunkOf x0 x1 x2 x3 x4).y (i 1).val (fun col n => xs0 (ix2 col n)) l col := by
  refine (congrFun (View.read_writes_junk_eq_canon VO0_6 _) (ix4 0 0 l col)).trans ?_
  rw [run_B_y, canon_cols_all]
  exact fY_apply i arg3 harg3 arg4 harg4 arg5 harg5 arg6 harg6 arg7 harg7 x0 x1 x2 x3 x4 h3 h4 (fun col n => xs0 (ix2 col n)) l col _ (fun r n => rdB_apply arg11 harg11 xs0 _ r n)

theorem fout_B (c : Dev nD) (hc0 : ¬cond0_0 i) (h : Fin 32) (p : Fin 64) (n : Fin 128) :
    out0_B_7 (F := Ideal) c i arg3 harg3 arg4 harg4 arg5 harg5 arg6 harg6 arg7 harg7 arg8 harg8 arg9 harg9 arg10 harg10 arg11 harg11 hc0 x0 x1 x2 x3 x4 x5 xs0 (ix5 0 0 h p n)
      = (chunkOf x0 x1 x2 x3 x4).state (i 1).val (fun col n => xs0 (ix2 col n)) (hcol h p) n := by
  refine (congrFun (View.read_writes_junk_eq_canon VO0_7 _) (ix5 0 0 h p n)).trans ?_
  rw [run_B_fin]
  refine (congrFun (View.canon_cons_unit_lit (Val := Elt Ideal) (e := .f32) Facts₀.inb_S1x1x32x64x128_S1x1x32x64x128_0_0_0_0_0 _ [] (by intro a; fin_cases a <;> rfl)) (ix5 0 0 h p n)).trans ?_
  refine (fin_apply _ h p n).trans ?_
  refine (rdW_apply arg11.view _ (hcol h p) n).trans ((canon_rows_all _ _ _ (hcol h p) n).trans
    (fS_apply i arg3 harg3 arg4 harg4 arg6 harg6 arg7 harg7 x0 x1 x2 x3 x4 h3 h4 (fun col n => xs0 (ix2 col n)) (hcol h p) n _ (fun r n => rdB_apply arg11 harg11 xs0 _ r n)))

theorem sout_A (c : Dev nD) (hc0 : cond0_0 i) (col : Fin 2048) (n : Fin 128) :
    sout0_A_0 (F := Ideal) c i arg3 harg3 arg4 harg4 arg5 harg5 arg6 harg6 arg7 harg7 arg8 harg8 arg9 harg9 arg10 harg10 arg11 harg11 hc0 x0 x1 x2 x3 x4 x5 (ix2 col n)
      = (chunkOf x0 x1 x2 x3 x4).state (i 1).val (fun col n => x5 (ix5 0 0 (hd col) ⟨col.val % 64, Nat.mod_lt _ (by decide)⟩ n)) col n := by
  refine (congrFun (View.read_writes_junk_eq_canon VS0_0 _) (ix2 col n)).trans ?_
  rw [run_A_state, canon_rows_all]
  exact fS_apply i arg3 harg3 arg4 harg4 arg6 harg6 arg7 harg7 x0 x1 x2 x3 x4 h3 h4 (fun col n => x5 (ix5 0 0 (hd col) ⟨col.val % 64, Nat.mod_lt _ (by decide)⟩ n)) col n _ (fun r n => (read_rows arg11.view _ _ _ r n).trans (initL_apply arg8 harg8 x5 _ n))

theorem yout_A (c : Dev nD) (hc0 : cond0_0 i) (l : Fin 128) (col : Fin 2048) :
    out0_A_6 (F := Ideal) c i arg3 harg3 arg4 harg4 arg5 harg5 arg6 harg6 arg7 harg7 arg8 harg8 arg9 harg9 arg10 harg10 arg11 harg11 hc0 x0 x1 x2 x3 x4 x5 (ix4 0 0 l col)
      = (chunkOf x0 x1 x2 x3 x4).y (i 1).val (fun col n => x5 (ix5 0 0 (hd col) ⟨col.val % 64, Nat.mod_lt _ (by decide)⟩ n)) l col := by
  refine (congrFun (View.read_writes_junk_eq_canon VO0_6 _) (ix4 0 0 l col)).trans ?_
  rw [run_A_y, canon_cols_all]
  exact fY_apply i arg3 harg3 arg4 harg4 arg5 harg5 arg6 harg6 arg7 harg7 x0 x1 x2 x3 x4 h3 h4 (fun col n => x5 (ix5 0 0 (hd col) ⟨col.val % 64, Nat.mod_lt _ (by decide)⟩ n)) l col _ (fun r n => (read_rows arg11.view _ _ _ r n).trans (initL_apply arg8 harg8 x5 _ n))

theorem fout_A (c : Dev nD) (hc0 : cond0_0 i) (h : Fin 32) (p : Fin 64) (n : Fin 128) :
    out0_A_7 (F := Ideal) c i arg3 harg3 arg4 harg4 arg5 harg5 arg6 harg6 arg7 harg7 arg8 harg8 arg9 harg9 arg10 harg10 arg11 harg11 hc0 x0 x1 x2 x3 x4 x5 (ix5 0 0 h p n)
      = (chunkOf x0 x1 x2 x3 x4).state (i 1).val (fun col n => x5 (ix5 0 0 (hd col) ⟨col.val % 64, Nat.mod_lt _ (by decide)⟩ n)) (hcol h p) n := by
  refine (congrFun (View.read_writes_junk_eq_canon VO0_7 _) (ix5 0 0 h p n)).trans ?_
  rw [run_A_fin]
  refine (congrFun (View.canon_cons_unit_lit (Val := Elt Ideal) (e := .f32) Facts₀.inb_S1x1x32x64x128_S1x1x32x64x128_0_0_0_0_0 _ [] (by intro a; fin_cases a <;> rfl)) (ix5 0 0 h p n)).trans ?_
  refine (fin_apply _ h p n).trans ?_
  refine (rdW_apply arg11.view _ (hcol h p) n).trans ((canon_rows_all _ _ _ (hcol h p) n).trans
    (fS_apply i arg3 harg3 arg4 harg4 arg6 harg6 arg7 harg7 x0 x1 x2 x3 x4 h3 h4 (fun col n => x5 (ix5 0 0 (hd col) ⟨col.val % 64, Nat.mod_lt _ (by decide)⟩ n)) (hcol h p) n _ (fun r n => (read_rows arg11.view _ _ _ r n).trans (initL_apply arg8 harg8 x5 _ n))))
end
end
end Cert.KernelIdeal.Body
end
-- ==== Proof.Ssd.Run.lean ====
module

public import proofs.«01_k».proof.Proof.Gen.KernelIdeal.Value
public import proofs.«01_k».proof.Proof.Ssd.Body
public import Idealize.ShloMosaic.Lib.Pipeline.Covers

/-! The kernel's grid as the recurrence over the chunks: the state each point leaves, and the two arrays after the run. -/

@[expose] public section
set_option maxRecDepth 16384
noncomputable section
namespace Cert.KernelIdeal.Scan
open Idealize.ShloMosaic Idealize.ShloMosaic.TcCoe Cert.KernelIdeal Cert.KernelIdeal.Gen Cert.KernelIdeal.Body Ssd

variable (m : (ℓ : Loc nD τ sig) → Buf (Elt Ideal) ℓ)

/-- The chunk a point reads. -/
def chk (t : ℕ) : ℕ := if t / 32 % 2 = 0 then t % 32 else 31 - t % 32

theorem cd1 : ∀ t : Fin cfg0.N, (grid0.coords t 1).val = t.val / 32 % 2 := (by decide +kernel : ∀ t : Fin grid0.N, _)
theorem e0 : ∀ t : Fin cfg0.N, win0_0.index t = ![t.val / 64, chk t.val, 0] := (by decide +kernel : ∀ t : Fin grid0.N, _)
theorem e1 : ∀ t : Fin cfg0.N, win0_1.index t = ![t.val / 64, chk t.val, 4] := (by decide +kernel : ∀ t : Fin grid0.N, _)
theorem e2 : ∀ t : Fin cfg0.N, win0_2.index t = ![t.val / 64, chk t.val, 5] := (by decide +kernel : ∀ t : Fin grid0.N, _)
theorem e3 : ∀ t : Fin cfg0.N, win0_3.index t = ![t.val / 64, t.val / 32 % 2, chk t.val, 0] := (by decide +kernel : ∀ t : Fin grid0.N, _)
theorem e4 : ∀ t : Fin cfg0.N, win0_4.index t = ![t.val / 32 % 2, 0, 0] := (by decide +kernel : ∀ t : Fin grid0.N, _)
theorem e5 : ∀ t : Fin cfg0.N, win0_5.index t = ![t.val / 64, t.val / 32 % 2, 0, 0, 0] := (by decide +kernel : ∀ t : Fin grid0.N, _)
theorem e6 : ∀ t : Fin cfg0.N, win0_6.index t = ![t.val / 32 % 2, t.val / 64, chk t.val, 0] := (by decide +kernel : ∀ t : Fin grid0.N, _)
theorem e7 : ∀ t : Fin cfg0.N, win0_7.index t = ![t.val / 64, t.val / 32 % 2, 0, 0, 0] := (by decide +kernel : ∀ t : Fin grid0.N, _)

/-- The arguments, by coordinates. -/
def inp (c : Dev nD) : Inputs where
  xbc b t k := m ((c : Thread nD τ).loc main_arg0) (ix3 b t k)
  dt b t d h := m ((c : Thread nD τ).loc main_arg1) (ix4 b t d h)
  an d h := m ((c : Thread nD τ).loc main_arg2) (ix2 d h)
  init b d h p n := m ((c : Thread nD τ).loc main_arg3) (ix5 b d h p n)

/-- The batch and the direction of a point. -/
def pb (t : Fin cfg0.N) : Fin 8 := ⟨t.val / 64, by have := lt_of_lt_of_eq t.isLt N_0; omega⟩
def pd (t : Fin cfg0.N) : Fin 2 := ⟨t.val / 32 % 2, by omega⟩

theorem row_val (t : Fin cfg0.N) (l : Fin 128) : (row (pd t) (t.val % 32) l).val = 128 * chk t.val + l.val := by
  simp only [row, pd, chk, Nat.mod_mod]

theorem V_v0 (c : Dev nD) (b : Fin 8) (d : Fin 2) (t : Fin 4096) (h : Fin 32) :
    V m c main_v0 (ix4 b d t h) = m ((c : Thread nD τ).loc main_arg1) (ix4 b t d h) := by
  have e : V m c main_v0 = transpose S8x2x4096x32 [0, 2, 1, 3] (m ((c : Thread nD τ).loc main_arg1)) transposes_S8x4096x2x32_S8x2x4096x32_0_2_1_3 := by
    unfold V hostOps0
    after_results
  rw [e]
  pointwise
theorem V_v1 (c : Dev nD) (d : Fin 2) (h : Fin 32) :
    V m c main_v1 (ix3 d 0 h) = m ((c : Thread nD τ).loc main_arg2) (ix2 d h) := by
  have e : V m c main_v1 = shapeCast S2x1x32 (m ((c : Thread nD τ).loc main_arg2)) shapeCasts_S2x32_S2x1x32 := by
    unfold V hostOps0
    after_results
    rfl
  rw [e]
  pointwise

theorem b0 (c : Dev nD) (t : Fin cfg0.N) (l : Fin 128) (col : Fin 2048) :
    X0_0 m c t (ix3 0 l col) = (inp m c).xbc (pb t) (row (pd t) (t.val % 32) l) (xcol col) := by
  unfold X0_0 Pipeline.Window.fill
  rw [dif_pos (moved0_0 t _)]
  unfold iblk
  blk_simp
  show V m c main_arg0 _ = _
  rw [V_main_arg0]
  refine congrArg (m ((c : Thread nD τ).loc main_arg0)) ?_
  have := row_val t l
  blk_ext [e0, pb, xcol]
theorem b1 (c : Dev nD) (t : Fin cfg0.N) (l : Fin 128) (k : Fin 512) :
    iblk m c 1 t (ix3 0 l k) = (inp m c).xbc (pb t) (row (pd t) (t.val % 32) l) (bcol k) := by
  unfold iblk
  blk_simp
  rw [V_main_arg0]
  refine congrArg (m ((c : Thread nD τ).loc main_arg0)) ?_
  have := row_val t l
  blk_ext [e1, pb, bcol]
theorem b2 (c : Dev nD) (t : Fin cfg0.N) (l : Fin 128) (k : Fin 512) :
    iblk m c 2 t (ix3 0 l k) = (inp m c).xbc (pb t) (row (pd t) (t.val % 32) l) (ccol k) := by
  unfold iblk
  blk_simp
  rw [V_main_arg0]
  refine congrArg (m ((c : Thread nD τ).loc main_arg0)) ?_
  have := row_val t l
  blk_ext [e2, pb, ccol]
theorem b3 (c : Dev nD) (t : Fin cfg0.N) (l : Fin 128) (h : Fin 32) :
    iblk m c 3 t (ix4 0 0 l h) = (inp m c).dt (pb t) (row (pd t) (t.val % 32) l) (pd t) h := by
  unfold iblk
  blk_simp
  refine Eq.trans (congrArg (V m c main_v0) ?_) (V_v0 m c (pb t) (pd t) (row (pd t) (t.val % 32) l) h)
  have := row_val t l
  have hd : (pd t).val = t.val / 32 % 2 := rfl
  blk_ext [e3, pb, hd]
theorem b4 (c : Dev nD) (t : Fin cfg0.N) (h : Fin 32) :
    iblk m c 4 t (ix3 0 0 h) = (inp m c).an (pd t) h := by
  unfold iblk
  blk_simp
  refine Eq.trans (congrArg (V m c main_v1) ?_) (V_v1 m c (pd t) h)
  blk_ext [e4, pd]
theorem b5 (c : Dev nD) (t : Fin cfg0.N) (h : Fin 32) (p : Fin 64) (n : Fin 128) :
    iblk m c 5 t (ix5 0 0 h p n) = (inp m c).init (pb t) (pd t) h p n := by
  unfold iblk
  blk_simp
  rw [V_main_arg3]
  refine congrArg (m ((c : Thread nD τ).loc main_arg3)) ?_
  blk_ext [e5, pb, pd]

/-- The chunk of a point. -/
theorem chunk_eq (c : Dev nD) (t : Fin cfg0.N) :
    chunkOf (X0_0 m c t) (iblk m c 1 t) (iblk m c 2 t) (iblk m c 3 t) (iblk m c 4 t) = (inp m c).chunk (pb t) (pd t) (t.val % 32) := by
  unfold chunkOf Inputs.chunk
  congr 1
  · funext l col; exact b0 m c t l col
  · funext l col; exact b1 m c t l col
  · funext l col; exact b2 m c t l col
  · funext l col; exact b3 m c t l col
  · funext h; exact b4 m c t h

section
variable (c : Dev nD) (hf : (inp m c).Finite)
include hf

theorem f3 (t : Fin cfg0.N) (s : Fin 128) (h : Fin 32) : Fi (iblk m c 3 t (ix4 0 0 s h)) := by rw [b3]; exact hf.dt _ _ _ _
theorem f4 (t : Fin cfg0.N) (h : Fin 32) : Fi (iblk m c 4 t (ix3 0 0 h)) := by rw [b4]; exact hf.an _ _

/-- The state a point starts from: the argument's at a first chunk, else what the point before left. -/
def before (t : Fin cfg0.N) : Fin 2048 → Fin 128 → EReal := (inp m c).state (pb t) (pd t) (t.val % 32)

/-- What a point leaves, given the state it starts from. -/
def Leaves (t : Fin cfg0.N) : Prop :=
  (∀ col n, (outsAt0 m c t.val t.isLt).2.2 (ix2 col n) = (inp m c).state (pb t) (pd t) (t.val % 32 + 1) col n)
  ∧ (∀ l col, (outsAt0 m c t.val t.isLt).1 (ix4 0 0 l col) = ((inp m c).chunk (pb t) (pd t) (t.val % 32)).y (pd t).val ((inp m c).state (pb t) (pd t) (t.val % 32)) l col)
  ∧ (∀ h p n, (outsAt0 m c t.val t.isLt).2.1 (ix5 0 0 h p n) = (inp m c).state (pb t) (pd t) (t.val % 32 + 1) (hcol h p) n)

theorem leaves_first (t : Fin cfg0.N) (h0 : t.val % 32 = 0) : Leaves m c t := by
  have e : (fun (col : Fin 2048) (n : Fin 128) => iblk m c 5 t (ix5 0 0 (hd col) ⟨col.val % 64, Nat.mod_lt _ (by decide)⟩ n))
      = (inp m c).state (pb t) (pd t) (t.val % 32) := by
    rw [h0]; funext col n; exact b5 m c t _ _ _
  unfold Leaves
  simp only [outsAt0_A m c t h0]
  refine ⟨fun col n => ?_, fun l col => ?_, fun h p n => ?_⟩
  · refine (sout_A (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (X0_0 m c t) (iblk m c 1 t) (iblk m c 2 t) (iblk m c 3 t) (iblk m c 4 t) (iblk m c 5 t) (f3 m c hf t) (f4 m c hf t) c ((hcond0_0 t).mpr h0) col n).trans ?_
    rw [chunk_eq, e, cd1]; rfl
  · refine (yout_A (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (X0_0 m c t) (iblk m c 1 t) (iblk m c 2 t) (iblk m c 3 t) (iblk m c 4 t) (iblk m c 5 t) (f3 m c hf t) (f4 m c hf t) c ((hcond0_0 t).mpr h0) l col).trans ?_
    rw [chunk_eq, e, cd1]; rfl
  · refine (fout_A (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (X0_0 m c t) (iblk m c 1 t) (iblk m c 2 t) (iblk m c 3 t) (iblk m c 4 t) (iblk m c 5 t) (f3 m c hf t) (f4 m c hf t) c ((hcond0_0 t).mpr h0) h p n).trans ?_
    rw [chunk_eq, e, cd1]; rfl

theorem leaves_next (t : Fin cfg0.N) (h0 : ¬t.val % 32 = 0)
    (ih : ∀ col n, (outsAt0 m c (t.val - 1) (Nat.lt_of_le_of_lt (Nat.sub_le _ _) t.isLt)).2.2 (ix2 col n) = (inp m c).state (pb t) (pd t) (t.val % 32) col n) :
    Leaves m c t := by
  have e := funext fun col => funext fun n => ih col n
  unfold Leaves
  simp only [outsAt0_B m c t h0]
  refine ⟨fun col n => ?_, fun l col => ?_, fun h p n => ?_⟩
  · refine (sout_B (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (X0_0 m c t) (iblk m c 1 t) (iblk m c 2 t) (iblk m c 3 t) (iblk m c 4 t) (iblk m c 5 t) (outsAt0 m c (t.val - 1) (Nat.lt_of_le_of_lt (Nat.sub_le _ _) t.isLt)).2.2 (f3 m c hf t) (f4 m c hf t) c (fun h => h0 ((hcond0_0 t).mp h)) col n).trans ?_
    rw [chunk_eq, e, cd1]; rfl
  · refine (yout_B (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (X0_0 m c t) (iblk m c 1 t) (iblk m c 2 t) (iblk m c 3 t) (iblk m c 4 t) (iblk m c 5 t) (outsAt0 m c (t.val - 1) (Nat.lt_of_le_of_lt (Nat.sub_le _ _) t.isLt)).2.2 (f3 m c hf t) (f4 m c hf t) c (fun h => h0 ((hcond0_0 t).mp h)) l col).trans ?_
    rw [chunk_eq, e, cd1]; rfl
  · refine (fout_B (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (X0_0 m c t) (iblk m c 1 t) (iblk m c 2 t) (iblk m c 3 t) (iblk m c 4 t) (iblk m c 5 t) (outsAt0 m c (t.val - 1) (Nat.lt_of_le_of_lt (Nat.sub_le _ _) t.isLt)).2.2 (f3 m c hf t) (f4 m c hf t) c (fun h => h0 ((hcond0_0 t).mp h)) h p n).trans ?_
    rw [chunk_eq, e, cd1]; rfl

theorem leaves : ∀ (k : ℕ) (hk : k < cfg0.N), Leaves m c ⟨k, hk⟩
  | 0, hk => leaves_first m c hf ⟨0, hk⟩ rfl
  | k + 1, hk => by
    by_cases h0 : (k + 1) % 32 = 0
    · exact leaves_first m c hf ⟨k + 1, hk⟩ h0
    · refine leaves_next m c hf ⟨k + 1, hk⟩ h0 fun col n => ?_
      refine ((leaves k (Nat.lt_of_succ_lt hk)).1 col n).trans ?_
      have hb : pb ⟨k, Nat.lt_of_succ_lt hk⟩ = pb ⟨k + 1, hk⟩ := Fin.ext (show k / 64 = (k + 1) / 64 by omega)
      have hd : pd ⟨k, Nat.lt_of_succ_lt hk⟩ = pd ⟨k + 1, hk⟩ := Fin.ext (show k / 32 % 2 = (k + 1) / 32 % 2 by omega)
      have hc : k % 32 + 1 = (k + 1) % 32 := by omega
      rw [hb, hd]
      show (inp m c).state _ _ (k % 32 + 1) col n = (inp m c).state _ _ ((k + 1) % 32) col n
      rw [hc]

/-- The first result after the run. -/
theorem out_eq : (dats m 0 c).arrAt 6 cfg0.N = fun i => (inp m c).out (i 0) (i 1) (i 2) (i 3) := by
  refine (dats m 0 c).arrAt_eq_of_covers 6 _ (by decide +kernel) fun t hfl y => ?_
  blk_simp
  rw [after0_6]
  obtain ⟨_, hy, _⟩ := leaves m c hf t.val t.isLt
  idx_bounds y
  have ey : y = ix4 0 0 (y 2) (y 3) := by
    blk_ext
  refine (congrArg _ ey).trans ((hy (y 2) (y 3)).trans ?_)
  rw [← Inputs.out_row (inp m c) (pb t) (pd t) (t.val % 32) (Nat.mod_lt _ (by decide)) (y 2) (y 3)]
  have hr := row_val t (y 2)
  have h0 : pd t = ((cfg0.win 6).blk t).view.emb y 0 := Fin.ext (by blk_simp [e6, pd])
  have h1 : pb t = ((cfg0.win 6).blk t).view.emb y 1 := Fin.ext (by blk_simp [e6, pb])
  have h2 : row (pd t) (t.val % 32) (y 2) = ((cfg0.win 6).blk t).view.emb y 2 := Fin.ext (by blk_simp [e6]; omega)
  have h3 : y 3 = ((cfg0.win 6).blk t).view.emb y 3 := Fin.ext (by blk_simp [e6])
  exact congr (congr (congr (congrArg (inp m c).out h0) h1) h2) h3

theorem fin_eq : (dats m 0 c).arrAt 7 cfg0.N = fun i => (inp m c).fin (i 0) (i 1) (i 2) (i 3) (i 4) := by
  refine (dats m 0 c).arrAt_eq_of_covers 7 _ (by decide +kernel) fun t hfl y => ?_
  have ht : t.val % 32 = 31 := (flush0_7 t).mp hfl
  blk_simp
  rw [after0_7]
  idx_bounds y
  obtain ⟨_, _, hy⟩ := leaves m c hf t.val t.isLt
  have ey : y = ix5 0 0 (y 2) (y 3) (y 4) := by
    blk_ext
  refine (congrArg _ ey).trans ((hy (y 2) (y 3) (y 4)).trans ?_)
  rw [show t.val % 32 + 1 = 32 by omega]
  have h0 : pb t = ((cfg0.win 7).blk t).view.emb y 0 := Fin.ext (by blk_simp [e7, pb])
  have h1 : pd t = ((cfg0.win 7).blk t).view.emb y 1 := Fin.ext (by blk_simp [e7, pd])
  have h2 : y 2 = ((cfg0.win 7).blk t).view.emb y 2 := Fin.ext (by blk_simp [e7])
  have h3 : y 3 = ((cfg0.win 7).blk t).view.emb y 3 := Fin.ext (by blk_simp [e7])
  have h4 : y 4 = ((cfg0.win 7).blk t).view.emb y 4 := Fin.ext (by blk_simp [e7])
  exact congr (congr (congr (congr (congrArg (inp m c).fin h0) h1) h2) h3) h4
end
end Cert.KernelIdeal.Scan
end
-- ==== Proof.Ssd.RefDefs.lean ====
module

public import proofs.«01_k».proof.Proof.Gen.ReferenceIdeal.Run
public import proofs.«01_k».proof.Proof.Ssd.Spec
public import Idealize.ShloMosaic.Lib.Pointwise

/-! The arrays which the reference prepares for its loop, each as one term. -/

@[expose] public section
set_option maxRecDepth 16384
noncomputable section
namespace Cert.ReferenceIdeal.Scan
open Idealize.ShloMosaic Idealize.ShloMosaic.TcCoe Idealize.ShloMosaic.StableHlo Cert.ReferenceIdeal Cert.ReferenceIdeal.Gen Cert.ReferenceIdeal.Value Ssd

section
variable (a0 : Vec Ideal S8x4096x3072 .f32) (a1 : Vec Ideal S8x4096x2x32 .f32) (a2 : Vec Ideal S2x32 .f32) (a3 : Vec Ideal S8x2x32x64x128 .f32)

/-- x, B and C of one direction, then of both, the second read from the end. -/
def xs1 : Vec Ideal S8x4096x32x64 .f32 := shapeCast _ (extractStridedSlice S8x4096x2048 ![0, 0, 0] a0 slices_S8x4096x3072_S8x4096x2048_0_0_0) shapeCasts_S8x4096x2048_S8x4096x32x64
def xs : Vec Ideal S2x8x4096x32x64 .f32 := concatenate S2x8x4096x32x64 0
  [⟨S1x8x4096x32x64, broadcastInDim S1x8x4096x32x64 ![1, 2, 3, 4] bcast_S8x4096x32x64_S1x8x4096x32x64_1_2_3_4 (xs1 a0)⟩,
   ⟨S1x8x4096x32x64, broadcastInDim S1x8x4096x32x64 ![1, 2, 3, 4] bcast_S8x4096x32x64_S1x8x4096x32x64_1_2_3_4 (Host.reverse [1] (xs1 a0))⟩]
  concatenates_S1x8x4096x32x64_S1x8x4096x32x64_S2x8x4096x32x64_d0
def two (v : Vec Ideal S8x4096x4x128 .f32) : Vec Ideal S2x8x32x128x4x128 .f32 := shapeCast _ (concatenate S2x8x4096x4x128 0
  [⟨S1x8x4096x4x128, broadcastInDim S1x8x4096x4x128 ![1, 2, 3, 4] bcast_S8x4096x4x128_S1x8x4096x4x128_1_2_3_4 v⟩,
   ⟨S1x8x4096x4x128, broadcastInDim S1x8x4096x4x128 ![1, 2, 3, 4] bcast_S8x4096x4x128_S1x8x4096x4x128_1_2_3_4 (Host.reverse [1] v)⟩]
  concatenates_S1x8x4096x4x128_S1x8x4096x4x128_S2x8x4096x4x128_d0) shapeCasts_S2x8x4096x4x128_S2x8x32x128x4x128
def bs : Vec Ideal S2x8x32x128x4x128 .f32 :=
  two (shapeCast _ (extractStridedSlice S8x4096x512 ![0, 0, 2048] a0 slices_S8x4096x3072_S8x4096x512_0_0_2048) shapeCasts_S8x4096x512_S8x4096x4x128)
def cs : Vec Ideal S2x8x32x128x4x128 .f32 :=
  two (shapeCast _ (extractStridedSlice S8x4096x512 ![0, 0, 2560] a0 slices_S8x4096x3072_S8x4096x512_0_0_2560) shapeCasts_S8x4096x512_S8x4096x4x128)

/-- The step sizes of both directions. -/
def dts : Vec Ideal S2x8x4096x32 .f32 := concatenate S2x8x4096x32 0
  [⟨S1x8x4096x32, broadcastInDim S1x8x4096x32 ![1, 2, 3] bcast_S8x4096x32_S1x8x4096x32_1_2_3
      (shapeCast S8x4096x32 (extractStridedSlice S8x4096x1x32 ![0, 0, 0, 0] a1 slices_S8x4096x2x32_S8x4096x1x32_0_0_0_0) shapeCasts_S8x4096x1x32_S8x4096x32)⟩,
   ⟨S1x8x4096x32, broadcastInDim S1x8x4096x32 ![1, 2, 3] bcast_S8x4096x32_S1x8x4096x32_1_2_3
      (Host.reverse [1] (shapeCast S8x4096x32 (extractStridedSlice S8x4096x1x32 ![0, 0, 1, 0] a1 slices_S8x4096x2x32_S8x4096x1x32_0_0_1_0) shapeCasts_S8x4096x1x32_S8x4096x32))⟩]
  concatenates_S1x8x4096x32_S1x8x4096x32_S2x8x4096x32_d0

def xd : Vec Ideal S2x8x32x128x4x8x64 .f32 := shapeCast _ (mulf (F := Ideal) (φ := .f32) (xs a0) (broadcastInDim S2x8x4096x32x64 ![0, 1, 2, 3, 4] bcast_S2x8x4096x32x1_S2x8x4096x32x64_0_1_2_3_4
  (broadcastInDim S2x8x4096x32x1 ![0, 1, 2, 3] bcast_S2x8x4096x32_S2x8x4096x32x1_0_1_2_3 (dts a1)))) shapeCasts_S2x8x4096x32x64_S2x8x32x128x4x8x64
def ex : Vec Ideal S2x8x32x128x4x8 .f32 := shapeCast _ (mulf (F := Ideal) (φ := .f32) (dts a1) (broadcastInDim S2x8x4096x32 ![0, 1, 2, 3] bcast_S2x1x1x32_S2x8x4096x32_0_1_2_3
  (broadcastInDim S2x1x1x32 ![0, 3] bcast_S2x32_S2x1x1x32_0_3 a2))) shapeCasts_S2x8x4096x32_S2x8x32x128x4x8
def cu : Vec Ideal S2x8x32x128x4x8 .f32 := Host.reduceWindowAdd (F := Ideal) (φ := .f32) ![1, 1, 1, 128, 1, 1] ![1, 1, 1, 1, 1, 1] ![0, 0, 0, 127, 0, 0] ![0, 0, 0, 0, 0, 0] (ex a1 a2)
  (broadcastInDim S_ ![] bcast_S_S_ (constant (F := Ideal) S_ .f32 0x00000000#32)) reduceWindows_S2x8x32x128x4x8_S2x8x32x128x4x8_w1s1p0_0_w1s1p0_0_w1s1p0_0_w128s1p127_0_w1s1p0_0_w1s1p0_0 h_S_

end

section
variable (x : Vec Ideal S2x8x32x128x4x8x64 .f32) (b g : Vec Ideal S2x8x32x128x4x128 .f32) (u : Vec Ideal S2x8x32x128x4x8 .f32)

/-- The cumulative sum at the end of each chunk. -/
def la : Vec Ideal S2x8x32x1x4x8 .f32 := extractStridedSlice S2x8x32x1x4x8 ![0, 0, 0, 127, 0, 0] u slices_S2x8x32x128x4x8_S2x8x32x1x4x8_0_0_0_127_0_0
/-- What each chunk adds to the state, and how the state decays over it. -/
def add : Vec Ideal S2x8x32x4x8x64x128 .f32 := Host.dotGeneral (F := Ideal) (φ₁ := .f32) (φ₂ := .f32) dot_S2x8x32x128x4x8x64_S2x8x32x128x4x128_S2x8x32x4x8x64x128_3_3_56_5_0124_0124 none
  (mulf (F := Ideal) (φ := .f32) x (broadcastInDim S2x8x32x128x4x8x64 ![0, 1, 2, 3, 4, 5, 6] bcast_S2x8x32x128x4x8x1_S2x8x32x128x4x8x64_0_1_2_3_4_5_6
    (broadcastInDim S2x8x32x128x4x8x1 ![0, 1, 2, 3, 4, 5] bcast_S2x8x32x128x4x8_S2x8x32x128x4x8x1_0_1_2_3_4_5
      (Host.exp (F := Ideal) (φ := .f32) (subf (F := Ideal) (φ := .f32) (broadcastInDim S2x8x32x128x4x8 ![0, 1, 2, 3, 4, 5] bcast_S2x8x32x1x4x8_S2x8x32x128x4x8_0_1_2_3_4_5 (la u)) u)))))
  b
def dec : Vec Ideal S2x8x32x4x8 .f32 := Host.exp (F := Ideal) (φ := .f32) (shapeCast _ (la u) shapeCasts_S2x8x32x1x4x8_S2x8x32x4x8)
/-- The mask of the rows at or before a row. -/
def low : IVec S128x128 1 := select (cmpi .sge (addi (iotaInDim S128x128 32 0) (broadcastInDim S128x128 ![] bcast_S_S128x128 (constantI S_ 32 0#32))) (iotaInDim S128x128 32 1))
  (broadcastInDim S128x128 ![] bcast_S_S128x128 (constantI S_ 1 1#1)) (broadcastInDim S128x128 ![] bcast_S_S128x128 (constantI S_ 1 0#1))
/-- The decay from one row of a chunk to another. -/
def seg : Vec Ideal S2x8x32x128x128x4x8 .f32 := Host.exp (F := Ideal) (φ := .f32) (select
  (broadcastInDim S2x8x32x128x128x4x8 ![0, 1, 2, 3, 4, 5, 6] bcast_S1x1x1x128x128x1x1_S2x8x32x128x128x4x8_0_1_2_3_4_5_6 (broadcastInDim S1x1x1x128x128x1x1 ![3, 4] bcast_S128x128_S1x1x1x128x128x1x1_3_4 low))
  (subf (F := Ideal) (φ := .f32)
    (broadcastInDim S2x8x32x128x128x4x8 ![0, 1, 2, 3, 4, 5, 6] bcast_S2x8x32x128x1x4x8_S2x8x32x128x128x4x8_0_1_2_3_4_5_6 (broadcastInDim S2x8x32x128x1x4x8 ![0, 1, 2, 3, 5, 6] bcast_S2x8x32x128x4x8_S2x8x32x128x1x4x8_0_1_2_3_5_6 u))
    (broadcastInDim S2x8x32x128x128x4x8 ![0, 1, 2, 3, 4, 5, 6] bcast_S2x8x32x1x128x4x8_S2x8x32x128x128x4x8_0_1_2_3_4_5_6 (broadcastInDim S2x8x32x1x128x4x8 ![0, 1, 2, 4, 5, 6] bcast_S2x8x32x128x4x8_S2x8x32x1x128x4x8_0_1_2_4_5_6 u)))
  (broadcastInDim S2x8x32x128x128x4x8 ![] bcast_S_S2x8x32x128x128x4x8 (constant (F := Ideal) S_ .f32 0xFF800000#32)))
/-- The result inside each chunk. -/
def diag : Vec Ideal S2x8x32x128x4x8x64 .f32 := transpose S2x8x32x128x4x8x64 [0, 1, 2, 6, 3, 4, 5]
  (Host.dotGeneral (F := Ideal) (φ₁ := .f32) (φ₂ := .f32) dot_S2x8x32x128x4x8x64_S2x8x32x128x128x4x8_S2x8x32x4x8x64x128_3_4_6_3_01245_01256 none x
    (mulf (F := Ideal) (φ := .f32) (broadcastInDim S2x8x32x128x128x4x8 ![0, 1, 2, 3, 4, 5, 6] bcast_S2x8x32x128x128x4x1_S2x8x32x128x128x4x8_0_1_2_3_4_5_6
      (broadcastInDim S2x8x32x128x128x4x1 ![0, 1, 2, 3, 4, 5] bcast_S2x8x32x128x128x4_S2x8x32x128x128x4x1_0_1_2_3_4_5
        (transpose S2x8x32x128x128x4 [0, 1, 2, 5, 4, 3]
          (Host.dotGeneral (F := Ideal) (φ₁ := .f32) (φ₂ := .f32) dot_S2x8x32x128x4x128_S2x8x32x128x4x128_S2x8x32x4x128x128_5_5_3_3_0124_0124 none b g)
          transposes_S2x8x32x4x128x128_S2x8x32x128x128x4_0_1_2_5_4_3)))
      (seg u)))
  transposes_S2x8x32x4x8x64x128_S2x8x32x128x4x8x64_0_1_2_6_3_4_5
end

end Cert.ReferenceIdeal.Scan
end
-- ==== Proof.Ssd.RefEntry.lean ====
module

public import proofs.«01_k».proof.Proof.Ssd.RefDefs
public import Idealize.ShloMosaic.Lib.Tactic.CleanTypes

/-! What the reference's lines leave in front of its loop. -/

@[expose] public section
set_option maxRecDepth 16384
noncomputable section
namespace Cert.ReferenceIdeal.Scan
open Idealize.ShloMosaic Idealize.ShloMosaic.TcCoe Idealize.ShloMosaic.StableHlo Cert.ReferenceIdeal Cert.ReferenceIdeal.Gen Cert.ReferenceIdeal.Value Ssd

section
variable (X : Valuation τ sig (Elt Ideal))

/-- The lines of the reference up to the cumulative sum, and those from there to the loop. -/
abbrev linesA : List (List (HloOp τ sig (Elt Ideal))) := [hostOps0, hostOps0_1, hostOps0_2, hostOps0_3, hostOps0_4, hostOps0_5, hostOps0_6, hostOps0_7, hostOps0_8, hostOps0_9]
abbrev linesB : List (List (HloOp τ sig (Elt Ideal))) := [hostOps0_10, hostOps0_11, hostOps0_12, hostOps0_13, hostOps0_14]

theorem first_xd : afterL linesA X (Proc.devRef .tc main_v30) = xd (X (Proc.devRef .tc main_arg0)) (X (Proc.devRef .tc main_arg1)) := by
  simp only [afterL_cons, afterL_nil]
  after_reads_simp
  rfl
theorem first_bs : afterL linesA X (Proc.devRef .tc main_v31) = bs (X (Proc.devRef .tc main_arg0)) := by
  simp only [afterL_cons, afterL_nil]
  after_reads_simp
  rfl
theorem first_cs : afterL linesA X (Proc.devRef .tc main_v32) = cs (X (Proc.devRef .tc main_arg0)) := by
  simp only [afterL_cons, afterL_nil]
  after_reads_simp
  rfl
theorem first_cu : afterL linesA X (Proc.devRef .tc main_v37) = cu (X (Proc.devRef .tc main_arg1)) (X (Proc.devRef .tc main_arg2)) := by
  simp only [afterL_cons, afterL_nil]
  after_reads_simp
  rfl
theorem first_init : afterL linesA X (Proc.devRef .tc main_v26) = transpose S2x8x32x64x128 [1, 0, 2, 3, 4] (X (Proc.devRef .tc main_arg3) : Vec Ideal S8x2x32x64x128 .f32) transposes_S8x2x32x64x128_S2x8x32x64x128_1_0_2_3_4 := by
  simp only [afterL_cons, afterL_nil]
  after_reads_simp
theorem then_0 : afterL linesB X (Proc.devRef .tc main_v74_0) = transpose S32x2x8x4x8x64x128 [2, 0, 1, 3, 4, 5, 6] (add (X (Proc.devRef .tc main_v30)) (X (Proc.devRef .tc main_v31)) (X (Proc.devRef .tc main_v37))) transposes_S2x8x32x4x8x64x128_S32x2x8x4x8x64x128_2_0_1_3_4_5_6 := by
  simp only [afterL_cons, afterL_nil]
  after_reads_simp
  rfl
theorem then_1 : afterL linesB X (Proc.devRef .tc main_v74_1) = transpose S32x2x8x4x8 [2, 0, 1, 3, 4] (dec (X (Proc.devRef .tc main_v37))) transposes_S2x8x32x4x8_S32x2x8x4x8_2_0_1_3_4 := by
  simp only [afterL_cons, afterL_nil]
  after_reads_simp
  rfl
theorem then_2 : afterL linesB X (Proc.devRef .tc main_v74_2) = transpose S32x2x8x128x4x128 [2, 0, 1, 3, 4, 5] (X (Proc.devRef .tc main_v32) : Vec Ideal S2x8x32x128x4x128 .f32) transposes_S2x8x32x128x4x128_S32x2x8x128x4x128_2_0_1_3_4_5 := by
  simp only [afterL_cons, afterL_nil]
  after_reads_simp
  rfl
theorem then_3 : afterL linesB X (Proc.devRef .tc main_v74_3) = transpose S32x2x8x128x4x8x64 [2, 0, 1, 3, 4, 5, 6] (diag (X (Proc.devRef .tc main_v30)) (X (Proc.devRef .tc main_v31)) (X (Proc.devRef .tc main_v32)) (X (Proc.devRef .tc main_v37))) transposes_S2x8x32x128x4x8x64_S32x2x8x128x4x8x64_2_0_1_3_4_5_6 := by
  simp only [afterL_cons, afterL_nil]
  after_reads_simp
  rfl
theorem then_4 : afterL linesB X (Proc.devRef .tc main_v74_4) = transpose S32x2x8x128x4x8 [2, 0, 1, 3, 4, 5] (Host.exp (F := Ideal) (φ := .f32) (X (Proc.devRef .tc main_v37))) transposes_S2x8x32x128x4x8_S32x2x8x128x4x8_2_0_1_3_4_5 := by
  simp only [afterL_cons, afterL_nil]
  after_reads_simp
  rfl
theorem then_6 : afterL linesB X (Proc.devRef .tc main_v74_6) = shapeCast S2x8x4x8x64x128 (X (Proc.devRef .tc main_v26) : Vec Ideal S2x8x32x64x128 .f32) shapeCasts_S2x8x32x64x128_S2x8x4x8x64x128 := by
  simp only [afterL_cons, afterL_nil]
  after_reads_simp
  rfl
end

variable (m : (ℓ : Loc nD τ sig) → Buf (Elt Ideal) ℓ) (c : Dev nD)

theorem entry_two : entryContents preI m c = afterL linesB (afterL linesA (entryContents [] m c)) := by
  simp only [entryContents, afterL_cons, afterL_nil]

/-- The arguments, as the entry reads them. -/
abbrev xbc : Vec Ideal S8x4096x3072 .f32 := m ((c : Thread nD τ).loc main_arg0)
abbrev dt : Vec Ideal S8x4096x2x32 .f32 := m ((c : Thread nD τ).loc main_arg1)
abbrev an : Vec Ideal S2x32 .f32 := m ((c : Thread nD τ).loc main_arg2)
abbrev init : Vec Ideal S8x2x32x64x128 .f32 := m ((c : Thread nD τ).loc main_arg3)

/-- What the loop finds at its entry. -/
theorem entry_0 : entryContents preI m c (Proc.devRef .tc main_v74_0) = transpose S32x2x8x4x8x64x128 [2, 0, 1, 3, 4, 5, 6] (add (xd (xbc m c) (dt m c)) (bs (xbc m c)) (cu (dt m c) (an m c))) transposes_S2x8x32x4x8x64x128_S32x2x8x4x8x64x128_2_0_1_3_4_5_6 := by
  rw [entry_two, then_0, first_xd, first_bs, first_cu]; rfl
theorem entry_1 : entryContents preI m c (Proc.devRef .tc main_v74_1) = transpose S32x2x8x4x8 [2, 0, 1, 3, 4] (dec (cu (dt m c) (an m c))) transposes_S2x8x32x4x8_S32x2x8x4x8_2_0_1_3_4 := by
  rw [entry_two, then_1, first_cu]; rfl
theorem entry_2 : entryContents preI m c (Proc.devRef .tc main_v74_2) = transpose S32x2x8x128x4x128 [2, 0, 1, 3, 4, 5] (cs (xbc m c)) transposes_S2x8x32x128x4x128_S32x2x8x128x4x128_2_0_1_3_4_5 := by
  rw [entry_two, then_2, first_cs]; rfl
theorem entry_3 : entryContents preI m c (Proc.devRef .tc main_v74_3) = transpose S32x2x8x128x4x8x64 [2, 0, 1, 3, 4, 5, 6] (diag (xd (xbc m c) (dt m c)) (bs (xbc m c)) (cs (xbc m c)) (cu (dt m c) (an m c))) transposes_S2x8x32x128x4x8x64_S32x2x8x128x4x8x64_2_0_1_3_4_5_6 := by
  rw [entry_two, then_3, first_xd, first_bs, first_cs, first_cu]; rfl
theorem entry_4 : entryContents preI m c (Proc.devRef .tc main_v74_4) = transpose S32x2x8x128x4x8 [2, 0, 1, 3, 4, 5] (Host.exp (F := Ideal) (φ := .f32) (cu (dt m c) (an m c))) transposes_S2x8x32x128x4x8_S32x2x8x128x4x8_2_0_1_3_4_5 := by
  rw [entry_two, then_4, first_cu]; rfl
theorem entry_6 : entryContents preI m c (Proc.devRef .tc main_v74_6) = shapeCast S2x8x4x8x64x128 (transpose S2x8x32x64x128 [1, 0, 2, 3, 4] (init m c) transposes_S8x2x32x64x128_S2x8x32x64x128_1_0_2_3_4) shapeCasts_S2x8x32x64x128_S2x8x4x8x64x128 := by
  rw [entry_two, then_6, first_init]; rfl

end Cert.ReferenceIdeal.Scan
end
-- ==== Proof.Ssd.RefValues.lean ====
module

public import proofs.«01_k».proof.Proof.Ssd.RefDefs
public import Idealize.ShloMosaic.Lib.WordCmp

/-! The prepared arrays, entry by entry. -/

@[expose] public section
set_option maxRecDepth 16384
noncomputable section
namespace Cert.ReferenceIdeal.Scan
open Idealize.ShloMosaic Cert.ReferenceIdeal Cert.ReferenceIdeal.Gen Ssd

/-! ## The running sum -/

theorem foldl_plus {α : Type} (f : α → EReal) (l : List α) : ∀ z : EReal, l.foldl (fun r n => r + f n) z = z + (l.map f).sum := by
  induction l with
  | nil => intro z; simp
  | cons a l ih => intro z; rw [List.foldl_cons, ih, List.map_cons, List.sum_cons, add_assoc]

/-- The window of the running sum: 128 rows of one column. -/
abbrev Win : Shape := ⟨6, ![1, 1, 1, 128, 1, 1]⟩
def win (k : Fin 128) : Win.Idx := ix6 (0 : Fin 1) (0 : Fin 1) (0 : Fin 1) k (0 : Fin 1) (0 : Fin 1)
theorem win_bijective : Function.Bijective win := by
  constructor
  · intro k k' h
    exact congrFun h (3 : Fin 6)
  · intro j
    refine ⟨j (3 : Fin 6), funext fun a => ?_⟩
    fin_cases a
    · exact (Fin.eq_zero (j (0 : Fin 6) : Fin 1)).symm
    · exact (Fin.eq_zero (j (1 : Fin 6) : Fin 1)).symm
    · exact (Fin.eq_zero (j (2 : Fin 6) : Fin 1)).symm
    · rfl
    · exact (Fin.eq_zero (j (4 : Fin 6) : Fin 1)).symm
    · exact (Fin.eq_zero (j (5 : Fin 6) : Fin 1)).symm

/-- A window of 128 entries that ends at row `l` holds the rows up to `l`. -/
theorem window_sum (f : Fin 128 → EReal) (l : Fin 128) :
    (∑ k : Fin 128, if h : 127 ≤ l.val + k.val then f ⟨l.val + k.val - 127, by omega⟩ else 0) = ∑ s, if s ≤ l then f s else 0 := by
  rw [← Equiv.sum_comp (Equiv.addRight (⟨(l.val + 1) % 128, by omega⟩ : Fin 128)) (fun s => if s ≤ l then f s else 0)]
  refine Finset.sum_congr rfl fun k _ => ?_
  have e : ((Equiv.addRight (⟨(l.val + 1) % 128, by omega⟩ : Fin 128)) k).val = (k.val + (l.val + 1) % 128) % 128 := by
    simp [Fin.val_add]
  by_cases h : 127 ≤ l.val + k.val
  · have e' : (Equiv.addRight (⟨(l.val + 1) % 128, by omega⟩ : Fin 128)) k = ⟨l.val + k.val - 127, by omega⟩ := Fin.ext (by rw [e]; show _ = l.val + k.val - 127; omega)
    rw [dif_pos h, e', if_pos (by rw [Fin.le_def]; show l.val + k.val - 127 ≤ _; omega)]
  · rw [dif_neg h, if_neg (by rw [Fin.le_def, e]; omega)]

/-- What the window of one entry reads at a place: an entry of the array, or the initial value before its first row. -/
def place (x : Vec Ideal S2x8x32x128x4x8 .f32) (v : S_.Idx → EReal) (d : Fin 2) (b : Fin 8) (c : Fin 32) (l : Fin 128) (g : Fin 4) (r : Fin 8) (w : Win.Idx) : EReal :=
  if hin : ∀ a : Fin 6, (![0, 0, 0, 127, 0, 0] : Fin 6 → ℕ) a ≤ ((ix6 d b c l g r : S2x8x32x128x4x8.Idx) a).val * (![1, 1, 1, 1, 1, 1] : Fin 6 → ℕ) a + (w a).val
      ∧ ((ix6 d b c l g r : S2x8x32x128x4x8.Idx) a).val * (![1, 1, 1, 1, 1, 1] : Fin 6 → ℕ) a + (w a).val - (![0, 0, 0, 127, 0, 0] : Fin 6 → ℕ) a < S2x8x32x128x4x8.size a then
    x (fun a => ⟨((ix6 d b c l g r : S2x8x32x128x4x8.Idx) a).val * (![1, 1, 1, 1, 1, 1] : Fin 6 → ℕ) a + (w a).val - (![0, 0, 0, 127, 0, 0] : Fin 6 → ℕ) a, (hin a).2⟩)
  else v (Shape.Idx.first h_S_)

theorem place_win (x : Vec Ideal S2x8x32x128x4x8 .f32) (v : S_.Idx → EReal) (hv : v (Shape.Idx.first h_S_) = 0) (d b c l g r) (k : Fin 128) :
    place x v d b c l g r (win k) = if h : 127 ≤ l.val + k.val then x (ix6 d b c ⟨l.val + k.val - 127, by omega⟩ g r) else 0 := by
  unfold place
  by_cases h : 127 ≤ l.val + k.val
  · have hin : ∀ a : Fin 6, (![0, 0, 0, 127, 0, 0] : Fin 6 → ℕ) a ≤ ((ix6 d b c l g r : S2x8x32x128x4x8.Idx) a).val * (![1, 1, 1, 1, 1, 1] : Fin 6 → ℕ) a + (win k a).val
      ∧ ((ix6 d b c l g r : S2x8x32x128x4x8.Idx) a).val * (![1, 1, 1, 1, 1, 1] : Fin 6 → ℕ) a + (win k a).val - (![0, 0, 0, 127, 0, 0] : Fin 6 → ℕ) a < S2x8x32x128x4x8.size a := by
      intro a
      fin_cases a
      · exact ⟨Nat.zero_le _, by show d.val * 1 + 0 - 0 < 2; omega⟩
      · exact ⟨Nat.zero_le _, by show b.val * 1 + 0 - 0 < 8; omega⟩
      · exact ⟨Nat.zero_le _, by show c.val * 1 + 0 - 0 < 32; omega⟩
      · exact ⟨by show 127 ≤ l.val * 1 + k.val; omega, by show l.val * 1 + k.val - 127 < 128; omega⟩
      · exact ⟨Nat.zero_le _, by show g.val * 1 + 0 - 0 < 4; omega⟩
      · exact ⟨Nat.zero_le _, by show r.val * 1 + 0 - 0 < 8; omega⟩
    rw [dif_pos hin, dif_pos h]
    refine congrArg x (funext fun a => Fin.ext ?_)
    fin_cases a
    · show d.val * 1 + 0 - 0 = d.val; omega
    · show b.val * 1 + 0 - 0 = b.val; omega
    · show c.val * 1 + 0 - 0 = c.val; omega
    · show l.val * 1 + k.val - 127 = l.val + k.val - 127; omega
    · show g.val * 1 + 0 - 0 = g.val; omega
    · show r.val * 1 + 0 - 0 = r.val; omega
  · rw [dif_neg (fun hin => h (by have := (hin 3).1; change 127 ≤ l.val * 1 + k.val at this; omega)), dif_neg h, hv]

theorem cum_window (x : Vec Ideal S2x8x32x128x4x8 .f32) (v : S_.Idx → EReal) (hv : v (Shape.Idx.first h_S_) = 0) (H) (d b c l g r) :
    Host.reduceWindow (s := S2x8x32x128x4x8) (t := S2x8x32x128x4x8) (fun r x : EReal => r + x) ![1, 1, 1, 128, 1, 1] ![1, 1, 1, 1, 1, 1] ![0, 0, 0, 127, 0, 0] ![0, 0, 0, 0, 0, 0] x v H h_S_ (ix6 d b c l g r)
      = ∑ s, if s ≤ l then x (ix6 d b c s g r) else 0 := by
  unfold Host.reduceWindow
  refine (foldl_plus _ _ _).trans ?_
  rw [show ∀ z : EReal, v (Shape.Idx.first h_S_) + z = z from fun z => by rw [hv, zero_add], ← List.ofFn_eq_map, List.sum_ofFn]
  refine Eq.trans (Finset.sum_congr rfl fun n _ => ?_) (((Equiv.sum_comp Win.rowMajor.symm (place x v d b c l g r)).trans (win_bijective.sum_comp (place x v d b c l g r)).symm).trans
    ((Finset.sum_congr rfl fun k _ => place_win x v hv d b c l g r k).trans (window_sum (fun s => x (ix6 d b c s g r)) l)))
  exact dite_congr rfl (fun _ => rfl) (fun _ => rfl)

section
variable (a0 : Vec Ideal S8x4096x3072 .f32) (a1 : Vec Ideal S8x4096x2x32 .f32) (a2 : Vec Ideal S2x32 .f32) (a3 : Vec Ideal S8x2x32x64x128 .f32)

/-! ## The arguments -/

/-- A row of the direction's own order, in the order of the arguments. -/
def turn {n : ℕ} (d : Fin 2) (t : Fin n) : Fin n := if d.val = 0 then t else t.rev

theorem turn_row (d : Fin 2) (c : Fin 32) (l : Fin 128) (h : c.val * 128 + l.val < 4096) : turn d (⟨c.val * 128 + l.val, h⟩ : Fin 4096) = row d c.val (turn d l) := by
  refine Fin.ext ?_
  unfold turn row
  split <;> simp [Fin.val_rev] <;> omega

theorem xs1_apply (b t h p) : xs1 a0 (ix4 b t h p) = a0 (ix3 b t (xcol (hcol h p))) := by
  pointwise [xs1]
  rfl

theorem xs_apply (d b t h p) : xs a0 (ix5 d b t h p) = a0 (ix3 b (turn d t) (xcol (hcol h p))) := by
  pointwise [xs]
  unfold turn
  by_cases hd : d.val = 0
  · rw [dif_pos (by omega), if_pos hd, xs1_apply]
  · rw [dif_neg (by omega), if_neg hd]; exact xs1_apply a0 b t.rev h p

theorem dts_apply (d b t h) : dts a1 (ix4 d b t h) = a1 (ix4 b (turn d t) d h) := by
  pointwise [dts]
  unfold turn
  by_cases hd : d.val = 0
  · obtain rfl : d = 0 := Fin.ext hd
    rw [dif_pos (by decide), if_pos (by decide)]
  · obtain rfl : d = 1 := Fin.ext (by show d.val = 1; omega)
    rw [dif_neg (by decide), if_neg (by decide)]; rfl

theorem two_apply (v : Vec Ideal S8x4096x4x128 .f32) (d b c l g n) : two v (ix6 d b c l g n) = v (ix4 b (row d c.val (turn d l)) g n) := by
  rw [← turn_row d c l (by omega)]
  pointwise [two]
  unfold turn
  by_cases hd : d.val = 0
  · rw [dif_pos (by omega), if_pos hd]
  · rw [dif_neg (by omega), if_neg hd]; rfl

theorem bs_apply (d b c l g n) : bs a0 (ix6 d b c l g n) = a0 (ix3 b (row d c.val (turn d l)) (bcol (gcol g n))) := by
  rw [bs, two_apply]
  pointwise
  unfold bcol gcol
  simp only [Nat.mul_comm 128]

theorem cs_apply (d b c l g n) : cs a0 (ix6 d b c l g n) = a0 (ix3 b (row d c.val (turn d l)) (ccol (gcol g n))) := by
  rw [cs, two_apply]
  pointwise
  unfold ccol gcol
  simp only [Nat.mul_comm 128]

/-- Head `r` of group `g`. -/
def head (g : Fin 4) (r : Fin 8) : Fin 32 := ⟨g.val * 8 + r.val, by omega⟩

theorem ex_apply (d b c l g r) : ex a1 a2 (ix6 d b c l g r) = a1 (ix4 b (row d c.val (turn d l)) d (head g r)) * a2 (ix2 d (head g r)) := by
  pointwise [ex]
  rw [dts_apply, turn_row]
  rfl

theorem xd_apply (d b c l g r p) : xd a0 a1 (ix7 d b c l g r p)
    = a0 (ix3 b (row d c.val (turn d l)) (xcol (hcol (head g r) p))) * a1 (ix4 b (row d c.val (turn d l)) d (head g r)) := by
  pointwise [xd]
  rw [dts_apply, xs_apply, turn_row]
  rfl

theorem cu_apply (d b c l g r) : cu a1 a2 (ix6 d b c l g r) = ∑ s, if s ≤ l then ex a1 a2 (ix6 d b c s g r) else 0 := by
  refine cum_window (ex a1 a2) _ ?_ reduceWindows_S2x8x32x128x4x8_S2x8x32x128x4x8_w1s1p0_0_w1s1p0_0_w1s1p0_0_w128s1p127_0_w1s1p0_0_w1s1p0_0 d b c l g r
  pointwise
end

section
variable (x : Vec Ideal S2x8x32x128x4x8x64 .f32) (bb gg : Vec Ideal S2x8x32x128x4x128 .f32) (u : Vec Ideal S2x8x32x128x4x8 .f32)

theorem add_apply (d b c g r p n) : add x bb u (ix7 d b c g r p n)
    = ∑ l, x (ix7 d b c l g r p) * Ideal.exp (u (ix6 d b c 127 g r) - u (ix6 d b c l g r)) * bb (ix6 d b c l g n) := by
  pointwise [add, la, forall_fin7]

theorem dec_apply (d b c g r) : dec u (ix5 d b c g r) = Ideal.exp (u (ix6 d b c 127 g r)) := by
  pointwise [dec, la]

theorem low_apply (l s : Fin 128) : low (ix2 l s) = if s ≤ l then 1#1 else 0#1 := by
  pointwise [low]
  rw [show IntOp.addi (BitVec.ofNat 32 l.val) 0#32 = BitVec.ofNat 32 l.val from BitVec.add_zero _, WordCmp.cmpi_sge_ofNat (by omega) (by omega)]
  by_cases h : s ≤ l
  · rw [if_pos h, decide_eq_true (Fin.le_def.mp h)]; rfl
  · rw [if_neg h, decide_eq_false (fun e => h (Fin.le_def.mpr e))]; rfl

theorem seg_apply (d b c l s g r) : seg u (ix7 d b c l s g r) = if s ≤ l then Ideal.exp (u (ix6 d b c l g r) - u (ix6 d b c s g r)) else 0 := by
  pointwise [seg, forall_fin7]
  rw [low_apply]
  by_cases h : s ≤ l
  · rw [if_pos h, if_pos h]; rfl
  · rw [if_neg h, if_neg h]
    rw [show Ideal.ofBits .f32 0xFF800000#32 = (⊥ : EReal) by simp [Ideal.ofBits, Ideal.ieee]]
    exact Ideal.exp_bot

theorem diag_apply (d b c l g r p) : diag x bb gg u (ix7 d b c l g r p)
    = ∑ s, x (ix7 d b c s g r p) * ((∑ n, bb (ix6 d b c s g n) * gg (ix6 d b c l g n)) * seg u (ix7 d b c l s g r)) := by
  pointwise [diag, forall_fin7]
end
end Cert.ReferenceIdeal.Scan
end
-- ==== Proof.Ssd.RefStep.lean ====
module

public import proofs.«01_k».proof.Proof.Ssd.RefValues
public import proofs.«01_k».proof.Proof.Gen.ReferenceIdeal.Run
public import Idealize.ShloMosaic.Lib.DynamicIndex
public import Idealize.ShloMosaic.Lib.Pipeline.Value

/-! One trip of the reference's loop, entry by entry. -/

@[expose] public section
set_option maxRecDepth 16384
noncomputable section
namespace Cert.ReferenceIdeal.Scan
open Idealize.ShloMosaic Cert.ReferenceIdeal Cert.ReferenceIdeal.Gen Cert.ReferenceIdeal.Value Ssd

theorem toInt_small (k : Fin 32) : (BitVec.ofNat 32 k.val).toInt = (k.val : Int) := by
  rw [BitVec.toInt_eq_toNat_of_lt] <;> rw [BitVec.toNat_ofNat, Nat.mod_eq_of_lt] <;> omega

/-- The loop's index in front of zeros, as the starts of a slice of rank 5, 6 or 7. -/
theorem start5 (k : Fin 32) : ∀ a : Fin 5, ((![fun _ => BitVec.ofNat 32 k.val, constantI S_ 32 0#32, constantI S_ 32 0#32, constantI S_ 32 0#32, constantI S_ 32 0#32] :
    Fin 5 → (⟨S_, .i32⟩ : BufTy).Contents (Elt Ideal)) a (Shape.Idx.first h_S_)).toInt = ((![k.val, 0, 0, 0, 0] : Fin 5 → ℕ) a : Int) := by
  refine Fin.cases (toInt_small k) fun a => ?_
  fin_cases a <;> rfl
theorem start6 (k : Fin 32) : ∀ a : Fin 6, ((![fun _ => BitVec.ofNat 32 k.val, constantI S_ 32 0#32, constantI S_ 32 0#32, constantI S_ 32 0#32, constantI S_ 32 0#32, constantI S_ 32 0#32] :
    Fin 6 → (⟨S_, .i32⟩ : BufTy).Contents (Elt Ideal)) a (Shape.Idx.first h_S_)).toInt = ((![k.val, 0, 0, 0, 0, 0] : Fin 6 → ℕ) a : Int) := by
  refine Fin.cases (toInt_small k) fun a => ?_
  fin_cases a <;> rfl
theorem start7 (k : Fin 32) : ∀ a : Fin 7, ((![fun _ => BitVec.ofNat 32 k.val, constantI S_ 32 0#32, constantI S_ 32 0#32, constantI S_ 32 0#32, constantI S_ 32 0#32, constantI S_ 32 0#32, constantI S_ 32 0#32] :
    Fin 7 → (⟨S_, .i32⟩ : BufTy).Contents (Elt Ideal)) a (Shape.Idx.first h_S_)).toInt = ((![k.val, 0, 0, 0, 0, 0, 0] : Fin 7 → ℕ) a : Int) := by
  refine Fin.cases (toInt_small k) fun a => ?_
  fin_cases a <;> rfl

theorem off_dec (k : Fin 32) : S32x2x8x4x8.Slices ![k.val, 0, 0, 0, 0] S1x2x8x4x8 :=
  ⟨rfl, Fin.cases (show k.val + 1 ≤ 32 by omega) fun a => by fin_cases a <;> exact Nat.le_of_eq (Nat.zero_add _)⟩
theorem off_add (k : Fin 32) : S32x2x8x4x8x64x128.Slices ![k.val, 0, 0, 0, 0, 0, 0] S1x2x8x4x8x64x128 :=
  ⟨rfl, Fin.cases (show k.val + 1 ≤ 32 by omega) fun a => by fin_cases a <;> exact Nat.le_of_eq (Nat.zero_add _)⟩
theorem off_c (k : Fin 32) : S32x2x8x128x4x128.Slices ![k.val, 0, 0, 0, 0, 0] S1x2x8x128x4x128 :=
  ⟨rfl, Fin.cases (show k.val + 1 ≤ 32 by omega) fun a => by fin_cases a <;> exact Nat.le_of_eq (Nat.zero_add _)⟩
theorem off_cu (k : Fin 32) : S32x2x8x128x4x8.Slices ![k.val, 0, 0, 0, 0, 0] S1x2x8x128x4x8 :=
  ⟨rfl, Fin.cases (show k.val + 1 ≤ 32 by omega) fun a => by fin_cases a <;> exact Nat.le_of_eq (Nat.zero_add _)⟩
theorem off_y (k : Fin 32) : S32x2x8x128x4x8x64.Slices ![k.val, 0, 0, 0, 0, 0, 0] S1x2x8x128x4x8x64 :=
  ⟨rfl, Fin.cases (show k.val + 1 ≤ 32 by omega) fun a => by fin_cases a <;> exact Nat.le_of_eq (Nat.zero_add _)⟩

theorem cut_dec (k : Fin 32) (x : Vec Ideal S32x2x8x4x8 .f32) : Host.dynamicSlice S1x2x8x4x8 x (fun a => ((![fun _ => BitVec.ofNat 32 k.val, constantI S_ 32 0#32, constantI S_ 32 0#32, constantI S_ 32 0#32, constantI S_ 32 0#32] : Fin 5 → (⟨S_, .i32⟩ : BufTy).Contents (Elt Ideal)) a (Shape.Idx.first h_S_)).toInt) sliceFits_S32x2x8x4x8_S1x2x8x4x8 = extractStridedSlice S1x2x8x4x8 ![k.val, 0, 0, 0, 0] x (off_dec k) :=
  Host.dynamicSlice_eq_extractStridedSlice _ _ _ _ _ (off_dec k) (start5 k)
theorem cut_add (k : Fin 32) (x : Vec Ideal S32x2x8x4x8x64x128 .f32) : Host.dynamicSlice S1x2x8x4x8x64x128 x (fun a => ((![fun _ => BitVec.ofNat 32 k.val, constantI S_ 32 0#32, constantI S_ 32 0#32, constantI S_ 32 0#32, constantI S_ 32 0#32, constantI S_ 32 0#32, constantI S_ 32 0#32] : Fin 7 → (⟨S_, .i32⟩ : BufTy).Contents (Elt Ideal)) a (Shape.Idx.first h_S_)).toInt) sliceFits_S32x2x8x4x8x64x128_S1x2x8x4x8x64x128 = extractStridedSlice S1x2x8x4x8x64x128 ![k.val, 0, 0, 0, 0, 0, 0] x (off_add k) :=
  Host.dynamicSlice_eq_extractStridedSlice _ _ _ _ _ (off_add k) (start7 k)
theorem cut_c (k : Fin 32) (x : Vec Ideal S32x2x8x128x4x128 .f32) : Host.dynamicSlice S1x2x8x128x4x128 x (fun a => ((![fun _ => BitVec.ofNat 32 k.val, constantI S_ 32 0#32, constantI S_ 32 0#32, constantI S_ 32 0#32, constantI S_ 32 0#32, constantI S_ 32 0#32] : Fin 6 → (⟨S_, .i32⟩ : BufTy).Contents (Elt Ideal)) a (Shape.Idx.first h_S_)).toInt) sliceFits_S32x2x8x128x4x128_S1x2x8x128x4x128 = extractStridedSlice S1x2x8x128x4x128 ![k.val, 0, 0, 0, 0, 0] x (off_c k) :=
  Host.dynamicSlice_eq_extractStridedSlice _ _ _ _ _ (off_c k) (start6 k)
theorem cut_cu (k : Fin 32) (x : Vec Ideal S32x2x8x128x4x8 .f32) : Host.dynamicSlice S1x2x8x128x4x8 x (fun a => ((![fun _ => BitVec.ofNat 32 k.val, constantI S_ 32 0#32, constantI S_ 32 0#32, constantI S_ 32 0#32, constantI S_ 32 0#32, constantI S_ 32 0#32] : Fin 6 → (⟨S_, .i32⟩ : BufTy).Contents (Elt Ideal)) a (Shape.Idx.first h_S_)).toInt) sliceFits_S32x2x8x128x4x8_S1x2x8x128x4x8 = extractStridedSlice S1x2x8x128x4x8 ![k.val, 0, 0, 0, 0, 0] x (off_cu k) :=
  Host.dynamicSlice_eq_extractStridedSlice _ _ _ _ _ (off_cu k) (start6 k)
theorem cut_y (k : Fin 32) (x : Vec Ideal S32x2x8x128x4x8x64 .f32) : Host.dynamicSlice S1x2x8x128x4x8x64 x (fun a => ((![fun _ => BitVec.ofNat 32 k.val, constantI S_ 32 0#32, constantI S_ 32 0#32, constantI S_ 32 0#32, constantI S_ 32 0#32, constantI S_ 32 0#32, constantI S_ 32 0#32] : Fin 7 → (⟨S_, .i32⟩ : BufTy).Contents (Elt Ideal)) a (Shape.Idx.first h_S_)).toInt) sliceFits_S32x2x8x128x4x8x64_S1x2x8x128x4x8x64 = extractStridedSlice S1x2x8x128x4x8x64 ![k.val, 0, 0, 0, 0, 0, 0] x (off_y k) :=
  Host.dynamicSlice_eq_extractStridedSlice _ _ _ _ _ (off_y k) (start7 k)
theorem put_y (k : Fin 32) (x : Vec Ideal S32x2x8x128x4x8x64 .f32) (u : Vec Ideal S1x2x8x128x4x8x64 .f32) :
    Host.dynamicUpdateSlice x u (fun a => ((![fun _ => BitVec.ofNat 32 k.val, constantI S_ 32 0#32, constantI S_ 32 0#32, constantI S_ 32 0#32, constantI S_ 32 0#32, constantI S_ 32 0#32, constantI S_ 32 0#32] : Fin 7 → (⟨S_, .i32⟩ : BufTy).Contents (Elt Ideal)) a (Shape.Idx.first h_S_)).toInt) updateFits_S32x2x8x128x4x8x64_S1x2x8x128x4x8x64 = updateSlice x u ![k.val, 0, 0, 0, 0, 0, 0] (off_y k) := by
  refine Host.dynamicUpdateSlice_eq_updateSlice (s := S32x2x8x128x4x8x64) (u := S1x2x8x128x4x8x64) x u _ _ ![k.val, 0, 0, 0, 0, 0, 0] (fun a => ?_) (off_y k)
  have h := start7 k a
  refine (congrArg (fun z : Int => (min (max z 0) ((S32x2x8x128x4x8x64.size a - S1x2x8x128x4x8x64.size (a.cast (by rfl)) : ℕ) : Int)).toNat) h).trans ?_
  clear h
  revert a
  exact Fin.cases (show (min (max (k.val : Int) 0) ((32 - 1 : ℕ) : Int)).toNat = k.val by omega) fun a => by fin_cases a <;> rfl

/-- One trip: the state, and the rows of the result, from the carried arrays and the index. -/
def tripState (s : Vec Ideal S2x8x4x8x64x128 .f32) (s1 : Vec Ideal S32x2x8x4x8 .f32) (s0 : Vec Ideal S32x2x8x4x8x64x128 .f32) (i : IVec S_ 32) : Vec Ideal S2x8x4x8x64x128 .f32 :=
  addf (F := Ideal) (φ := .f32) (mulf (F := Ideal) (φ := .f32) s (broadcastInDim S2x8x4x8x64x128 ![0, 1, 2, 3, 4, 5] bcast_S2x8x4x8x1x1_S2x8x4x8x64x128_0_1_2_3_4_5
      (broadcastInDim S2x8x4x8x1x1 ![0, 1, 2, 3] bcast_S2x8x4x8_S2x8x4x8x1x1_0_1_2_3 (shapeCast S2x8x4x8
        (Host.dynamicSlice S1x2x8x4x8 s1 (fun a => ((![i, constantI S_ 32 0#32, constantI S_ 32 0#32, constantI S_ 32 0#32, constantI S_ 32 0#32] : Fin 5 → (⟨S_, .i32⟩ : BufTy).Contents (Elt Ideal)) a (Shape.Idx.first h_S_)).toInt) sliceFits_S32x2x8x4x8_S1x2x8x4x8) shapeCasts_S1x2x8x4x8_S2x8x4x8))))
    (shapeCast S2x8x4x8x64x128 (Host.dynamicSlice S1x2x8x4x8x64x128 s0 (fun a => ((![i, constantI S_ 32 0#32, constantI S_ 32 0#32, constantI S_ 32 0#32, constantI S_ 32 0#32, constantI S_ 32 0#32, constantI S_ 32 0#32] : Fin 7 → (⟨S_, .i32⟩ : BufTy).Contents (Elt Ideal)) a (Shape.Idx.first h_S_)).toInt) sliceFits_S32x2x8x4x8x64x128_S1x2x8x4x8x64x128) shapeCasts_S1x2x8x4x8x64x128_S2x8x4x8x64x128)
def tripRows (ys : Vec Ideal S32x2x8x128x4x8x64 .f32) (s : Vec Ideal S2x8x4x8x64x128 .f32) (s2 : Vec Ideal S32x2x8x128x4x128 .f32) (s3 : Vec Ideal S32x2x8x128x4x8x64 .f32)
    (s4 : Vec Ideal S32x2x8x128x4x8 .f32) (i : IVec S_ 32) : Vec Ideal S32x2x8x128x4x8x64 .f32 :=
  Host.dynamicUpdateSlice ys (broadcastInDim S1x2x8x128x4x8x64 ![1, 2, 3, 4, 5, 6] bcast_S2x8x128x4x8x64_S1x2x8x128x4x8x64_1_2_3_4_5_6
    (addf (F := Ideal) (φ := .f32) (shapeCast S2x8x128x4x8x64 (Host.dynamicSlice S1x2x8x128x4x8x64 s3 (fun a => ((![i, constantI S_ 32 0#32, constantI S_ 32 0#32, constantI S_ 32 0#32, constantI S_ 32 0#32, constantI S_ 32 0#32, constantI S_ 32 0#32] : Fin 7 → (⟨S_, .i32⟩ : BufTy).Contents (Elt Ideal)) a (Shape.Idx.first h_S_)).toInt) sliceFits_S32x2x8x128x4x8x64_S1x2x8x128x4x8x64) shapeCasts_S1x2x8x128x4x8x64_S2x8x128x4x8x64)
      (mulf (F := Ideal) (φ := .f32) (transpose S2x8x128x4x8x64 [0, 1, 5, 2, 3, 4]
          (Host.dotGeneral (F := Ideal) (φ₁ := .f32) (φ₂ := .f32) dot_S2x8x4x8x64x128_S2x8x128x4x128_S2x8x4x8x64x128_5_4_34_2_012_013 none s
            (shapeCast S2x8x128x4x128 (Host.dynamicSlice S1x2x8x128x4x128 s2 (fun a => ((![i, constantI S_ 32 0#32, constantI S_ 32 0#32, constantI S_ 32 0#32, constantI S_ 32 0#32, constantI S_ 32 0#32] : Fin 6 → (⟨S_, .i32⟩ : BufTy).Contents (Elt Ideal)) a (Shape.Idx.first h_S_)).toInt) sliceFits_S32x2x8x128x4x128_S1x2x8x128x4x128) shapeCasts_S1x2x8x128x4x128_S2x8x128x4x128))
          transposes_S2x8x4x8x64x128_S2x8x128x4x8x64_0_1_5_2_3_4)
        (broadcastInDim S2x8x128x4x8x64 ![0, 1, 2, 3, 4, 5] bcast_S2x8x128x4x8x1_S2x8x128x4x8x64_0_1_2_3_4_5 (broadcastInDim S2x8x128x4x8x1 ![0, 1, 2, 3, 4] bcast_S2x8x128x4x8_S2x8x128x4x8x1_0_1_2_3_4
          (shapeCast S2x8x128x4x8 (Host.dynamicSlice S1x2x8x128x4x8 s4 (fun a => ((![i, constantI S_ 32 0#32, constantI S_ 32 0#32, constantI S_ 32 0#32, constantI S_ 32 0#32, constantI S_ 32 0#32] : Fin 6 → (⟨S_, .i32⟩ : BufTy).Contents (Elt Ideal)) a (Shape.Idx.first h_S_)).toInt) sliceFits_S32x2x8x128x4x8_S1x2x8x128x4x8) shapeCasts_S1x2x8x128x4x8_S2x8x128x4x8))))))
    (fun a => ((![i, constantI S_ 32 0#32, constantI S_ 32 0#32, constantI S_ 32 0#32, constantI S_ 32 0#32, constantI S_ 32 0#32, constantI S_ 32 0#32] : Fin 7 → (⟨S_, .i32⟩ : BufTy).Contents (Elt Ideal)) a (Shape.Idx.first h_S_)).toInt) updateFits_S32x2x8x128x4x8x64_S1x2x8x128x4x8x64

variable (V : Valuation τ sig (Elt Ideal)) (k : Fin 32) (hk : V (Proc.devRef .tc main_v74_5) = fun _ => BitVec.ofNat 32 k.val)

/-- The buffers that the loop carries, as arrays. -/
abbrev c0 : Vec Ideal S32x2x8x4x8x64x128 .f32 := V (Proc.devRef .tc main_v74_0)
abbrev c1 : Vec Ideal S32x2x8x4x8 .f32 := V (Proc.devRef .tc main_v74_1)
abbrev c2 : Vec Ideal S32x2x8x128x4x128 .f32 := V (Proc.devRef .tc main_v74_2)
abbrev c3 : Vec Ideal S32x2x8x128x4x8x64 .f32 := V (Proc.devRef .tc main_v74_3)
abbrev c4 : Vec Ideal S32x2x8x128x4x8 .f32 := V (Proc.devRef .tc main_v74_4)
abbrev c6 : Vec Ideal S2x8x4x8x64x128 .f32 := V (Proc.devRef .tc main_v74_6)
abbrev c7 : Vec Ideal S32x2x8x128x4x8x64 .f32 := V (Proc.devRef .tc main_v74_7)

include hk

theorem step_state (d b g r p n) : c6 (STEP V) (ix6 d b g r p n) = c6 V (ix6 d b g r p n) * c1 V (ix5 k d b g r) + c0 V (ix7 k d b g r p n) := by
  have e : c6 (STEP V) = tripState (c6 V) (c1 V) (c0 V) (fun _ => BitVec.ofNat 32 k.val) :=
    (STEP_main_v74_6 V).trans (congrArg (fun i : IVec S_ 32 => tripState (c6 V) (c1 V) (c0 V) i) hk)
  rw [e, tripState, cut_dec, cut_add]
  pointwise [forall_fin7]

theorem step_y (k' d b l g r p) : c7 (STEP V) (ix7 k' d b l g r p) = if k' = k then
      c3 V (ix7 k d b l g r p) + (∑ n, c6 V (ix6 d b g r p n) * c2 V (ix6 k d b l g n)) * c4 V (ix6 k d b l g r)
    else c7 V (ix7 k' d b l g r p) := by
  have e : c7 (STEP V) = tripRows (c7 V) (c6 V) (c2 V) (c3 V) (c4 V) (fun _ => BitVec.ofNat 32 k.val) :=
    (STEP_main_v74_7 V).trans (congrArg (fun i : IVec S_ 32 => tripRows (c7 V) (c6 V) (c2 V) (c3 V) (c4 V) i) hk)
  rw [e, tripRows, cut_c, cut_cu, cut_y, put_y]
  pointwise [forall_fin7]
  by_cases h : k' = k
  · rw [if_pos h, dif_pos (by subst h; omega)]
  · rw [if_neg h, dif_neg (fun e => h (Fin.ext (by omega)))]
end Cert.ReferenceIdeal.Scan
end
-- ==== Proof.Ssd.RefChunk.lean ====
module

public import proofs.«01_k».proof.Proof.Ssd.RefValues

/-! The prepared arrays, in the terms of a chunk: the second direction's rows are read from the end. -/

@[expose] public section
set_option maxRecDepth 16384
noncomputable section
namespace Cert.ReferenceIdeal.Scan
open Idealize.ShloMosaic Cert.ReferenceIdeal Cert.ReferenceIdeal.Gen Ssd

/-- Reading from the end twice is reading from the front. -/
theorem turn_turn {n : ℕ} (d : Fin 2) (l : Fin n) : turn d (turn d l) = l := by
  unfold turn; split <;> simp
def turnE (d : Fin 2) : Fin 128 ≃ Fin 128 := ⟨turn d, turn d, turn_turn d, turn_turn d⟩

/-- A sum over the rows in the direction's order is the sum over the rows. -/
theorem sum_turn (d : Fin 2) (f : Fin 128 → EReal) : (∑ l, f (turn d l)) = ∑ l, f l := Equiv.sum_comp (turnE d) f

/-- The rows at or before a row in the direction's order. -/
theorem tri_turn (d : Fin 2) (l s : Fin 128) : Tri d.val (turn d l) (turn d s) ↔ s ≤ l := by
  unfold Tri turn
  by_cases hd : d.val = 0
  · simp [hd]
  · rw [if_neg hd, if_neg hd, if_neg hd, ← Fin.le_def, Fin.rev_le_rev]

theorem cum_turn (d : Fin 2) (f : Fin 128 → EReal) (l : Fin 128) : (∑ s, if s ≤ l then f (turn d s) else 0) = cum d.val f (turn d l) := by
  refine Eq.trans (Finset.sum_congr rfl fun s _ => ?_) (sum_turn d fun s => if Tri d.val (turn d l) s then f s else 0)
  exact (if_congr (tri_turn d l s) rfl rfl).symm

theorem hd_hcol (h : Fin 32) (p : Fin 64) : hd (hcol h p) = h := Fin.ext (by show (h.val * 64 + p.val) / 64 = h.val; omega)
theorem gp_hcol (g : Fin 4) (r : Fin 8) (p : Fin 64) : gp (hcol (head g r) p) = g := Fin.ext (by show ((g.val * 8 + r.val) * 64 + p.val) / 512 = g.val; omega)

section
variable (a0 : Vec Ideal S8x4096x3072 .f32) (a1 : Vec Ideal S8x4096x2x32 .f32) (a2 : Vec Ideal S2x32 .f32) (a3 : Vec Ideal S8x2x32x64x128 .f32)

/-- The arguments by coordinates. -/
def ins : Inputs where
  xbc b t k := a0 (ix3 b t k)
  dt b t d h := a1 (ix4 b t d h)
  an d h := a2 (ix2 d h)
  init b d h p n := a3 (ix5 b d h p n)

variable (d : Fin 2) (b : Fin 8) (c : Fin 32) (g : Fin 4) (r : Fin 8)

theorem cu_chunk (l : Fin 128) : cu a1 a2 (ix6 d b c l g r) = cum d.val (((ins a0 a1 a2 a3).chunk b d c.val).a (head g r)) (turn d l) := by
  rw [cu_apply, ← cum_turn]
  exact Finset.sum_congr rfl fun s _ => by rw [ex_apply]; rfl

theorem la_chunk : cu a1 a2 (ix6 d b c 127 g r) = ∑ s, ((ins a0 a1 a2 a3).chunk b d c.val).a (head g r) s := by
  rw [cu_apply]
  exact Eq.trans (Finset.sum_congr rfl fun s _ => by rw [if_pos (by rw [Fin.le_def]; show s.val ≤ 127 % 128; omega), ex_apply]; rfl) (sum_turn d fun s => ((ins a0 a1 a2 a3).chunk b d c.val).a (head g r) s)

theorem dec_chunk : dec (cu a1 a2) (ix5 d b c g r) = Ideal.exp (∑ s, ((ins a0 a1 a2 a3).chunk b d c.val).a (head g r) s) := by
  rw [dec_apply, la_chunk a0 a1 a2 a3]

theorem add_chunk (p : Fin 64) (n : Fin 128) : add (xd a0 a1) (bs a0) (cu a1 a2) (ix7 d b c g r p n)
    = ∑ l, ((ins a0 a1 a2 a3).chunk b d c.val).x l (hcol (head g r) p) * ((ins a0 a1 a2 a3).chunk b d c.val).dt l (head g r)
        * Ideal.exp ((∑ s, ((ins a0 a1 a2 a3).chunk b d c.val).a (head g r) s) - cum d.val (((ins a0 a1 a2 a3).chunk b d c.val).a (head g r)) l)
        * ((ins a0 a1 a2 a3).chunk b d c.val).b l (gcol g n) := by
  rw [add_apply]
  refine Eq.trans (Finset.sum_congr rfl fun l _ => ?_) (sum_turn d _)
  rw [la_chunk a0 a1 a2 a3, cu_chunk a0 a1 a2 a3, xd_apply, bs_apply]
  rfl

theorem diag_chunk (l : Fin 128) (p : Fin 64) : diag (xd a0 a1) (bs a0) (cs a0) (cu a1 a2) (ix7 d b c l g r p)
    = ∑ s, if Tri d.val (turn d l) s then
        (∑ n, ((ins a0 a1 a2 a3).chunk b d c.val).c (turn d l) (gcol g n) * ((ins a0 a1 a2 a3).chunk b d c.val).b s (gcol g n))
          * Ideal.exp (cum d.val (((ins a0 a1 a2 a3).chunk b d c.val).a (head g r)) (turn d l) - cum d.val (((ins a0 a1 a2 a3).chunk b d c.val).a (head g r)) s)
          * (((ins a0 a1 a2 a3).chunk b d c.val).x s (hcol (head g r) p) * ((ins a0 a1 a2 a3).chunk b d c.val).dt s (head g r))
      else 0 := by
  rw [diag_apply]
  refine Eq.trans (Finset.sum_congr rfl fun s _ => ?_) (sum_turn d _)
  beta_reduce
  rw [seg_apply, if_congr (tri_turn d l s) rfl rfl]
  by_cases h : s ≤ l
  · rw [if_pos h, if_pos h, cu_chunk a0 a1 a2 a3, cu_chunk a0 a1 a2 a3, xd_apply, mul_comm]
    refine congrArg₂ (· * ·) (congrArg₂ (· * ·) (Finset.sum_congr rfl fun n _ => ?_) rfl) rfl
    rw [bs_apply, cs_apply, mul_comm]
    rfl
  · rw [if_neg h, if_neg h, mul_zero, mul_zero]

/-- One trip's state and rows are the chunk's. -/
theorem state_chunk (S : Fin 2048 → Fin 128 → EReal) (p : Fin 64) (n : Fin 128) :
    S (hcol (head g r) p) n * dec (cu a1 a2) (ix5 d b c g r) + add (xd a0 a1) (bs a0) (cu a1 a2) (ix7 d b c g r p n)
      = ((ins a0 a1 a2 a3).chunk b d c.val).state d.val S (hcol (head g r) p) n := by
  rw [dec_chunk a0 a1 a2 a3, add_chunk a0 a1 a2 a3, Chunk.state, hd_hcol, gp_hcol]

theorem y_chunk (S : Fin 2048 → Fin 128 → EReal) (l : Fin 128) (p : Fin 64) :
    diag (xd a0 a1) (bs a0) (cs a0) (cu a1 a2) (ix7 d b c l g r p)
        + (∑ n, S (hcol (head g r) p) n * cs a0 (ix6 d b c l g n)) * Ideal.exp (cu a1 a2 (ix6 d b c l g r))
      = ((ins a0 a1 a2 a3).chunk b d c.val).y d.val S (turn d l) (hcol (head g r) p) := by
  rw [diag_chunk a0 a1 a2 a3, cu_chunk a0 a1 a2 a3, Chunk.y, hd_hcol, gp_hcol]
  refine congrArg₂ (· + ·) rfl (congrArg₂ (· * ·) (Finset.sum_congr rfl fun n _ => ?_) rfl)
  rw [cs_apply, mul_comm]
  rfl
end
end Cert.ReferenceIdeal.Scan
end
-- ==== Proof.Ssd.RefLoop.lean ====
module

public import proofs.«01_k».proof.Proof.Ssd.RefStep
public import proofs.«01_k».proof.Proof.Ssd.RefChunk

/-! The reference's loop and what it leaves. -/

@[expose] public section
set_option maxRecDepth 16384
noncomputable section
namespace Cert.ReferenceIdeal.Scan
open Idealize.ShloMosaic Idealize.ShloMosaic.TcCoe Idealize.ShloMosaic.StableHlo Cert.ReferenceIdeal Cert.ReferenceIdeal.Gen Cert.ReferenceIdeal.Value Ssd

section
variable (a0 : Vec Ideal S8x4096x3072 .f32) (a1 : Vec Ideal S8x4096x2x32 .f32) (a2 : Vec Ideal S2x32 .f32) (a3 : Vec Ideal S8x2x32x64x128 .f32)

/-- The carried buffers before trip `k`. -/
structure Inv (k : ℕ) (V : Valuation τ sig (Elt Ideal)) : Prop where
  ctr : (V (Proc.devRef .tc main_v74_5) : IVec S_ 32) = fun _ => BitVec.ofNat 32 k
  e0 : c0 V = transpose S32x2x8x4x8x64x128 [2, 0, 1, 3, 4, 5, 6] (add (xd a0 a1) (bs a0) (cu a1 a2)) transposes_S2x8x32x4x8x64x128_S32x2x8x4x8x64x128_2_0_1_3_4_5_6
  e1 : c1 V = transpose S32x2x8x4x8 [2, 0, 1, 3, 4] (dec (cu a1 a2)) transposes_S2x8x32x4x8_S32x2x8x4x8_2_0_1_3_4
  e2 : c2 V = transpose S32x2x8x128x4x128 [2, 0, 1, 3, 4, 5] (cs a0) transposes_S2x8x32x128x4x128_S32x2x8x128x4x128_2_0_1_3_4_5
  e3 : c3 V = transpose S32x2x8x128x4x8x64 [2, 0, 1, 3, 4, 5, 6] (diag (xd a0 a1) (bs a0) (cs a0) (cu a1 a2)) transposes_S2x8x32x128x4x8x64_S32x2x8x128x4x8x64_2_0_1_3_4_5_6
  e4 : c4 V = transpose S32x2x8x128x4x8 [2, 0, 1, 3, 4, 5] (Host.exp (F := Ideal) (φ := .f32) (cu a1 a2)) transposes_S2x8x32x128x4x8_S32x2x8x128x4x8_2_0_1_3_4_5
  st : ∀ d b g r p n, c6 V (ix6 d b g r p n) = (ins a0 a1 a2 a3).state b d k (hcol (head g r) p) n
  ys : ∀ (k' : Fin 32) d b l g r p, k'.val < k → c7 V (ix7 k' d b l g r p)
    = ((ins a0 a1 a2 a3).chunk b d k'.val).y d.val ((ins a0 a1 a2 a3).state b d k'.val) (turn d l) (hcol (head g r) p)

/-- The arrays of one trip, entry by entry. -/
theorem at_0 (k : Fin 32) (x : Vec Ideal S2x8x32x4x8x64x128 .f32) (d b g r p n) :
    transpose S32x2x8x4x8x64x128 [2, 0, 1, 3, 4, 5, 6] x transposes_S2x8x32x4x8x64x128_S32x2x8x4x8x64x128_2_0_1_3_4_5_6 (ix7 k d b g r p n) = x (ix7 d b k g r p n) := by
  pointwise [forall_fin7]
theorem at_1 (k : Fin 32) (x : Vec Ideal S2x8x32x4x8 .f32) (d b g r) :
    transpose S32x2x8x4x8 [2, 0, 1, 3, 4] x transposes_S2x8x32x4x8_S32x2x8x4x8_2_0_1_3_4 (ix5 k d b g r) = x (ix5 d b k g r) := by
  pointwise
theorem at_2 (k : Fin 32) (x : Vec Ideal S2x8x32x128x4x128 .f32) (d b l g n) :
    transpose S32x2x8x128x4x128 [2, 0, 1, 3, 4, 5] x transposes_S2x8x32x128x4x128_S32x2x8x128x4x128_2_0_1_3_4_5 (ix6 k d b l g n) = x (ix6 d b k l g n) := by
  pointwise
theorem at_3 (k : Fin 32) (x : Vec Ideal S2x8x32x128x4x8x64 .f32) (d b l g r p) :
    transpose S32x2x8x128x4x8x64 [2, 0, 1, 3, 4, 5, 6] x transposes_S2x8x32x128x4x8x64_S32x2x8x128x4x8x64_2_0_1_3_4_5_6 (ix7 k d b l g r p) = x (ix7 d b k l g r p) := by
  pointwise [forall_fin7]
theorem at_4 (k : Fin 32) (x : Vec Ideal S2x8x32x128x4x8 .f32) (d b l g r) :
    transpose S32x2x8x128x4x8 [2, 0, 1, 3, 4, 5] (Host.exp (F := Ideal) (φ := .f32) x) transposes_S2x8x32x128x4x8_S32x2x8x128x4x8_2_0_1_3_4_5 (ix6 k d b l g r) = Ideal.exp (x (ix6 d b k l g r)) := by
  pointwise
theorem at_6 (d b g r p n) :
    shapeCast S2x8x4x8x64x128 (transpose S2x8x32x64x128 [1, 0, 2, 3, 4] a3 transposes_S8x2x32x64x128_S2x8x32x64x128_1_0_2_3_4) shapeCasts_S2x8x32x64x128_S2x8x4x8x64x128 (ix6 d b g r p n)
      = a3 (ix5 b d (head g r) p n) := by
  pointwise
  rfl

theorem state_zero (d b g r p n) : (ins a0 a1 a2 a3).state b d 0 (hcol (head g r) p) n = a3 (ix5 b d (head g r) p n) := by
  refine congrArg₂ (fun (h : Fin 32) (z : Fin 64) => a3 (ix5 b d h z n)) (hd_hcol (head g r) p) (Fin.ext ?_)
  show ((g.val * 8 + r.val) * 64 + p.val) % 64 = p.val
  omega

section
variable {a0 a1 a2 a3} {k : ℕ} (hk : k < 32) {V : Valuation τ sig (Elt Ideal)} (h : Inv a0 a1 a2 a3 k V)
include h

theorem next_ctr : (STEP V (Proc.devRef .tc main_v74_5) : IVec S_ 32) = fun _ => BitVec.ofNat 32 (k + 1) := by
  have e : (STEP V (Proc.devRef .tc main_v74_5) : IVec S_ 32) = addi (V (Proc.devRef .tc main_v74_5) : IVec S_ 32) (constantI S_ 32 1#32) := STEP_main_v74_5 V
  refine e.trans ?_
  rw [h.ctr]
  funext j
  exact (BitVec.ofNat_add k 1).symm

include hk
theorem next_state (d b g r p n) : c6 (STEP V) (ix6 d b g r p n) = (ins a0 a1 a2 a3).state b d (k + 1) (hcol (head g r) p) n := by
  rw [step_state V ⟨k, hk⟩ h.ctr, h.st, h.e1, h.e0, at_1, at_0]
  exact state_chunk a0 a1 a2 a3 d b ⟨k, hk⟩ g r _ p n

theorem next_rows (d b l g r p) : c7 (STEP V) (ix7 ⟨k, hk⟩ d b l g r p)
    = ((ins a0 a1 a2 a3).chunk b d k).y d.val ((ins a0 a1 a2 a3).state b d k) (turn d l) (hcol (head g r) p) := by
  have e3 : c3 V (ix7 ⟨k, hk⟩ d b l g r p) = diag (xd a0 a1) (bs a0) (cs a0) (cu a1 a2) (ix7 d b ⟨k, hk⟩ l g r p) := (congrFun h.e3 _).trans (at_3 _ _ _ _ _ _ _ _)
  have e4 : c4 V (ix6 ⟨k, hk⟩ d b l g r) = Ideal.exp (cu a1 a2 (ix6 d b ⟨k, hk⟩ l g r)) := (congrFun h.e4 _).trans (at_4 _ _ _ _ _ _ _)
  have e2 : ∀ n, c2 V (ix6 ⟨k, hk⟩ d b l g n) = cs a0 (ix6 d b ⟨k, hk⟩ l g n) := fun n => (congrFun h.e2 _).trans (at_2 _ _ _ _ _ _ _)
  have e := step_y V ⟨k, hk⟩ h.ctr ⟨k, hk⟩ d b l g r p
  rw [if_pos rfl, e3, e4] at e
  refine e.trans (Eq.trans ?_ (y_chunk a0 a1 a2 a3 d b ⟨k, hk⟩ g r _ l p))
  refine congrArg₂ (· + ·) rfl (congrArg₂ (· * ·) (Finset.sum_congr rfl fun n _ => ?_) rfl)
  rw [h.st, e2]

theorem inv_succ : Inv a0 a1 a2 a3 (k + 1) (STEP V) where
  ctr := next_ctr h
  e0 := (STEP_main_v74_0 V).trans h.e0
  e1 := (STEP_main_v74_1 V).trans h.e1
  e2 := (STEP_main_v74_2 V).trans h.e2
  e3 := (STEP_main_v74_3 V).trans h.e3
  e4 := (STEP_main_v74_4 V).trans h.e4
  st := next_state hk h
  ys k' d b l g r p hk' := by
    by_cases e : k'.val = k
    · obtain rfl : k' = ⟨k, hk⟩ := Fin.ext e
      exact next_rows hk h d b l g r p
    · rw [step_y V ⟨k, hk⟩ h.ctr, if_neg (fun e' => e (congrArg Fin.val e')), h.ys k' d b l g r p (by omega)]
end

theorem inv_all {V : Valuation τ sig (Elt Ideal)} (h : Inv a0 a1 a2 a3 0 V) : ∀ k, k ≤ 32 → Inv a0 a1 a2 a3 k (STEP^[k] V)
  | 0, _ => h
  | k + 1, hk => by
    rw [Function.iterate_succ_apply']
    exact inv_succ (by omega) (inv_all h k (by omega))
/-- The rows of both directions, and how the first result is made of them. -/
def rows (ys : Vec Ideal S32x2x8x128x4x8x64 .f32) : Vec Ideal S2x8x4096x32x64 .f32 :=
  shapeCast _ (transpose S2x8x32x128x4x8x64 [1, 2, 0, 3, 4, 5, 6] ys transposes_S32x2x8x128x4x8x64_S2x8x32x128x4x8x64_1_2_0_3_4_5_6) shapeCasts_S2x8x32x128x4x8x64_S2x8x4096x32x64
def both (z : Vec Ideal S2x8x4096x32x64 .f32) : Vec Ideal S2x8x4096x2048 .f32 :=
  shapeCast _ (concatenate S2x8x4096x32x64 0
    [⟨S1x8x4096x32x64, broadcastInDim S1x8x4096x32x64 ![1, 2, 3, 4] bcast_S8x4096x32x64_S1x8x4096x32x64_1_2_3_4
        (shapeCast S8x4096x32x64 (extractStridedSlice S1x8x4096x32x64 ![0, 0, 0, 0, 0] z slices_S2x8x4096x32x64_S1x8x4096x32x64_0_0_0_0_0) shapeCasts_S1x8x4096x32x64_S8x4096x32x64)⟩,
     ⟨S1x8x4096x32x64, broadcastInDim S1x8x4096x32x64 ![1, 2, 3, 4] bcast_S8x4096x32x64_S1x8x4096x32x64_1_2_3_4
        (Host.reverse [1] (shapeCast S8x4096x32x64 (extractStridedSlice S1x8x4096x32x64 ![1, 0, 0, 0, 0] z slices_S2x8x4096x32x64_S1x8x4096x32x64_1_0_0_0_0) shapeCasts_S1x8x4096x32x64_S8x4096x32x64))⟩]
    concatenates_S1x8x4096x32x64_S1x8x4096x32x64_S2x8x4096x32x64_d0) shapeCasts_S2x8x4096x32x64_S2x8x4096x2048

theorem reverse_apply (v : Vec Ideal S8x4096x32x64 .f32) (b t h p) : Host.reverse [1] v (ix4 b t h p) = v (ix4 b t.rev h p) := by
  pointwise
  rfl
theorem rows_apply (ys : Vec Ideal S32x2x8x128x4x8x64 .f32) (d b t h p) : rows ys (ix5 d b t h p)
    = ys (ix7 ⟨t.val / 128, by omega⟩ d b ⟨t.val % 128, by omega⟩ ⟨h.val / 8, by omega⟩ ⟨h.val % 8, by omega⟩ p) := by
  pointwise [rows, forall_fin7]
theorem both_apply (z : Vec Ideal S2x8x4096x32x64 .f32) (d : Fin 2) (b : Fin 8) (t : Fin 4096) (q : Fin 2048) : both z (ix4 d b t q) = z (ix5 d b (turn d t) ⟨q.val / 64, by omega⟩ ⟨q.val % 64, by omega⟩) := by
  pointwise [both]
  by_cases hd : d.val < 1
  · have h0 : d = 0 := by omega
    subst h0
    exact dif_pos hd
  · have h1 : d = 1 := by omega
    subst h1
    exact dif_neg hd

theorem hcol_split (q : Fin 2048) : hcol (head ⟨q.val / 64 / 8, by omega⟩ ⟨q.val / 64 % 8, by omega⟩) ⟨q.val % 64, by omega⟩ = q := Fin.ext (by
  show (q.val / 64 / 8 * 8 + q.val / 64 % 8) * 64 + q.val % 64 = q.val
  omega)
theorem turn_row_split (d : Fin 2) (t : Fin 4096) (h : (turn d t).val % 128 < 128) : row d ((turn d t).val / 128) (turn d ⟨(turn d t).val % 128, h⟩) = t := by
  obtain ⟨u, rfl⟩ : ∃ u, t = turn d u := ⟨turn d t, (turn_turn d t).symm⟩
  revert h
  rw [turn_turn]
  intro h
  have hm : (row d (u.val / 128) (turn d ⟨u.val % 128, by omega⟩)) = turn d (⟨(⟨u.val / 128, by omega⟩ : Fin 32).val * 128 + (⟨u.val % 128, by omega⟩ : Fin 128).val, by
      show u.val / 128 * 128 + u.val % 128 < 4096; omega⟩ : Fin 4096) := (turn_row d ⟨u.val / 128, by omega⟩ ⟨u.val % 128, by omega⟩ _).symm
  refine hm.trans (congrArg (turn d) (Fin.ext ?_))
  show u.val / 128 * 128 + u.val % 128 = u.val
  omega

variable {a0 a1 a2 a3} {V : Valuation τ sig (Elt Ideal)} (h : Inv a0 a1 a2 a3 32 V)
include h

theorem fin_of : (out_main_v87 V : Vec Ideal S8x2x32x64x128 .f32) = fun i => (ins a0 a1 a2 a3).fin (i 0) (i 1) (i 2) (i 3) (i 4) := by
  replace h := h.st
  funext i
  obtain ⟨b, d, hh, p, n, rfl⟩ : ∃ b d hh p n, i = ix5 b d hh p n := ⟨i 0, i 1, i 2, i 3, i 4, by ext a; fin_cases a <;> rfl⟩
  have e : (out_main_v87 V : Vec Ideal S8x2x32x64x128 .f32) = transpose S8x2x32x64x128 [1, 0, 2, 3, 4] (shapeCast S2x8x32x64x128 (c6 V) shapeCasts_S2x8x4x8x64x128_S2x8x32x64x128) transposes_S2x8x32x64x128_S8x2x32x64x128_1_0_2_3_4 := rfl
  rw [e]
  pointwise
  rw [h]
  refine congrArg (fun z => (ins a0 a1 a2 a3).state b d 32 (hcol z p) n) (Fin.ext ?_)
  show hh.val / 8 * 8 + hh.val % 8 = hh.val
  omega

theorem out_of : (out_main_v86 V : Vec Ideal S2x8x4096x2048 .f32) = fun i => (ins a0 a1 a2 a3).out (i 0) (i 1) (i 2) (i 3) := by
  funext i
  obtain ⟨d, b, t, q, rfl⟩ : ∃ d b t q, i = ix4 d b t q := ⟨i 0, i 1, i 2, i 3, by ext a; fin_cases a <;> rfl⟩
  have e : (out_main_v86 V : Vec Ideal S2x8x4096x2048 .f32) = both (rows (c7 V)) := rfl
  refine (congrFun e _).trans ((both_apply _ d b t q).trans ((rows_apply _ _ _ _ _ _).trans ?_))
  have hlt : (turn d t).val / 128 < 32 := by have := (turn d t).isLt; omega
  refine (h.ys ⟨(turn d t).val / 128, hlt⟩ d b _ _ _ _ hlt).trans ?_
  rw [← Inputs.out_row (ins a0 a1 a2 a3) b d ((turn d t).val / 128) hlt, turn_row_split, hcol_split]
  rfl
end
end Cert.ReferenceIdeal.Scan
end
-- ==== Proof.Ssd.RefRun.lean ====
module

public import proofs.«01_k».proof.Proof.Ssd.RefEntry
public import proofs.«01_k».proof.Proof.Ssd.RefLoop

/-! The reference's loop and its two results. -/

@[expose] public section
set_option maxRecDepth 16384
noncomputable section
namespace Cert.ReferenceIdeal.Scan
open Idealize.ShloMosaic Idealize.ShloMosaic.TcCoe Idealize.ShloMosaic.StableHlo Cert.ReferenceIdeal Cert.ReferenceIdeal.Gen Cert.ReferenceIdeal.Value Ssd

variable (m : (ℓ : Loc nD τ sig) → Buf (Elt Ideal) ℓ) (c : Dev nD)

/-- The arguments of the scan. -/
def inp : Inputs := ins (xbc m c) (dt m c) (an m c) (init m c)

theorem inv_entry : Inv (xbc m c) (dt m c) (an m c) (init m c) 0 (entryContents preI m c) where
  ctr := ctr_entry m c
  e0 := entry_0 m c
  e1 := entry_1 m c
  e2 := entry_2 m c
  e3 := entry_3 m c
  e4 := entry_4 m c
  st d b g r p n := by
    rw [state_zero]
    exact (congrFun (entry_6 m c) _).trans (at_6 _ _ _ _ _ _ _)
  ys k' _ _ _ _ _ _ h := absurd h (Nat.not_lt_zero _)

/-- The two results of the reference. -/
theorem out_eq : (out_main_v86 (STEP^[32] (entryContents preI m c)) : Vec Ideal S2x8x4096x2048 .f32) = fun i => (inp m c).out (i 0) (i 1) (i 2) (i 3) :=
  out_of (inv_all _ _ _ _ (inv_entry m c) 32 le_rfl)
theorem fin_eq : (out_main_v87 (STEP^[32] (entryContents preI m c)) : Vec Ideal S8x2x32x64x128 .f32) = fun i => (inp m c).fin (i 0) (i 1) (i 2) (i 3) (i 4) :=
  fin_of (inv_all _ _ _ _ (inv_entry m c) 32 le_rfl)
end Cert.ReferenceIdeal.Scan
end
-- ==== Proof.Ssd.Meet.lean ====
module

public import proofs.«01_k».proof.Defs
public import proofs.«01_k».proof.Proof.Gen.Pre_steps_finite
public import proofs.«01_k».proof.Proof.Ssd.Run
public import proofs.«01_k».proof.Proof.Ssd.RefRun

/-! What the precondition says, and that kernel and reference compute the same two arrays. -/

@[expose] public section
set_option maxRecDepth 16384
noncomputable section
namespace Ssd
open Idealize.ShloMosaic Idealize.ShloMosaic.TcCoe Idealize.SL.Sem

/-- A number whose absolute value lies below infinity is finite. -/
theorem fi_of_abs (x : EReal) (h : Ideal.cmp .olt (FloatOps.absf (F := Ideal) (φ := .f32) x) (Ideal.ofBits .f32 0x7F800000#32) = 1#1) : Fi x := by
  have ht : Ideal.ofBits .f32 0x7F800000#32 = (⊤ : EReal) := by simp [Ideal.ofBits, Ideal.ieee]
  rw [ht] at h
  induction x with
  | coe r => exact ⟨r, rfl⟩
  | top => exact absurd h (by simp [Ideal.cmp, FloatOps.absf])
  | bot => exact absurd h (by simp [Ideal.cmp, FloatOps.absf])

section Pre
open Cert.Pre_steps_finite Cert.Pre_steps_finite.Gen
variable (x : FVec Ideal Cert.Pre_steps_finite.S8x4096x3072 .f32) (dt : FVec Ideal Cert.Pre_steps_finite.S8x4096x2x32 .f32) (an : FVec Ideal Cert.Pre_steps_finite.S2x32 .f32) (s : FVec Ideal Cert.Pre_steps_finite.S8x2x32x64x128 .f32)

theorem pre_at (b t d h) : fn (F := Ideal) x dt an s (ix4 b t d h)
    = Ideal.cmp .olt (FloatOps.absf (F := Ideal) (φ := .f32) (dt (ix4 b t d h))) (Ideal.ofBits .f32 0x7F800000#32) &&& Ideal.cmp .olt (FloatOps.absf (F := Ideal) (φ := .f32) (an (ix2 d h))) (Ideal.ofBits .f32 0x7F800000#32) := by
  pointwise [fn]
  rfl

theorem and_one : ∀ p q : BitVec 1, p &&& q = 1#1 → p = 1#1 ∧ q = 1#1 := by decide

theorem finite_of_pre (h : fn (F := Ideal) x dt an s = fun _ => 1#1) :
    (∀ b t d k, Fi (dt (ix4 b t d k))) ∧ ∀ d k, Fi (an (ix2 d k)) :=
  ⟨fun b t d k => fi_of_abs _ (and_one _ _ ((pre_at x dt an s b t d k).symm.trans (congrFun h _))).1,
   fun d k => fi_of_abs _ (and_one _ _ ((pre_at x dt an s 0 0 d k).symm.trans (congrFun h _))).2⟩
end Pre

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

theorem finite_inp (h : Cert.Pre_KernelIdeal_steps_finite m) (c : Dev Cert.KernelIdeal.nD) : (Cert.KernelIdeal.Scan.inp m c).Finite :=
  let f := finite_of_pre _ _ _ _ (h c)
  ⟨fun b t d k => f.1 b t d k, fun d k => f.2 d k⟩

theorem same_inp (c : Dev Cert.KernelIdeal.nD)
    (h0 : Cert.ReferenceIdeal.Scan.xbc m' c = m ((c.tc : Thread Cert.KernelIdeal.nD Cert.KernelIdeal.τ).loc Cert.KernelIdeal.main_arg0))
    (h1 : Cert.ReferenceIdeal.Scan.dt m' c = m ((c.tc : Thread Cert.KernelIdeal.nD Cert.KernelIdeal.τ).loc Cert.KernelIdeal.main_arg1))
    (h2 : Cert.ReferenceIdeal.Scan.an m' c = m ((c.tc : Thread Cert.KernelIdeal.nD Cert.KernelIdeal.τ).loc Cert.KernelIdeal.main_arg2))
    (h3 : Cert.ReferenceIdeal.Scan.init m' c = m ((c.tc : Thread Cert.KernelIdeal.nD Cert.KernelIdeal.τ).loc Cert.KernelIdeal.main_arg3)) :
    Cert.ReferenceIdeal.Scan.inp m' c = Cert.KernelIdeal.Scan.inp m c := by
  unfold Cert.ReferenceIdeal.Scan.inp
  rw [h0, h1, h2, h3]
  rfl

/-- Kernel and reference agree. -/
theorem algebraic : Cert.algebraic_KernelIdeal_ReferenceIdeal_pre_steps_finite := fun m ρ m' ρ' hpre hag =>
  have e := fun c => same_inp m m' c (hag c).1 (hag c).2.1 (hag c).2.2.1 (hag c).2.2.2
  ⟨fun c => fun i => (Cert.KernelIdeal.Scan.inp m c).out (i 0) (i 1) (i 2) (i 3),
   fun c => fun i => (Cert.KernelIdeal.Scan.inp m c).fin (i 0) (i 1) (i 2) (i 3) (i 4),
   (θ_run _ _ _).mono (fun _ h c =>
      ⟨(h c).1.trans (Cert.KernelIdeal.Scan.out_eq m c (finite_inp m hpre c)),
       (h c).2.1.trans (Cert.KernelIdeal.Scan.fin_eq m c (finite_inp m hpre c)), (h c).2.2⟩)
     (Cert.KernelIdeal.Value.run_blocks m ρ),
   (θ_run _ _ _).mono (fun _ h c =>
      ⟨(h c).1.trans ((Cert.ReferenceIdeal.Scan.out_eq m' c).trans (by rw [e c]; rfl)),
       (h c).2.1.trans ((Cert.ReferenceIdeal.Scan.fin_eq m' c).trans (by rw [e c]; rfl)), (h c).2.2⟩)
     (Cert.ReferenceIdeal.Value.run m' ρ')⟩
end
end Ssd
end
-- ==== Proof.Mix.Spec.lean ====
module

public import Idealize.ShloMosaic.PureOps.Ideal

/-! What the mixers' projections compute, by coordinates. -/

@[expose] public section
noncomputable section
namespace Mix
open Idealize.ShloMosaic

/-- The sequence a token belongs to. -/
def bat (t : Fin 32768) : Fin 8 := ⟨t.val / 4096, by omega⟩

/-- The token scaled and shifted. -/
def hx (x : Fin 32768 → Fin 1024 → EReal) (sc sh : Fin 8 → Fin 1024 → EReal) (t : Fin 32768) (k : Fin 1024) : EReal :=
  x t k * (1 + sc (bat t) k) + sh (bat t) k

/-- The projection of the scaled and shifted token. -/
def lin {n : ℕ} (x : Fin 32768 → Fin 1024 → EReal) (sc sh : Fin 8 → Fin 1024 → EReal) (w : Fin 1024 → Fin n → EReal) (t : Fin 32768) (j : Fin n) : EReal :=
  ∑ k, hx x sc sh t k * w k j
/-- The place of a token in its sequence, and the token at a place of a batch's sequence. -/
def pos (t : Fin 32768) : Fin 4096 := ⟨t.val % 4096, Nat.mod_lt _ (by decide)⟩
def row (b : Fin 8) (l : Fin 4096) : Fin 32768 := ⟨b.val * 4096 + l.val, by omega⟩
theorem bat_row (b : Fin 8) (l : Fin 4096) : bat (row b l) = b := Fin.ext (by simp only [bat, row]; omega)
theorem pos_row (b : Fin 8) (l : Fin 4096) : pos (row b l) = l := Fin.ext (by simp only [pos, row]; omega)
theorem row_pos (t : Fin 32768) : row (bat t) (pos t) = t := Fin.ext (by simp only [pos, row, bat]; omega)

/-! The same of the context's tokens, 256 of each batch, which share one scale and shift. -/

namespace Ctx
def hx (x : Fin 2048 → Fin 1024 → EReal) (sc sh : Fin 1024 → EReal) (t : Fin 2048) (k : Fin 1024) : EReal :=
  x t k * (1 + sc k) + sh k
def lin {n : ℕ} (x : Fin 2048 → Fin 1024 → EReal) (sc sh : Fin 1024 → EReal) (w : Fin 1024 → Fin n → EReal) (t : Fin 2048) (j : Fin n) : EReal :=
  ∑ k, hx x sc sh t k * w k j
def bat (t : Fin 2048) : Fin 8 := ⟨t.val / 256, by omega⟩
def pos (t : Fin 2048) : Fin 256 := ⟨t.val % 256, Nat.mod_lt _ (by decide)⟩
def row (b : Fin 8) (l : Fin 256) : Fin 2048 := ⟨b.val * 256 + l.val, by omega⟩
theorem bat_row (b : Fin 8) (l : Fin 256) : bat (row b l) = b := Fin.ext (by simp only [bat, row]; omega)
theorem pos_row (b : Fin 8) (l : Fin 256) : pos (row b l) = l := Fin.ext (by simp only [pos, row]; omega)
theorem row_pos (t : Fin 2048) : row (bat t) (pos t) = t := Fin.ext (by simp only [pos, row, bat]; omega)
end Ctx
end Mix
end
-- ==== Proof.Mix.ZKernel.lean ====
module

public import proofs.«01_k».proof.Proof.Gen.KernelZIdeal.Value
public import proofs.«01_k».proof.Proof.Mix.Spec
public import Idealize.ShloMosaic.Lib.Pipeline.Value
public import Idealize.ShloMosaic.Lib.Pointwise
public import Idealize.ShloMosaic.Lib.Pipeline.ValueKit
public import Idealize.ShloMosaic.Lib.IdealHost

/-! The projection to z: what the kernel leaves. -/

@[expose] public section
set_option maxRecDepth 16384
noncomputable section
namespace Cert.KernelZIdeal.Proj
open Idealize.ShloMosaic Idealize.ShloMosaic.TcCoe Idealize.ShloMosaic.StableHlo Cert.KernelZIdeal Cert.KernelZIdeal.Gen Mix

variable (m : (ℓ : Loc nD τ sig) → Buf (Elt Ideal) ℓ)

theorem pay_apply (x : Vec Ideal S1024x1024 .f32) (sc sh : Vec Ideal S1x1x1024 .f32) (w : Vec Ideal S1024x1024 .bf16) (l j) :
    k0_pay1 x sc sh w (ix2 l j) = ∑ k : Fin 1024, (x (ix2 l k) * (1 + sc (ix3 0 0 k)) + sh (ix3 0 0 k)) * w (ix2 k j) := by
  pointwise [k0_pay1]

theorem e0 : ∀ t : Fin cfg0.N, win0_0.index t = ![t.val / 2, 0] := (by decide +kernel : ∀ t : Fin grid0.N, _)
theorem e1 : ∀ t : Fin cfg0.N, win0_1.index t = ![t.val / 8, 0, 0] := (by decide +kernel : ∀ t : Fin grid0.N, _)
theorem e2 : ∀ t : Fin cfg0.N, win0_2.index t = ![t.val / 8, 0, 0] := (by decide +kernel : ∀ t : Fin grid0.N, _)
theorem e3 : ∀ t : Fin cfg0.N, win0_3.index t = ![0, t.val % 2] := (by decide +kernel : ∀ t : Fin grid0.N, _)
theorem e4 : ∀ t : Fin cfg0.N, win0_4.index t = ![t.val / 2, t.val % 2] := (by decide +kernel : ∀ t : Fin grid0.N, _)

/-- The result. -/
def out (c : Dev nD) (t : Fin 32768) (j : Fin 2048) : EReal :=
  lin (fun t k => m ((c : Thread nD τ).loc main_arg0) (ix2 t k)) (fun b k => m ((c : Thread nD τ).loc main_arg1) (ix3 b 0 k))
    (fun b k => m ((c : Thread nD τ).loc main_arg2) (ix3 b 0 k)) (fun k j => m ((c : Thread nD τ).loc main_arg3) (ix2 k j)) t j

theorem V_v0 (c : Dev nD) (k j) : V m c main_v0 (ix2 k j) = m ((c : Thread nD τ).loc main_arg3) (ix2 k j) := by
  have e : V m c main_v0 = truncf (F := Ideal) .bf16 (m ((c : Thread nD τ).loc main_arg3)) bitsLt_bf16_f32 := by
    unfold V hostOps0
    after_results
  rw [e]
  rfl

theorem lt_N (t : Fin cfg0.N) : t.val < 64 := lt_of_lt_of_eq t.isLt N_0

/-- A row and a column of a point's block of the result. -/
def tok (t : Fin cfg0.N) (l : Fin 1024) : Fin 32768 := ⟨t.val / 2 * 1024 + l.val, by have := lt_N t; omega⟩
def col (t : Fin cfg0.N) (j : Fin 1024) : Fin 2048 := ⟨t.val % 2 * 1024 + j.val, by omega⟩

theorem b0 (c : Dev nD) (t : Fin cfg0.N) (l k : Fin 1024) : iblk m c 0 t (ix2 l k) = m ((c : Thread nD τ).loc main_arg0) (ix2 (tok t l) k) := by
  unfold iblk
  blk_simp
  rw [V_main_arg0]
  refine congrArg (m ((c : Thread nD τ).loc main_arg0)) ?_
  blk_ext [e0, tok]
theorem b1 (c : Dev nD) (t : Fin cfg0.N) (l k : Fin 1024) : iblk m c 1 t (ix3 0 0 k) = m ((c : Thread nD τ).loc main_arg1) (ix3 (bat (tok t l)) 0 k) := by
  unfold iblk
  blk_simp
  rw [V_main_arg1]
  refine congrArg (m ((c : Thread nD τ).loc main_arg1)) ?_
  blk_ext [e1, tok, bat]
theorem b2 (c : Dev nD) (t : Fin cfg0.N) (l k : Fin 1024) : iblk m c 2 t (ix3 0 0 k) = m ((c : Thread nD τ).loc main_arg2) (ix3 (bat (tok t l)) 0 k) := by
  unfold iblk
  blk_simp
  rw [V_main_arg2]
  refine congrArg (m ((c : Thread nD τ).loc main_arg2)) ?_
  blk_ext [e2, tok, bat]
theorem b3 (c : Dev nD) (t : Fin cfg0.N) (k j : Fin 1024) : iblk m c 3 t (ix2 k j) = m ((c : Thread nD τ).loc main_arg3) (ix2 k (col t j)) := by
  unfold iblk
  blk_simp
  refine Eq.trans (congrArg (V m c main_v0) ?_) (V_v0 m c k (col t j))
  blk_ext [e3, col]

theorem out_apply (x : Vec Ideal S1024x1024 .f32) (sc sh : Vec Ideal S1x1x1024 .f32) (w : Vec Ideal S1024x1024 .bf16) :
    out0_4 x sc sh w = k0_pay1 x sc sh w := by
  unfold out0_4
  rw [View.canon_cons_unit_lit _ _ _ (by decide), View.ld_unit_lit _ _ (by decide), View.ld_unit_lit _ _ (by decide), View.ld_unit_lit _ _ (by decide), View.ld_unit_lit _ _ (by decide)]

/-- What a point leaves. -/
theorem point_apply (c : Dev nD) (t : Fin cfg0.N) (l j : Fin 1024) :
    out0_4 (iblk m c 0 t) (iblk m c 1 t) (iblk m c 2 t) (iblk m c 3 t) (ix2 l j) = out m c (tok t l) (col t j) := by
  rw [out_apply, pay_apply]
  unfold out lin hx
  exact Finset.sum_congr rfl fun k _ => by rw [b0, b1 m c t l, b2 m c t l, b3]

theorem out_eq (c : Dev nD) : (dats m 0 c).arrAt 4 cfg0.N = fun i => out m c (i 0) (i 1) := by
  refine (dats m 0 c).arrAt_eq_of_covers 4 _ (by decide +kernel) fun t hfl y => ?_
  blk_simp
  rw [after0_4]
  idx_bounds y
  have ey : y = ix2 (y 0) (y 1) := by
    blk_ext
  refine (congrArg _ ey).trans ((point_apply m c t (y 0) (y 1)).trans ?_)
  have h0 : tok t (y 0) = ((cfg0.win 4).blk t).view.emb y 0 := Fin.ext (by blk_simp [e4, tok])
  have h1 : col t (y 1) = ((cfg0.win 4).blk t).view.emb y 1 := Fin.ext (by blk_simp [e4, col])
  exact congr (congrArg (out m c) h0) h1
end Cert.KernelZIdeal.Proj
end
-- ==== Proof.Mix.Z.lean ====
module

public import proofs.«01_k».proof.Defs
public import proofs.«01_k».proof.Proof.Gen.ReferenceZIdeal.Run
public import proofs.«01_k».proof.Proof.Mix.ZKernel

/-! The projection to z: the reference, and that both agree. -/

@[expose] public section
set_option maxRecDepth 16384
noncomputable section
namespace Cert.ReferenceZIdeal.Proj
open Idealize.ShloMosaic Idealize.ShloMosaic.TcCoe Idealize.SL.Sem Cert.ReferenceZIdeal Cert.ReferenceZIdeal.Gen Mix

section
variable (x : Vec Ideal S32768x1024 .f32) (sc sh : Vec Ideal S8x1x1024 .f32) (w : Vec Ideal S1024x2048 .f32)

/-- The scaled and shifted tokens, and their projection. -/
def hid : Vec Ideal S8x4096x1024 .f32 :=
  addf (F := Ideal) (φ := .f32) (mulf (F := Ideal) (φ := .f32) (shapeCast S8x4096x1024 x shapeCasts_S32768x1024_S8x4096x1024) (broadcastInDim S8x4096x1024 ![0, 1, 2] bcast_S8x1x1024_S8x4096x1024_0_1_2 (addf (F := Ideal) (φ := .f32) (broadcastInDim S8x1x1024 ![] bcast_S_S8x1x1024 (constant (F := Ideal) S_ .f32 0x3F800000#32)) sc))) (broadcastInDim S8x4096x1024 ![0, 1, 2] bcast_S8x1x1024_S8x4096x1024_0_1_2 sh)
def res : Vec Ideal S32768x2048 .f32 :=
  shapeCast S32768x2048 (Host.dotGeneral (F := Ideal) (φ₁ := .f32) (φ₂ := .f32) dot_S8x4096x1024_S1024x2048_S8x4096x2048_2_0_01_1_n_n none (hid x sc sh) w) shapeCasts_S8x4096x2048_S32768x2048

theorem hid_apply (b : Fin 8) (l : Fin 4096) (k : Fin 1024) : hid x sc sh (ix3 b l k)
    = x (ix2 ⟨b.val * 4096 + l.val, by omega⟩ k) * (1 + sc (ix3 b 0 k)) + sh (ix3 b 0 k) := by
  pointwise [hid]
theorem res_apply (t : Fin 32768) (j : Fin 2048) : res x sc sh w (ix2 t j)
    = lin (fun t k => x (ix2 t k)) (fun b k => sc (ix3 b 0 k)) (fun b k => sh (ix3 b 0 k)) (fun k j => w (ix2 k j)) t j := by
  pointwise [res]
  unfold lin
  refine Finset.sum_congr rfl fun k _ => congrArg (· * w (ix2 k j)) ((hid_apply x sc sh _ _ _).trans ?_)
  unfold hx bat
  refine congrArg (fun i => x (ix2 i k) * _ + _) (Fin.ext ?_)
  show t.val / 4096 * 4096 + t.val % 4096 = t.val
  omega
end
end Cert.ReferenceZIdeal.Proj

namespace Mix.Z
open Idealize.ShloMosaic Idealize.ShloMosaic.TcCoe Idealize.SL.Sem

theorem algebraic : Cert.algebraic_KernelZIdeal_ReferenceZIdeal := fun m ρ m' ρ' _ hag =>
  ⟨fun c => fun i => Cert.KernelZIdeal.Proj.out m c (i 0) (i 1),
   (θ_run _ _ _).mono (fun _ h c => ⟨(h c).1.trans (Cert.KernelZIdeal.Proj.out_eq m c), (h c).2⟩) (Cert.KernelZIdeal.Value.run_blocks m ρ),
   (θ_run _ _ _).mono (fun _ h c => ⟨(h c).1.trans (by
      obtain ⟨h0, h1, h2, h3⟩ := hag c
      refine (rfl : _ = Cert.ReferenceZIdeal.Proj.res _ _ _ _).trans (funext fun i => ?_)
      obtain ⟨t, j, rfl⟩ : ∃ t j, i = ix2 t j := ⟨i 0, i 1, by ext a; fin_cases a <;> rfl⟩
      rw [h0, h1, h2, h3]
      exact Cert.ReferenceZIdeal.Proj.res_apply _ _ _ _ t j), (h c).2⟩) (Cert.ReferenceZIdeal.Value.run m' ρ')⟩
end Mix.Z
end
-- ==== Proof.Mix.Shift.lean ====
module

public import Idealize.ShloMosaic.Lib.Pipeline.Value
public import Idealize.ShloMosaic.Lib.Pointwise
public import Idealize.ShloMosaic.Lib.KernelVsHost
public import Idealize.ShloMosaic.Lib.IdealHost

/-! Rows turned along a sequence, and the masks that cut the turned rows at the ends. -/

@[expose] public section
set_option maxRecDepth 16384
noncomputable section
namespace Mix
open Idealize.ShloMosaic Idealize.ShloMosaic.TcCoe

/-- The row a turn by `n` brings to row `l`. -/
def src {N : ℕ} (n : BitVec 32) (l : Fin N) : Fin N := ⟨(l.val + N - n.toNat % N) % N, Nat.mod_lt _ (by have := l.isLt; omega)⟩

/-- The turned rows. -/
def roll {α : Type} {N : ℕ} (n : BitVec 32) (x : (⟨2, ![N, 256]⟩ : Shape).Idx → α) : (⟨2, ![N, 256]⟩ : Shape).Idx → α := fun i => x (ix2 (src n (i 0)) (i 1))

theorem roll_eq {α : Type} {N : ℕ} (n : BitVec 32) (x : (⟨2, ![N, 256]⟩ : Shape).Idx → α) (h : (⟨2, ![N, 256]⟩ : Shape).Rotates 0 none) :
    dynamicRotate 0 n none x h = roll n x := by
  funext i
  refine dynamicRotate_apply 0 n x h i _ fun b => ?_
  fin_cases b
  · rfl
  · rfl

theorem roll_apply {α : Type} {N : ℕ} (n : BitVec 32) (x : (⟨2, ![N, 256]⟩ : Shape).Idx → α) (l j) : roll n x (ix2 l j) = x (ix2 (src n l) j) := rfl

theorem src_back {N : ℕ} (l : Fin N) (k : ℕ) (hk : 0 < k) (h : k ≤ l.val) (hN : N ≤ 4096 := by omega) : src (BitVec.ofNat 32 k) l = ⟨l.val - k, by omega⟩ := by
  apply Fin.ext
  have hl := l.isLt
  simp only [src, BitVec.toNat_ofNat]
  rw [Nat.mod_eq_of_lt (show k < 2 ^ 32 by omega), Nat.mod_eq_of_lt (show k < N by omega), show l.val + N - k = l.val - k + N by omega, Nat.add_mod_right,
    Nat.mod_eq_of_lt (by omega)]
theorem src_fwd {N : ℕ} (l : Fin N) (k : ℕ) (hk : k < N) (h : l.val < k) (hN : N ≤ 4096 := by omega) : src (BitVec.ofNat 32 k) l = ⟨l.val + (N - k), by omega⟩ := by
  apply Fin.ext
  simp only [src, BitVec.toNat_ofNat]
  rw [Nat.mod_eq_of_lt (show k < 2 ^ 32 by omega), Nat.mod_eq_of_lt hk, Nat.mod_eq_of_lt (by omega)]
  omega

theorem toInt_ofNat (a : ℕ) (ha : a < 8192) : (BitVec.ofNat 32 a).toInt = a := by
  rw [BitVec.toInt_eq_toNat_cond, BitVec.toNat_ofNat]
  split <;> omega

/-- A choice by a comparison of two small numbers. -/
theorem sel_ge {α : Type} (a k : ℕ) (ha : a < 8192) (hk : k < 8192) (x y : α) :
    Scalar.select (IntOp.cmpi .sge (BitVec.ofNat 32 a) (BitVec.ofNat 32 k)) x y = if k ≤ a then x else y := by
  unfold Scalar.select IntOp.cmpi
  simp only [BitVec.sle, toInt_ofNat a ha, toInt_ofNat k hk]
  by_cases h : k ≤ a <;> simp [h]
theorem sel_lt {α : Type} (a k : ℕ) (ha : a < 8192) (hk : k < 8192) (x y : α) :
    Scalar.select (IntOp.cmpi .slt (BitVec.ofNat 32 a) (BitVec.ofNat 32 k)) x y = if a < k then x else y := by
  unfold Scalar.select IntOp.cmpi
  simp only [BitVec.slt, toInt_ofNat a ha, toInt_ofNat k hk]
  by_cases h : a < k <;> simp [h]
theorem and_63 (a : ℕ) (ha : a < 8192) : IntOp.andi (BitVec.ofNat 32 a) 63#32 = BitVec.ofNat 32 (a % 64) := by
  unfold IntOp.andi
  apply BitVec.eq_of_toNat_eq
  rw [BitVec.toNat_and, BitVec.toNat_ofNat, BitVec.toNat_ofNat, BitVec.toNat_ofNat, show 63 % 2 ^ 32 = 2 ^ 6 - 1 from rfl, Nat.and_two_pow_sub_one_eq_mod]
  omega
theorem and_255 (a : ℕ) (ha : a < 256) : IntOp.andi (BitVec.ofNat 32 a) 255#32 = BitVec.ofNat 32 a := by
  unfold IntOp.andi
  apply BitVec.eq_of_toNat_eq
  rw [BitVec.toNat_and, BitVec.toNat_ofNat, BitVec.toNat_ofNat, show 255 % 2 ^ 32 = 2 ^ 8 - 1 from rfl, Nat.and_two_pow_sub_one_eq_mod]
  omega
theorem and_4095 (a : ℕ) (ha : a < 4096) : IntOp.andi (BitVec.ofNat 32 a) 4095#32 = BitVec.ofNat 32 a := by
  unfold IntOp.andi
  apply BitVec.eq_of_toNat_eq
  rw [BitVec.toNat_and, BitVec.toNat_ofNat, BitVec.toNat_ofNat, show 4095 % 2 ^ 32 = 2 ^ 12 - 1 from rfl, Nat.and_two_pow_sub_one_eq_mod]
  omega

section
variable {N : ℕ} (m : IVec (⟨2, ![N, 256]⟩ : Shape) 32) (k n : ℕ) (x : (⟨2, ![N, 256]⟩ : Shape).Idx → EReal) (z : EReal)
  (h : (⟨2, ![N, 256]⟩ : Shape).Rotates 0 none) (l : Fin N) (j : Fin 256) (a : ℕ) (hm : m (ix2 l j) = BitVec.ofNat 32 a) (ha : a < 8192) (hk : k < 8192)
include hm ha hk

/-- Rows turned by `k`, kept where the position is at least `k`. -/
theorem turn_ge : select (cmpi .sge m (broadcast (⟨2, ![N, 256]⟩ : Shape) (BitVec.ofNat 32 k))) (dynamicRotate 0 (BitVec.ofNat 32 k) none x h) (broadcast (⟨2, ![N, 256]⟩ : Shape) z) (ix2 l j)
    = if k ≤ a then x (ix2 (src (BitVec.ofNat 32 k) l) j) else z := by
  rw [roll_eq]
  refine Eq.trans ?_ (sel_ge a k ha hk _ _)
  rw [← hm]
  rfl
/-- Rows turned by `n`, kept where the position is below `k`. -/
theorem turn_lt : select (cmpi .slt m (broadcast (⟨2, ![N, 256]⟩ : Shape) (BitVec.ofNat 32 k))) (dynamicRotate 0 (BitVec.ofNat 32 n) none x h) (broadcast (⟨2, ![N, 256]⟩ : Shape) z) (ix2 l j)
    = if a < k then x (ix2 (src (BitVec.ofNat 32 n) l) j) else z := by
  rw [roll_eq]
  refine Eq.trans ?_ (sel_lt a k ha hk _ _)
  rw [← hm]
  rfl
end

/-- A column of a block of the convolution along the sequence, as it is summed. -/
def seqBlock (p : Fin 4096 → EReal) (w : Fin 3 → EReal) (b : EReal) (l : Fin 4096) : EReal :=
  0 + (if 1 ≤ l.val then p (src 1#32 l) * w 0 else 0) + p l * w 1 + (if l.val < 4095 then p (src 4095#32 l) * w 2 else 0) + b

/-- Three rows of the image one under the other, weighted, and the convolution over the grid of 64 columns as it is summed. -/
def gridCol (p : Fin 4096 → EReal) (w : Fin 3 → EReal) (l : Fin 4096) : EReal :=
  (if 64 ≤ l.val then p (src 64#32 l) else 0) * w 0 + p l * w 1 + (if l.val < 4032 then p (src 4032#32 l) else 0) * w 2
def gridSum (p : Fin 4096 → EReal) (w : Fin 3 → Fin 3 → EReal) (b : EReal) (l : Fin 4096) : EReal :=
  0 + (if 1 ≤ l.val % 64 then gridCol p (fun i => w i 0) (src 1#32 l) else 0) + gridCol p (fun i => w i 1) l
    + (if l.val % 64 < 63 then gridCol p (fun i => w i 2) (src 4095#32 l) else 0) + b
def gridBlock (p : Fin 4096 → EReal) (w : Fin 3 → Fin 3 → EReal) (b : EReal) (l : Fin 4096) : EReal :=
  gridSum p w b l * Ideal.logistic (gridSum p w b l)

/-- A column of the convolution along the context's 256 rows as it is summed, and its gated value. -/
def ctxSum (p : Fin 256 → EReal) (w : Fin 3 → EReal) (b : EReal) (l : Fin 256) : EReal :=
  0 + (if 1 ≤ l.val then p (src 1#32 l) * w 0 else 0) + p l * w 1 + (if l.val < 255 then p (src 255#32 l) * w 2 else 0) + b
def ctxBlock (p : Fin 256 → EReal) (w : Fin 3 → EReal) (b : EReal) (l : Fin 256) : EReal :=
  ctxSum p w b l * Ideal.logistic (ctxSum p w b l)
end Mix
end
-- ==== Proof.Mix.GridKernel.lean ====
module

public import proofs.«01_k».proof.Proof.Gen.KernelGridIdeal.Value
public import proofs.«01_k».proof.Proof.Mix.Spec
public import proofs.«01_k».proof.Proof.Mix.Shift
public import Idealize.ShloMosaic.Lib.Pipeline.ValueKit
public import Idealize.ShloMosaic.Lib.VecWindow
public import Idealize.ShloMosaic.Lib.WholeRead
public import Idealize.ShloMosaic.Lib.Pipeline.Covers

/-! The projection with the convolution over the grid of tokens: what the kernel leaves. -/

@[expose] public section
set_option maxRecDepth 16384
noncomputable section
namespace Cert.KernelGridIdeal.Conv
open Idealize.ShloMosaic Idealize.ShloMosaic.TcCoe Idealize.ShloMosaic.StableHlo Cert.KernelGridIdeal Cert.KernelGridIdeal.Gen Mix

theorem h_apply (x : Vec Ideal S4096x1024 .f32) (sc sh : Vec Ideal S1x1x1024 .f32) (l k) :
    k0_pay2 x sc sh (ix2 l k) = x (ix2 l k) * (1 + sc (ix3 0 0 k)) + sh (ix3 0 0 k) := by
  pointwise [k0_pay2]

theorem p_apply (h : Vec Ideal S4096x1024 .bf16) (w : Vec Ideal S1024x256 .bf16) (l j) :
    k0_pay3 h w (ix2 l j) = ∑ k : Fin 1024, h (ix2 l k) * w (ix2 k j) := by
  pointwise [k0_pay3]

theorem place_apply (l : Fin 4096) (j : Fin 256) : iota .tc S4096x256 32 [0] iota_S4096x256_d0_w32 (ix2 l j) = BitVec.ofNat 32 l.val := by
  pointwise
theorem column_apply (l : Fin 4096) (j : Fin 256) : k0_pay4 (ix2 l j) = BitVec.ofNat 32 (l.val % 64) := by
  refine Eq.trans ?_ (and_63 l.val (by omega))
  pointwise [k0_pay4]

/-- The weights of one tap. -/
def tap (c : Vec Ideal S3x3x256 .f32) (i k : Fin 3) : Vec Ideal S1x1x256 .f32 := fun y => c (ix3 i k (y 2))

/-- The row of the image above, the row below, and a tap over all rows. -/
def above (p : FVec Ideal S4096x256 .f32) : FVec Ideal S4096x256 .f32 :=
  select (cmpi .sge (iota .tc S4096x256 32 [0] iota_S4096x256_d0_w32) (broadcast S4096x256 64#32)) (dynamicRotate 0 64#32 none p rotates_S4096x256_d0) (broadcast S4096x256 (Scalar.ofBits (F := Ideal) .f32 0x00000000#32))
def below (p : FVec Ideal S4096x256 .f32) : FVec Ideal S4096x256 .f32 :=
  select (cmpi .slt (iota .tc S4096x256 32 [0] iota_S4096x256_d0_w32) (broadcast S4096x256 4032#32)) (dynamicRotate 0 4032#32 none p rotates_S4096x256_d0) (broadcast S4096x256 (Scalar.ofBits (F := Ideal) .f32 0x00000000#32))
def over (c : Vec Ideal S1x1x256 .f32) : FVec Ideal S4096x256 .f32 := broadcastTo S4096x256 (shapeCast S1x256 c shapeCasts_S1x1x256_S1x256) broadcasts_S1x256_S4096x256
def trio (p : FVec Ideal S4096x256 .f32) (c0 c1 c2 : Vec Ideal S1x1x256 .f32) : FVec Ideal S4096x256 .f32 :=
  addf (F := Ideal) (φ := .f32) (addf (F := Ideal) (φ := .f32) (mulf (F := Ideal) (φ := .f32) (above p) (over c0)) (mulf (F := Ideal) (φ := .f32) p (over c1))) (mulf (F := Ideal) (φ := .f32) (below p) (over c2))
def onLeft (q : FVec Ideal S4096x256 .f32) : FVec Ideal S4096x256 .f32 :=
  select (cmpi .sge k0_pay4 (broadcast S4096x256 1#32)) (dynamicRotate 0 1#32 none q rotates_S4096x256_d0) (broadcast S4096x256 (Scalar.ofBits (F := Ideal) .f32 0x00000000#32))
def onRight (q : FVec Ideal S4096x256 .f32) : FVec Ideal S4096x256 .f32 :=
  select (cmpi .slt k0_pay4 (broadcast S4096x256 63#32)) (dynamicRotate 0 4095#32 none q rotates_S4096x256_d0) (broadcast S4096x256 (Scalar.ofBits (F := Ideal) .f32 0x00000000#32))

theorem over_apply (c : Vec Ideal S1x1x256 .f32) (l j) : over c (ix2 l j) = c (ix3 0 0 j) := by
  pointwise [over]
theorem bias_apply (c : Vec Ideal S1x256 .f32) (l j) : broadcastTo S4096x256 (shapeCast S1x256 c shapeCasts_S1x256_S1x256) broadcasts_S1x256_S4096x256 (ix2 l j) = c (ix2 0 j) := by
  pointwise
theorem above_apply (p : FVec Ideal S4096x256 .f32) (l : Fin 4096) (j : Fin 256) : above p (ix2 l j) = if 64 ≤ l.val then p (ix2 (src 64#32 l) j) else 0 :=
  (turn_ge (iota .tc S4096x256 32 [0] iota_S4096x256_d0_w32) 64 p _ _ l j l.val (place_apply l j) (by omega) (by omega)).trans (if_congr Iff.rfl rfl Ideal.ofBits_zero_f32)
theorem below_apply (p : FVec Ideal S4096x256 .f32) (l : Fin 4096) (j : Fin 256) : below p (ix2 l j) = if l.val < 4032 then p (ix2 (src 4032#32 l) j) else 0 :=
  (turn_lt (iota .tc S4096x256 32 [0] iota_S4096x256_d0_w32) 4032 4032 p _ _ l j l.val (place_apply l j) (by omega) (by omega)).trans (if_congr Iff.rfl rfl Ideal.ofBits_zero_f32)
theorem onLeft_apply (q : FVec Ideal S4096x256 .f32) (l : Fin 4096) (j : Fin 256) : onLeft q (ix2 l j) = if 1 ≤ l.val % 64 then q (ix2 (src 1#32 l) j) else 0 :=
  (turn_ge k0_pay4 1 q _ _ l j (l.val % 64) (column_apply l j) (by omega) (by omega)).trans (if_congr Iff.rfl rfl Ideal.ofBits_zero_f32)
theorem onRight_apply (q : FVec Ideal S4096x256 .f32) (l : Fin 4096) (j : Fin 256) : onRight q (ix2 l j) = if l.val % 64 < 63 then q (ix2 (src 4095#32 l) j) else 0 :=
  (turn_lt k0_pay4 63 4095 q _ _ l j (l.val % 64) (column_apply l j) (by omega) (by omega)).trans (if_congr Iff.rfl rfl Ideal.ofBits_zero_f32)
theorem trio_apply (p : FVec Ideal S4096x256 .f32) (c : Vec Ideal S3x3x256 .f32) (k : Fin 3) (l j) :
    trio p (tap c 0 k) (tap c 1 k) (tap c 2 k) (ix2 l j) = gridCol (fun l => p (ix2 l j)) (fun i => c (ix3 i k j)) l :=
  congrArg₂ (· + ·) (congrArg₂ (· + ·) (congrArg₂ (· * ·) (above_apply p l j) (over_apply _ l j)) (congrArg (p (ix2 l j) * ·) (over_apply _ l j)))
    (congrArg₂ (· * ·) (below_apply p l j) (over_apply _ l j))

/-- The sum a point stores the gated value of, from the projection. -/
def total (p : FVec Ideal S4096x256 .f32) (a0 a1 a2 b0 b1 b2 c0 c1 c2 : Vec Ideal S1x1x256 .f32) (b : Vec Ideal S1x256 .f32) : FVec Ideal S4096x256 .f32 :=
  addf (F := Ideal) (φ := .f32) (addf (F := Ideal) (φ := .f32) (addf (F := Ideal) (φ := .f32) (addf (F := Ideal) (φ := .f32) k0_pay5 (onLeft (trio p a0 a1 a2))) (trio p b0 b1 b2)) (onRight (trio p c0 c1 c2)))
    (broadcastTo S4096x256 (shapeCast S1x256 b shapeCasts_S1x256_S1x256) broadcasts_S1x256_S4096x256)
/-- What a point stores, from the rows it keeps and the taps. -/
def point9 (h : Vec Ideal S4096x1024 .bf16) (w : Vec Ideal S1024x256 .bf16) (a0 a1 a2 b0 b1 b2 c0 c1 c2 : Vec Ideal S1x1x256 .f32) (b : Vec Ideal S1x256 .f32) : FVec Ideal S4096x256 .f32 :=
  k0_pay1 (k0_pay3 h w) (iota .tc S4096x256 32 [0] iota_S4096x256_d0_w32) k0_pay4
    (k0_pay9 (k0_pay3 h w) (iota .tc S4096x256 32 [0] iota_S4096x256_d0_w32) k0_pay4 k0_pay5 (k0_pay6 h w a0 a1) (k0_pay7 h w) (k0_pay8 a2) b0 b1 b2)
    (k0_pay10 (k0_pay3 h w) (iota .tc S4096x256 32 [0] iota_S4096x256_d0_w32)) c0 c1 c2 b
theorem point9_eq (h : Vec Ideal S4096x1024 .bf16) (w : Vec Ideal S1024x256 .bf16) (a0 a1 a2 b0 b1 b2 c0 c1 c2 : Vec Ideal S1x1x256 .f32) (b : Vec Ideal S1x256 .f32) :
    point9 h w a0 a1 a2 b0 b1 b2 c0 c1 c2 b = mulf (F := Ideal) (φ := .f32) (total (k0_pay3 h w) a0 a1 a2 b0 b1 b2 c0 c1 c2 b) (logistic (F := Ideal) (φ := .f32) (total (k0_pay3 h w) a0 a1 a2 b0 b1 b2 c0 c1 c2 b)) := rfl
def point (h : Vec Ideal S4096x1024 .bf16) (w : Vec Ideal S1024x256 .bf16) (c : Vec Ideal S3x3x256 .f32) (b : Vec Ideal S1x256 .f32) : FVec Ideal S4096x256 .f32 :=
  point9 h w (tap c 0 0) (tap c 1 0) (tap c 2 0) (tap c 0 1) (tap c 1 1) (tap c 2 1) (tap c 0 2) (tap c 1 2) (tap c 2 2) b

theorem total_apply (p : FVec Ideal S4096x256 .f32) (c : Vec Ideal S3x3x256 .f32) (b : Vec Ideal S1x256 .f32) (l j) :
    total p (tap c 0 0) (tap c 1 0) (tap c 2 0) (tap c 0 1) (tap c 1 1) (tap c 2 1) (tap c 0 2) (tap c 1 2) (tap c 2 2) b (ix2 l j)
      = gridSum (fun l => p (ix2 l j)) (fun i k => c (ix3 i k j)) (b (ix2 0 j)) l := by
  refine congrArg₂ (· + ·) (congrArg₂ (· + ·) (congrArg₂ (· + ·) (congrArg₂ (· + ·) Ideal.ofBits_zero_f32 ?_) (trio_apply p c 1 l j)) ?_) (bias_apply b l j)
  · exact (onLeft_apply _ l j).trans (if_congr Iff.rfl (trio_apply p c 0 _ j) rfl)
  · exact (onRight_apply _ l j).trans (if_congr Iff.rfl (trio_apply p c 2 _ j) rfl)

theorem point_apply (h : Vec Ideal S4096x1024 .bf16) (w : Vec Ideal S1024x256 .bf16) (c : Vec Ideal S3x3x256 .f32) (b : Vec Ideal S1x256 .f32) (l j) :
    point h w c b (ix2 l j) = gridBlock (fun l => k0_pay3 h w (ix2 l j)) (fun i k => c (ix3 i k j)) (b (ix2 0 j)) l := by
  unfold point gridBlock
  rw [point9_eq, ← total_apply]
  rfl

section
variable (c : Dev nD) (i : grid0.Coords) (arg2 : Memref sig .tc .vmem S4096x1024 .f32) (harg2 : arg2.IsWhole) (arg3 : Memref sig .tc .vmem S1x1x1024 .f32) (harg3 : arg3.IsWhole)
  (arg4 : Memref sig .tc .vmem S1x1x1024 .f32) (harg4 : arg4.IsWhole) (arg5 : Memref sig .tc .vmem S1024x256 .bf16) (harg5 : arg5.IsWhole) (arg6 : Memref sig .tc .vmem S3x3x256 .f32) (harg6 : arg6.IsWhole)
  (arg7 : Memref sig .tc .vmem S1x256 .f32) (harg7 : arg7.IsWhole) (arg8 : Memref sig .tc .vmem S4096x256 .f32) (harg8 : arg8.IsWhole) (arg9 : Memref sig .tc .vmem S4096x1024 .bf16) (harg9 : arg9.IsWhole)
  (x0 : Vec Ideal S4096x1024 .f32) (x1 x2 : Vec Ideal S1x1x1024 .f32) (x3 : Vec Ideal S1024x256 .bf16) (x4 : Vec Ideal S3x3x256 .f32) (x5 : Vec Ideal S1x256 .f32) (xs0 : Vec Ideal S4096x1024 .bf16)

/-- The loads of the blocks, and of a row of the convolution's weights. -/
def ld0 : Vec Ideal S4096x1024 .f32 := View.readAt (Elt Ideal) arg2.view (Rect.unit (s := S4096x1024) ![0, 0] S4096x1024.size Facts₀.inb_S4096x1024_S4096x1024_0_0).toLoadRect (harg2.unread x0)
def ld1 : Vec Ideal S1x1x1024 .f32 := View.readAt (Elt Ideal) arg3.view (Rect.unit (s := S1x1x1024) ![0, 0, 0] S1x1x1024.size Facts₀.inb_S1x1x1024_S1x1x1024_0_0_0).toLoadRect (harg3.unread x1)
def ld3 : Vec Ideal S1024x256 .bf16 := View.readAt (Elt Ideal) arg5.view (Rect.unit (s := S1024x256) ![0, 0] S1024x256.size Facts₀.inb_S1024x256_S1024x256_0_0).toLoadRect (harg5.unread x3)
def ld5 : Vec Ideal S1x256 .f32 := View.readAt (Elt Ideal) arg7.view (Rect.unit (s := S1x256) ![0, 0] S1x256.size Facts₀.inb_S1x256_S1x256_0_0).toLoadRect (harg7.unread x5)
def ldS : Vec Ideal S4096x1024 .bf16 := View.readAt (Elt Ideal) arg9.view (Rect.unit (s := S4096x1024) ![0, 0] S4096x1024.size Facts₀.inb_S4096x1024_S4096x1024_0_0).toLoadRect (harg9.unread xs0)
theorem inb_tap (r q : Fin 3) : ∀ a, (![r.val, q.val, 0] : Fin 3 → ℕ) a + S1x1x256.size a ≤ S3x3x256.size a := by
  intro a; fin_cases a
  · show r.val + 1 ≤ 3; omega
  · show q.val + 1 ≤ 3; omega
  · exact Nat.le_refl 256
def ldT (r q : Fin 3) : Vec Ideal S1x1x256 .f32 := View.readAt (Elt Ideal) arg6.view (Rect.unit (s := S3x3x256) ![r.val, q.val, 0] S1x1x256.size (inb_tap r q)).toLoadRect (harg6.unread x4)

theorem ld0_eq : ld0 arg2 harg2 x0 = x0 := by unfold ld0; rw [View.readAt_full, harg2.read_unread]
theorem ld1_eq : ld1 arg3 harg3 x1 = x1 := by unfold ld1; rw [View.readAt_full, harg3.read_unread]
theorem ld3_eq : ld3 arg5 harg5 x3 = x3 := by unfold ld3; rw [View.readAt_full, harg5.read_unread]
theorem ld5_eq : ld5 arg7 harg7 x5 = x5 := by unfold ld5; rw [View.readAt_full, harg7.read_unread]
theorem ldS_eq : ldS arg9 harg9 xs0 = xs0 := by unfold ldS; rw [View.readAt_full, harg9.read_unread]
theorem ldT_eq (r q : Fin 3) : ldT arg6 harg6 x4 r q = tap x4 r q := by
  funext j
  refine (harg6.readAt_unread x4 (Rect.unit (s := S3x3x256) ![r.val, q.val, 0] S1x1x256.size (inb_tap r q)).toLoadRect j).trans (congrArg x4 ?_)
  have h0 : (j 0).val < 1 := (j 0).isLt
  have h1 : (j 1).val < 1 := (j 1).isLt
  funext a; apply Fin.ext; fin_cases a
  · show r.val + 1 * (j 0).val = r.val; omega
  · show q.val + 1 * (j 1).val = q.val; omega
  · exact (Nat.zero_add _).trans (Nat.one_mul _)

/-- The store of a point, from the loads. -/
def stored (h : Vec Ideal S4096x1024 .bf16) : FVec Ideal S4096x256 .f32 :=
  point9 h (ld3 arg5 harg5 x3) (ldT arg6 harg6 x4 0 0) (ldT arg6 harg6 x4 1 0) (ldT arg6 harg6 x4 2 0) (ldT arg6 harg6 x4 0 1) (ldT arg6 harg6 x4 1 1) (ldT arg6 harg6 x4 2 1) (ldT arg6 harg6 x4 0 2) (ldT arg6 harg6 x4 1 2) (ldT arg6 harg6 x4 2 2) (ld5 arg7 harg7 x5)
theorem stored_eq (h : Vec Ideal S4096x1024 .bf16) : stored arg5 harg5 arg6 harg6 arg7 harg7 x3 x4 x5 h = point h x3 x4 x5 := by
  unfold stored point
  rw [ld3_eq, ld5_eq]
  simp only [ldT_eq]

theorem run_A_h (hc0 : cond0_0 i) : (kernelRun0_A c i arg2 harg2 arg3 harg3 arg4 harg4 arg5 harg5 arg6 harg6 arg7 harg7 arg8 harg8 arg9 harg9 hc0 x0 x1 x2 x3 x4 x5).2.1
    = [⟨Rect.unit (s := S4096x1024) ![0, 0] S4096x1024.size Facts₀.inb_S4096x1024_S4096x1024_0_0, k0_pay2 (ld0 arg2 harg2 x0) (ld1 arg3 harg3 x1) (ld1 arg4 harg4 x2)⟩] := rfl
theorem run_A_out (hc0 : cond0_0 i) : (kernelRun0_A c i arg2 harg2 arg3 harg3 arg4 harg4 arg5 harg5 arg6 harg6 arg7 harg7 arg8 harg8 arg9 harg9 hc0 x0 x1 x2 x3 x4 x5).1
    = [⟨Rect.unit (s := S4096x256) ![0, 0] S4096x256.size Facts₀.inb_S4096x256_S4096x256_0_0, stored arg5 harg5 arg6 harg6 arg7 harg7 x3 x4 x5
        (arg9.view.readCov (Val := Elt Ideal) [⟨Rect.unit (s := S4096x1024) ![0, 0] S4096x1024.size Facts₀.inb_S4096x1024_S4096x1024_0_0, k0_pay2 (ld0 arg2 harg2 x0) (ld1 arg3 harg3 x1) (ld1 arg4 harg4 x2)⟩]
          (Rect.unit (s := S4096x1024) ![0, 0] S4096x1024.size Facts₀.inb_S4096x1024_S4096x1024_0_0).toLoadRect)⟩] := rfl
theorem run_B_out (hc0 : ¬cond0_0 i) : (kernelRun0_B c i arg2 harg2 arg3 harg3 arg4 harg4 arg5 harg5 arg6 harg6 arg7 harg7 arg8 harg8 arg9 harg9 hc0 x0 x1 x2 x3 x4 x5 xs0).1
    = [⟨Rect.unit (s := S4096x256) ![0, 0] S4096x256.size Facts₀.inb_S4096x256_S4096x256_0_0, stored arg5 harg5 arg6 harg6 arg7 harg7 x3 x4 x5 (ldS arg9 harg9 xs0)⟩] := rfl

theorem sout_A (hc0 : cond0_0 i) : sout0_A_0 c i arg2 harg2 arg3 harg3 arg4 harg4 arg5 harg5 arg6 harg6 arg7 harg7 arg8 harg8 arg9 harg9 hc0 x0 x1 x2 x3 x4 x5 = k0_pay2 x0 x1 x2 := by
  unfold sout0_A_0
  rw [run_A_h, View.read_writes_full, ld0_eq, ld1_eq, ld1_eq]
theorem out_A (hc0 : cond0_0 i) : out0_A_6 c i arg2 harg2 arg3 harg3 arg4 harg4 arg5 harg5 arg6 harg6 arg7 harg7 arg8 harg8 arg9 harg9 hc0 x0 x1 x2 x3 x4 x5 = point (k0_pay2 x0 x1 x2) x3 x4 x5 := by
  unfold out0_A_6
  rw [run_A_out, View.read_writes_full, View.readCov_full, ld0_eq, ld1_eq, ld1_eq, stored_eq]
theorem out_B (hc0 : ¬cond0_0 i) : out0_B_6 c i arg2 harg2 arg3 harg3 arg4 harg4 arg5 harg5 arg6 harg6 arg7 harg7 arg8 harg8 arg9 harg9 hc0 x0 x1 x2 x3 x4 x5 xs0 = point xs0 x3 x4 x5 := by
  unfold out0_B_6
  rw [run_B_out, View.read_writes_full, ldS_eq, stored_eq]
end

variable (m : (ℓ : Loc nD τ sig) → Buf (Elt Ideal) ℓ)

theorem e0 : ∀ t : Fin cfg0.N, win0_0.index t = ![t.val / 12, 0] := (by decide +kernel : ∀ t : Fin grid0.N, _)
theorem e1 : ∀ t : Fin cfg0.N, win0_1.index t = ![t.val / 12, 0, 0] := (by decide +kernel : ∀ t : Fin grid0.N, _)
theorem e2 : ∀ t : Fin cfg0.N, win0_2.index t = ![t.val / 12, 0, 0] := (by decide +kernel : ∀ t : Fin grid0.N, _)
theorem e3 : ∀ t : Fin cfg0.N, win0_3.index t = ![0, t.val % 12] := (by decide +kernel : ∀ t : Fin grid0.N, _)
theorem e4 : ∀ t : Fin cfg0.N, win0_4.index t = ![0, 0, t.val % 12] := (by decide +kernel : ∀ t : Fin grid0.N, _)
theorem e5 : ∀ t : Fin cfg0.N, win0_5.index t = ![0, t.val % 12] := (by decide +kernel : ∀ t : Fin grid0.N, _)
theorem e6 : ∀ t : Fin cfg0.N, win0_6.index t = ![t.val / 12, t.val % 12] := (by decide +kernel : ∀ t : Fin grid0.N, _)

/-- The rows the projection reads. -/
def hid (c : Dev nD) (t : Fin 32768) (k : Fin 1024) : EReal :=
  hx (fun t k => m ((c : Thread nD τ).loc main_arg0) (ix2 t k)) (fun b k => m ((c : Thread nD τ).loc main_arg1) (ix3 b 0 k))
    (fun b k => m ((c : Thread nD τ).loc main_arg2) (ix3 b 0 k)) t k
/-- The result. -/
def out (c : Dev nD) (t : Fin 32768) (j : Fin 3072) : EReal :=
  gridBlock (fun l => lin (fun t k => m ((c : Thread nD τ).loc main_arg0) (ix2 t k)) (fun b k => m ((c : Thread nD τ).loc main_arg1) (ix3 b 0 k))
    (fun b k => m ((c : Thread nD τ).loc main_arg2) (ix3 b 0 k)) (fun k j => m ((c : Thread nD τ).loc main_arg3) (ix2 k j)) (row (bat t) l) j)
    (fun i k => m ((c : Thread nD τ).loc main_arg4) (ix3 i k j)) (m ((c : Thread nD τ).loc main_arg5) (ix1 j)) (pos t)

theorem V_v0 (c : Dev nD) (k j) : V m c main_v0 (ix2 k j) = m ((c : Thread nD τ).loc main_arg3) (ix2 k j) := by
  have e : V m c main_v0 = truncf (F := Ideal) .bf16 (m ((c : Thread nD τ).loc main_arg3)) bitsLt_bf16_f32 := by
    unfold V hostOps0
    after_results
  rw [e]
  rfl
theorem V_v1 (c : Dev nD) (j) : V m c main_v1 (ix2 0 j) = m ((c : Thread nD τ).loc main_arg5) (ix1 j) := by
  have e : V m c main_v1 = shapeCast S1x3072 (m ((c : Thread nD τ).loc main_arg5)) shapeCasts_S3072_S1x3072 := by
    unfold V hostOps0
    after_results
    rfl
  rw [e]
  pointwise

theorem lt_N (t : Fin cfg0.N) : t.val < 96 := lt_of_lt_of_eq t.isLt N_0

/-- The batch, and a column, of a point's block of the result. -/
def pb (t : Fin cfg0.N) : Fin 8 := ⟨t.val / 12, by have := lt_N t; omega⟩
def col (t : Fin cfg0.N) (j : Fin 256) : Fin 3072 := ⟨t.val % 12 * 256 + j.val, by omega⟩

theorem b0 (c : Dev nD) (t : Fin cfg0.N) (l k) : iblk m c 0 t (ix2 l k) = m ((c : Thread nD τ).loc main_arg0) (ix2 (row (pb t) l) k) := by
  unfold iblk
  blk_simp
  rw [V_main_arg0]
  refine congrArg (m ((c : Thread nD τ).loc main_arg0)) ?_
  blk_ext [e0, row, pb]
theorem b1 (c : Dev nD) (t : Fin cfg0.N) (k) : iblk m c 1 t (ix3 0 0 k) = m ((c : Thread nD τ).loc main_arg1) (ix3 (pb t) 0 k) := by
  unfold iblk
  blk_simp
  rw [V_main_arg1]
  refine congrArg (m ((c : Thread nD τ).loc main_arg1)) ?_
  blk_ext [e1, pb]
theorem b2 (c : Dev nD) (t : Fin cfg0.N) (k) : iblk m c 2 t (ix3 0 0 k) = m ((c : Thread nD τ).loc main_arg2) (ix3 (pb t) 0 k) := by
  unfold iblk
  blk_simp
  rw [V_main_arg2]
  refine congrArg (m ((c : Thread nD τ).loc main_arg2)) ?_
  blk_ext [e2, pb]
theorem b3 (c : Dev nD) (t : Fin cfg0.N) (k j) : iblk m c 3 t (ix2 k j) = m ((c : Thread nD τ).loc main_arg3) (ix2 k (col t j)) := by
  unfold iblk
  blk_simp
  refine Eq.trans (congrArg (V m c main_v0) ?_) (V_v0 m c k (col t j))
  blk_ext [e3, col]
theorem b4 (c : Dev nD) (t : Fin cfg0.N) (i k : Fin 3) (j) : iblk m c 4 t (ix3 i k j) = m ((c : Thread nD τ).loc main_arg4) (ix3 i k (col t j)) := by
  unfold iblk
  blk_simp
  rw [V_main_arg4]
  refine congrArg (m ((c : Thread nD τ).loc main_arg4)) ?_
  blk_ext [e4, col]
theorem b5 (c : Dev nD) (t : Fin cfg0.N) (j) : iblk m c 5 t (ix2 0 j) = m ((c : Thread nD τ).loc main_arg5) (ix1 (col t j)) := by
  unfold iblk
  blk_simp
  refine Eq.trans (congrArg (V m c main_v1) ?_) (V_v1 m c (col t j))
  blk_ext [e5, col]

/-- What a point computes, on rows that are its batch's. -/
theorem point_out (c : Dev nD) (t : Fin cfg0.N) (h : Vec Ideal S4096x1024 .bf16) (hh : ∀ l k, h (ix2 l k) = hid m c (row (pb t) l) k) (l j) :
    point h (iblk m c 3 t) (iblk m c 4 t) (iblk m c 5 t) (ix2 l j) = out m c (row (pb t) l) (col t j) := by
  rw [point_apply]
  unfold out
  rw [bat_row, pos_row, b5]
  congr 1
  · funext l
    rw [p_apply]
    exact Finset.sum_congr rfl fun k _ => by rw [hh, b3]; rfl
  · funext i k
    exact b4 m c t i k j

/-- The rows kept are the batch's, and the block stored is the result's. -/
def Leaves (c : Dev nD) (t : Fin cfg0.N) : Prop :=
  (∀ l k, (outsAt0 m c t.val t.isLt).2 (ix2 l k) = hid m c (row (pb t) l) k) ∧ ∀ l j, (outsAt0 m c t.val t.isLt).1 (ix2 l j) = out m c (row (pb t) l) (col t j)

theorem fresh (c : Dev nD) (t : Fin cfg0.N) (l k) : k0_pay2 (iblk m c 0 t) (iblk m c 1 t) (iblk m c 2 t) (ix2 l k) = hid m c (row (pb t) l) k := by
  rw [h_apply, b0, b1, b2]
  unfold hid hx
  rw [bat_row]

theorem leaves_first (c : Dev nD) (t : Fin cfg0.N) (h0 : t.val % 12 = 0) : Leaves m c t := by
  unfold Leaves
  simp only [outsAt0_A m c t h0]
  constructor
  · intro l k
    rw [sout_A]
    exact fresh m c t l k
  · intro l j
    rw [out_A]
    exact point_out m c t _ (fresh m c t) l j

theorem leaves_next (c : Dev nD) (t : Fin cfg0.N) (h0 : ¬t.val % 12 = 0)
    (ih : ∀ l k, (outsAt0 m c (t.val - 1) (Nat.lt_of_le_of_lt (Nat.sub_le _ _) t.isLt)).2 (ix2 l k) = hid m c (row (pb t) l) k) : Leaves m c t := by
  unfold Leaves
  simp only [outsAt0_B m c t h0]
  constructor
  · exact ih
  · intro l j
    rw [out_B]
    exact point_out m c t _ ih l j

theorem leaves (c : Dev nD) : ∀ (k : ℕ) (hk : k < cfg0.N), Leaves m c ⟨k, hk⟩
  | 0, hk => leaves_first m c ⟨0, hk⟩ rfl
  | k + 1, hk => by
    by_cases h0 : (k + 1) % 12 = 0
    · exact leaves_first m c ⟨k + 1, hk⟩ h0
    · refine leaves_next m c ⟨k + 1, hk⟩ h0 fun l q => ?_
      refine ((leaves c k (Nat.lt_of_succ_lt hk)).1 l q).trans ?_
      have hb : pb ⟨k, Nat.lt_of_succ_lt hk⟩ = pb ⟨k + 1, hk⟩ := Fin.ext (show k / 12 = (k + 1) / 12 by omega)
      rw [hb]

theorem out_eq (c : Dev nD) : (dats m 0 c).arrAt 6 cfg0.N = fun i => out m c (i 0) (i 1) := by
  refine (dats m 0 c).arrAt_eq_of_covers 6 _ (by decide +kernel) fun t hfl y => ?_
  blk_simp
  rw [after0_6]
  idx_bounds y
  have ey : y = ix2 (y 0) (y 1) := by
    blk_ext
  refine (congrArg _ ey).trans (((leaves m c t.val t.isLt).2 (y 0) (y 1)).trans ?_)
  have h0 : row (pb t) (y 0) = ((cfg0.win 6).blk t).view.emb y 0 := Fin.ext (by blk_simp [e6, row, pb])
  have h1 : col t (y 1) = ((cfg0.win 6).blk t).view.emb y 1 := Fin.ext (by blk_simp [e6, col])
  exact congr (congrArg (out m c) h0) h1
end Cert.KernelGridIdeal.Conv
end
-- ==== Proof.Mix.Grid.lean ====
module

public import proofs.«01_k».proof.Defs
public import proofs.«01_k».proof.Proof.Gen.ReferenceGridIdeal.Run
public import proofs.«01_k».proof.Proof.Mix.GridKernel

/-! The projection with the convolution over the grid of tokens: the reference, and that both agree. -/

@[expose] public section
set_option maxRecDepth 16384
noncomputable section
namespace Mix
open Idealize.ShloMosaic Idealize.ShloMosaic.TcCoe

/-- A neighbour in the image of 64 rows and columns, or zero where there is none; 1 and 1 is the token itself. -/
def cell (p : Fin 4096 → EReal) (l : Fin 4096) (i k : Fin 3) : EReal :=
  if h : (1 ≤ i.val + l.val / 64 ∧ i.val + l.val / 64 ≤ 64) ∧ 1 ≤ k.val + l.val % 64 ∧ k.val + l.val % 64 ≤ 64
    then p ⟨(i.val + l.val / 64 - 1) * 64 + (k.val + l.val % 64 - 1), by omega⟩ else 0

theorem gridCol_cell (p : Fin 4096 → EReal) (v : Fin 3 → EReal) (l s : Fin 4096) (k : Fin 3) (h1 : 1 ≤ k.val + l.val % 64) (h2 : k.val + l.val % 64 ≤ 64)
    (hs : s.val = l.val / 64 * 64 + (k.val + l.val % 64 - 1)) : gridCol p v s = cell p l 0 k * v 0 + cell p l 1 k * v 1 + cell p l 2 k * v 2 := by
  have e0 : cell p l 0 k = if 64 ≤ s.val then p (src 64#32 s) else 0 := by
    unfold cell
    split
    · rename_i h
      have h : (1 ≤ 0 + l.val / 64 ∧ _) ∧ _ := h
      rw [if_pos (by omega), src_back s 64 (by omega) (by omega)]
      exact congrArg p (Fin.ext (by show (0 + l.val / 64 - 1) * 64 + (k.val + l.val % 64 - 1) = s.val - 64; omega))
    · rename_i h
      rw [if_neg]
      intro hc
      exact h ⟨⟨by show 1 ≤ 0 + l.val / 64; omega, by show 0 + l.val / 64 ≤ 64; omega⟩, h1, h2⟩
  have e1 : cell p l 1 k = p s := by
    unfold cell
    rw [dif_pos ⟨⟨by show 1 ≤ 1 + l.val / 64; omega, by show 1 + l.val / 64 ≤ 64; omega⟩, h1, h2⟩]
    exact congrArg p (Fin.ext (by show (1 + l.val / 64 - 1) * 64 + (k.val + l.val % 64 - 1) = s.val; omega))
  have e2 : cell p l 2 k = if s.val < 4032 then p (src 4032#32 s) else 0 := by
    unfold cell
    split
    · rename_i h
      have h : (_ ∧ 2 + l.val / 64 ≤ 64) ∧ _ := h
      rw [if_pos (by omega), src_fwd s 4032 (by omega) (by omega)]
      exact congrArg p (Fin.ext (by show (2 + l.val / 64 - 1) * 64 + (k.val + l.val % 64 - 1) = s.val + (4096 - 4032); omega))
    · rename_i h
      rw [if_neg]
      intro hc
      exact h ⟨⟨by show 1 ≤ 2 + l.val / 64; omega, by show 2 + l.val / 64 ≤ 64; omega⟩, h1, h2⟩
  rw [e0, e1, e2]
  rfl

theorem cell_out (p : Fin 4096 → EReal) (l : Fin 4096) (i k : Fin 3) (h : ¬(1 ≤ k.val + l.val % 64 ∧ k.val + l.val % 64 ≤ 64)) : cell p l i k = 0 :=
  dif_neg fun hc => h hc.2

/-- The kernel's order of the sum, as a sum over the neighbours. -/
theorem gridSum_cell (p : Fin 4096 → EReal) (w : Fin 3 → Fin 3 → EReal) (b : EReal) (l : Fin 4096) : gridSum p w b l
    = 0 + cell p l 0 0 * w 0 0 + cell p l 0 1 * w 0 1 + cell p l 0 2 * w 0 2 + cell p l 1 0 * w 1 0 + cell p l 1 1 * w 1 1 + cell p l 1 2 * w 1 2
      + cell p l 2 0 * w 2 0 + cell p l 2 1 * w 2 1 + cell p l 2 2 * w 2 2 + b := by
  have e0 : (if 1 ≤ l.val % 64 then gridCol p (fun i => w i 0) (src 1#32 l) else 0) = cell p l 0 0 * w 0 0 + cell p l 1 0 * w 1 0 + cell p l 2 0 * w 2 0 := by
    split
    · refine gridCol_cell p _ l _ 0 (by show 1 ≤ 0 + l.val % 64; omega) (by show 0 + l.val % 64 ≤ 64; omega) ?_
      rw [src_back l 1 (by omega) (by omega)]
      show l.val - 1 = l.val / 64 * 64 + (0 + l.val % 64 - 1)
      omega
    · have h : ¬(1 ≤ (0 : Fin 3).val + l.val % 64 ∧ (0 : Fin 3).val + l.val % 64 ≤ 64) := by
        show ¬(1 ≤ 0 + l.val % 64 ∧ 0 + l.val % 64 ≤ 64)
        omega
      simp only [cell_out p l _ 0 h, zero_mul, add_zero]
  have e1 : gridCol p (fun i => w i 1) l = cell p l 0 1 * w 0 1 + cell p l 1 1 * w 1 1 + cell p l 2 1 * w 2 1 := by
    refine gridCol_cell p _ l _ 1 (by show 1 ≤ 1 + l.val % 64; omega) (by show 1 + l.val % 64 ≤ 64; omega) ?_
    show l.val = l.val / 64 * 64 + (1 + l.val % 64 - 1)
    omega
  have e2 : (if l.val % 64 < 63 then gridCol p (fun i => w i 2) (src 4095#32 l) else 0) = cell p l 0 2 * w 0 2 + cell p l 1 2 * w 1 2 + cell p l 2 2 * w 2 2 := by
    split
    · refine gridCol_cell p _ l _ 2 (by show 1 ≤ 2 + l.val % 64; omega) (by show 2 + l.val % 64 ≤ 64; omega) ?_
      rw [src_fwd l 4095 (by omega) (by omega)]
      show l.val + (4096 - 4095) = l.val / 64 * 64 + (2 + l.val % 64 - 1)
      omega
    · have h : ¬(1 ≤ (2 : Fin 3).val + l.val % 64 ∧ (2 : Fin 3).val + l.val % 64 ≤ 64) := by
        show ¬(1 ≤ 2 + l.val % 64 ∧ 2 + l.val % 64 ≤ 64)
        omega
      simp only [cell_out p l _ 2 h, zero_mul, add_zero]
  unfold gridSum
  rw [e0, e1, e2]
  abel
end Mix

namespace Cert.ReferenceGridIdeal.Conv
open Idealize.ShloMosaic Idealize.ShloMosaic.TcCoe Idealize.SL.Sem Cert.ReferenceGridIdeal Cert.ReferenceGridIdeal.Gen Mix

section
variable (x : Vec Ideal S32768x1024 .f32) (sc sh : Vec Ideal S8x1x1024 .f32) (w : Vec Ideal S1024x3072 .f32) (cw : Vec Ideal S3x3x3072 .f32) (cb : Vec Ideal S3072 .f32)

/-- The scaled and shifted tokens, and their projection. -/
def hid : Vec Ideal S8x4096x1024 .f32 :=
  addf (F := Ideal) (φ := .f32) (mulf (F := Ideal) (φ := .f32) (shapeCast S8x4096x1024 x shapeCasts_S32768x1024_S8x4096x1024) (broadcastInDim S8x4096x1024 ![0, 1, 2] bcast_S8x1x1024_S8x4096x1024_0_1_2 (addf (F := Ideal) (φ := .f32) (broadcastInDim S8x1x1024 ![] bcast_S_S8x1x1024 (constant (F := Ideal) S_ .f32 0x3F800000#32)) sc))) (broadcastInDim S8x4096x1024 ![0, 1, 2] bcast_S8x1x1024_S8x4096x1024_0_1_2 sh)
def proj : Vec Ideal S8x4096x3072 .f32 :=
  Host.dotGeneral (F := Ideal) (φ₁ := .f32) (φ₂ := .f32) dot_S8x4096x1024_S1024x3072_S8x4096x3072_2_0_01_1_n_n none (hid x sc sh) w
/-- The projection as an image with a border of zeros. -/
def padded (p : Vec Ideal S8x4096x3072 .f32) : Vec Ideal S8x66x66x3072 .f32 :=
  pad S8x66x66x3072 ![0, 1, 1, 0] ![0, 1, 1, 0] ![0, 0, 0, 0] (shapeCast S8x64x64x3072 p shapeCasts_S8x4096x3072_S8x64x64x3072) (sitofp (F := Ideal) .f32 (constantI S_ 32 0#32)) pads_S8x64x64x3072_S8x66x66x3072_000_110_110_000 h_S_
/-- The weights of a tap over the image. -/
def wtap (r : Vec Ideal S1x1x3072 .f32) : Vec Ideal S8x64x64x3072 .f32 :=
  broadcastInDim S8x64x64x3072 ![0, 1, 2, 3] bcast_S1x1x1x3072_S8x64x64x3072_0_1_2_3 (broadcastInDim S1x1x1x3072 ![3] bcast_S3072_S1x1x1x3072_3 (shapeCast S3072 r shapeCasts_S1x1x3072_S3072))
/-- The nine taps. -/
def conv (u : Vec Ideal S8x66x66x3072 .f32) : Vec Ideal S8x64x64x3072 .f32 :=
  addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (broadcastInDim S8x64x64x3072 ![] bcast_S_S8x64x64x3072 (constant (F := Ideal) S_ .f32 0x00000000#32))
    (mulf (F := Ideal) (φ := .f32) (extractStridedSlice S8x64x64x3072 ![0, 0, 0, 0] u slices_S8x66x66x3072_S8x64x64x3072_0_0_0_0) (wtap (extractStridedSlice S1x1x3072 ![0, 0, 0] cw slices_S3x3x3072_S1x1x3072_0_0_0))))
    (mulf (F := Ideal) (φ := .f32) (extractStridedSlice S8x64x64x3072 ![0, 0, 1, 0] u slices_S8x66x66x3072_S8x64x64x3072_0_0_1_0) (wtap (extractStridedSlice S1x1x3072 ![0, 1, 0] cw slices_S3x3x3072_S1x1x3072_0_1_0))))
    (mulf (F := Ideal) (φ := .f32) (extractStridedSlice S8x64x64x3072 ![0, 0, 2, 0] u slices_S8x66x66x3072_S8x64x64x3072_0_0_2_0) (wtap (extractStridedSlice S1x1x3072 ![0, 2, 0] cw slices_S3x3x3072_S1x1x3072_0_2_0))))
    (mulf (F := Ideal) (φ := .f32) (extractStridedSlice S8x64x64x3072 ![0, 1, 0, 0] u slices_S8x66x66x3072_S8x64x64x3072_0_1_0_0) (wtap (extractStridedSlice S1x1x3072 ![1, 0, 0] cw slices_S3x3x3072_S1x1x3072_1_0_0))))
    (mulf (F := Ideal) (φ := .f32) (extractStridedSlice S8x64x64x3072 ![0, 1, 1, 0] u slices_S8x66x66x3072_S8x64x64x3072_0_1_1_0) (wtap (extractStridedSlice S1x1x3072 ![1, 1, 0] cw slices_S3x3x3072_S1x1x3072_1_1_0))))
    (mulf (F := Ideal) (φ := .f32) (extractStridedSlice S8x64x64x3072 ![0, 1, 2, 0] u slices_S8x66x66x3072_S8x64x64x3072_0_1_2_0) (wtap (extractStridedSlice S1x1x3072 ![1, 2, 0] cw slices_S3x3x3072_S1x1x3072_1_2_0))))
    (mulf (F := Ideal) (φ := .f32) (extractStridedSlice S8x64x64x3072 ![0, 2, 0, 0] u slices_S8x66x66x3072_S8x64x64x3072_0_2_0_0) (wtap (extractStridedSlice S1x1x3072 ![2, 0, 0] cw slices_S3x3x3072_S1x1x3072_2_0_0))))
    (mulf (F := Ideal) (φ := .f32) (extractStridedSlice S8x64x64x3072 ![0, 2, 1, 0] u slices_S8x66x66x3072_S8x64x64x3072_0_2_1_0) (wtap (extractStridedSlice S1x1x3072 ![2, 1, 0] cw slices_S3x3x3072_S1x1x3072_2_1_0))))
    (mulf (F := Ideal) (φ := .f32) (extractStridedSlice S8x64x64x3072 ![0, 2, 2, 0] u slices_S8x66x66x3072_S8x64x64x3072_0_2_2_0) (wtap (extractStridedSlice S1x1x3072 ![2, 2, 0] cw slices_S3x3x3072_S1x1x3072_2_2_0)))
/-- The sum with the bias, and its gated value. -/
def pre (p : Vec Ideal S8x4096x3072 .f32) : Vec Ideal S8x4096x3072 .f32 :=
  addf (F := Ideal) (φ := .f32) (shapeCast S8x4096x3072 (conv cw (padded p)) shapeCasts_S8x64x64x3072_S8x4096x3072)
    (broadcastInDim S8x4096x3072 ![0, 1, 2] bcast_S1x1x3072_S8x4096x3072_0_1_2 (broadcastInDim S1x1x3072 ![2] bcast_S3072_S1x1x3072_2 cb))
def gated (s : Vec Ideal S8x4096x3072 .f32) : Vec Ideal S8x4096x3072 .f32 :=
  mulf (F := Ideal) (φ := .f32) s (Host.divf (F := Ideal) (φ := .f32) (broadcastInDim S8x4096x3072 ![] bcast_S_S8x4096x3072 (constant (F := Ideal) S_ .f32 0x3F800000#32))
    (addf (F := Ideal) (φ := .f32) (broadcastInDim S8x4096x3072 ![] bcast_S_S8x4096x3072 (constant (F := Ideal) S_ .f32 0x3F800000#32)) (Host.exp (F := Ideal) (φ := .f32) (Host.negf (F := Ideal) (φ := .f32) s))))
def res : Vec Ideal S32768x3072 .f32 :=
  shapeCast S32768x3072 (gated (pre cw cb (proj x sc sh w))) shapeCasts_S8x4096x3072_S32768x3072

theorem hid_apply (b : Fin 8) (l : Fin 4096) (k : Fin 1024) : hid x sc sh (ix3 b l k)
    = hx (fun t k => x (ix2 t k)) (fun b k => sc (ix3 b 0 k)) (fun b k => sh (ix3 b 0 k)) (row b l) k := by
  unfold hx
  rw [bat_row]
  pointwise [hid, row]
theorem proj_apply (b : Fin 8) (l : Fin 4096) (j : Fin 3072) : proj x sc sh w (ix3 b l j)
    = lin (fun t k => x (ix2 t k)) (fun b k => sc (ix3 b 0 k)) (fun b k => sh (ix3 b 0 k)) (fun k j => w (ix2 k j)) (row b l) j := by
  pointwise [proj]
  unfold lin
  exact Finset.sum_congr rfl fun k _ => congrArg (· * w (ix2 k j)) (hid_apply x sc sh b l k)

theorem zero_sitofp : (FloatOps.sitofp (F := Ideal) .f32 0#32 : EReal) = 0 := by
  show (((0#32 : BitVec 32).toInt : ℝ) : EReal) = 0
  simp

theorem padded_in (p : Vec Ideal S8x4096x3072 .f32) (b : Fin 8) (r q : Fin 66) (j : Fin 3072) (r' q' : Fin 64) (hr : r.val = r'.val + 1) (hq : q.val = q'.val + 1) :
    padded p (ix4 b r q j) = p (ix3 b ⟨r'.val * 64 + q'.val, by omega⟩ j) := by
  refine (pad_apply_of_inside _ _ _ _ _ _ _ (ix4 b r q j) (ix4 b r' q' j) fun a => ?_).trans ?_
  · fin_cases a
    · show b.val = 0 + b.val * 1; omega
    · show r.val = 1 + r'.val * 1; omega
    · show q.val = 1 + q'.val * 1; omega
    · show j.val = 0 + j.val * 1; omega
  · pointwise
theorem padded_out (p : Vec Ideal S8x4096x3072 .f32) (b : Fin 8) (r q : Fin 66) (j : Fin 3072) (h : (r.val = 0 ∨ r.val = 65) ∨ q.val = 0 ∨ q.val = 65) :
    padded p (ix4 b r q j) = 0 := by
  rcases h with h | h
  · refine (pad_apply_of_not_inside _ _ _ _ _ _ _ (ix4 b r q j) 1 ?_).trans ?_
    · rintro ⟨h1, _, h3⟩
      have h1 : 1 ≤ r.val := h1
      have h3 : (r.val - 1) / 1 < 64 := h3
      omega
    · pointwise
      exact zero_sitofp
  · refine (pad_apply_of_not_inside _ _ _ _ _ _ _ (ix4 b r q j) 2 ?_).trans ?_
    · rintro ⟨h1, _, h3⟩
      have h1 : 1 ≤ q.val := h1
      have h3 : (q.val - 1) / 1 < 64 := h3
      omega
    · pointwise
      exact zero_sitofp

theorem padded_cell (p : Vec Ideal S8x4096x3072 .f32) (b : Fin 8) (l : Fin 4096) (r q : Fin 66) (j : Fin 3072) (i k : Fin 3) (hr : r.val = i.val + l.val / 64) (hq : q.val = k.val + l.val % 64) :
    padded p (ix4 b r q j) = cell (fun l => p (ix3 b l j)) l i k := by
  unfold cell
  split
  · rename_i h
    rw [padded_in p b r q j ⟨i.val + l.val / 64 - 1, by omega⟩ ⟨k.val + l.val % 64 - 1, by omega⟩ (by show r.val = i.val + l.val / 64 - 1 + 1; omega) (by show q.val = k.val + l.val % 64 - 1 + 1; omega)]
  · exact padded_out p b r q j (by omega)

theorem wtap_apply (c : Vec Ideal S1x1x3072 .f32) (b r q j) : wtap c (ix4 b r q j) = c (ix3 0 0 j) := by
  pointwise [wtap]

theorem conv_apply (p : Vec Ideal S8x4096x3072 .f32) (b : Fin 8) (r q : Fin 64) (j : Fin 3072) :
    conv cw (padded p) (ix4 b r q j) = 0 + padded p (ix4 b ⟨r.val, by omega⟩ ⟨q.val, by omega⟩ j) * cw (ix3 0 0 j) + padded p (ix4 b ⟨r.val, by omega⟩ ⟨1 + q.val, by omega⟩ j) * cw (ix3 0 1 j) + padded p (ix4 b ⟨r.val, by omega⟩ ⟨2 + q.val, by omega⟩ j) * cw (ix3 0 2 j) + padded p (ix4 b ⟨1 + r.val, by omega⟩ ⟨q.val, by omega⟩ j) * cw (ix3 1 0 j) + padded p (ix4 b ⟨1 + r.val, by omega⟩ ⟨1 + q.val, by omega⟩ j) * cw (ix3 1 1 j) + padded p (ix4 b ⟨1 + r.val, by omega⟩ ⟨2 + q.val, by omega⟩ j) * cw (ix3 1 2 j) + padded p (ix4 b ⟨2 + r.val, by omega⟩ ⟨q.val, by omega⟩ j) * cw (ix3 2 0 j) + padded p (ix4 b ⟨2 + r.val, by omega⟩ ⟨1 + q.val, by omega⟩ j) * cw (ix3 2 1 j) + padded p (ix4 b ⟨2 + r.val, by omega⟩ ⟨2 + q.val, by omega⟩ j) * cw (ix3 2 2 j) := by
  pointwise [conv, wtap_apply]

theorem conv_cell (p : Vec Ideal S8x4096x3072 .f32) (b : Fin 8) (l : Fin 4096) (j : Fin 3072) :
    conv cw (padded p) (ix4 b ⟨l.val / 64, by omega⟩ ⟨l.val % 64, by omega⟩ j) + cb (ix1 j) = gridSum (fun l => p (ix3 b l j)) (fun i k => cw (ix3 i k j)) (cb (ix1 j)) l := by
  rw [conv_apply, gridSum_cell]
  dsimp only
  rw [padded_cell p b l _ _ j 0 0 (by simp) (by simp), padded_cell p b l _ _ j 0 1 (by simp) (by simp), padded_cell p b l _ _ j 0 2 (by simp) (by simp), padded_cell p b l _ _ j 1 0 (by simp) (by simp), padded_cell p b l _ _ j 1 1 (by simp) (by simp), padded_cell p b l _ _ j 1 2 (by simp) (by simp), padded_cell p b l _ _ j 2 0 (by simp) (by simp), padded_cell p b l _ _ j 2 1 (by simp) (by simp), padded_cell p b l _ _ j 2 2 (by simp) (by simp)]

theorem image_split (z : Vec Ideal S8x4096x3072 .f32) (b : Fin 8) (r q : Fin 64) (j : Fin 3072) :
    shapeCast S8x64x64x3072 z shapeCasts_S8x4096x3072_S8x64x64x3072 (ix4 b r q j) = z (ix3 b ⟨r.val * 64 + q.val, by omega⟩ j) := by
  pointwise
theorem image_read (y : Vec Ideal S8x64x64x3072 .f32) (b : Fin 8) (l : Fin 4096) (j : Fin 3072) :
    shapeCast S8x4096x3072 y shapeCasts_S8x64x64x3072_S8x4096x3072 (ix3 b l j) = y (ix4 b ⟨l.val / 64, by omega⟩ ⟨l.val % 64, by omega⟩ j) := by
  have e := image_split (shapeCast S8x4096x3072 y shapeCasts_S8x64x64x3072_S8x4096x3072) b ⟨l.val / 64, by omega⟩ ⟨l.val % 64, by omega⟩ j
  rw [shapeCast_comp, shapeCast_id] at e
  refine Eq.trans (congrArg (fun a => shapeCast S8x4096x3072 y shapeCasts_S8x64x64x3072_S8x4096x3072 (ix3 b a j)) (Fin.ext ?_)) e.symm
  show l.val = l.val / 64 * 64 + l.val % 64
  omega
theorem bias_read (b : Fin 8) (l : Fin 4096) (j : Fin 3072) :
    broadcastInDim S8x4096x3072 ![0, 1, 2] bcast_S1x1x3072_S8x4096x3072_0_1_2 (broadcastInDim S1x1x3072 ![2] bcast_S3072_S1x1x3072_2 cb) (ix3 b l j) = cb (ix1 j) := by
  pointwise
theorem sum_read (y : Vec Ideal S8x64x64x3072 .f32) (b : Fin 8) (l : Fin 4096) (j : Fin 3072) :
    addf (F := Ideal) (φ := .f32) (shapeCast S8x4096x3072 y shapeCasts_S8x64x64x3072_S8x4096x3072)
      (broadcastInDim S8x4096x3072 ![0, 1, 2] bcast_S1x1x3072_S8x4096x3072_0_1_2 (broadcastInDim S1x1x3072 ![2] bcast_S3072_S1x1x3072_2 cb)) (ix3 b l j)
      = y (ix4 b ⟨l.val / 64, by omega⟩ ⟨l.val % 64, by omega⟩ j) + cb (ix1 j) := by
  rw [addf_apply, image_read, bias_read]
  rfl
theorem pre_read (p : Vec Ideal S8x4096x3072 .f32) (b : Fin 8) (l : Fin 4096) (j : Fin 3072) :
    pre cw cb p (ix3 b l j) = conv cw (padded p) (ix4 b ⟨l.val / 64, by omega⟩ ⟨l.val % 64, by omega⟩ j) + cb (ix1 j) := by
  unfold pre
  exact sum_read cb _ b l j

theorem pre_apply (p : Vec Ideal S8x4096x3072 .f32) (b : Fin 8) (l : Fin 4096) (j : Fin 3072) :
    pre cw cb p (ix3 b l j) = gridSum (fun l => p (ix3 b l j)) (fun i k => cw (ix3 i k j)) (cb (ix1 j)) l :=
  (pre_read cw cb p b l j).trans (conv_cell cw cb p b l j)

theorem gated_apply (s : Vec Ideal S8x4096x3072 .f32) (b l j) : gated s (ix3 b l j) = s (ix3 b l j) * Ideal.logistic (s (ix3 b l j)) := by
  unfold Ideal.logistic
  pointwise [gated]

theorem res_apply (t : Fin 32768) (j : Fin 3072) : res x sc sh w cw cb (ix2 t j)
    = gridBlock (fun l => lin (fun t k => x (ix2 t k)) (fun b k => sc (ix3 b 0 k)) (fun b k => sh (ix3 b 0 k)) (fun k j => w (ix2 k j)) (row (bat t) l) j)
      (fun i k => cw (ix3 i k j)) (cb (ix1 j)) (pos t) := by
  have e : res x sc sh w cw cb (ix2 t j) = gated (pre cw cb (proj x sc sh w)) (ix3 (bat t) (pos t) j) := by
    pointwise [res, bat, pos]
  have ep : (fun l => proj x sc sh w (ix3 (bat t) l j)) = fun l => lin (fun t k => x (ix2 t k)) (fun b k => sc (ix3 b 0 k)) (fun b k => sh (ix3 b 0 k)) (fun k j => w (ix2 k j)) (row (bat t) l) j :=
    funext fun l => proj_apply x sc sh w (bat t) l j
  rw [e, gated_apply, pre_apply, ep]
  rfl
end
end Cert.ReferenceGridIdeal.Conv

namespace Mix.Grid
open Idealize.ShloMosaic Idealize.ShloMosaic.TcCoe Idealize.SL.Sem

theorem algebraic : Cert.algebraic_KernelGridIdeal_ReferenceGridIdeal := fun m ρ m' ρ' _ hag =>
  ⟨fun c => fun i => Cert.KernelGridIdeal.Conv.out m c (i 0) (i 1),
   (θ_run _ _ _).mono (fun _ h c => ⟨(h c).1.trans (Cert.KernelGridIdeal.Conv.out_eq m c), (h c).2⟩) (Cert.KernelGridIdeal.Value.run_blocks m ρ),
   (θ_run _ _ _).mono (fun _ h c => ⟨(h c).1.trans (by
      obtain ⟨h0, h1, h2, h3, h4, h5⟩ := hag c
      refine (rfl : _ = Cert.ReferenceGridIdeal.Conv.res _ _ _ _ _ _).trans (funext fun i => ?_)
      obtain ⟨t, j, rfl⟩ : ∃ t j, i = ix2 t j := ⟨i 0, i 1, by ext a; fin_cases a <;> rfl⟩
      rw [h0, h1, h2, h3, h4, h5]
      exact Cert.ReferenceGridIdeal.Conv.res_apply _ _ _ _ _ _ t j), (h c).2⟩) (Cert.ReferenceGridIdeal.Value.run m' ρ')⟩
end Mix.Grid
end
-- ==== Proof.Mix.SeqKernel.lean ====
module

public import proofs.«01_k».proof.Proof.Gen.KernelSeqIdeal.Value
public import proofs.«01_k».proof.Proof.Mix.Spec
public import proofs.«01_k».proof.Proof.Mix.Shift
public import Idealize.ShloMosaic.Lib.Pipeline.ValueKit
public import Idealize.ShloMosaic.Lib.VecWindow
public import Idealize.ShloMosaic.Lib.WholeRead
public import Idealize.ShloMosaic.Lib.Pipeline.Covers

/-! The projection with the convolution along the sequence: what the kernel leaves. -/

@[expose] public section
set_option maxRecDepth 16384
noncomputable section
namespace Cert.KernelSeqIdeal.Conv
open Idealize.ShloMosaic Idealize.ShloMosaic.TcCoe Idealize.ShloMosaic.StableHlo Cert.KernelSeqIdeal Cert.KernelSeqIdeal.Gen Mix

theorem h_apply (x : Vec Ideal S4096x1024 .f32) (sc sh : Vec Ideal S1x1x1024 .f32) (l k) :
    k0_pay2 x sc sh (ix2 l k) = x (ix2 l k) * (1 + sc (ix3 0 0 k)) + sh (ix3 0 0 k) := by
  pointwise [k0_pay2]

theorem p_apply (h : Vec Ideal S4096x1024 .bf16) (w : Vec Ideal S1024x256 .bf16) (l j) :
    k0_pay3 h w (ix2 l j) = ∑ k : Fin 1024, h (ix2 l k) * w (ix2 k j) := by
  pointwise [k0_pay3]

theorem pos_apply (l : Fin 4096) (j) : k0_pay4 (ix2 l j) = BitVec.ofNat 32 l.val := by
  refine Eq.trans ?_ (and_4095 l.val l.isLt)
  pointwise [k0_pay4]

/-- A row of the convolution's weights. -/
def tap (c : Vec Ideal S1x3x256 .f32) (i : Fin 3) : Vec Ideal S1x1x256 .f32 := fun y => c (ix3 0 i (y 2))

/-- What a point stores, from the rows it keeps and its blocks. -/
def point (h : Vec Ideal S4096x1024 .bf16) (w : Vec Ideal S1024x256 .bf16) (c : Vec Ideal S1x3x256 .f32) (b : Vec Ideal S1x256 .f32) : FVec Ideal S4096x256 .f32 :=
  k0_pay1 (k0_pay5 h w (tap c 0) (tap c 1)) (k0_pay6 h w (tap c 2)) k0_pay7 (Scalar.ofBits .f32 0x00000000#32) b

theorem row_apply (c : Vec Ideal S1x1x256 .f32) (l j) : broadcastTo S4096x256 (shapeCast S1x256 c shapeCasts_S1x1x256_S1x256) broadcasts_S1x256_S4096x256 (ix2 l j) = c (ix3 0 0 j) := by
  pointwise
theorem bias_apply (c : Vec Ideal S1x256 .f32) (l j) : broadcastTo S4096x256 (shapeCast S1x256 c shapeCasts_S1x256_S1x256) broadcasts_S1x256_S4096x256 (ix2 l j) = c (ix2 0 j) := by
  pointwise

theorem pay5_apply (h : Vec Ideal S4096x1024 .bf16) (w : Vec Ideal S1024x256 .bf16) (c0 c1 : Vec Ideal S1x1x256 .f32) (l j) :
    k0_pay5 h w c0 c1 (ix2 l j) = 0 + (if 1 ≤ l.val then k0_pay3 h w (ix2 (src 1#32 l) j) * c0 (ix3 0 0 j) else 0) + k0_pay3 h w (ix2 l j) * c1 (ix3 0 0 j) := by
  refine congrArg₂ (· + ·) (congrArg₂ (· + ·) Ideal.ofBits_zero_f32 ?_) (congrArg (k0_pay3 h w (ix2 l j) * ·) (row_apply c1 l j))
  refine (turn_ge k0_pay4 1 _ _ _ l j l.val (pos_apply l j) (by omega) (by omega)).trans ?_
  exact if_congr Iff.rfl (congrArg (k0_pay3 h w (ix2 (src 1#32 l) j) * ·) (row_apply c0 _ j)) Ideal.ofBits_zero_f32

theorem point_apply (h : Vec Ideal S4096x1024 .bf16) (w : Vec Ideal S1024x256 .bf16) (c : Vec Ideal S1x3x256 .f32) (b : Vec Ideal S1x256 .f32) (l j) :
    point h w c b (ix2 l j) = seqBlock (fun l => k0_pay3 h w (ix2 l j)) (fun i => c (ix3 0 i j)) (b (ix2 0 j)) l := by
  refine congrArg₂ (· + ·) (congrArg₂ (· + ·) (pay5_apply h w (tap c 0) (tap c 1) l j) ?_) (bias_apply b l j)
  unfold k0_pay7 k0_pay6
  refine (turn_lt k0_pay4 4095 4095 _ _ _ l j l.val (pos_apply l j) (by omega) (by omega)).trans ?_
  exact if_congr Iff.rfl (congrArg (k0_pay3 h w (ix2 (src 4095#32 l) j) * ·) (row_apply _ _ j)) Ideal.ofBits_zero_f32

section
variable (c : Dev nD) (i : grid0.Coords) (arg2 : Memref sig .tc .vmem S4096x1024 .f32) (harg2 : arg2.IsWhole) (arg3 : Memref sig .tc .vmem S1x1x1024 .f32) (harg3 : arg3.IsWhole)
  (arg4 : Memref sig .tc .vmem S1x1x1024 .f32) (harg4 : arg4.IsWhole) (arg5 : Memref sig .tc .vmem S1024x256 .bf16) (harg5 : arg5.IsWhole) (arg6 : Memref sig .tc .vmem S1x3x256 .f32) (harg6 : arg6.IsWhole)
  (arg7 : Memref sig .tc .vmem S1x256 .f32) (harg7 : arg7.IsWhole) (arg8 : Memref sig .tc .vmem S4096x256 .f32) (harg8 : arg8.IsWhole) (arg9 : Memref sig .tc .vmem S4096x1024 .bf16) (harg9 : arg9.IsWhole)
  (x0 : Vec Ideal S4096x1024 .f32) (x1 x2 : Vec Ideal S1x1x1024 .f32) (x3 : Vec Ideal S1024x256 .bf16) (x4 : Vec Ideal S1x3x256 .f32) (x5 : Vec Ideal S1x256 .f32) (xs0 : Vec Ideal S4096x1024 .bf16)

/-- The loads of the blocks, and of a row of the convolution's weights. -/
def ld0 : Vec Ideal S4096x1024 .f32 := View.readAt (Elt Ideal) arg2.view (Rect.unit (s := S4096x1024) ![0, 0] S4096x1024.size Facts₀.inb_S4096x1024_S4096x1024_0_0).toLoadRect (harg2.unread x0)
def ld1 : Vec Ideal S1x1x1024 .f32 := View.readAt (Elt Ideal) arg3.view (Rect.unit (s := S1x1x1024) ![0, 0, 0] S1x1x1024.size Facts₀.inb_S1x1x1024_S1x1x1024_0_0_0).toLoadRect (harg3.unread x1)
def ld3 : Vec Ideal S1024x256 .bf16 := View.readAt (Elt Ideal) arg5.view (Rect.unit (s := S1024x256) ![0, 0] S1024x256.size Facts₀.inb_S1024x256_S1024x256_0_0).toLoadRect (harg5.unread x3)
def ld5 : Vec Ideal S1x256 .f32 := View.readAt (Elt Ideal) arg7.view (Rect.unit (s := S1x256) ![0, 0] S1x256.size Facts₀.inb_S1x256_S1x256_0_0).toLoadRect (harg7.unread x5)
def ldS : Vec Ideal S4096x1024 .bf16 := View.readAt (Elt Ideal) arg9.view (Rect.unit (s := S4096x1024) ![0, 0] S4096x1024.size Facts₀.inb_S4096x1024_S4096x1024_0_0).toLoadRect (harg9.unread xs0)
theorem inb_tap (r : Fin 3) : ∀ a, (![0, r.val, 0] : Fin 3 → ℕ) a + S1x1x256.size a ≤ S1x3x256.size a := by
  intro a; fin_cases a
  · exact Nat.le_refl 1
  · show r.val + 1 ≤ 3; omega
  · exact Nat.le_refl 256
def ldT (r : Fin 3) : Vec Ideal S1x1x256 .f32 := View.readAt (Elt Ideal) arg6.view (Rect.unit (s := S1x3x256) ![0, r.val, 0] S1x1x256.size (inb_tap r)).toLoadRect (harg6.unread x4)

theorem ld0_eq : ld0 arg2 harg2 x0 = x0 := by unfold ld0; rw [View.readAt_full, harg2.read_unread]
theorem ld1_eq : ld1 arg3 harg3 x1 = x1 := by unfold ld1; rw [View.readAt_full, harg3.read_unread]
theorem ld3_eq : ld3 arg5 harg5 x3 = x3 := by unfold ld3; rw [View.readAt_full, harg5.read_unread]
theorem ld5_eq : ld5 arg7 harg7 x5 = x5 := by unfold ld5; rw [View.readAt_full, harg7.read_unread]
theorem ldS_eq : ldS arg9 harg9 xs0 = xs0 := by unfold ldS; rw [View.readAt_full, harg9.read_unread]
theorem ldT_eq (r : Fin 3) : ldT arg6 harg6 x4 r = tap x4 r := by
  funext j
  refine (harg6.readAt_unread x4 (Rect.unit (s := S1x3x256) ![0, r.val, 0] S1x1x256.size (inb_tap r)).toLoadRect j).trans (congrArg x4 ?_)
  have h0 : (j 0).val < 1 := (j 0).isLt
  have h1 : (j 1).val < 1 := (j 1).isLt
  funext a; apply Fin.ext; fin_cases a
  · show 0 + 1 * (j 0).val = 0; omega
  · show r.val + 1 * (j 1).val = r.val; omega
  · exact (Nat.zero_add _).trans (Nat.one_mul _)

/-- The store of a point, from the loads. -/
def stored (h : Vec Ideal S4096x1024 .bf16) : FVec Ideal S4096x256 .f32 :=
  k0_pay1 (k0_pay5 h (ld3 arg5 harg5 x3) (ldT arg6 harg6 x4 0) (ldT arg6 harg6 x4 1)) (k0_pay6 h (ld3 arg5 harg5 x3) (ldT arg6 harg6 x4 2)) k0_pay7 (Scalar.ofBits .f32 0x00000000#32) (ld5 arg7 harg7 x5)
theorem stored_eq (h : Vec Ideal S4096x1024 .bf16) : stored arg5 harg5 arg6 harg6 arg7 harg7 x3 x4 x5 h = point h x3 x4 x5 := by
  unfold stored point
  rw [ld3_eq, ld5_eq, ldT_eq, ldT_eq, ldT_eq]

theorem run_A_h (hc0 : cond0_0 i) : (kernelRun0_A c i arg2 harg2 arg3 harg3 arg4 harg4 arg5 harg5 arg6 harg6 arg7 harg7 arg8 harg8 arg9 harg9 hc0 x0 x1 x2 x3 x4 x5).2.1
    = [⟨Rect.unit (s := S4096x1024) ![0, 0] S4096x1024.size Facts₀.inb_S4096x1024_S4096x1024_0_0, k0_pay2 (ld0 arg2 harg2 x0) (ld1 arg3 harg3 x1) (ld1 arg4 harg4 x2)⟩] := rfl
theorem run_A_out (hc0 : cond0_0 i) : (kernelRun0_A c i arg2 harg2 arg3 harg3 arg4 harg4 arg5 harg5 arg6 harg6 arg7 harg7 arg8 harg8 arg9 harg9 hc0 x0 x1 x2 x3 x4 x5).1
    = [⟨Rect.unit (s := S4096x256) ![0, 0] S4096x256.size Facts₀.inb_S4096x256_S4096x256_0_0, stored arg5 harg5 arg6 harg6 arg7 harg7 x3 x4 x5
        (arg9.view.readCov (Val := Elt Ideal) [⟨Rect.unit (s := S4096x1024) ![0, 0] S4096x1024.size Facts₀.inb_S4096x1024_S4096x1024_0_0, k0_pay2 (ld0 arg2 harg2 x0) (ld1 arg3 harg3 x1) (ld1 arg4 harg4 x2)⟩]
          (Rect.unit (s := S4096x1024) ![0, 0] S4096x1024.size Facts₀.inb_S4096x1024_S4096x1024_0_0).toLoadRect)⟩] := rfl
theorem run_B_out (hc0 : ¬cond0_0 i) : (kernelRun0_B c i arg2 harg2 arg3 harg3 arg4 harg4 arg5 harg5 arg6 harg6 arg7 harg7 arg8 harg8 arg9 harg9 hc0 x0 x1 x2 x3 x4 x5 xs0).1
    = [⟨Rect.unit (s := S4096x256) ![0, 0] S4096x256.size Facts₀.inb_S4096x256_S4096x256_0_0, stored arg5 harg5 arg6 harg6 arg7 harg7 x3 x4 x5 (ldS arg9 harg9 xs0)⟩] := rfl

theorem sout_A (hc0 : cond0_0 i) : sout0_A_0 c i arg2 harg2 arg3 harg3 arg4 harg4 arg5 harg5 arg6 harg6 arg7 harg7 arg8 harg8 arg9 harg9 hc0 x0 x1 x2 x3 x4 x5 = k0_pay2 x0 x1 x2 := by
  unfold sout0_A_0
  rw [run_A_h, View.read_writes_full, ld0_eq, ld1_eq, ld1_eq]
theorem out_A (hc0 : cond0_0 i) : out0_A_6 c i arg2 harg2 arg3 harg3 arg4 harg4 arg5 harg5 arg6 harg6 arg7 harg7 arg8 harg8 arg9 harg9 hc0 x0 x1 x2 x3 x4 x5 = point (k0_pay2 x0 x1 x2) x3 x4 x5 := by
  unfold out0_A_6
  rw [run_A_out, View.read_writes_full, View.readCov_full, ld0_eq, ld1_eq, ld1_eq, stored_eq]
theorem out_B (hc0 : ¬cond0_0 i) : out0_B_6 c i arg2 harg2 arg3 harg3 arg4 harg4 arg5 harg5 arg6 harg6 arg7 harg7 arg8 harg8 arg9 harg9 hc0 x0 x1 x2 x3 x4 x5 xs0 = point xs0 x3 x4 x5 := by
  unfold out0_B_6
  rw [run_B_out, View.read_writes_full, ldS_eq, stored_eq]
end

variable (m : (ℓ : Loc nD τ sig) → Buf (Elt Ideal) ℓ)

theorem e0 : ∀ t : Fin cfg0.N, win0_0.index t = ![t.val / 12, 0] := (by decide +kernel : ∀ t : Fin grid0.N, _)
theorem e1 : ∀ t : Fin cfg0.N, win0_1.index t = ![t.val / 12, 0, 0] := (by decide +kernel : ∀ t : Fin grid0.N, _)
theorem e2 : ∀ t : Fin cfg0.N, win0_2.index t = ![t.val / 12, 0, 0] := (by decide +kernel : ∀ t : Fin grid0.N, _)
theorem e3 : ∀ t : Fin cfg0.N, win0_3.index t = ![0, t.val % 12] := (by decide +kernel : ∀ t : Fin grid0.N, _)
theorem e4 : ∀ t : Fin cfg0.N, win0_4.index t = ![0, 0, t.val % 12] := (by decide +kernel : ∀ t : Fin grid0.N, _)
theorem e5 : ∀ t : Fin cfg0.N, win0_5.index t = ![0, t.val % 12] := (by decide +kernel : ∀ t : Fin grid0.N, _)
theorem e6 : ∀ t : Fin cfg0.N, win0_6.index t = ![t.val / 12, t.val % 12] := (by decide +kernel : ∀ t : Fin grid0.N, _)

/-- The rows the projection reads. -/
def hid (c : Dev nD) (t : Fin 32768) (k : Fin 1024) : EReal :=
  hx (fun t k => m ((c : Thread nD τ).loc main_arg0) (ix2 t k)) (fun b k => m ((c : Thread nD τ).loc main_arg1) (ix3 b 0 k))
    (fun b k => m ((c : Thread nD τ).loc main_arg2) (ix3 b 0 k)) t k
/-- The result. -/
def out (c : Dev nD) (t : Fin 32768) (j : Fin 3072) : EReal :=
  seqBlock (fun l => lin (fun t k => m ((c : Thread nD τ).loc main_arg0) (ix2 t k)) (fun b k => m ((c : Thread nD τ).loc main_arg1) (ix3 b 0 k))
    (fun b k => m ((c : Thread nD τ).loc main_arg2) (ix3 b 0 k)) (fun k j => m ((c : Thread nD τ).loc main_arg3) (ix2 k j)) (row (bat t) l) j)
    (fun i => m ((c : Thread nD τ).loc main_arg4) (ix2 i j)) (m ((c : Thread nD τ).loc main_arg5) (ix1 j)) (pos t)

theorem V_v0 (c : Dev nD) (i j) : V m c main_v0 (ix3 0 i j) = m ((c : Thread nD τ).loc main_arg4) (ix2 i j) := by
  have e : V m c main_v0 = broadcastInDim S1x3x3072 ![1, 2] bcast_S3x3072_S1x3x3072_1_2 (m ((c : Thread nD τ).loc main_arg4)) := by
    unfold V hostOps0
    after_results
  rw [e]
  pointwise
theorem V_v1 (c : Dev nD) (k j) : V m c main_v1 (ix2 k j) = m ((c : Thread nD τ).loc main_arg3) (ix2 k j) := by
  have e : V m c main_v1 = truncf (F := Ideal) .bf16 (m ((c : Thread nD τ).loc main_arg3)) bitsLt_bf16_f32 := by
    unfold V hostOps0
    after_results
  rw [e]
  rfl
theorem V_v2 (c : Dev nD) (j) : V m c main_v2 (ix2 0 j) = m ((c : Thread nD τ).loc main_arg5) (ix1 j) := by
  have e : V m c main_v2 = shapeCast S1x3072 (m ((c : Thread nD τ).loc main_arg5)) shapeCasts_S3072_S1x3072 := by
    unfold V hostOps0
    after_results
    rfl
  rw [e]
  pointwise

theorem lt_N (t : Fin cfg0.N) : t.val < 96 := lt_of_lt_of_eq t.isLt N_0

/-- The batch, and a column, of a point's block of the result. -/
def pb (t : Fin cfg0.N) : Fin 8 := ⟨t.val / 12, by have := lt_N t; omega⟩
def col (t : Fin cfg0.N) (j : Fin 256) : Fin 3072 := ⟨t.val % 12 * 256 + j.val, by omega⟩

theorem b0 (c : Dev nD) (t : Fin cfg0.N) (l k) : iblk m c 0 t (ix2 l k) = m ((c : Thread nD τ).loc main_arg0) (ix2 (row (pb t) l) k) := by
  unfold iblk
  blk_simp
  rw [V_main_arg0]
  refine congrArg (m ((c : Thread nD τ).loc main_arg0)) ?_
  blk_ext [e0, row, pb]
theorem b1 (c : Dev nD) (t : Fin cfg0.N) (k) : iblk m c 1 t (ix3 0 0 k) = m ((c : Thread nD τ).loc main_arg1) (ix3 (pb t) 0 k) := by
  unfold iblk
  blk_simp
  rw [V_main_arg1]
  refine congrArg (m ((c : Thread nD τ).loc main_arg1)) ?_
  blk_ext [e1, pb]
theorem b2 (c : Dev nD) (t : Fin cfg0.N) (k) : iblk m c 2 t (ix3 0 0 k) = m ((c : Thread nD τ).loc main_arg2) (ix3 (pb t) 0 k) := by
  unfold iblk
  blk_simp
  rw [V_main_arg2]
  refine congrArg (m ((c : Thread nD τ).loc main_arg2)) ?_
  blk_ext [e2, pb]
theorem b3 (c : Dev nD) (t : Fin cfg0.N) (k j) : iblk m c 3 t (ix2 k j) = m ((c : Thread nD τ).loc main_arg3) (ix2 k (col t j)) := by
  unfold iblk
  blk_simp
  refine Eq.trans (congrArg (V m c main_v1) ?_) (V_v1 m c k (col t j))
  blk_ext [e3, col]
theorem b4 (c : Dev nD) (t : Fin cfg0.N) (i : Fin 3) (j) : iblk m c 4 t (ix3 0 i j) = m ((c : Thread nD τ).loc main_arg4) (ix2 i (col t j)) := by
  unfold iblk
  blk_simp
  refine Eq.trans (congrArg (V m c main_v0) ?_) (V_v0 m c i (col t j))
  blk_ext [e4, col]
theorem b5 (c : Dev nD) (t : Fin cfg0.N) (j) : iblk m c 5 t (ix2 0 j) = m ((c : Thread nD τ).loc main_arg5) (ix1 (col t j)) := by
  unfold iblk
  blk_simp
  refine Eq.trans (congrArg (V m c main_v2) ?_) (V_v2 m c (col t j))
  blk_ext [e5, col]

/-- What a point computes, on rows that are its batch's. -/
theorem point_out (c : Dev nD) (t : Fin cfg0.N) (h : Vec Ideal S4096x1024 .bf16) (hh : ∀ l k, h (ix2 l k) = hid m c (row (pb t) l) k) (l j) :
    point h (iblk m c 3 t) (iblk m c 4 t) (iblk m c 5 t) (ix2 l j) = out m c (row (pb t) l) (col t j) := by
  rw [point_apply]
  unfold out
  rw [bat_row, pos_row, b5]
  congr 1
  · funext l
    rw [p_apply]
    exact Finset.sum_congr rfl fun k _ => by rw [hh, b3]; rfl
  · funext i
    exact b4 m c t i j

/-- The rows kept are the batch's, and the block stored is the result's. -/
def Leaves (c : Dev nD) (t : Fin cfg0.N) : Prop :=
  (∀ l k, (outsAt0 m c t.val t.isLt).2 (ix2 l k) = hid m c (row (pb t) l) k) ∧ ∀ l j, (outsAt0 m c t.val t.isLt).1 (ix2 l j) = out m c (row (pb t) l) (col t j)

theorem fresh (c : Dev nD) (t : Fin cfg0.N) (l k) : k0_pay2 (iblk m c 0 t) (iblk m c 1 t) (iblk m c 2 t) (ix2 l k) = hid m c (row (pb t) l) k := by
  rw [h_apply, b0, b1, b2]
  unfold hid hx
  rw [bat_row]

theorem leaves_first (c : Dev nD) (t : Fin cfg0.N) (h0 : t.val % 12 = 0) : Leaves m c t := by
  unfold Leaves
  simp only [outsAt0_A m c t h0]
  constructor
  · intro l k
    rw [sout_A]
    exact fresh m c t l k
  · intro l j
    rw [out_A]
    exact point_out m c t _ (fresh m c t) l j

theorem leaves_next (c : Dev nD) (t : Fin cfg0.N) (h0 : ¬t.val % 12 = 0)
    (ih : ∀ l k, (outsAt0 m c (t.val - 1) (Nat.lt_of_le_of_lt (Nat.sub_le _ _) t.isLt)).2 (ix2 l k) = hid m c (row (pb t) l) k) : Leaves m c t := by
  unfold Leaves
  simp only [outsAt0_B m c t h0]
  constructor
  · exact ih
  · intro l j
    rw [out_B]
    exact point_out m c t _ ih l j

theorem leaves (c : Dev nD) : ∀ (k : ℕ) (hk : k < cfg0.N), Leaves m c ⟨k, hk⟩
  | 0, hk => leaves_first m c ⟨0, hk⟩ rfl
  | k + 1, hk => by
    by_cases h0 : (k + 1) % 12 = 0
    · exact leaves_first m c ⟨k + 1, hk⟩ h0
    · refine leaves_next m c ⟨k + 1, hk⟩ h0 fun l q => ?_
      refine ((leaves c k (Nat.lt_of_succ_lt hk)).1 l q).trans ?_
      have hb : pb ⟨k, Nat.lt_of_succ_lt hk⟩ = pb ⟨k + 1, hk⟩ := Fin.ext (show k / 12 = (k + 1) / 12 by omega)
      rw [hb]

theorem out_eq (c : Dev nD) : (dats m 0 c).arrAt 6 cfg0.N = fun i => out m c (i 0) (i 1) := by
  refine (dats m 0 c).arrAt_eq_of_covers 6 _ (by decide +kernel) fun t hfl y => ?_
  blk_simp
  rw [after0_6]
  idx_bounds y
  have ey : y = ix2 (y 0) (y 1) := by
    blk_ext
  refine (congrArg _ ey).trans (((leaves m c t.val t.isLt).2 (y 0) (y 1)).trans ?_)
  have h0 : row (pb t) (y 0) = ((cfg0.win 6).blk t).view.emb y 0 := Fin.ext (by blk_simp [e6, row, pb])
  have h1 : col t (y 1) = ((cfg0.win 6).blk t).view.emb y 1 := Fin.ext (by blk_simp [e6, col])
  exact congr (congrArg (out m c) h0) h1
end Cert.KernelSeqIdeal.Conv
end
-- ==== Proof.Mix.Seq.lean ====
module

public import proofs.«01_k».proof.Defs
public import proofs.«01_k».proof.Proof.Gen.ReferenceSeqIdeal.Run
public import proofs.«01_k».proof.Proof.Mix.SeqKernel

/-! The projection with the convolution along the sequence: the reference, and that both agree. -/

@[expose] public section
set_option maxRecDepth 16384
noncomputable section
namespace Cert.ReferenceSeqIdeal.Conv
open Idealize.ShloMosaic Idealize.ShloMosaic.TcCoe Idealize.SL.Sem Cert.ReferenceSeqIdeal Cert.ReferenceSeqIdeal.Gen Mix

section
variable (x : Vec Ideal S32768x1024 .f32) (sc sh : Vec Ideal S8x1x1024 .f32) (w : Vec Ideal S1024x3072 .f32) (cw : Vec Ideal S3x3072 .f32) (cb : Vec Ideal S3072 .f32)

/-- The scaled and shifted tokens, and their projection. -/
def hid : Vec Ideal S8x4096x1024 .f32 :=
  addf (F := Ideal) (φ := .f32) (mulf (F := Ideal) (φ := .f32) (shapeCast S8x4096x1024 x shapeCasts_S32768x1024_S8x4096x1024) (broadcastInDim S8x4096x1024 ![0, 1, 2] bcast_S8x1x1024_S8x4096x1024_0_1_2 (addf (F := Ideal) (φ := .f32) (broadcastInDim S8x1x1024 ![] bcast_S_S8x1x1024 (constant (F := Ideal) S_ .f32 0x3F800000#32)) sc))) (broadcastInDim S8x4096x1024 ![0, 1, 2] bcast_S8x1x1024_S8x4096x1024_0_1_2 sh)
def proj : Vec Ideal S8x4096x3072 .f32 :=
  Host.dotGeneral (F := Ideal) (φ₁ := .f32) (φ₂ := .f32) dot_S8x4096x1024_S1024x3072_S8x4096x3072_2_0_01_1_n_n none (hid x sc sh) w
/-- The projection with a row of zeros at both ends. -/
def padded (p : Vec Ideal S8x4096x3072 .f32) : Vec Ideal S8x4098x3072 .f32 :=
  pad S8x4098x3072 ![0, 1, 0] ![0, 1, 0] ![0, 0, 0] p (sitofp (F := Ideal) .f32 (constantI S_ 32 0#32)) pads_S8x4096x3072_S8x4098x3072_000_110_000 h_S_
/-- A row of the weights over all tokens. -/
def wrow (r : Vec Ideal S1x3072 .f32) : Vec Ideal S8x4096x3072 .f32 :=
  broadcastInDim S8x4096x3072 ![0, 1, 2] bcast_S1x1x3072_S8x4096x3072_0_1_2 (broadcastInDim S1x1x3072 ![2] bcast_S3072_S1x1x3072_2 (shapeCast S3072 r shapeCasts_S1x3072_S3072))
/-- The three rows of the convolution, and the bias. -/
def conv (u : Vec Ideal S8x4098x3072 .f32) : Vec Ideal S8x4096x3072 .f32 :=
  addf (F := Ideal) (φ := .f32) (addf (F := Ideal) (φ := .f32) (addf (F := Ideal) (φ := .f32)
    (mulf (F := Ideal) (φ := .f32) (extractStridedSlice S8x4096x3072 ![0, 0, 0] u slices_S8x4098x3072_S8x4096x3072_0_0_0) (wrow (extractStridedSlice S1x3072 ![0, 0] cw slices_S3x3072_S1x3072_0_0)))
    (mulf (F := Ideal) (φ := .f32) (extractStridedSlice S8x4096x3072 ![0, 1, 0] u slices_S8x4098x3072_S8x4096x3072_0_1_0) (wrow (extractStridedSlice S1x3072 ![1, 0] cw slices_S3x3072_S1x3072_1_0))))
    (mulf (F := Ideal) (φ := .f32) (extractStridedSlice S8x4096x3072 ![0, 2, 0] u slices_S8x4098x3072_S8x4096x3072_0_2_0) (wrow (extractStridedSlice S1x3072 ![2, 0] cw slices_S3x3072_S1x3072_2_0))))
    (broadcastInDim S8x4096x3072 ![0, 1, 2] bcast_S1x1x3072_S8x4096x3072_0_1_2 (broadcastInDim S1x1x3072 ![2] bcast_S3072_S1x1x3072_2 cb))
def res : Vec Ideal S32768x3072 .f32 :=
  shapeCast S32768x3072 (conv cw cb (padded (proj x sc sh w))) shapeCasts_S8x4096x3072_S32768x3072

theorem hid_apply (b : Fin 8) (l : Fin 4096) (k : Fin 1024) : hid x sc sh (ix3 b l k)
    = hx (fun t k => x (ix2 t k)) (fun b k => sc (ix3 b 0 k)) (fun b k => sh (ix3 b 0 k)) (row b l) k := by
  unfold hx
  rw [bat_row]
  pointwise [hid, row]
theorem proj_apply (b : Fin 8) (l : Fin 4096) (j : Fin 3072) : proj x sc sh w (ix3 b l j)
    = lin (fun t k => x (ix2 t k)) (fun b k => sc (ix3 b 0 k)) (fun b k => sh (ix3 b 0 k)) (fun k j => w (ix2 k j)) (row b l) j := by
  pointwise [proj]
  unfold lin
  exact Finset.sum_congr rfl fun k _ => congrArg (· * w (ix2 k j)) (hid_apply x sc sh b l k)

theorem zero_sitofp : (FloatOps.sitofp (F := Ideal) .f32 0#32 : EReal) = 0 := by
  show (((0#32 : BitVec 32).toInt : ℝ) : EReal) = 0
  simp

theorem padded_in (p : Vec Ideal S8x4096x3072 .f32) (b : Fin 8) (l : Fin 4098) (j : Fin 3072) (r : Fin 4096) (hr : l.val = r.val + 1) :
    padded p (ix3 b l j) = p (ix3 b r j) := by
  refine pad_apply_of_inside _ _ _ p _ _ _ (ix3 b l j) (ix3 b r j) fun a => ?_
  fin_cases a
  · show b.val = 0 + b.val * 1; omega
  · show l.val = 1 + r.val * 1; omega
  · show j.val = 0 + j.val * 1; omega
theorem padded_out (p : Vec Ideal S8x4096x3072 .f32) (b : Fin 8) (l : Fin 4098) (j : Fin 3072) (hl : l.val = 0 ∨ l.val = 4097) :
    padded p (ix3 b l j) = 0 := by
  refine (pad_apply_of_not_inside _ _ _ p _ _ _ (ix3 b l j) 1 ?_).trans ?_
  · rintro ⟨h1, _, h3⟩
    have h1 : 1 ≤ l.val := h1
    have h3 : (l.val - 1) / 1 < 4096 := h3
    omega
  · pointwise
    exact zero_sitofp

theorem wrow_apply (r : Vec Ideal S1x3072 .f32) (b l j) : wrow r (ix3 b l j) = r (ix2 0 j) := by
  pointwise [wrow]

theorem conv_apply (p : Vec Ideal S8x4096x3072 .f32) (b : Fin 8) (l : Fin 4096) (j : Fin 3072) :
    conv cw cb (padded p) (ix3 b l j) = seqBlock (fun l => p (ix3 b l j)) (fun i => cw (ix2 i j)) (cb (ix1 j)) l := by
  have e : conv cw cb (padded p) (ix3 b l j) = padded p (ix3 b ⟨l.val, by omega⟩ j) * cw (ix2 0 j) + padded p (ix3 b ⟨1 + l.val, by omega⟩ j) * cw (ix2 1 j)
      + padded p (ix3 b ⟨2 + l.val, by omega⟩ j) * cw (ix2 2 j) + cb (ix1 j) := by
    pointwise [conv, wrow_apply]
  rw [e]
  unfold seqBlock
  rw [zero_add, padded_in p b ⟨1 + l.val, _⟩ j l (Nat.add_comm _ _)]
  congr 1
  congr 1
  · congr 1
    split
    · rw [src_back l 1 (by omega) (by assumption), padded_in p b _ j ⟨l.val - 1, by omega⟩ (by show l.val = l.val - 1 + 1; omega)]
    · rw [padded_out p b _ j (Or.inl (by show l.val = 0; omega)), zero_mul]
  · split
    · rw [src_fwd l 4095 (by omega) (by assumption), padded_in p b _ j ⟨l.val + 1, by omega⟩ (by show 2 + l.val = l.val + 1 + 1; omega)]
    · rw [padded_out p b _ j (Or.inr (by show 2 + l.val = 4097; omega)), zero_mul]

theorem res_apply (t : Fin 32768) (j : Fin 3072) : res x sc sh w cw cb (ix2 t j)
    = seqBlock (fun l => lin (fun t k => x (ix2 t k)) (fun b k => sc (ix3 b 0 k)) (fun b k => sh (ix3 b 0 k)) (fun k j => w (ix2 k j)) (row (bat t) l) j)
      (fun i => cw (ix2 i j)) (cb (ix1 j)) (pos t) := by
  have e : res x sc sh w cw cb (ix2 t j) = conv cw cb (padded (proj x sc sh w)) (ix3 (bat t) (pos t) j) := by
    pointwise [res, bat, pos]
  rw [e, conv_apply]
  congr 1
  funext l
  exact proj_apply x sc sh w (bat t) l j
end
end Cert.ReferenceSeqIdeal.Conv

namespace Mix.Seq
open Idealize.ShloMosaic Idealize.ShloMosaic.TcCoe Idealize.SL.Sem

theorem algebraic : Cert.algebraic_KernelSeqIdeal_ReferenceSeqIdeal := fun m ρ m' ρ' _ hag =>
  ⟨fun c => fun i => Cert.KernelSeqIdeal.Conv.out m c (i 0) (i 1),
   (θ_run _ _ _).mono (fun _ h c => ⟨(h c).1.trans (Cert.KernelSeqIdeal.Conv.out_eq m c), (h c).2⟩) (Cert.KernelSeqIdeal.Value.run_blocks m ρ),
   (θ_run _ _ _).mono (fun _ h c => ⟨(h c).1.trans (by
      obtain ⟨h0, h1, h2, h3, h4, h5⟩ := hag c
      refine (rfl : _ = Cert.ReferenceSeqIdeal.Conv.res _ _ _ _ _ _).trans (funext fun i => ?_)
      obtain ⟨t, j, rfl⟩ : ∃ t j, i = ix2 t j := ⟨i 0, i 1, by ext a; fin_cases a <;> rfl⟩
      rw [h0, h1, h2, h3, h4, h5]
      exact Cert.ReferenceSeqIdeal.Conv.res_apply _ _ _ _ _ _ t j), (h c).2⟩) (Cert.ReferenceSeqIdeal.Value.run m' ρ')⟩
end Mix.Seq
end
-- ==== Proof.Mix.Norm.lean ====
module

public import proofs.«01_k».proof.Proof.Mix.Spec

/-! What the ends of the mixers compute, by coordinates: the residual and the layer norm. -/

@[expose] public section
noncomputable section
namespace Mix
open Idealize.ShloMosaic

/-- A sum by a count, and the small number of the norms. -/
def average {n : ℕ} (c : EReal) (f : Fin n → EReal) : EReal := Ideal.div (∑ k, f k) c
def small : EReal := Ideal.ofBits .f32 0x3727C5AC#32
def width : EReal := Ideal.ofBits .f32 0x44800000#32

/-- The layer norm of a row of 1024. -/
def away (f : Fin 1024 → EReal) (j : Fin 1024) : EReal := f j - average width f
def lnorm (f g b : Fin 1024 → EReal) (j : Fin 1024) : EReal :=
  away f j * Ideal.rsqrt (average width (fun k => away f k * away f k) + small) * g j + b j

/-- The residual with the gated result of a mixer, the mixer's last product being of `n` terms. -/
def joined {n : ℕ} (a : Fin n → EReal) (w : Fin n → Fin 1024 → EReal) (x gate : Fin 1024 → EReal) (j : Fin 1024) : EReal :=
  Ideal.ofBits .f32 0x3FB504F3#32 * x j + gate j * ∑ k, a k * w k j

/-- The group norm: the columns of a column's group, and a row divided by the root of its group's mean square. -/
def mate (j : Fin 2048) (k : Fin 512) : Fin 2048 := ⟨j.val / 512 * 512 + k.val, by omega⟩
def group : EReal := Ideal.ofBits .f32 0x44000000#32
def gnorm (u w : Fin 2048 → EReal) (j : Fin 2048) : EReal :=
  u j * Ideal.rsqrt (average group (fun k => u (mate j k) * u (mate j k)) + small) * w j

/-- The two directions with the skip term, gated by z. -/
def head (j : Fin 2048) : Fin 32 := ⟨j.val / 64, by omega⟩
def gatedY (y0 y1 xs : Fin 2048 → EReal) (d : Fin 32 → EReal) (z : Fin 2048 → EReal) (j : Fin 2048) : EReal :=
  (y0 j + y1 j + xs j * d (head j)) * (z j * Ideal.logistic (z j))
end Mix
end
-- ==== Proof.Mix.OutKernel.lean ====
module

public import proofs.«01_k».proof.Proof.Gen.KernelOutIdeal.Value
public import proofs.«01_k».proof.Proof.Mix.Norm
public import Idealize.ShloMosaic.Lib.Pipeline.Value
public import Idealize.ShloMosaic.Lib.Pointwise
public import Idealize.ShloMosaic.Lib.Pipeline.ValueKit
public import Idealize.ShloMosaic.Lib.IdealHost
public import Idealize.ShloMosaic.Lib.VecWindow
public import Idealize.ShloMosaic.Lib.WholeRead
public import Idealize.ShloMosaic.Lib.Pipeline.Covers

/-! The end of the Mamba mixer: what the kernel leaves. -/

@[expose] public section
set_option maxRecDepth 16384
noncomputable section
namespace Cert.KernelOutIdeal.Out
open Idealize.ShloMosaic Idealize.ShloMosaic.TcCoe Idealize.ShloMosaic.StableHlo Cert.KernelOutIdeal Cert.KernelOutIdeal.Gen Mix

/-- The mean of each row, the rows without it, and the normed rows. -/
def mean (v : FVec Ideal S256x1024 .f32) : FVec Ideal S256x1 .f32 :=
  divf (F := Ideal) (φ := .f32) (shapeCast S256x1 (multiReduction (F := Ideal) (φ := .f32) .add [1] S256 v 0x00000000#32 reduces_S256x1024_S256 (.inl rfl) rfl) shapeCasts_S256_S256x1) (broadcast S256x1 (Scalar.ofBits (F := Ideal) .f32 0x44800000#32))
def centred (v : FVec Ideal S256x1024 .f32) : FVec Ideal S256x1024 .f32 :=
  subf (F := Ideal) (φ := .f32) v (broadcastTo S256x1024 (mean v) broadcasts_S256x1_S256x1024)
def scaled (u : FVec Ideal S256x1024 .f32) (q : FVec Ideal S256x1 .f32) (g b : Vec Ideal S1x1024 .f32) : FVec Ideal S256x1024 .f32 :=
  addf (F := Ideal) (φ := .f32) (mulf (F := Ideal) (φ := .f32) (mulf (F := Ideal) (φ := .f32) u
    (broadcastTo S256x1024 (rsqrt (F := Ideal) (φ := .f32) (addf (F := Ideal) (φ := .f32) q (broadcast S256x1 (Scalar.ofBits (F := Ideal) .f32 0x3727C5AC#32)))) broadcasts_S256x1_S256x1024))
    (broadcastTo S256x1024 (shapeCast S1x1024 g shapeCasts_S1x1024_S1x1024) broadcasts_S1x1024_S256x1024)) (broadcastTo S256x1024 (shapeCast S1x1024 b shapeCasts_S1x1024_S1x1024) broadcasts_S1x1024_S256x1024)
def normed (v : FVec Ideal S256x1024 .f32) (g b : Vec Ideal S1x1024 .f32) : FVec Ideal S256x1024 .f32 :=
  scaled (centred v) (mean (mulf (F := Ideal) (φ := .f32) (centred v) (centred v))) g b

theorem mean_apply (v : FVec Ideal S256x1024 .f32) (l u) : mean v (ix2 l u) = average width (fun k => v (ix2 l k)) := by
  unfold average width
  pointwise [mean]
theorem centred_apply (v : FVec Ideal S256x1024 .f32) (l k) : centred v (ix2 l k) = away (fun k => v (ix2 l k)) k := by
  unfold away
  pointwise [centred, mean_apply]
theorem scaled_apply (u : FVec Ideal S256x1024 .f32) (q : FVec Ideal S256x1 .f32) (g b : Vec Ideal S1x1024 .f32) (l j) :
    scaled u q g b (ix2 l j) = u (ix2 l j) * Ideal.rsqrt (q (ix2 l 0) + small) * g (ix2 0 j) + b (ix2 0 j) := by
  unfold small
  pointwise [scaled]
theorem normed_apply (v : FVec Ideal S256x1024 .f32) (g b : Vec Ideal S1x1024 .f32) (l j) :
    normed v g b (ix2 l j) = lnorm (fun k => v (ix2 l k)) (fun k => g (ix2 0 k)) (fun k => b (ix2 0 k)) j := by
  unfold normed lnorm
  rw [scaled_apply, mean_apply, centred_apply]
  simp only [mulf_apply, centred_apply]
  rfl

/-- A group of columns divided by the root of its mean square, and the four groups side by side. -/
def part (u : FVec Ideal S256x512 .f32) : FVec Ideal S256x512 .f32 :=
  mulf (F := Ideal) (φ := .f32) u (broadcastTo S256x512 (rsqrt (F := Ideal) (φ := .f32) (addf (F := Ideal) (φ := .f32) (divf (F := Ideal) (φ := .f32)
    (shapeCast S256x1 (multiReduction (F := Ideal) (φ := .f32) .add [1] S256 (mulf (F := Ideal) (φ := .f32) u u) 0x00000000#32 reduces_S256x512_S256 (.inl rfl) rfl) shapeCasts_S256_S256x1)
    (broadcast S256x1 (Scalar.ofBits (F := Ideal) .f32 0x44000000#32))) (broadcast S256x1 (Scalar.ofBits (F := Ideal) .f32 0x3727C5AC#32)))) broadcasts_S256x1_S256x512)
def grouped (v : FVec Ideal S256x2048 .f32) (w : Vec Ideal S1x2048 .f32) : FVec Ideal S256x2048 .f32 :=
  mulf (F := Ideal) (φ := .f32) (concatenate S256x2048 1 [⟨S256x512, part (extractStridedSlice S256x512 ![0, 0] v slices_S256x2048_o0_0_S256x512)⟩,
    ⟨S256x512, part (extractStridedSlice S256x512 ![0, 512] v slices_S256x2048_o0_512_S256x512)⟩,
    ⟨S256x512, part (extractStridedSlice S256x512 ![0, 1024] v slices_S256x2048_o0_1024_S256x512)⟩,
    ⟨S256x512, part (extractStridedSlice S256x512 ![0, 1536] v slices_S256x2048_o0_1536_S256x512)⟩] concatenates_S256x512_S256x512_S256x512_S256x512_S256x2048_d1)
    (broadcastTo S256x2048 (shapeCast S1x2048 w shapeCasts_S1x2048_S1x2048) broadcasts_S1x2048_S256x2048)

theorem part_apply (u : FVec Ideal S256x512 .f32) (l k) : part u (ix2 l k) = u (ix2 l k) * Ideal.rsqrt (average group (fun k => u (ix2 l k) * u (ix2 l k)) + small) := by
  unfold average group small
  pointwise [part]
theorem part_cut (o : ℕ) (h) (v : FVec Ideal S256x2048 .f32) (l) (k : Fin 512) (j : Fin 2048) (hj : j.val / 512 * 512 = o) (hk : j.val = o + k.val) :
    part (extractStridedSlice S256x512 ![0, o] v h) (ix2 l k)
      = v (ix2 l j) * Ideal.rsqrt (average group (fun k => v (ix2 l (mate j k)) * v (ix2 l (mate j k))) + small) := by
  have e : ∀ (k : Fin 512) (i : Fin 2048), i.val = o + k.val → extractStridedSlice S256x512 ![0, o] v h (ix2 l k) = v (ix2 l i) := fun k i hi =>
    congrArg v (by
      funext a; apply Fin.ext; fin_cases a
      · exact Nat.zero_add _
      · exact hi.symm)
  rw [part_apply, e k j hk]
  have em : (fun k => extractStridedSlice S256x512 ![0, o] v h (ix2 l k) * extractStridedSlice S256x512 ![0, o] v h (ix2 l k)) = fun k => v (ix2 l (mate j k)) * v (ix2 l (mate j k)) :=
    funext fun k => by rw [e k (mate j k) (by simp only [mate]; omega)]
  rw [em]
theorem grouped_apply (v : FVec Ideal S256x2048 .f32) (w : Vec Ideal S1x2048 .f32) (l j) :
    grouped v w (ix2 l j) = gnorm (fun j => v (ix2 l j)) (fun j => w (ix2 0 j)) j := by
  unfold gnorm
  pointwise [grouped]
  refine congrArg (· * w (ix2 0 j)) ?_
  split
  · exact part_cut 0 _ v l _ j (by omega) (by simp)
  split
  · exact part_cut 512 _ v l _ j (by omega) (by simp only; omega)
  split
  · exact part_cut 1024 _ v l _ j (by omega) (by simp only; omega)
  · exact part_cut 1536 _ v l _ j (by omega) (by simp only; omega)

/-- The residual with the projection. -/
def summed (a : FVec Ideal S256x2048 .f32) (w : Vec Ideal S2048x1024 .bf16) (x : Vec Ideal S256x1024 .f32) (gate : Vec Ideal S1x1x1024 .f32) : FVec Ideal S256x1024 .f32 :=
  addf (F := Ideal) (φ := .f32) (mulf (F := Ideal) (φ := .f32) (broadcast S256x1024 (Scalar.ofBits (F := Ideal) .f32 0x3FB504F3#32)) x)
    (mulf (F := Ideal) (φ := .f32) (broadcastTo S256x1024 (shapeCast S1x1024 gate shapeCasts_S1x1x1024_S1x1024) broadcasts_S1x1024_S256x1024)
      (matmul (F := Ideal) (φ₁ := .bf16) (φ₂ := .bf16) dot_S256x2048_S2048x1024_S256x1024_1_0_0_1_n_n none (truncf (F := Ideal) (φ := .f32) .bf16 a bitsLt_bf16_f32) (shapeCast S2048x1024 w shapeCasts_S2048x1024_S2048x1024) (constant (F := Ideal) S256x1024 .f32 0x00000000#32)))
theorem summed_apply (a : FVec Ideal S256x2048 .f32) (w : Vec Ideal S2048x1024 .bf16) (x : Vec Ideal S256x1024 .f32) (gate : Vec Ideal S1x1x1024 .f32) (l j) :
    summed a w x gate (ix2 l j) = joined (fun k => a (ix2 l k)) (fun k j => w (ix2 k j)) (fun k => x (ix2 l k)) (fun k => gate (ix3 0 0 k)) j := by
  unfold joined
  pointwise [summed]

theorem pay2_apply (z : Vec Ideal S256x2048 .f32) (y0 y1 : Vec Ideal S1x256x2048 .f32) (x : Vec Ideal S256x2048 .f32) (d : Vec Ideal S1x2048 .f32) (l j) :
    k0_pay2 z y0 y1 x d (ix2 l j) = (y0 (ix3 0 l j) + y1 (ix3 0 l j) + x (ix2 l j) * d (ix2 0 j)) * (z (ix2 l j) * Ideal.logistic (z (ix2 l j))) := by
  pointwise [k0_pay2]

/-- What a point stores. -/
def point (z : Vec Ideal S256x2048 .f32) (y0 y1 : Vec Ideal S1x256x2048 .f32) (xs : Vec Ideal S256x2048 .f32) (d nw : Vec Ideal S1x2048 .f32) (w : Vec Ideal S2048x1024 .bf16)
    (x : Vec Ideal S256x1024 .f32) (gate : Vec Ideal S1x1x1024 .f32) (g b : Vec Ideal S1x1024 .f32) : FVec Ideal S256x1024 .f32 :=
  normed (summed (grouped (k0_pay2 z y0 y1 xs d) nw) w x gate) g b
theorem point_eq (z : Vec Ideal S256x2048 .f32) (y0 y1 : Vec Ideal S1x256x2048 .f32) (xs : Vec Ideal S256x2048 .f32) (d nw : Vec Ideal S1x2048 .f32) (w : Vec Ideal S2048x1024 .bf16)
    (x : Vec Ideal S256x1024 .f32) (gate : Vec Ideal S1x1x1024 .f32) (g b : Vec Ideal S1x1024 .f32) :
    k0_pay1 (k0_pay7 (k0_pay2 z y0 y1 xs d) (k0_pay3 z y0 y1 xs d) (k0_pay4 z y0 y1 xs d) (k0_pay5 z y0 y1 xs d) (k0_pay6 z y0 y1 xs d) nw w x gate) (k0_pay8 g) (k0_pay9 b)
      = point z y0 y1 xs d nw w x gate g b := rfl
/-- The loads of whole blocks. -/
def ldW (a : Memref sig .tc .vmem S256x2048 .f32) (h : a.IsWhole) (x : Vec Ideal S256x2048 .f32) : Vec Ideal S256x2048 .f32 :=
  View.readAt (Elt Ideal) a.view (Rect.unit (s := S256x2048) ![0, 0] S256x2048.size Facts₀.inb_S256x2048_S256x2048_0_0).toLoadRect (h.unread x)
theorem ldW_eq (a : Memref sig .tc .vmem S256x2048 .f32) (h : a.IsWhole) (x : Vec Ideal S256x2048 .f32) : ldW a h x = x := by
  unfold ldW; rw [View.readAt_full, h.read_unread]
def ldR (a : Memref sig .tc .vmem S1x2048 .f32) (h : a.IsWhole) (x : Vec Ideal S1x2048 .f32) : Vec Ideal S1x2048 .f32 :=
  View.readAt (Elt Ideal) a.view (Rect.unit (s := S1x2048) ![0, 0] S1x2048.size Facts₀.inb_S1x2048_S1x2048_0_0).toLoadRect (h.unread x)
theorem ldR_eq (a : Memref sig .tc .vmem S1x2048 .f32) (h : a.IsWhole) (x : Vec Ideal S1x2048 .f32) : ldR a h x = x := by
  unfold ldR; rw [View.readAt_full, h.read_unread]
def ldM (a : Memref sig .tc .vmem S2048x1024 .bf16) (h : a.IsWhole) (x : Vec Ideal S2048x1024 .bf16) : Vec Ideal S2048x1024 .bf16 :=
  View.readAt (Elt Ideal) a.view (Rect.unit (s := S2048x1024) ![0, 0] S2048x1024.size Facts₀.inb_S2048x1024_S2048x1024_0_0).toLoadRect (h.unread x)
theorem ldM_eq (a : Memref sig .tc .vmem S2048x1024 .bf16) (h : a.IsWhole) (x : Vec Ideal S2048x1024 .bf16) : ldM a h x = x := by
  unfold ldM; rw [View.readAt_full, h.read_unread]
def ldX (a : Memref sig .tc .vmem S256x1024 .f32) (h : a.IsWhole) (x : Vec Ideal S256x1024 .f32) : Vec Ideal S256x1024 .f32 :=
  View.readAt (Elt Ideal) a.view (Rect.unit (s := S256x1024) ![0, 0] S256x1024.size Facts₀.inb_S256x1024_S256x1024_0_0).toLoadRect (h.unread x)
theorem ldX_eq (a : Memref sig .tc .vmem S256x1024 .f32) (h : a.IsWhole) (x : Vec Ideal S256x1024 .f32) : ldX a h x = x := by
  unfold ldX; rw [View.readAt_full, h.read_unread]
def ldG (a : Memref sig .tc .vmem S1x1x1024 .f32) (h : a.IsWhole) (x : Vec Ideal S1x1x1024 .f32) : Vec Ideal S1x1x1024 .f32 :=
  View.readAt (Elt Ideal) a.view (Rect.unit (s := S1x1x1024) ![0, 0, 0] S1x1x1024.size Facts₀.inb_S1x1x1024_S1x1x1024_0_0_0).toLoadRect (h.unread x)
theorem ldG_eq (a : Memref sig .tc .vmem S1x1x1024 .f32) (h : a.IsWhole) (x : Vec Ideal S1x1x1024 .f32) : ldG a h x = x := by
  unfold ldG; rw [View.readAt_full, h.read_unread]
def ldV (a : Memref sig .tc .vmem S1x1024 .f32) (h : a.IsWhole) (x : Vec Ideal S1x1024 .f32) : Vec Ideal S1x1024 .f32 :=
  View.readAt (Elt Ideal) a.view (Rect.unit (s := S1x1024) ![0, 0] S1x1024.size Facts₀.inb_S1x1024_S1x1024_0_0).toLoadRect (h.unread x)
theorem ldV_eq (a : Memref sig .tc .vmem S1x1024 .f32) (h : a.IsWhole) (x : Vec Ideal S1x1024 .f32) : ldV a h x = x := by
  unfold ldV; rw [View.readAt_full, h.read_unread]

/-- The load of one direction. -/
def way (y : Vec Ideal S2x256x2048 .f32) (r : Fin 2) : Vec Ideal S1x256x2048 .f32 := fun i => y (ix3 r (i 1) (i 2))
theorem inb_way (r : Fin 2) : ∀ a, (![r.val, 0, 0] : Fin 3 → ℕ) a + S1x256x2048.size a ≤ S2x256x2048.size a := by
  intro a; fin_cases a
  · show r.val + 1 ≤ 2; omega
  · exact Nat.le_refl 256
  · exact Nat.le_refl 2048
def ldY (a : Memref sig .tc .vmem S2x256x2048 .f32) (h : a.IsWhole) (y : Vec Ideal S2x256x2048 .f32) (r : Fin 2) : Vec Ideal S1x256x2048 .f32 :=
  View.readAt (Elt Ideal) a.view (Rect.unit (s := S2x256x2048) ![r.val, 0, 0] S1x256x2048.size (inb_way r)).toLoadRect (h.unread y)
theorem ldY_eq (a : Memref sig .tc .vmem S2x256x2048 .f32) (h : a.IsWhole) (y : Vec Ideal S2x256x2048 .f32) (r : Fin 2) : ldY a h y r = way y r := by
  funext j
  refine (h.readAt_unread y (Rect.unit (s := S2x256x2048) ![r.val, 0, 0] S1x256x2048.size (inb_way r)).toLoadRect j).trans (congrArg y ?_)
  have h0 : (j 0).val < 1 := (j 0).isLt
  funext a; apply Fin.ext; fin_cases a
  · show r.val + 1 * (j 0).val = r.val; omega
  · exact (Nat.zero_add _).trans (Nat.one_mul _)
  · exact (Nat.zero_add _).trans (Nat.one_mul _)

section
variable (c : Dev nD) (i : grid0.Coords) (arg1 : Memref sig .tc .vmem S2x256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S256x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .f32) (harg11 : arg11.IsWhole)
  (x0 : Vec Ideal S2x256x2048 .f32) (x1 : Vec Ideal S256x2048 .f32) (x2 : Vec Ideal S256x2048 .f32) (x3 : Vec Ideal S1x2048 .f32) (x4 : Vec Ideal S1x2048 .f32) (x5 : Vec Ideal S2048x1024 .bf16) (x6 : Vec Ideal S256x1024 .f32) (x7 : Vec Ideal S1x1x1024 .f32) (x8 : Vec Ideal S1x1024 .f32) (x9 : Vec Ideal S1x1024 .f32)

theorem run_out : (kernelRun0_A c i arg1 harg1 arg2 harg2 arg3 harg3 arg4 harg4 arg5 harg5 arg6 harg6 arg7 harg7 arg8 harg8 arg9 harg9 arg10 harg10 arg11 harg11 x0 x1 x2 x3 x4 x5 x6 x7 x8 x9).1
    = [⟨Rect.unit (s := S256x1024) ![0, 0] S256x1024.size Facts₀.inb_S256x1024_S256x1024_0_0, point (ldW arg3 harg3 x2) (ldY arg1 harg1 x0 0) (ldY arg1 harg1 x0 1) (ldW arg2 harg2 x1) (ldR arg4 harg4 x3)
        (ldR arg5 harg5 x4) (ldM arg6 harg6 x5) (ldX arg7 harg7 x6) (ldG arg8 harg8 x7) (ldV arg9 harg9 x8) (ldV arg10 harg10 x9)⟩] := rfl
theorem out_A : out0_A_10 c i arg1 harg1 arg2 harg2 arg3 harg3 arg4 harg4 arg5 harg5 arg6 harg6 arg7 harg7 arg8 harg8 arg9 harg9 arg10 harg10 arg11 harg11 x0 x1 x2 x3 x4 x5 x6 x7 x8 x9 = point x2 (way x0 0) (way x0 1) x1 x3 x4 x5 x6 x7 x8 x9 := by
  unfold out0_A_10
  rw [run_out, View.read_writes_full, ldW_eq, ldW_eq, ldY_eq, ldY_eq, ldR_eq, ldR_eq, ldM_eq, ldX_eq, ldG_eq, ldV_eq, ldV_eq]
end

theorem point_apply (z : Vec Ideal S256x2048 .f32) (y : Vec Ideal S2x256x2048 .f32) (xs : Vec Ideal S256x2048 .f32) (d nw : Vec Ideal S1x2048 .f32) (w : Vec Ideal S2048x1024 .bf16)
    (x : Vec Ideal S256x1024 .f32) (gate : Vec Ideal S1x1x1024 .f32) (g b : Vec Ideal S1x1024 .f32) (l j) :
    point z (way y 0) (way y 1) xs d nw w x gate g b (ix2 l j)
      = lnorm (joined (fun k => gnorm (fun j => (y (ix3 0 l j) + y (ix3 1 l j) + xs (ix2 l j) * d (ix2 0 j)) * (z (ix2 l j) * Ideal.logistic (z (ix2 l j)))) (fun j => nw (ix2 0 j)) k)
          (fun k j => w (ix2 k j)) (fun k => x (ix2 l k)) (fun k => gate (ix3 0 0 k))) (fun k => g (ix2 0 k)) (fun k => b (ix2 0 k)) j := by
  unfold point
  rw [normed_apply]
  simp only [summed_apply, grouped_apply, pay2_apply]
  rfl

variable (m : (ℓ : Loc nD τ sig) → Buf (Elt Ideal) ℓ)

theorem e0 : ∀ t : Fin cfg0.N, win0_0.index t = ![0, t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![t.val / 16, 0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![0, 0] := (by decide +kernel : ∀ t : Fin grid0.N, _)
theorem e10 : ∀ t : Fin cfg0.N, win0_10.index t = ![t.val, 0] := (by decide +kernel : ∀ t : Fin grid0.N, _)

/-- A column of x among those of x, B and C. -/
def inner (j : Fin 2048) : Fin 3072 := ⟨j.val, by omega⟩
/-- The result. -/
def out (c : Dev nD) (t : Fin 32768) (j : Fin 1024) : EReal :=
  lnorm (joined (fun k => gnorm (gatedY (fun j => m ((c : Thread nD τ).loc main_arg0) (ix3 0 t j)) (fun j => m ((c : Thread nD τ).loc main_arg0) (ix3 1 t j)) (fun j => m ((c : Thread nD τ).loc main_arg1) (ix2 t (inner j)))
      (fun h => m ((c : Thread nD τ).loc main_arg3) (ix1 h)) (fun j => m ((c : Thread nD τ).loc main_arg2) (ix2 t j))) (fun j => m ((c : Thread nD τ).loc main_arg4) (ix1 j)) k)
    (fun k j => m ((c : Thread nD τ).loc main_arg5) (ix2 k j)) (fun k => m ((c : Thread nD τ).loc main_arg6) (ix2 t k)) (fun k => m ((c : Thread nD τ).loc main_arg7) (ix3 (bat t) 0 k)))
    (fun k => m ((c : Thread nD τ).loc main_arg8) (ix1 k)) (fun k => m ((c : Thread nD τ).loc main_arg9) (ix1 k)) j

theorem spread_apply (d : Vec Ideal S32 .f32) (j : Fin 2048) :
    shapeCast S1x2048 (shapeCast S2048 (broadcastInDim S32x64 ![0] bcast_S32_S32x64_0 d) shapeCasts_S32x64_S2048) shapeCasts_S2048_S1x2048 (ix2 0 j) = d (ix1 (head j)) := by
  pointwise [head]
theorem V_v2 (c : Dev nD) (j) : V m c main_v2 (ix2 0 j) = m ((c : Thread nD τ).loc main_arg3) (ix1 (head j)) := by
  have e : V m c main_v2 = shapeCast S1x2048 (shapeCast S2048 (broadcastInDim S32x64 ![0] bcast_S32_S32x64_0 (m ((c : Thread nD τ).loc main_arg3))) shapeCasts_S32x64_S2048) shapeCasts_S2048_S1x2048 := by
    unfold V hostOps0
    after_results
    rfl
  rw [e]
  exact spread_apply _ j
theorem V_v3 (c : Dev nD) (j) : V m c main_v3 (ix2 0 j) = m ((c : Thread nD τ).loc main_arg4) (ix1 j) := by
  have e : V m c main_v3 = shapeCast S1x2048 (m ((c : Thread nD τ).loc main_arg4)) shapeCasts_S2048_S1x2048 := by
    unfold V hostOps0
    after_results
    rfl
  rw [e]
  pointwise
theorem V_v4 (c : Dev nD) (k j) : V m c main_v4 (ix2 k j) = m ((c : Thread nD τ).loc main_arg5) (ix2 k j) := by
  have e : V m c main_v4 = truncf (F := Ideal) .bf16 (m ((c : Thread nD τ).loc main_arg5)) bitsLt_bf16_f32 := by
    unfold V hostOps0
    after_results
  rw [e]
  rfl
theorem V_v5 (c : Dev nD) (j) : V m c main_v5 (ix2 0 j) = m ((c : Thread nD τ).loc main_arg8) (ix1 j) := by
  have e : V m c main_v5 = shapeCast S1x1024 (m ((c : Thread nD τ).loc main_arg8)) shapeCasts_S1024_S1x1024 := by
    unfold V hostOps0
    after_results
    rfl
  rw [e]
  pointwise
theorem V_v6 (c : Dev nD) (j) : V m c main_v6 (ix2 0 j) = m ((c : Thread nD τ).loc main_arg9) (ix1 j) := by
  have e : V m c main_v6 = shapeCast S1x1024 (m ((c : Thread nD τ).loc main_arg9)) shapeCasts_S1024_S1x1024 := by
    unfold V hostOps0
    after_results
    rfl
  rw [e]
  pointwise

theorem lt_N (t : Fin cfg0.N) : t.val < 128 := lt_of_lt_of_eq t.isLt N_0

/-- A row of a point's block of the result. -/
def tok (t : Fin cfg0.N) (l : Fin 256) : Fin 32768 := ⟨t.val * 256 + l.val, by have := lt_N t; omega⟩

theorem b0 (c : Dev nD) (t : Fin cfg0.N) (r : Fin 2) (l : Fin 256) (j : Fin 2048) : iblk m c 0 t (ix3 r l j) = m ((c : Thread nD τ).loc main_arg0) (ix3 r (tok t l) j) := by
  unfold iblk
  blk_simp
  rw [V_main_arg0]
  refine congrArg (m ((c : Thread nD τ).loc main_arg0)) ?_
  blk_ext [e0, tok]
theorem b1 (c : Dev nD) (t : Fin cfg0.N) (l : Fin 256) (j : Fin 2048) : X0_1 m c t (ix2 l j) = m ((c : Thread nD τ).loc main_arg1) (ix2 (tok t l) (inner j)) := by
  unfold X0_1 Pipeline.Window.fill
  rw [dif_pos (moved0_1 t _)]
  unfold iblk
  blk_simp
  rw [V_main_arg1]
  refine congrArg (m ((c : Thread nD τ).loc main_arg1)) ?_
  blk_ext [e1, tok, inner]
theorem b2 (c : Dev nD) (t : Fin cfg0.N) (l : Fin 256) (j : Fin 2048) : iblk m c 2 t (ix2 l j) = m ((c : Thread nD τ).loc main_arg2) (ix2 (tok t l) j) := by
  unfold iblk
  blk_simp
  rw [V_main_arg2]
  refine congrArg (m ((c : Thread nD τ).loc main_arg2)) ?_
  blk_ext [e2, tok]
theorem b3 (c : Dev nD) (t : Fin cfg0.N) (j : Fin 2048) : iblk m c 3 t (ix2 0 j) = m ((c : Thread nD τ).loc main_arg3) (ix1 (head j)) := by
  unfold iblk
  blk_simp
  refine Eq.trans (congrArg (V m c main_v2) ?_) (V_v2 m c j)
  blk_ext [e3]
theorem b4 (c : Dev nD) (t : Fin cfg0.N) (j : Fin 2048) : iblk m c 4 t (ix2 0 j) = m ((c : Thread nD τ).loc main_arg4) (ix1 j) := by
  unfold iblk
  blk_simp
  refine Eq.trans (congrArg (V m c main_v3) ?_) (V_v3 m c j)
  blk_ext [e4]
theorem b5 (c : Dev nD) (t : Fin cfg0.N) (k : Fin 2048) (j : Fin 1024) : iblk m c 5 t (ix2 k j) = m ((c : Thread nD τ).loc main_arg5) (ix2 k j) := by
  unfold iblk
  blk_simp
  refine Eq.trans (congrArg (V m c main_v4) ?_) (V_v4 m c k j)
  blk_ext [e5]
theorem b6 (c : Dev nD) (t : Fin cfg0.N) (l : Fin 256) (k : Fin 1024) : iblk m c 6 t (ix2 l k) = m ((c : Thread nD τ).loc main_arg6) (ix2 (tok t l) k) := by
  unfold iblk
  blk_simp
  rw [V_main_arg6]
  refine congrArg (m ((c : Thread nD τ).loc main_arg6)) ?_
  blk_ext [e6, tok]
theorem b7 (c : Dev nD) (t : Fin cfg0.N) (l : Fin 256) (k : Fin 1024) : iblk m c 7 t (ix3 0 0 k) = m ((c : Thread nD τ).loc main_arg7) (ix3 (bat (tok t l)) 0 k) := by
  unfold iblk
  blk_simp
  rw [V_main_arg7]
  refine congrArg (m ((c : Thread nD τ).loc main_arg7)) ?_
  blk_ext [e7, tok, bat]
theorem b8 (c : Dev nD) (t : Fin cfg0.N) (j : Fin 1024) : iblk m c 8 t (ix2 0 j) = m ((c : Thread nD τ).loc main_arg8) (ix1 j) := by
  unfold iblk
  blk_simp
  refine Eq.trans (congrArg (V m c main_v5) ?_) (V_v5 m c j)
  blk_ext [e8]
theorem b9 (c : Dev nD) (t : Fin cfg0.N) (j : Fin 1024) : iblk m c 9 t (ix2 0 j) = m ((c : Thread nD τ).loc main_arg9) (ix1 j) := by
  unfold iblk
  blk_simp
  refine Eq.trans (congrArg (V m c main_v6) ?_) (V_v6 m c j)
  blk_ext [e9]

/-- What a point leaves. -/
theorem point_out (c : Dev nD) (t : Fin cfg0.N) (l : Fin 256) (j : Fin 1024) : outsAt0 m c t (ix2 l j) = out m c (tok t l) j := by
  unfold outsAt0
  rw [out_A, point_apply]
  unfold out gatedY
  simp only [b0, b1, b2, b3, b4, b5, b6, b7 m c t l, b8, b9]

theorem out_eq (c : Dev nD) : (dats m 0 c).arrAt 10 cfg0.N = fun i => out m c (i 0) (i 1) := by
  refine (dats m 0 c).arrAt_eq_of_covers 10 _ (by decide +kernel) fun t hfl y => ?_
  blk_simp
  rw [after0_10]
  idx_bounds y
  have ey : y = ix2 (y 0) (y 1) := by
    blk_ext
  refine (congrArg _ ey).trans ((point_out m c t (y 0) (y 1)).trans ?_)
  have h0 : tok t (y 0) = ((cfg0.win 10).blk t).view.emb y 0 := Fin.ext (by blk_simp [e10, tok])
  have h1 : y 1 = ((cfg0.win 10).blk t).view.emb y 1 := Fin.ext (by blk_simp [e10])
  exact congr (congrArg (out m c) h0) h1
end Cert.KernelOutIdeal.Out
end
-- ==== Proof.Mix.ProjKernel.lean ====
module

public import proofs.«01_k».proof.Proof.Gen.KernelProjIdeal.Value
public import proofs.«01_k».proof.Proof.Mix.Norm
public import Idealize.ShloMosaic.Lib.Pipeline.Value
public import Idealize.ShloMosaic.Lib.Pointwise
public import Idealize.ShloMosaic.Lib.Pipeline.ValueKit
public import Idealize.ShloMosaic.Lib.IdealHost

/-! The end of the Hyena mixer: what the kernel leaves. -/

@[expose] public section
set_option maxRecDepth 16384
noncomputable section
namespace Cert.KernelProjIdeal.Proj
open Idealize.ShloMosaic Idealize.ShloMosaic.TcCoe Idealize.ShloMosaic.StableHlo Cert.KernelProjIdeal Cert.KernelProjIdeal.Gen Mix

variable (m : (ℓ : Loc nD τ sig) → Buf (Elt Ideal) ℓ)

/-- The mean of each row, the rows without it, and the normed rows. -/
def mean (v : FVec Ideal S512x1024 .f32) : FVec Ideal S512x1 .f32 :=
  divf (F := Ideal) (φ := .f32) (shapeCast S512x1 (multiReduction (F := Ideal) (φ := .f32) .add [1] S512 v 0x00000000#32 reduces_S512x1024_S512 (.inl rfl) rfl) shapeCasts_S512_S512x1) (broadcast S512x1 (Scalar.ofBits (F := Ideal) .f32 0x44800000#32))
def centred (v : FVec Ideal S512x1024 .f32) : FVec Ideal S512x1024 .f32 :=
  subf (F := Ideal) (φ := .f32) v (broadcastTo S512x1024 (mean v) broadcasts_S512x1_S512x1024)
def scaled (u : FVec Ideal S512x1024 .f32) (q : FVec Ideal S512x1 .f32) (g b : Vec Ideal S1x1024 .f32) : FVec Ideal S512x1024 .f32 :=
  addf (F := Ideal) (φ := .f32) (mulf (F := Ideal) (φ := .f32) (mulf (F := Ideal) (φ := .f32) u
    (broadcastTo S512x1024 (rsqrt (F := Ideal) (φ := .f32) (addf (F := Ideal) (φ := .f32) q (broadcast S512x1 (Scalar.ofBits (F := Ideal) .f32 0x3727C5AC#32)))) broadcasts_S512x1_S512x1024))
    (broadcastTo S512x1024 (shapeCast S1x1024 g shapeCasts_S1x1024_S1x1024) broadcasts_S1x1024_S512x1024)) (broadcastTo S512x1024 (shapeCast S1x1024 b shapeCasts_S1x1024_S1x1024) broadcasts_S1x1024_S512x1024)
def normed (v : FVec Ideal S512x1024 .f32) (g b : Vec Ideal S1x1024 .f32) : FVec Ideal S512x1024 .f32 :=
  scaled (centred v) (mean (mulf (F := Ideal) (φ := .f32) (centred v) (centred v))) g b
/-- The residual with the projection. -/
def summed (a : Vec Ideal S512x1024 .f32) (w : Vec Ideal S1024x1024 .bf16) (x : Vec Ideal S512x1024 .f32) (gate : Vec Ideal S1x1x1024 .f32) : FVec Ideal S512x1024 .f32 :=
  addf (F := Ideal) (φ := .f32) (mulf (F := Ideal) (φ := .f32) (broadcast S512x1024 (Scalar.ofBits (F := Ideal) .f32 0x3FB504F3#32)) x)
    (mulf (F := Ideal) (φ := .f32) (broadcastTo S512x1024 (shapeCast S1x1024 gate shapeCasts_S1x1x1024_S1x1024) broadcasts_S1x1024_S512x1024)
      (matmul (F := Ideal) (φ₁ := .bf16) (φ₂ := .bf16) dot_S512x1024_S1024x1024_S512x1024_1_0_0_1_n_n none (truncf (F := Ideal) (φ := .f32) .bf16 a bitsLt_bf16_f32) (shapeCast S1024x1024 w shapeCasts_S1024x1024_S1024x1024) (constant (F := Ideal) S512x1024 .f32 0x00000000#32)))

theorem mean_apply (v : FVec Ideal S512x1024 .f32) (l u) : mean v (ix2 l u) = average width (fun k => v (ix2 l k)) := by
  unfold average width
  pointwise [mean]
theorem centred_apply (v : FVec Ideal S512x1024 .f32) (l k) : centred v (ix2 l k) = away (fun k => v (ix2 l k)) k := by
  unfold away
  pointwise [centred, mean_apply]
theorem scaled_apply (u : FVec Ideal S512x1024 .f32) (q : FVec Ideal S512x1 .f32) (g b : Vec Ideal S1x1024 .f32) (l j) :
    scaled u q g b (ix2 l j) = u (ix2 l j) * Ideal.rsqrt (q (ix2 l 0) + small) * g (ix2 0 j) + b (ix2 0 j) := by
  unfold small
  pointwise [scaled]
theorem normed_apply (v : FVec Ideal S512x1024 .f32) (g b : Vec Ideal S1x1024 .f32) (l j) :
    normed v g b (ix2 l j) = lnorm (fun k => v (ix2 l k)) (fun k => g (ix2 0 k)) (fun k => b (ix2 0 k)) j := by
  unfold normed lnorm
  rw [scaled_apply, mean_apply, centred_apply]
  simp only [mulf_apply, centred_apply]
  rfl
theorem summed_apply (a : Vec Ideal S512x1024 .f32) (w : Vec Ideal S1024x1024 .bf16) (x : Vec Ideal S512x1024 .f32) (gate : Vec Ideal S1x1x1024 .f32) (l j) :
    summed a w x gate (ix2 l j) = joined (fun k => a (ix2 l k)) (fun k j => w (ix2 k j)) (fun k => x (ix2 l k)) (fun k => gate (ix3 0 0 k)) j := by
  unfold joined
  pointwise [summed]

theorem pay_eq (a : Vec Ideal S512x1024 .f32) (w : Vec Ideal S1024x1024 .bf16) (x : Vec Ideal S512x1024 .f32) (gate : Vec Ideal S1x1x1024 .f32) (g b : Vec Ideal S1x1024 .f32) :
    k0_pay1 a w x gate g b = normed (summed a w x gate) g b := rfl

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val / 8, 0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![t.val, 0] := (by decide +kernel : ∀ t : Fin grid0.N, _)

/-- The result. -/
def out (c : Dev nD) (t : Fin 32768) (j : Fin 1024) : EReal :=
  lnorm (joined (fun k : Fin 1024 => m ((c : Thread nD τ).loc main_arg0) (ix2 t k)) (fun k j => m ((c : Thread nD τ).loc main_arg1) (ix2 k j))
    (fun k => m ((c : Thread nD τ).loc main_arg2) (ix2 t k)) (fun k => m ((c : Thread nD τ).loc main_arg3) (ix3 (bat t) 0 k)))
    (fun k => m ((c : Thread nD τ).loc main_arg4) (ix1 k)) (fun k => m ((c : Thread nD τ).loc main_arg5) (ix1 k)) j

theorem V_v0 (c : Dev nD) (k j) : V m c main_v0 (ix2 k j) = m ((c : Thread nD τ).loc main_arg1) (ix2 k j) := by
  have e : V m c main_v0 = truncf (F := Ideal) .bf16 (m ((c : Thread nD τ).loc main_arg1)) bitsLt_bf16_f32 := by
    unfold V hostOps0
    after_results
  rw [e]
  rfl
theorem V_v1 (c : Dev nD) (j) : V m c main_v1 (ix2 0 j) = m ((c : Thread nD τ).loc main_arg4) (ix1 j) := by
  have e : V m c main_v1 = shapeCast S1x1024 (m ((c : Thread nD τ).loc main_arg4)) shapeCasts_S1024_S1x1024 := by
    unfold V hostOps0
    after_results
    rfl
  rw [e]
  pointwise
theorem V_v2 (c : Dev nD) (j) : V m c main_v2 (ix2 0 j) = m ((c : Thread nD τ).loc main_arg5) (ix1 j) := by
  have e : V m c main_v2 = shapeCast S1x1024 (m ((c : Thread nD τ).loc main_arg5)) shapeCasts_S1024_S1x1024 := by
    unfold V hostOps0
    after_results
    rfl
  rw [e]
  pointwise

theorem lt_N (t : Fin cfg0.N) : t.val < 64 := lt_of_lt_of_eq t.isLt N_0

/-- A row of a point's block of the result. -/
def tok (t : Fin cfg0.N) (l : Fin 512) : Fin 32768 := ⟨t.val * 512 + l.val, by have := lt_N t; omega⟩

theorem b0 (c : Dev nD) (t : Fin cfg0.N) (l : Fin 512) (k : Fin 1024) : iblk m c 0 t (ix2 l k) = m ((c : Thread nD τ).loc main_arg0) (ix2 (tok t l) k) := by
  unfold iblk
  blk_simp
  rw [V_main_arg0]
  refine congrArg (m ((c : Thread nD τ).loc main_arg0)) ?_
  blk_ext [e0, tok]
theorem b1 (c : Dev nD) (t : Fin cfg0.N) (k j : Fin 1024) : iblk m c 1 t (ix2 k j) = m ((c : Thread nD τ).loc main_arg1) (ix2 k j) := by
  unfold iblk
  blk_simp
  refine Eq.trans (congrArg (V m c main_v0) ?_) (V_v0 m c k j)
  blk_ext [e1]
theorem b2 (c : Dev nD) (t : Fin cfg0.N) (l : Fin 512) (k : Fin 1024) : iblk m c 2 t (ix2 l k) = m ((c : Thread nD τ).loc main_arg2) (ix2 (tok t l) k) := by
  unfold iblk
  blk_simp
  rw [V_main_arg2]
  refine congrArg (m ((c : Thread nD τ).loc main_arg2)) ?_
  blk_ext [e2, tok]
theorem b3 (c : Dev nD) (t : Fin cfg0.N) (l : Fin 512) (k : Fin 1024) : iblk m c 3 t (ix3 0 0 k) = m ((c : Thread nD τ).loc main_arg3) (ix3 (bat (tok t l)) 0 k) := by
  unfold iblk
  blk_simp
  rw [V_main_arg3]
  refine congrArg (m ((c : Thread nD τ).loc main_arg3)) ?_
  blk_ext [e3, tok, bat]
theorem b4 (c : Dev nD) (t : Fin cfg0.N) (j : Fin 1024) : iblk m c 4 t (ix2 0 j) = m ((c : Thread nD τ).loc main_arg4) (ix1 j) := by
  unfold iblk
  blk_simp
  refine Eq.trans (congrArg (V m c main_v1) ?_) (V_v1 m c j)
  blk_ext [e4]
theorem b5 (c : Dev nD) (t : Fin cfg0.N) (j : Fin 1024) : iblk m c 5 t (ix2 0 j) = m ((c : Thread nD τ).loc main_arg5) (ix1 j) := by
  unfold iblk
  blk_simp
  refine Eq.trans (congrArg (V m c main_v2) ?_) (V_v2 m c j)
  blk_ext [e5]

theorem out_apply (a : Vec Ideal S512x1024 .f32) (w : Vec Ideal S1024x1024 .bf16) (x : Vec Ideal S512x1024 .f32) (gate : Vec Ideal S1x1x1024 .f32) (g b : Vec Ideal S1x1024 .f32) :
    out0_6 a w x gate g b = k0_pay1 a w x gate g b := by
  unfold out0_6
  rw [View.canon_cons_unit_lit _ _ _ (by decide), View.ld_unit_lit _ _ (by decide), View.ld_unit_lit _ _ (by decide), View.ld_unit_lit _ _ (by decide), View.ld_unit_lit _ _ (by decide),
    View.ld_unit_lit _ _ (by decide), View.ld_unit_lit _ _ (by decide)]

/-- What a point leaves. -/
theorem point_apply (c : Dev nD) (t : Fin cfg0.N) (l : Fin 512) (j : Fin 1024) :
    out0_6 (iblk m c 0 t) (iblk m c 1 t) (iblk m c 2 t) (iblk m c 3 t) (iblk m c 4 t) (iblk m c 5 t) (ix2 l j) = out m c (tok t l) j := by
  rw [out_apply, pay_eq, normed_apply]
  unfold out
  simp only [summed_apply, b0, b1, b2, b3 m c t l, b4, b5]

theorem out_eq (c : Dev nD) : (dats m 0 c).arrAt 6 cfg0.N = fun i => out m c (i 0) (i 1) := by
  refine (dats m 0 c).arrAt_eq_of_covers 6 _ (by decide +kernel) fun t hfl y => ?_
  blk_simp
  rw [after0_6]
  idx_bounds y
  have ey : y = ix2 (y 0) (y 1) := by
    blk_ext
  refine (congrArg _ ey).trans ((point_apply m c t (y 0) (y 1)).trans ?_)
  have h0 : tok t (y 0) = ((cfg0.win 6).blk t).view.emb y 0 := Fin.ext (by blk_simp [e6, tok])
  have h1 : y 1 = ((cfg0.win 6).blk t).view.emb y 1 := Fin.ext (by blk_simp [e6])
  exact congr (congrArg (out m c) h0) h1
end Cert.KernelProjIdeal.Proj
end
-- ==== Proof.Mix.Proj.lean ====
module

public import proofs.«01_k».proof.Defs
public import proofs.«01_k».proof.Proof.Gen.ReferenceProjIdeal.Run
public import proofs.«01_k».proof.Proof.Mix.ProjKernel

/-! The end of the Hyena mixer: the reference, and that both agree. -/

@[expose] public section
set_option maxRecDepth 16384
noncomputable section
namespace Cert.ReferenceProjIdeal.Proj
open Idealize.ShloMosaic Idealize.ShloMosaic.TcCoe Idealize.SL.Sem Cert.ReferenceProjIdeal Cert.ReferenceProjIdeal.Gen Mix

/-- The mean of each row, the rows without it, and the normed rows. -/
def mean (v : Vec Ideal S8x4096x1024 .f32) : Vec Ideal S8x4096x1 .f32 :=
  Host.divf (F := Ideal) (φ := .f32) (broadcastInDim S8x4096x1 ![0, 1] bcast_S8x4096_S8x4096x1_0_1 (Host.reduceAdd (F := Ideal) (φ := .f32) v (constant (F := Ideal) S_ .f32 0x00000000#32) reducesTo_S8x4096x1024_S8x4096_d2 h_S_)) (broadcastInDim S8x4096x1 ![] bcast_S_S8x4096x1 (constant (F := Ideal) S_ .f32 0x44800000#32))
def centred (v : Vec Ideal S8x4096x1024 .f32) : Vec Ideal S8x4096x1024 .f32 :=
  subf (F := Ideal) (φ := .f32) v (broadcastInDim S8x4096x1024 ![0, 1, 2] bcast_S8x4096x1_S8x4096x1024_0_1_2 (mean v))
def scaled (u : Vec Ideal S8x4096x1024 .f32) (q : Vec Ideal S8x4096x1 .f32) (g b : Vec Ideal S1024 .f32) : Vec Ideal S8x4096x1024 .f32 :=
  addf (F := Ideal) (φ := .f32) (mulf (F := Ideal) (φ := .f32) (mulf (F := Ideal) (φ := .f32) u
    (broadcastInDim S8x4096x1024 ![0, 1, 2] bcast_S8x4096x1_S8x4096x1024_0_1_2 (Host.rsqrt (F := Ideal) (φ := .f32) (addf (F := Ideal) (φ := .f32) q (broadcastInDim S8x4096x1 ![] bcast_S_S8x4096x1 (constant (F := Ideal) S_ .f32 0x3727C5AC#32))))))
    (broadcastInDim S8x4096x1024 ![0, 1, 2] bcast_S1x1x1024_S8x4096x1024_0_1_2 (broadcastInDim S1x1x1024 ![2] bcast_S1024_S1x1x1024_2 g)))
    (broadcastInDim S8x4096x1024 ![0, 1, 2] bcast_S1x1x1024_S8x4096x1024_0_1_2 (broadcastInDim S1x1x1024 ![2] bcast_S1024_S1x1x1024_2 b))
def normed (v : Vec Ideal S8x4096x1024 .f32) (g b : Vec Ideal S1024 .f32) : Vec Ideal S8x4096x1024 .f32 :=
  scaled (centred v) (mean (mulf (F := Ideal) (φ := .f32) (centred v) (centred v))) g b

theorem mean_apply (v : Vec Ideal S8x4096x1024 .f32) (b l u) : mean v (ix3 b l u) = average width (fun k => v (ix3 b l k)) := by
  unfold average width
  pointwise [mean]
theorem centred_apply (v : Vec Ideal S8x4096x1024 .f32) (b l k) : centred v (ix3 b l k) = away (fun k => v (ix3 b l k)) k := by
  unfold away
  pointwise [centred, mean_apply]
theorem scaled_apply (u : Vec Ideal S8x4096x1024 .f32) (q : Vec Ideal S8x4096x1 .f32) (g b : Vec Ideal S1024 .f32) (s l j) :
    scaled u q g b (ix3 s l j) = u (ix3 s l j) * Ideal.rsqrt (q (ix3 s l 0) + small) * g (ix1 j) + b (ix1 j) := by
  unfold small
  pointwise [scaled]
theorem normed_apply (v : Vec Ideal S8x4096x1024 .f32) (g b : Vec Ideal S1024 .f32) (s l j) :
    normed v g b (ix3 s l j) = lnorm (fun k => v (ix3 s l k)) (fun k => g (ix1 k)) (fun k => b (ix1 k)) j := by
  unfold normed lnorm
  rw [scaled_apply, mean_apply, centred_apply]
  simp only [mulf_apply, centred_apply]
  rfl

/-- The rows of the batch, one after another. -/
def rows (v : Vec Ideal S8x4096x1024 .f32) : Vec Ideal S32768x1024 .f32 := shapeCast S32768x1024 v shapeCasts_S8x4096x1024_S32768x1024
theorem rows_apply (v : Vec Ideal S8x4096x1024 .f32) (t : Fin 32768) (j : Fin 1024) : rows v (ix2 t j) = v (ix3 (bat t) (pos t) j) := by
  pointwise [rows]
  rfl

/-- The residual with the projection. -/
def image (x : Vec Ideal S32768x1024 .f32) : Vec Ideal S8x4096x1024 .f32 := shapeCast S8x4096x1024 x shapeCasts_S32768x1024_S8x4096x1024
def residual (x : Vec Ideal S32768x1024 .f32) (gate : Vec Ideal S8x1x1024 .f32) (y : Vec Ideal S8x4096x1024 .f32) : Vec Ideal S8x4096x1024 .f32 :=
  addf (F := Ideal) (φ := .f32) (mulf (F := Ideal) (φ := .f32) (broadcastInDim S8x4096x1024 ![] bcast_S_S8x4096x1024 (constant (F := Ideal) S_ .f32 0x3FB504F3#32)) (image x))
    (mulf (F := Ideal) (φ := .f32) (broadcastInDim S8x4096x1024 ![0, 1, 2] bcast_S8x1x1024_S8x4096x1024_0_1_2 gate) y)
def prod (a : Vec Ideal S32768x1024 .f32) (w : Vec Ideal S1024x1024 .f32) : Vec Ideal S8x4096x1024 .f32 :=
  Host.dotGeneral (F := Ideal) (φ₁ := .f32) (φ₂ := .f32) dot_S8x4096x1024_S1024x1024_S8x4096x1024_2_0_01_1_n_n none (image a) w

theorem image_apply (x : Vec Ideal S32768x1024 .f32) (s l k) : image x (ix3 s l k) = x (ix2 (row s l) k) := by
  pointwise [image]
  rfl
theorem residual_apply (x : Vec Ideal S32768x1024 .f32) (gate : Vec Ideal S8x1x1024 .f32) (y : Vec Ideal S8x4096x1024 .f32) (s l j) :
    residual x gate y (ix3 s l j) = Ideal.ofBits .f32 0x3FB504F3#32 * x (ix2 (row s l) j) + gate (ix3 s 0 j) * y (ix3 s l j) := by
  pointwise [residual, image_apply]
theorem prod_apply (a : Vec Ideal S32768x1024 .f32) (w : Vec Ideal S1024x1024 .f32) (s l j) :
    prod a w (ix3 s l j) = ∑ k : Fin 1024, a (ix2 (row s l) k) * w (ix2 k j) := by
  pointwise [prod, image_apply]

def res (a : Vec Ideal S32768x1024 .f32) (w : Vec Ideal S1024x1024 .f32) (x : Vec Ideal S32768x1024 .f32) (gate : Vec Ideal S8x1x1024 .f32) (g b : Vec Ideal S1024 .f32) : Vec Ideal S32768x1024 .f32 :=
  rows (normed (residual x gate (prod a w)) g b)

theorem res_apply (a : Vec Ideal S32768x1024 .f32) (w : Vec Ideal S1024x1024 .f32) (x : Vec Ideal S32768x1024 .f32) (gate : Vec Ideal S8x1x1024 .f32) (g b : Vec Ideal S1024 .f32) (t : Fin 32768) (j : Fin 1024) :
    res a w x gate g b (ix2 t j) = lnorm (joined (fun k : Fin 1024 => a (ix2 t k)) (fun k j => w (ix2 k j)) (fun k => x (ix2 t k)) (fun k => gate (ix3 (bat t) 0 k)))
      (fun k => g (ix1 k)) (fun k => b (ix1 k)) j := by
  unfold res
  rw [rows_apply, normed_apply]
  simp only [residual_apply, prod_apply, row_pos]
  rfl
end Cert.ReferenceProjIdeal.Proj

namespace Mix.Proj
open Idealize.ShloMosaic Idealize.ShloMosaic.TcCoe Idealize.SL.Sem

theorem algebraic : Cert.algebraic_KernelProjIdeal_ReferenceProjIdeal := fun m ρ m' ρ' _ hag =>
  ⟨fun c => fun i => Cert.KernelProjIdeal.Proj.out m c (i 0) (i 1),
   (θ_run _ _ _).mono (fun _ h c => ⟨(h c).1.trans (Cert.KernelProjIdeal.Proj.out_eq m c), (h c).2⟩) (Cert.KernelProjIdeal.Value.run_blocks m ρ),
   (θ_run _ _ _).mono (fun _ h c => ⟨(h c).1.trans (by
      obtain ⟨h0, h1, h2, h3, h4, h5⟩ := hag c
      refine (rfl : _ = Cert.ReferenceProjIdeal.Proj.res _ _ _ _ _ _).trans (funext fun i => ?_)
      obtain ⟨t, j, rfl⟩ : ∃ t j, i = ix2 t j := ⟨i 0, i 1, by ext a; fin_cases a <;> rfl⟩
      rw [h0, h1, h2, h3, h4, h5]
      exact Cert.ReferenceProjIdeal.Proj.res_apply _ _ _ _ _ _ t j), (h c).2⟩) (Cert.ReferenceProjIdeal.Value.run m' ρ')⟩
end Mix.Proj
end
-- ==== Proof.Mix.Out.lean ====
module

public import proofs.«01_k».proof.Defs
public import proofs.«01_k».proof.Proof.Gen.ReferenceOutIdeal.Run
public import proofs.«01_k».proof.Proof.Mix.OutKernel
public import proofs.«01_k».proof.Proof.Mix.Proj

/-! The end of the Mamba mixer: the reference, and that both agree. -/

@[expose] public section
set_option maxRecDepth 16384
noncomputable section
namespace Cert.ReferenceOutIdeal.Out
open Idealize.ShloMosaic Idealize.ShloMosaic.TcCoe Idealize.SL.Sem Cert.ReferenceOutIdeal Cert.ReferenceOutIdeal.Gen Mix
open Cert.ReferenceProjIdeal.Proj (normed normed_apply rows rows_apply residual residual_apply)

/-- One direction by heads, the x among x, B and C by heads, and their sum with the skip term. -/
def way0 (y : Vec Ideal S2x32768x2048 .f32) : Vec Ideal S8x4096x32x64 .f32 :=
  shapeCast S8x4096x32x64 (extractStridedSlice S1x8x4096x32x64 ![0, 0, 0, 0, 0] (shapeCast S2x8x4096x32x64 y shapeCasts_S2x32768x2048_S2x8x4096x32x64) slices_S2x8x4096x32x64_S1x8x4096x32x64_0_0_0_0_0) shapeCasts_S1x8x4096x32x64_S8x4096x32x64
def way1 (y : Vec Ideal S2x32768x2048 .f32) : Vec Ideal S8x4096x32x64 .f32 :=
  shapeCast S8x4096x32x64 (extractStridedSlice S1x8x4096x32x64 ![1, 0, 0, 0, 0] (shapeCast S2x8x4096x32x64 y shapeCasts_S2x32768x2048_S2x8x4096x32x64) slices_S2x8x4096x32x64_S1x8x4096x32x64_1_0_0_0_0) shapeCasts_S1x8x4096x32x64_S8x4096x32x64
def inside (x : Vec Ideal S32768x3072 .f32) : Vec Ideal S8x4096x32x64 .f32 :=
  shapeCast S8x4096x32x64 (extractStridedSlice S32768x2048 ![0, 0] x slices_S32768x3072_S32768x2048_0_0) shapeCasts_S32768x2048_S8x4096x32x64
def skipped (y0 y1 xs : Vec Ideal S8x4096x32x64 .f32) (d : Vec Ideal S32 .f32) : Vec Ideal S8x4096x32x64 .f32 :=
  addf (F := Ideal) (φ := .f32) (addf (F := Ideal) (φ := .f32) y0 y1) (mulf (F := Ideal) (φ := .f32) xs
    (broadcastInDim S8x4096x32x64 ![0, 1, 2, 3] bcast_S1x1x32x1_S8x4096x32x64_0_1_2_3 (broadcastInDim S1x1x32x1 ![2, 3] bcast_S32x1_S1x1x32x1_2_3 (broadcastInDim S32x1 ![0] bcast_S32_S32x1_0 d))))
/-- The heads side by side, and gated by z. -/
def flat (y : Vec Ideal S8x4096x32x64 .f32) : Vec Ideal S8x4096x2048 .f32 := shapeCast S8x4096x2048 y shapeCasts_S8x4096x32x64_S8x4096x2048
def batched (z : Vec Ideal S32768x2048 .f32) : Vec Ideal S8x4096x2048 .f32 := shapeCast S8x4096x2048 z shapeCasts_S32768x2048_S8x4096x2048
def gated (y z : Vec Ideal S8x4096x2048 .f32) : Vec Ideal S8x4096x2048 .f32 :=
  mulf (F := Ideal) (φ := .f32) y (mulf (F := Ideal) (φ := .f32) z (Host.divf (F := Ideal) (φ := .f32) (broadcastInDim S8x4096x2048 ![] bcast_S_S8x4096x2048 (constant (F := Ideal) S_ .f32 0x3F800000#32))
    (addf (F := Ideal) (φ := .f32) (broadcastInDim S8x4096x2048 ![] bcast_S_S8x4096x2048 (constant (F := Ideal) S_ .f32 0x3F800000#32)) (Host.exp (F := Ideal) (φ := .f32) (Host.negf (F := Ideal) (φ := .f32) z)))))
/-- The four groups of columns, each divided by the root of its mean square. -/
def groups (u : Vec Ideal S8x4096x2048 .f32) : Vec Ideal S8x4096x4x512 .f32 := shapeCast S8x4096x4x512 u shapeCasts_S8x4096x2048_S8x4096x4x512
def rooted (u : Vec Ideal S8x4096x4x512 .f32) : Vec Ideal S8x4096x4x512 .f32 :=
  mulf (F := Ideal) (φ := .f32) u (broadcastInDim S8x4096x4x512 ![0, 1, 2, 3] bcast_S8x4096x4x1_S8x4096x4x512_0_1_2_3 (Host.rsqrt (F := Ideal) (φ := .f32) (addf (F := Ideal) (φ := .f32)
    (Host.divf (F := Ideal) (φ := .f32) (broadcastInDim S8x4096x4x1 ![0, 1, 2] bcast_S8x4096x4_S8x4096x4x1_0_1_2 (Host.reduceAdd (F := Ideal) (φ := .f32) (mulf (F := Ideal) (φ := .f32) u u) (constant (F := Ideal) S_ .f32 0x00000000#32) reducesTo_S8x4096x4x512_S8x4096x4_d3 h_S_))
      (broadcastInDim S8x4096x4x1 ![] bcast_S_S8x4096x4x1 (constant (F := Ideal) S_ .f32 0x44000000#32)))
    (broadcastInDim S8x4096x4x1 ![] bcast_S_S8x4096x4x1 (constant (F := Ideal) S_ .f32 0x3727C5AC#32)))))
def weighed (u : Vec Ideal S8x4096x4x512 .f32) (w : Vec Ideal S2048 .f32) : Vec Ideal S8x4096x2048 .f32 :=
  mulf (F := Ideal) (φ := .f32) (shapeCast S8x4096x2048 u shapeCasts_S8x4096x4x512_S8x4096x2048)
    (broadcastInDim S8x4096x2048 ![0, 1, 2] bcast_S1x1x2048_S8x4096x2048_0_1_2 (broadcastInDim S1x1x2048 ![2] bcast_S2048_S1x1x2048_2 w))
def prod (u : Vec Ideal S8x4096x2048 .f32) (w : Vec Ideal S2048x1024 .f32) : Vec Ideal S8x4096x1024 .f32 :=
  Host.dotGeneral (F := Ideal) (φ₁ := .f32) (φ₂ := .f32) dot_S8x4096x2048_S2048x1024_S8x4096x1024_2_0_01_1_n_n none u w

def lane (j : Fin 2048) : Fin 64 := ⟨j.val % 64, Nat.mod_lt _ (by decide)⟩
def col (h : Fin 32) (p : Fin 64) : Fin 2048 := ⟨h.val * 64 + p.val, by omega⟩
theorem col_head (j : Fin 2048) : col (head j) (lane j) = j := Fin.ext (by simp only [col, head, lane]; omega)

theorem way0_apply (y : Vec Ideal S2x32768x2048 .f32) (b l h p) : way0 y (ix4 b l h p) = y (ix3 0 (row b l) (col h p)) := by
  pointwise [way0]
  rfl
theorem way1_apply (y : Vec Ideal S2x32768x2048 .f32) (b l h p) : way1 y (ix4 b l h p) = y (ix3 1 (row b l) (col h p)) := by
  pointwise [way1]
  rfl
theorem inside_apply (x : Vec Ideal S32768x3072 .f32) (b l h p) : inside x (ix4 b l h p) = x (ix2 (row b l) (Cert.KernelOutIdeal.Out.inner (col h p))) := by
  pointwise [inside]
  rfl
theorem skipped_apply (y0 y1 xs : Vec Ideal S8x4096x32x64 .f32) (d : Vec Ideal S32 .f32) (b l h p) :
    skipped y0 y1 xs d (ix4 b l h p) = y0 (ix4 b l h p) + y1 (ix4 b l h p) + xs (ix4 b l h p) * d (ix1 h) := by
  pointwise [skipped]
theorem flat_apply (y : Vec Ideal S8x4096x32x64 .f32) (b l j) : flat y (ix3 b l j) = y (ix4 b l (head j) (lane j)) := by
  pointwise [flat]
  rfl
theorem batched_apply (z : Vec Ideal S32768x2048 .f32) (b l j) : batched z (ix3 b l j) = z (ix2 (row b l) j) := by
  pointwise [batched]
  rfl
theorem gated_apply (y z : Vec Ideal S8x4096x2048 .f32) (b l j) : gated y z (ix3 b l j) = y (ix3 b l j) * (z (ix3 b l j) * Ideal.logistic (z (ix3 b l j))) := by
  unfold Ideal.logistic
  pointwise [gated]
theorem groups_read (u : Vec Ideal S8x4096x2048 .f32) (b l) (g : Fin 4) (k : Fin 512) : groups u (ix4 b l g k) = u (ix3 b l ⟨g.val * 512 + k.val, by omega⟩) := by
  pointwise [groups]
theorem groups_apply (u : Vec Ideal S8x4096x2048 .f32) (b l) (g : Fin 4) (k : Fin 512) (j : Fin 2048) (hj : j.val = g.val * 512 + k.val) : groups u (ix4 b l g k) = u (ix3 b l j) := by
  have e : j = ⟨g.val * 512 + k.val, by omega⟩ := Fin.ext hj
  rw [e, groups_read]
theorem rooted_apply (u : Vec Ideal S8x4096x4x512 .f32) (b l g k) :
    rooted u (ix4 b l g k) = u (ix4 b l g k) * Ideal.rsqrt (average group (fun k => u (ix4 b l g k) * u (ix4 b l g k)) + small) := by
  unfold average group small
  pointwise [rooted]
theorem weighed_apply (u : Vec Ideal S8x4096x4x512 .f32) (w : Vec Ideal S2048 .f32) (b l) (j : Fin 2048) :
    weighed u w (ix3 b l j) = u (ix4 b l ⟨j.val / 512, by omega⟩ ⟨j.val % 512, by omega⟩) * w (ix1 j) := by
  pointwise [weighed]
theorem prod_apply (u : Vec Ideal S8x4096x2048 .f32) (w : Vec Ideal S2048x1024 .f32) (b l j) : prod u w (ix3 b l j) = ∑ k : Fin 2048, u (ix3 b l k) * w (ix2 k j) := by
  pointwise [prod]

theorem rooted_groups (u : Vec Ideal S8x4096x2048 .f32) (b l) (q : Fin 4) (p : Fin 512) (j : Fin 2048) (hj : j.val = q.val * 512 + p.val) :
    rooted (groups u) (ix4 b l q p) = u (ix3 b l j) * Ideal.rsqrt (average group (fun k => u (ix3 b l (mate j k)) * u (ix3 b l (mate j k))) + small) := by
  have e : (fun k => groups u (ix4 b l q k) * groups u (ix4 b l q k)) = fun k => u (ix3 b l (mate j k)) * u (ix3 b l (mate j k)) :=
    funext fun k => by rw [groups_apply u b l q k (mate j k) (by simp only [mate]; omega)]
  rw [rooted_apply, groups_apply u b l q p j hj, e]
theorem norm_apply (u : Vec Ideal S8x4096x2048 .f32) (w : Vec Ideal S2048 .f32) (b l) (j : Fin 2048) :
    weighed (rooted (groups u)) w (ix3 b l j) = gnorm (fun j => u (ix3 b l j)) (fun j => w (ix1 j)) j := by
  rw [weighed_apply, rooted_groups u b l _ _ j (by simp only; omega)]
  unfold gnorm
  rfl

section
variable (y : Vec Ideal S2x32768x2048 .f32) (xbc : Vec Ideal S32768x3072 .f32) (z : Vec Ideal S32768x2048 .f32) (d : Vec Ideal S32 .f32) (nw : Vec Ideal S2048 .f32)
  (w : Vec Ideal S2048x1024 .f32) (x : Vec Ideal S32768x1024 .f32) (gate : Vec Ideal S8x1x1024 .f32) (g b : Vec Ideal S1024 .f32)

def mixed : Vec Ideal S8x4096x2048 .f32 := gated (flat (skipped (way0 y) (way1 y) (inside xbc) d)) (batched z)
def res : Vec Ideal S32768x1024 .f32 := rows (normed (residual x gate (prod (weighed (rooted (groups (mixed y xbc z d))) nw) w)) g b)

theorem mixed_apply (s l j) : mixed y xbc z d (ix3 s l j)
    = gatedY (fun j => y (ix3 0 (row s l) j)) (fun j => y (ix3 1 (row s l) j)) (fun j => xbc (ix2 (row s l) (Cert.KernelOutIdeal.Out.inner j))) (fun h => d (ix1 h)) (fun j => z (ix2 (row s l) j)) j := by
  unfold mixed
  rw [gated_apply, flat_apply, skipped_apply, way0_apply, way1_apply, inside_apply, batched_apply, col_head]
  rfl
theorem res_apply (t : Fin 32768) (j : Fin 1024) : res y xbc z d nw w x gate g b (ix2 t j)
    = lnorm (joined (fun k => gnorm (gatedY (fun j => y (ix3 0 t j)) (fun j => y (ix3 1 t j)) (fun j => xbc (ix2 t (Cert.KernelOutIdeal.Out.inner j))) (fun h => d (ix1 h)) (fun j => z (ix2 t j))) (fun j => nw (ix1 j)) k)
        (fun k j => w (ix2 k j)) (fun k => x (ix2 t k)) (fun k => gate (ix3 (bat t) 0 k))) (fun k => g (ix1 k)) (fun k => b (ix1 k)) j := by
  unfold res
  rw [rows_apply, normed_apply]
  simp only [residual_apply, prod_apply, norm_apply, mixed_apply, row_pos]
  rfl
end
end Cert.ReferenceOutIdeal.Out

namespace Mix.Out
open Idealize.ShloMosaic Idealize.ShloMosaic.TcCoe Idealize.SL.Sem

theorem algebraic : Cert.algebraic_KernelOutIdeal_ReferenceOutIdeal := fun m ρ m' ρ' _ hag =>
  ⟨fun c => fun i => Cert.KernelOutIdeal.Out.out m c (i 0) (i 1),
   (θ_run _ _ _).mono (fun _ h c => ⟨(h c).1.trans (Cert.KernelOutIdeal.Out.out_eq m c), (h c).2⟩) (Cert.KernelOutIdeal.Value.run_blocks m ρ),
   (θ_run _ _ _).mono (fun _ h c => ⟨(h c).1.trans (by
      obtain ⟨h0, h1, h2, h3, h4, h5, h6, h7, h8, h9⟩ := hag c
      refine (rfl : _ = Cert.ReferenceOutIdeal.Out.res _ _ _ _ _ _ _ _ _ _).trans (funext fun i => ?_)
      obtain ⟨t, j, rfl⟩ : ∃ t j, i = ix2 t j := ⟨i 0, i 1, by ext a; fin_cases a <;> rfl⟩
      rw [h0, h1, h2, h3, h4, h5, h6, h7, h8, h9]
      exact Cert.ReferenceOutIdeal.Out.res_apply _ _ _ _ _ _ _ _ _ _ t j), (h c).2⟩) (Cert.ReferenceOutIdeal.Value.run m' ρ')⟩
end Mix.Out
end
-- ==== Proof.Mix.DtKernel.lean ====
module

public import proofs.«01_k».proof.Proof.Gen.KernelDtIdeal.Value
public import proofs.«01_k».proof.Proof.Mix.Spec
public import Idealize.ShloMosaic.Lib.Pipeline.Value
public import Idealize.ShloMosaic.Lib.Pointwise
public import Idealize.ShloMosaic.Lib.Pipeline.ValueKit
public import Idealize.ShloMosaic.Lib.IdealHost

/-! The projection to the step sizes: what the kernel leaves. -/

@[expose] public section
set_option maxRecDepth 16384
noncomputable section
namespace Cert.KernelDtIdeal.Proj
open Idealize.ShloMosaic Idealize.ShloMosaic.TcCoe Idealize.ShloMosaic.StableHlo Cert.KernelDtIdeal Cert.KernelDtIdeal.Gen Mix

variable (m : (ℓ : Loc nD τ sig) → Buf (Elt Ideal) ℓ)

theorem pay_apply (x : Vec Ideal S1024x1024 .f32) (sc sh : Vec Ideal S1x1x1024 .f32) (w : Vec Ideal S1024x64 .bf16) (l j) :
    k0_pay1 x sc sh w (ix2 l j) = ∑ k : Fin 1024, (x (ix2 l k) * (1 + sc (ix3 0 0 k)) + sh (ix3 0 0 k)) * w (ix2 k j) := by
  pointwise [k0_pay1]

theorem e0 : ∀ t : Fin cfg0.N, win0_0.index t = ![t.val, 0] := (by decide +kernel : ∀ t : Fin grid0.N, _)
theorem e1 : ∀ t : Fin cfg0.N, win0_1.index t = ![t.val / 4, 0, 0] := (by decide +kernel : ∀ t : Fin grid0.N, _)
theorem e2 : ∀ t : Fin cfg0.N, win0_2.index t = ![t.val / 4, 0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val, 0] := (by decide +kernel : ∀ t : Fin grid0.N, _)

/-- The result. -/
def out (c : Dev nD) (t : Fin 32768) (j : Fin 64) : EReal :=
  lin (fun t k => m ((c : Thread nD τ).loc main_arg0) (ix2 t k)) (fun b k => m ((c : Thread nD τ).loc main_arg1) (ix3 b 0 k))
    (fun b k => m ((c : Thread nD τ).loc main_arg2) (ix3 b 0 k)) (fun k j => m ((c : Thread nD τ).loc main_arg3) (ix2 k j)) t j

theorem V_v0 (c : Dev nD) (k j) : V m c main_v0 (ix2 k j) = m ((c : Thread nD τ).loc main_arg3) (ix2 k j) := by
  have e : V m c main_v0 = truncf (F := Ideal) .bf16 (m ((c : Thread nD τ).loc main_arg3)) bitsLt_bf16_f32 := by
    unfold V hostOps0
    after_results
  rw [e]
  rfl

theorem lt_N (t : Fin cfg0.N) : t.val < 32 := lt_of_lt_of_eq t.isLt N_0

/-- A row of a point's block of the result. -/
def tok (t : Fin cfg0.N) (l : Fin 1024) : Fin 32768 := ⟨t.val * 1024 + l.val, by have := lt_N t; omega⟩

theorem b0 (c : Dev nD) (t : Fin cfg0.N) (l k : Fin 1024) : iblk m c 0 t (ix2 l k) = m ((c : Thread nD τ).loc main_arg0) (ix2 (tok t l) k) := by
  unfold iblk
  blk_simp
  rw [V_main_arg0]
  refine congrArg (m ((c : Thread nD τ).loc main_arg0)) ?_
  blk_ext [e0, tok]
theorem b1 (c : Dev nD) (t : Fin cfg0.N) (l k : Fin 1024) : iblk m c 1 t (ix3 0 0 k) = m ((c : Thread nD τ).loc main_arg1) (ix3 (bat (tok t l)) 0 k) := by
  unfold iblk
  blk_simp
  rw [V_main_arg1]
  refine congrArg (m ((c : Thread nD τ).loc main_arg1)) ?_
  blk_ext [e1, tok, bat]
theorem b2 (c : Dev nD) (t : Fin cfg0.N) (l k : Fin 1024) : iblk m c 2 t (ix3 0 0 k) = m ((c : Thread nD τ).loc main_arg2) (ix3 (bat (tok t l)) 0 k) := by
  unfold iblk
  blk_simp
  rw [V_main_arg2]
  refine congrArg (m ((c : Thread nD τ).loc main_arg2)) ?_
  blk_ext [e2, tok, bat]
theorem b3 (c : Dev nD) (t : Fin cfg0.N) (k : Fin 1024) (j : Fin 64) : iblk m c 3 t (ix2 k j) = m ((c : Thread nD τ).loc main_arg3) (ix2 k j) := by
  unfold iblk
  blk_simp
  refine Eq.trans (congrArg (V m c main_v0) ?_) (V_v0 m c k j)
  blk_ext [e3]

theorem out_apply (x : Vec Ideal S1024x1024 .f32) (sc sh : Vec Ideal S1x1x1024 .f32) (w : Vec Ideal S1024x64 .bf16) :
    out0_4 x sc sh w = k0_pay1 x sc sh w := by
  unfold out0_4
  rw [View.canon_cons_unit_lit _ _ _ (by decide), View.ld_unit_lit _ _ (by decide), View.ld_unit_lit _ _ (by decide), View.ld_unit_lit _ _ (by decide), View.ld_unit_lit _ _ (by decide)]

/-- What a point leaves. -/
theorem point_apply (c : Dev nD) (t : Fin cfg0.N) (l : Fin 1024) (j : Fin 64) :
    out0_4 (iblk m c 0 t) (iblk m c 1 t) (iblk m c 2 t) (iblk m c 3 t) (ix2 l j) = out m c (tok t l) j := by
  rw [out_apply, pay_apply]
  unfold out lin hx
  exact Finset.sum_congr rfl fun k _ => by rw [b0, b1 m c t l, b2 m c t l, b3]

theorem out_eq (c : Dev nD) : (dats m 0 c).arrAt 4 cfg0.N = fun i => out m c (i 0) (i 1) := by
  refine (dats m 0 c).arrAt_eq_of_covers 4 _ (by decide +kernel) fun t hfl y => ?_
  blk_simp
  rw [after0_4]
  idx_bounds y
  have ey : y = ix2 (y 0) (y 1) := by
    blk_ext
  refine (congrArg _ ey).trans ((point_apply m c t (y 0) (y 1)).trans ?_)
  have h0 : tok t (y 0) = ((cfg0.win 4).blk t).view.emb y 0 := Fin.ext (by blk_simp [e4, tok])
  have h1 : y 1 = ((cfg0.win 4).blk t).view.emb y 1 := Fin.ext (by blk_simp [e4])
  exact congr (congrArg (out m c) h0) h1
end Cert.KernelDtIdeal.Proj
end
-- ==== Proof.Mix.Dt.lean ====
module

public import proofs.«01_k».proof.Defs
public import proofs.«01_k».proof.Proof.Gen.ReferenceDtIdeal.Run
public import proofs.«01_k».proof.Proof.Mix.DtKernel

/-! The projection to the step sizes: the reference, and that both agree. -/

@[expose] public section
set_option maxRecDepth 16384
noncomputable section
namespace Cert.ReferenceDtIdeal.Proj
open Idealize.ShloMosaic Idealize.ShloMosaic.TcCoe Idealize.SL.Sem Cert.ReferenceDtIdeal Cert.ReferenceDtIdeal.Gen Mix

section
variable (x : Vec Ideal S32768x1024 .f32) (sc sh : Vec Ideal S8x1x1024 .f32) (w : Vec Ideal S1024x64 .f32)

/-- The scaled and shifted tokens, and their projection. -/
def hid : Vec Ideal S8x4096x1024 .f32 :=
  addf (F := Ideal) (φ := .f32) (mulf (F := Ideal) (φ := .f32) (shapeCast S8x4096x1024 x shapeCasts_S32768x1024_S8x4096x1024) (broadcastInDim S8x4096x1024 ![0, 1, 2] bcast_S8x1x1024_S8x4096x1024_0_1_2 (addf (F := Ideal) (φ := .f32) (broadcastInDim S8x1x1024 ![] bcast_S_S8x1x1024 (constant (F := Ideal) S_ .f32 0x3F800000#32)) sc))) (broadcastInDim S8x4096x1024 ![0, 1, 2] bcast_S8x1x1024_S8x4096x1024_0_1_2 sh)
def res : Vec Ideal S32768x64 .f32 :=
  shapeCast S32768x64 (Host.dotGeneral (F := Ideal) (φ₁ := .f32) (φ₂ := .f32) dot_S8x4096x1024_S1024x64_S8x4096x64_2_0_01_1_n_n none (hid x sc sh) w) shapeCasts_S8x4096x64_S32768x64

theorem hid_apply (b : Fin 8) (l : Fin 4096) (k : Fin 1024) : hid x sc sh (ix3 b l k)
    = x (ix2 ⟨b.val * 4096 + l.val, by omega⟩ k) * (1 + sc (ix3 b 0 k)) + sh (ix3 b 0 k) := by
  pointwise [hid]
theorem res_apply (t : Fin 32768) (j : Fin 64) : res x sc sh w (ix2 t j)
    = lin (fun t k => x (ix2 t k)) (fun b k => sc (ix3 b 0 k)) (fun b k => sh (ix3 b 0 k)) (fun k j => w (ix2 k j)) t j := by
  pointwise [res]
  unfold lin
  refine Finset.sum_congr rfl fun k _ => congrArg (· * w (ix2 k j)) ((hid_apply x sc sh _ _ _).trans ?_)
  unfold hx bat
  refine congrArg (fun i => x (ix2 i k) * _ + _) (Fin.ext ?_)
  show t.val / 4096 * 4096 + t.val % 4096 = t.val
  omega
end
end Cert.ReferenceDtIdeal.Proj

namespace Mix.Dt
open Idealize.ShloMosaic Idealize.ShloMosaic.TcCoe Idealize.SL.Sem

theorem algebraic : Cert.algebraic_KernelDtIdeal_ReferenceDtIdeal := fun m ρ m' ρ' _ hag =>
  ⟨fun c => fun i => Cert.KernelDtIdeal.Proj.out m c (i 0) (i 1),
   (θ_run _ _ _).mono (fun _ h c => ⟨(h c).1.trans (Cert.KernelDtIdeal.Proj.out_eq m c), (h c).2⟩) (Cert.KernelDtIdeal.Value.run_blocks m ρ),
   (θ_run _ _ _).mono (fun _ h c => ⟨(h c).1.trans (by
      obtain ⟨h0, h1, h2, h3⟩ := hag c
      refine (rfl : _ = Cert.ReferenceDtIdeal.Proj.res _ _ _ _).trans (funext fun i => ?_)
      obtain ⟨t, j, rfl⟩ : ∃ t j, i = ix2 t j := ⟨i 0, i 1, by ext a; fin_cases a <;> rfl⟩
      rw [h0, h1, h2, h3]
      exact Cert.ReferenceDtIdeal.Proj.res_apply _ _ _ _ t j), (h c).2⟩) (Cert.ReferenceDtIdeal.Value.run m' ρ')⟩
end Mix.Dt
end
-- ==== Proof.Mix.CtxDtKernel.lean ====
module

public import proofs.«01_k».proof.Proof.Gen.KernelCtxDtIdeal.Value
public import proofs.«01_k».proof.Proof.Mix.Spec
public import Idealize.ShloMosaic.Lib.Pipeline.Value
public import Idealize.ShloMosaic.Lib.Pointwise
public import Idealize.ShloMosaic.Lib.Pipeline.ValueKit
public import Idealize.ShloMosaic.Lib.IdealHost

/-! The projection of the context to the step sizes: what the kernel leaves. -/

@[expose] public section
set_option maxRecDepth 16384
noncomputable section
namespace Cert.KernelCtxDtIdeal.Proj
open Idealize.ShloMosaic Idealize.ShloMosaic.TcCoe Idealize.ShloMosaic.StableHlo Cert.KernelCtxDtIdeal Cert.KernelCtxDtIdeal.Gen Mix

variable (m : (ℓ : Loc nD τ sig) → Buf (Elt Ideal) ℓ)

theorem pay_apply (x : Vec Ideal S512x1024 .f32) (sc sh : Vec Ideal S1x1x1024 .f32) (w : Vec Ideal S1024x64 .bf16) (l j) :
    k0_pay1 x sc sh w (ix2 l j) = ∑ k : Fin 1024, (x (ix2 l k) * (1 + sc (ix3 0 0 k)) + sh (ix3 0 0 k)) * w (ix2 k j) := by
  pointwise [k0_pay1]

theorem e0 : ∀ t : Fin cfg0.N, win0_0.index t = ![t.val, 0] := (by decide +kernel : ∀ t : Fin grid0.N, _)
theorem e1 : ∀ t : Fin cfg0.N, win0_1.index t = ![0, 0, 0] := (by decide +kernel : ∀ t : Fin grid0.N, _)
theorem e2 : ∀ t : Fin cfg0.N, win0_2.index t = ![0, 0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val, 0] := (by decide +kernel : ∀ t : Fin grid0.N, _)

/-- The result. -/
def out (c : Dev nD) (t : Fin 2048) (j : Fin 64) : EReal :=
  Ctx.lin (fun t k => m ((c : Thread nD τ).loc main_arg0) (ix2 t k)) (fun k => m ((c : Thread nD τ).loc main_arg1) (ix3 0 0 k))
    (fun k => m ((c : Thread nD τ).loc main_arg2) (ix3 0 0 k)) (fun k j => m ((c : Thread nD τ).loc main_arg3) (ix2 k j)) t j

theorem V_v0 (c : Dev nD) (k j) : V m c main_v0 (ix2 k j) = m ((c : Thread nD τ).loc main_arg3) (ix2 k j) := by
  have e : V m c main_v0 = truncf (F := Ideal) .bf16 (m ((c : Thread nD τ).loc main_arg3)) bitsLt_bf16_f32 := by
    unfold V hostOps0
    after_results
  rw [e]
  rfl

theorem lt_N (t : Fin cfg0.N) : t.val < 4 := lt_of_lt_of_eq t.isLt N_0

/-- A row of a point's block of the result. -/
def tok (t : Fin cfg0.N) (l : Fin 512) : Fin 2048 := ⟨t.val * 512 + l.val, by have := lt_N t; omega⟩

theorem b0 (c : Dev nD) (t : Fin cfg0.N) (l : Fin 512) (k : Fin 1024) : iblk m c 0 t (ix2 l k) = m ((c : Thread nD τ).loc main_arg0) (ix2 (tok t l) k) := by
  unfold iblk
  blk_simp
  rw [V_main_arg0]
  refine congrArg (m ((c : Thread nD τ).loc main_arg0)) ?_
  blk_ext [e0, tok]
theorem b1 (c : Dev nD) (t : Fin cfg0.N) (k : Fin 1024) : iblk m c 1 t (ix3 0 0 k) = m ((c : Thread nD τ).loc main_arg1) (ix3 0 0 k) := by
  unfold iblk
  blk_simp
  rw [V_main_arg1]
  refine congrArg (m ((c : Thread nD τ).loc main_arg1)) ?_
  blk_ext [e1]
theorem b2 (c : Dev nD) (t : Fin cfg0.N) (k : Fin 1024) : iblk m c 2 t (ix3 0 0 k) = m ((c : Thread nD τ).loc main_arg2) (ix3 0 0 k) := by
  unfold iblk
  blk_simp
  rw [V_main_arg2]
  refine congrArg (m ((c : Thread nD τ).loc main_arg2)) ?_
  blk_ext [e2]
theorem b3 (c : Dev nD) (t : Fin cfg0.N) (k : Fin 1024) (j : Fin 64) : iblk m c 3 t (ix2 k j) = m ((c : Thread nD τ).loc main_arg3) (ix2 k j) := by
  unfold iblk
  blk_simp
  refine Eq.trans (congrArg (V m c main_v0) ?_) (V_v0 m c k j)
  blk_ext [e3]

theorem out_apply (x : Vec Ideal S512x1024 .f32) (sc sh : Vec Ideal S1x1x1024 .f32) (w : Vec Ideal S1024x64 .bf16) :
    out0_4 x sc sh w = k0_pay1 x sc sh w := by
  unfold out0_4
  rw [View.canon_cons_unit_lit _ _ _ (by decide), View.ld_unit_lit _ _ (by decide), View.ld_unit_lit _ _ (by decide), View.ld_unit_lit _ _ (by decide), View.ld_unit_lit _ _ (by decide)]

/-- What a point leaves. -/
theorem point_apply (c : Dev nD) (t : Fin cfg0.N) (l : Fin 512) (j : Fin 64) :
    out0_4 (iblk m c 0 t) (iblk m c 1 t) (iblk m c 2 t) (iblk m c 3 t) (ix2 l j) = out m c (tok t l) j := by
  rw [out_apply, pay_apply]
  unfold out Ctx.lin Ctx.hx
  exact Finset.sum_congr rfl fun k _ => by rw [b0, b1, b2, b3]

theorem out_eq (c : Dev nD) : (dats m 0 c).arrAt 4 cfg0.N = fun i => out m c (i 0) (i 1) := by
  refine (dats m 0 c).arrAt_eq_of_covers 4 _ (by decide +kernel) fun t hfl y => ?_
  blk_simp
  rw [after0_4]
  idx_bounds y
  have ey : y = ix2 (y 0) (y 1) := by
    blk_ext
  refine (congrArg _ ey).trans ((point_apply m c t (y 0) (y 1)).trans ?_)
  have h0 : tok t (y 0) = ((cfg0.win 4).blk t).view.emb y 0 := Fin.ext (by blk_simp [e4, tok])
  have h1 : y 1 = ((cfg0.win 4).blk t).view.emb y 1 := Fin.ext (by blk_simp [e4])
  exact congr (congrArg (out m c) h0) h1
end Cert.KernelCtxDtIdeal.Proj
end
-- ==== Proof.Mix.CtxDt.lean ====
module

public import proofs.«01_k».proof.Defs
public import proofs.«01_k».proof.Proof.Gen.ReferenceCtxDtIdeal.Run
public import proofs.«01_k».proof.Proof.Mix.CtxDtKernel

/-! The projection of the context to the step sizes: the reference, and that both agree. -/

@[expose] public section
set_option maxRecDepth 16384
noncomputable section
namespace Cert.ReferenceCtxDtIdeal.Proj
open Idealize.ShloMosaic Idealize.ShloMosaic.TcCoe Idealize.SL.Sem Cert.ReferenceCtxDtIdeal Cert.ReferenceCtxDtIdeal.Gen Mix

section
variable (x : Vec Ideal S2048x1024 .f32) (sc sh : Vec Ideal S1x1x1024 .f32) (w : Vec Ideal S1024x64 .f32)

/-- The scaled and shifted tokens, and their projection. -/
def hid : Vec Ideal S1x2048x1024 .f32 :=
  addf (F := Ideal) (φ := .f32) (mulf (F := Ideal) (φ := .f32) (shapeCast S1x2048x1024 x shapeCasts_S2048x1024_S1x2048x1024) (broadcastInDim S1x2048x1024 ![0, 1, 2] bcast_S1x1x1024_S1x2048x1024_0_1_2 (addf (F := Ideal) (φ := .f32) (broadcastInDim S1x1x1024 ![] bcast_S_S1x1x1024 (constant (F := Ideal) S_ .f32 0x3F800000#32)) sc))) (broadcastInDim S1x2048x1024 ![0, 1, 2] bcast_S1x1x1024_S1x2048x1024_0_1_2 sh)
def res : Vec Ideal S2048x64 .f32 :=
  shapeCast S2048x64 (Host.dotGeneral (F := Ideal) (φ₁ := .f32) (φ₂ := .f32) dot_S1x2048x1024_S1024x64_S1x2048x64_2_0_01_1_n_n none (hid x sc sh) w) shapeCasts_S1x2048x64_S2048x64

theorem hid_apply (l : Fin 2048) (k : Fin 1024) : hid x sc sh (ix3 0 l k)
    = Ctx.hx (fun t k => x (ix2 t k)) (fun k => sc (ix3 0 0 k)) (fun k => sh (ix3 0 0 k)) l k := by
  unfold Ctx.hx
  pointwise [hid]
theorem res_apply (t : Fin 2048) (j : Fin 64) : res x sc sh w (ix2 t j)
    = Ctx.lin (fun t k => x (ix2 t k)) (fun k => sc (ix3 0 0 k)) (fun k => sh (ix3 0 0 k)) (fun k j => w (ix2 k j)) t j := by
  pointwise [res]
  unfold Ctx.lin
  exact Finset.sum_congr rfl fun k _ => congrArg (· * w (ix2 k j)) (hid_apply x sc sh _ _)
end
end Cert.ReferenceCtxDtIdeal.Proj

namespace Mix.CtxDt
open Idealize.ShloMosaic Idealize.ShloMosaic.TcCoe Idealize.SL.Sem

theorem algebraic : Cert.algebraic_KernelCtxDtIdeal_ReferenceCtxDtIdeal := fun m ρ m' ρ' _ hag =>
  ⟨fun c => fun i => Cert.KernelCtxDtIdeal.Proj.out m c (i 0) (i 1),
   (θ_run _ _ _).mono (fun _ h c => ⟨(h c).1.trans (Cert.KernelCtxDtIdeal.Proj.out_eq m c), (h c).2⟩) (Cert.KernelCtxDtIdeal.Value.run_blocks m ρ),
   (θ_run _ _ _).mono (fun _ h c => ⟨(h c).1.trans (by
      obtain ⟨h0, h1, h2, h3⟩ := hag c
      refine (rfl : _ = Cert.ReferenceCtxDtIdeal.Proj.res _ _ _ _).trans (funext fun i => ?_)
      obtain ⟨t, j, rfl⟩ : ∃ t j, i = ix2 t j := ⟨i 0, i 1, by ext a; fin_cases a <;> rfl⟩
      rw [h0, h1, h2, h3]
      exact Cert.ReferenceCtxDtIdeal.Proj.res_apply _ _ _ _ t j), (h c).2⟩) (Cert.ReferenceCtxDtIdeal.Value.run m' ρ')⟩
end Mix.CtxDt
end
-- ==== Proof.Mix.CtxKernel.lean ====
module

public import proofs.«01_k».proof.Proof.Gen.KernelCtxIdeal.Value
public import proofs.«01_k».proof.Proof.Mix.Spec
public import proofs.«01_k».proof.Proof.Mix.Shift
public import Idealize.ShloMosaic.Lib.Pipeline.ValueKit
public import Idealize.ShloMosaic.Lib.VecWindow
public import Idealize.ShloMosaic.Lib.WholeRead
public import Idealize.ShloMosaic.Lib.Pipeline.Covers

/-! The projection of the context with its convolution: what the kernel leaves. -/

@[expose] public section
set_option maxRecDepth 16384
noncomputable section
namespace Cert.KernelCtxIdeal.Conv
open Idealize.ShloMosaic Idealize.ShloMosaic.TcCoe Idealize.ShloMosaic.StableHlo Cert.KernelCtxIdeal Cert.KernelCtxIdeal.Gen Mix

theorem h_apply (x : Vec Ideal S256x1024 .f32) (sc sh : Vec Ideal S1x1x1024 .f32) (l k) :
    k0_pay2 x sc sh (ix2 l k) = x (ix2 l k) * (1 + sc (ix3 0 0 k)) + sh (ix3 0 0 k) := by
  pointwise [k0_pay2]

theorem p_apply (h : Vec Ideal S256x1024 .bf16) (w : Vec Ideal S1024x256 .bf16) (l j) :
    k0_pay3 h w (ix2 l j) = ∑ k : Fin 1024, h (ix2 l k) * w (ix2 k j) := by
  pointwise [k0_pay3]

theorem pos_apply (l : Fin 256) (j) : k0_pay4 (ix2 l j) = BitVec.ofNat 32 l.val := by
  refine Eq.trans ?_ (and_255 l.val l.isLt)
  pointwise [k0_pay4]

/-- A Ctx.row of the convolution's weights. -/
def tap (c : Vec Ideal S1x3x256 .f32) (i : Fin 3) : Vec Ideal S1x1x256 .f32 := fun y => c (ix3 0 i (y 2))

/-- The convolution with the bias, and what a point stores, from the rows it keeps and its blocks. -/
def total (h : Vec Ideal S256x1024 .bf16) (w : Vec Ideal S1024x256 .bf16) (c : Vec Ideal S1x3x256 .f32) (b : Vec Ideal S1x256 .f32) : FVec Ideal S256x256 .f32 :=
  addf (F := Ideal) (φ := .f32) (addf (F := Ideal) (φ := .f32) (k0_pay5 h w (tap c 0) (tap c 1)) (select k0_pay7 (k0_pay6 h w (tap c 2)) (broadcast S256x256 (Scalar.ofBits (F := Ideal) .f32 0x00000000#32))))
    (broadcastTo S256x256 (shapeCast S1x256 b shapeCasts_S1x256_S1x256) broadcasts_S1x256_S256x256)
def point (h : Vec Ideal S256x1024 .bf16) (w : Vec Ideal S1024x256 .bf16) (c : Vec Ideal S1x3x256 .f32) (b : Vec Ideal S1x256 .f32) : FVec Ideal S256x256 .f32 :=
  k0_pay1 (k0_pay5 h w (tap c 0) (tap c 1)) (k0_pay6 h w (tap c 2)) k0_pay7 (Scalar.ofBits .f32 0x00000000#32) b

theorem row_apply (c : Vec Ideal S1x1x256 .f32) (l j) : broadcastTo S256x256 (shapeCast S1x256 c shapeCasts_S1x1x256_S1x256) broadcasts_S1x256_S256x256 (ix2 l j) = c (ix3 0 0 j) := by
  pointwise
theorem bias_apply (c : Vec Ideal S1x256 .f32) (l j) : broadcastTo S256x256 (shapeCast S1x256 c shapeCasts_S1x256_S1x256) broadcasts_S1x256_S256x256 (ix2 l j) = c (ix2 0 j) := by
  pointwise

theorem pay5_apply (h : Vec Ideal S256x1024 .bf16) (w : Vec Ideal S1024x256 .bf16) (c0 c1 : Vec Ideal S1x1x256 .f32) (l j) :
    k0_pay5 h w c0 c1 (ix2 l j) = 0 + (if 1 ≤ l.val then k0_pay3 h w (ix2 (src 1#32 l) j) * c0 (ix3 0 0 j) else 0) + k0_pay3 h w (ix2 l j) * c1 (ix3 0 0 j) := by
  refine congrArg₂ (· + ·) (congrArg₂ (· + ·) Ideal.ofBits_zero_f32 ?_) (congrArg (k0_pay3 h w (ix2 l j) * ·) (row_apply c1 l j))
  refine (turn_ge k0_pay4 1 _ _ _ l j l.val (pos_apply l j) (by omega) (by omega)).trans ?_
  exact if_congr Iff.rfl (congrArg (k0_pay3 h w (ix2 (src 1#32 l) j) * ·) (row_apply c0 _ j)) Ideal.ofBits_zero_f32

theorem total_apply (h : Vec Ideal S256x1024 .bf16) (w : Vec Ideal S1024x256 .bf16) (c : Vec Ideal S1x3x256 .f32) (b : Vec Ideal S1x256 .f32) (l j) :
    total h w c b (ix2 l j) = ctxSum (fun l => k0_pay3 h w (ix2 l j)) (fun i => c (ix3 0 i j)) (b (ix2 0 j)) l := by
  refine congrArg₂ (· + ·) (congrArg₂ (· + ·) (pay5_apply h w (tap c 0) (tap c 1) l j) ?_) (bias_apply b l j)
  unfold k0_pay7 k0_pay6
  refine (turn_lt k0_pay4 255 255 _ _ _ l j l.val (pos_apply l j) (by omega) (by omega)).trans ?_
  exact if_congr Iff.rfl (congrArg (k0_pay3 h w (ix2 (src 255#32 l) j) * ·) (row_apply _ _ j)) Ideal.ofBits_zero_f32

theorem point_eq (h : Vec Ideal S256x1024 .bf16) (w : Vec Ideal S1024x256 .bf16) (c : Vec Ideal S1x3x256 .f32) (b : Vec Ideal S1x256 .f32) :
    point h w c b = mulf (F := Ideal) (φ := .f32) (total h w c b) (logistic (F := Ideal) (φ := .f32) (total h w c b)) := rfl
theorem point_apply (h : Vec Ideal S256x1024 .bf16) (w : Vec Ideal S1024x256 .bf16) (c : Vec Ideal S1x3x256 .f32) (b : Vec Ideal S1x256 .f32) (l j) :
    point h w c b (ix2 l j) = ctxBlock (fun l => k0_pay3 h w (ix2 l j)) (fun i => c (ix3 0 i j)) (b (ix2 0 j)) l := by
  unfold ctxBlock
  rw [point_eq, ← total_apply]
  rfl

section
variable (c : Dev nD) (i : grid0.Coords) (arg2 : Memref sig .tc .vmem S256x1024 .f32) (harg2 : arg2.IsWhole) (arg3 : Memref sig .tc .vmem S1x1x1024 .f32) (harg3 : arg3.IsWhole)
  (arg4 : Memref sig .tc .vmem S1x1x1024 .f32) (harg4 : arg4.IsWhole) (arg5 : Memref sig .tc .vmem S1024x256 .bf16) (harg5 : arg5.IsWhole) (arg6 : Memref sig .tc .vmem S1x3x256 .f32) (harg6 : arg6.IsWhole)
  (arg7 : Memref sig .tc .vmem S1x256 .f32) (harg7 : arg7.IsWhole) (arg8 : Memref sig .tc .vmem S256x256 .f32) (harg8 : arg8.IsWhole) (arg9 : Memref sig .tc .vmem S256x1024 .bf16) (harg9 : arg9.IsWhole)
  (x0 : Vec Ideal S256x1024 .f32) (x1 x2 : Vec Ideal S1x1x1024 .f32) (x3 : Vec Ideal S1024x256 .bf16) (x4 : Vec Ideal S1x3x256 .f32) (x5 : Vec Ideal S1x256 .f32) (xs0 : Vec Ideal S256x1024 .bf16)

/-- The loads of the blocks, and of a Ctx.row of the convolution's weights. -/
def ld0 : Vec Ideal S256x1024 .f32 := View.readAt (Elt Ideal) arg2.view (Rect.unit (s := S256x1024) ![0, 0] S256x1024.size Facts₀.inb_S256x1024_S256x1024_0_0).toLoadRect (harg2.unread x0)
def ld1 : Vec Ideal S1x1x1024 .f32 := View.readAt (Elt Ideal) arg3.view (Rect.unit (s := S1x1x1024) ![0, 0, 0] S1x1x1024.size Facts₀.inb_S1x1x1024_S1x1x1024_0_0_0).toLoadRect (harg3.unread x1)
def ld3 : Vec Ideal S1024x256 .bf16 := View.readAt (Elt Ideal) arg5.view (Rect.unit (s := S1024x256) ![0, 0] S1024x256.size Facts₀.inb_S1024x256_S1024x256_0_0).toLoadRect (harg5.unread x3)
def ld5 : Vec Ideal S1x256 .f32 := View.readAt (Elt Ideal) arg7.view (Rect.unit (s := S1x256) ![0, 0] S1x256.size Facts₀.inb_S1x256_S1x256_0_0).toLoadRect (harg7.unread x5)
def ldS : Vec Ideal S256x1024 .bf16 := View.readAt (Elt Ideal) arg9.view (Rect.unit (s := S256x1024) ![0, 0] S256x1024.size Facts₀.inb_S256x1024_S256x1024_0_0).toLoadRect (harg9.unread xs0)
theorem inb_tap (r : Fin 3) : ∀ a, (![0, r.val, 0] : Fin 3 → ℕ) a + S1x1x256.size a ≤ S1x3x256.size a := by
  intro a; fin_cases a
  · exact Nat.le_refl 1
  · show r.val + 1 ≤ 3; omega
  · exact Nat.le_refl 256
def ldT (r : Fin 3) : Vec Ideal S1x1x256 .f32 := View.readAt (Elt Ideal) arg6.view (Rect.unit (s := S1x3x256) ![0, r.val, 0] S1x1x256.size (inb_tap r)).toLoadRect (harg6.unread x4)

theorem ld0_eq : ld0 arg2 harg2 x0 = x0 := by unfold ld0; rw [View.readAt_full, harg2.read_unread]
theorem ld1_eq : ld1 arg3 harg3 x1 = x1 := by unfold ld1; rw [View.readAt_full, harg3.read_unread]
theorem ld3_eq : ld3 arg5 harg5 x3 = x3 := by unfold ld3; rw [View.readAt_full, harg5.read_unread]
theorem ld5_eq : ld5 arg7 harg7 x5 = x5 := by unfold ld5; rw [View.readAt_full, harg7.read_unread]
theorem ldS_eq : ldS arg9 harg9 xs0 = xs0 := by unfold ldS; rw [View.readAt_full, harg9.read_unread]
theorem ldT_eq (r : Fin 3) : ldT arg6 harg6 x4 r = tap x4 r := by
  funext j
  refine (harg6.readAt_unread x4 (Rect.unit (s := S1x3x256) ![0, r.val, 0] S1x1x256.size (inb_tap r)).toLoadRect j).trans (congrArg x4 ?_)
  have h0 : (j 0).val < 1 := (j 0).isLt
  have h1 : (j 1).val < 1 := (j 1).isLt
  funext a; apply Fin.ext; fin_cases a
  · show 0 + 1 * (j 0).val = 0; omega
  · show r.val + 1 * (j 1).val = r.val; omega
  · exact (Nat.zero_add _).trans (Nat.one_mul _)

/-- The store of a point, from the loads. -/
def stored (h : Vec Ideal S256x1024 .bf16) : FVec Ideal S256x256 .f32 :=
  k0_pay1 (k0_pay5 h (ld3 arg5 harg5 x3) (ldT arg6 harg6 x4 0) (ldT arg6 harg6 x4 1)) (k0_pay6 h (ld3 arg5 harg5 x3) (ldT arg6 harg6 x4 2)) k0_pay7 (Scalar.ofBits .f32 0x00000000#32) (ld5 arg7 harg7 x5)
theorem stored_eq (h : Vec Ideal S256x1024 .bf16) : stored arg5 harg5 arg6 harg6 arg7 harg7 x3 x4 x5 h = point h x3 x4 x5 := by
  unfold stored point
  rw [ld3_eq, ld5_eq, ldT_eq, ldT_eq, ldT_eq]

theorem run_A_h (hc0 : cond0_0 i) : (kernelRun0_A c i arg2 harg2 arg3 harg3 arg4 harg4 arg5 harg5 arg6 harg6 arg7 harg7 arg8 harg8 arg9 harg9 hc0 x0 x1 x2 x3 x4 x5).2.1
    = [⟨Rect.unit (s := S256x1024) ![0, 0] S256x1024.size Facts₀.inb_S256x1024_S256x1024_0_0, k0_pay2 (ld0 arg2 harg2 x0) (ld1 arg3 harg3 x1) (ld1 arg4 harg4 x2)⟩] := rfl
theorem run_A_out (hc0 : cond0_0 i) : (kernelRun0_A c i arg2 harg2 arg3 harg3 arg4 harg4 arg5 harg5 arg6 harg6 arg7 harg7 arg8 harg8 arg9 harg9 hc0 x0 x1 x2 x3 x4 x5).1
    = [⟨Rect.unit (s := S256x256) ![0, 0] S256x256.size Facts₀.inb_S256x256_S256x256_0_0, stored arg5 harg5 arg6 harg6 arg7 harg7 x3 x4 x5
        (arg9.view.readCov (Val := Elt Ideal) [⟨Rect.unit (s := S256x1024) ![0, 0] S256x1024.size Facts₀.inb_S256x1024_S256x1024_0_0, k0_pay2 (ld0 arg2 harg2 x0) (ld1 arg3 harg3 x1) (ld1 arg4 harg4 x2)⟩]
          (Rect.unit (s := S256x1024) ![0, 0] S256x1024.size Facts₀.inb_S256x1024_S256x1024_0_0).toLoadRect)⟩] := rfl
theorem run_B_out (hc0 : ¬cond0_0 i) : (kernelRun0_B c i arg2 harg2 arg3 harg3 arg4 harg4 arg5 harg5 arg6 harg6 arg7 harg7 arg8 harg8 arg9 harg9 hc0 x0 x1 x2 x3 x4 x5 xs0).1
    = [⟨Rect.unit (s := S256x256) ![0, 0] S256x256.size Facts₀.inb_S256x256_S256x256_0_0, stored arg5 harg5 arg6 harg6 arg7 harg7 x3 x4 x5 (ldS arg9 harg9 xs0)⟩] := rfl

theorem sout_A (hc0 : cond0_0 i) : sout0_A_0 c i arg2 harg2 arg3 harg3 arg4 harg4 arg5 harg5 arg6 harg6 arg7 harg7 arg8 harg8 arg9 harg9 hc0 x0 x1 x2 x3 x4 x5 = k0_pay2 x0 x1 x2 := by
  unfold sout0_A_0
  rw [run_A_h, View.read_writes_full, ld0_eq, ld1_eq, ld1_eq]
theorem out_A (hc0 : cond0_0 i) : out0_A_6 c i arg2 harg2 arg3 harg3 arg4 harg4 arg5 harg5 arg6 harg6 arg7 harg7 arg8 harg8 arg9 harg9 hc0 x0 x1 x2 x3 x4 x5 = point (k0_pay2 x0 x1 x2) x3 x4 x5 := by
  unfold out0_A_6
  rw [run_A_out, View.read_writes_full, View.readCov_full, ld0_eq, ld1_eq, ld1_eq, stored_eq]
theorem out_B (hc0 : ¬cond0_0 i) : out0_B_6 c i arg2 harg2 arg3 harg3 arg4 harg4 arg5 harg5 arg6 harg6 arg7 harg7 arg8 harg8 arg9 harg9 hc0 x0 x1 x2 x3 x4 x5 xs0 = point xs0 x3 x4 x5 := by
  unfold out0_B_6
  rw [run_B_out, View.read_writes_full, ldS_eq, stored_eq]
end

variable (m : (ℓ : Loc nD τ sig) → Buf (Elt Ideal) ℓ)

theorem e0 : ∀ t : Fin cfg0.N, win0_0.index t = ![t.val / 12, 0] := (by decide +kernel : ∀ t : Fin grid0.N, _)
theorem e1 : ∀ t : Fin cfg0.N, win0_1.index t = ![0, 0, 0] := (by decide +kernel : ∀ t : Fin grid0.N, _)
theorem e2 : ∀ t : Fin cfg0.N, win0_2.index t = ![0, 0, 0] := (by decide +kernel : ∀ t : Fin grid0.N, _)
theorem e3 : ∀ t : Fin cfg0.N, win0_3.index t = ![0, t.val % 12] := (by decide +kernel : ∀ t : Fin grid0.N, _)
theorem e4 : ∀ t : Fin cfg0.N, win0_4.index t = ![0, 0, t.val % 12] := (by decide +kernel : ∀ t : Fin grid0.N, _)
theorem e5 : ∀ t : Fin cfg0.N, win0_5.index t = ![0, t.val % 12] := (by decide +kernel : ∀ t : Fin grid0.N, _)
theorem e6 : ∀ t : Fin cfg0.N, win0_6.index t = ![t.val / 12, t.val % 12] := (by decide +kernel : ∀ t : Fin grid0.N, _)

/-- The rows the projection reads. -/
def hid (c : Dev nD) (t : Fin 2048) (k : Fin 1024) : EReal :=
  Ctx.hx (fun t k => m ((c : Thread nD τ).loc main_arg0) (ix2 t k)) (fun k => m ((c : Thread nD τ).loc main_arg1) (ix3 0 0 k))
    (fun k => m ((c : Thread nD τ).loc main_arg2) (ix3 0 0 k)) t k
/-- The result. -/
def out (c : Dev nD) (t : Fin 2048) (j : Fin 3072) : EReal :=
  ctxBlock (fun l => Ctx.lin (fun t k => m ((c : Thread nD τ).loc main_arg0) (ix2 t k)) (fun k => m ((c : Thread nD τ).loc main_arg1) (ix3 0 0 k))
    (fun k => m ((c : Thread nD τ).loc main_arg2) (ix3 0 0 k)) (fun k j => m ((c : Thread nD τ).loc main_arg3) (ix2 k j)) (Ctx.row (Ctx.bat t) l) j)
    (fun i => m ((c : Thread nD τ).loc main_arg4) (ix3 1 i j)) (m ((c : Thread nD τ).loc main_arg5) (ix1 j)) (Ctx.pos t)

theorem V_v0 (c : Dev nD) (i j) : V m c main_v0 (ix3 0 i j) = m ((c : Thread nD τ).loc main_arg4) (ix3 1 i j) := by
  have e : V m c main_v0 = extractStridedSlice S1x3x3072 ![1, 0, 0] (m ((c : Thread nD τ).loc main_arg4)) slices_S3x3x3072_S1x3x3072_1_0_0 := by
    unfold V hostOps0
    after_results
  rw [e]
  pointwise
theorem V_v1 (c : Dev nD) (k j) : V m c main_v1 (ix2 k j) = m ((c : Thread nD τ).loc main_arg3) (ix2 k j) := by
  have e : V m c main_v1 = truncf (F := Ideal) .bf16 (m ((c : Thread nD τ).loc main_arg3)) bitsLt_bf16_f32 := by
    unfold V hostOps0
    after_results
  rw [e]
  rfl
theorem V_v2 (c : Dev nD) (j) : V m c main_v2 (ix2 0 j) = m ((c : Thread nD τ).loc main_arg5) (ix1 j) := by
  have e : V m c main_v2 = shapeCast S1x3072 (m ((c : Thread nD τ).loc main_arg5)) shapeCasts_S3072_S1x3072 := by
    unfold V hostOps0
    after_results
    rfl
  rw [e]
  pointwise

theorem lt_N (t : Fin cfg0.N) : t.val < 96 := lt_of_lt_of_eq t.isLt N_0

/-- The batch, and a column, of a point's block of the result. -/
def pb (t : Fin cfg0.N) : Fin 8 := ⟨t.val / 12, by have := lt_N t; omega⟩
def col (t : Fin cfg0.N) (j : Fin 256) : Fin 3072 := ⟨t.val % 12 * 256 + j.val, by omega⟩

theorem b0 (c : Dev nD) (t : Fin cfg0.N) (l k) : iblk m c 0 t (ix2 l k) = m ((c : Thread nD τ).loc main_arg0) (ix2 (Ctx.row (pb t) l) k) := by
  unfold iblk
  blk_simp
  rw [V_main_arg0]
  refine congrArg (m ((c : Thread nD τ).loc main_arg0)) ?_
  blk_ext [e0, Ctx.row, pb]
theorem b1 (c : Dev nD) (t : Fin cfg0.N) (k) : iblk m c 1 t (ix3 0 0 k) = m ((c : Thread nD τ).loc main_arg1) (ix3 0 0 k) := by
  unfold iblk
  blk_simp
  rw [V_main_arg1]
  refine congrArg (m ((c : Thread nD τ).loc main_arg1)) ?_
  blk_ext [e1]
theorem b2 (c : Dev nD) (t : Fin cfg0.N) (k) : iblk m c 2 t (ix3 0 0 k) = m ((c : Thread nD τ).loc main_arg2) (ix3 0 0 k) := by
  unfold iblk
  blk_simp
  rw [V_main_arg2]
  refine congrArg (m ((c : Thread nD τ).loc main_arg2)) ?_
  blk_ext [e2]
theorem b3 (c : Dev nD) (t : Fin cfg0.N) (k j) : iblk m c 3 t (ix2 k j) = m ((c : Thread nD τ).loc main_arg3) (ix2 k (col t j)) := by
  unfold iblk
  blk_simp
  refine Eq.trans (congrArg (V m c main_v1) ?_) (V_v1 m c k (col t j))
  blk_ext [e3, col]
theorem b4 (c : Dev nD) (t : Fin cfg0.N) (i : Fin 3) (j) : iblk m c 4 t (ix3 0 i j) = m ((c : Thread nD τ).loc main_arg4) (ix3 1 i (col t j)) := by
  unfold iblk
  blk_simp
  refine Eq.trans (congrArg (V m c main_v0) ?_) (V_v0 m c i (col t j))
  blk_ext [e4, col]
theorem b5 (c : Dev nD) (t : Fin cfg0.N) (j) : iblk m c 5 t (ix2 0 j) = m ((c : Thread nD τ).loc main_arg5) (ix1 (col t j)) := by
  unfold iblk
  blk_simp
  refine Eq.trans (congrArg (V m c main_v2) ?_) (V_v2 m c (col t j))
  blk_ext [e5, col]

/-- What a point computes, on rows that are its batch's. -/
theorem point_out (c : Dev nD) (t : Fin cfg0.N) (h : Vec Ideal S256x1024 .bf16) (hh : ∀ l k, h (ix2 l k) = hid m c (Ctx.row (pb t) l) k) (l j) :
    point h (iblk m c 3 t) (iblk m c 4 t) (iblk m c 5 t) (ix2 l j) = out m c (Ctx.row (pb t) l) (col t j) := by
  rw [point_apply]
  unfold out
  rw [Ctx.bat_row, Ctx.pos_row, b5]
  congr 1
  · funext l
    rw [p_apply]
    exact Finset.sum_congr rfl fun k _ => by rw [hh, b3]; rfl
  · funext i
    exact b4 m c t i j

/-- The rows kept are the batch's, and the block stored is the result's. -/
def Leaves (c : Dev nD) (t : Fin cfg0.N) : Prop :=
  (∀ l k, (outsAt0 m c t.val t.isLt).2 (ix2 l k) = hid m c (Ctx.row (pb t) l) k) ∧ ∀ l j, (outsAt0 m c t.val t.isLt).1 (ix2 l j) = out m c (Ctx.row (pb t) l) (col t j)

theorem fresh (c : Dev nD) (t : Fin cfg0.N) (l k) : k0_pay2 (iblk m c 0 t) (iblk m c 1 t) (iblk m c 2 t) (ix2 l k) = hid m c (Ctx.row (pb t) l) k := by
  rw [h_apply, b0, b1, b2]
  rfl

theorem leaves_first (c : Dev nD) (t : Fin cfg0.N) (h0 : t.val % 12 = 0) : Leaves m c t := by
  unfold Leaves
  simp only [outsAt0_A m c t h0]
  constructor
  · intro l k
    rw [sout_A]
    exact fresh m c t l k
  · intro l j
    rw [out_A]
    exact point_out m c t _ (fresh m c t) l j

theorem leaves_next (c : Dev nD) (t : Fin cfg0.N) (h0 : ¬t.val % 12 = 0)
    (ih : ∀ l k, (outsAt0 m c (t.val - 1) (Nat.lt_of_le_of_lt (Nat.sub_le _ _) t.isLt)).2 (ix2 l k) = hid m c (Ctx.row (pb t) l) k) : Leaves m c t := by
  unfold Leaves
  simp only [outsAt0_B m c t h0]
  constructor
  · exact ih
  · intro l j
    rw [out_B]
    exact point_out m c t _ ih l j

theorem leaves (c : Dev nD) : ∀ (k : ℕ) (hk : k < cfg0.N), Leaves m c ⟨k, hk⟩
  | 0, hk => leaves_first m c ⟨0, hk⟩ rfl
  | k + 1, hk => by
    by_cases h0 : (k + 1) % 12 = 0
    · exact leaves_first m c ⟨k + 1, hk⟩ h0
    · refine leaves_next m c ⟨k + 1, hk⟩ h0 fun l q => ?_
      refine ((leaves c k (Nat.lt_of_succ_lt hk)).1 l q).trans ?_
      have hb : pb ⟨k, Nat.lt_of_succ_lt hk⟩ = pb ⟨k + 1, hk⟩ := Fin.ext (show k / 12 = (k + 1) / 12 by omega)
      rw [hb]

theorem out_eq (c : Dev nD) : (dats m 0 c).arrAt 6 cfg0.N = fun i => out m c (i 0) (i 1) := by
  refine (dats m 0 c).arrAt_eq_of_covers 6 _ (by decide +kernel) fun t hfl y => ?_
  blk_simp
  rw [after0_6]
  idx_bounds y
  have ey : y = ix2 (y 0) (y 1) := by
    blk_ext
  refine (congrArg _ ey).trans (((leaves m c t.val t.isLt).2 (y 0) (y 1)).trans ?_)
  have h0 : Ctx.row (pb t) (y 0) = ((cfg0.win 6).blk t).view.emb y 0 := Fin.ext (by blk_simp [e6, Ctx.row, pb])
  have h1 : col t (y 1) = ((cfg0.win 6).blk t).view.emb y 1 := Fin.ext (by blk_simp [e6, col])
  exact congr (congrArg (out m c) h0) h1
end Cert.KernelCtxIdeal.Conv
end
-- ==== Proof.Mix.Ctx.lean ====
module

public import proofs.«01_k».proof.Defs
public import proofs.«01_k».proof.Proof.Gen.ReferenceCtxIdeal.Run
public import proofs.«01_k».proof.Proof.Mix.CtxKernel

/-! The projection of the context with its convolution: the reference, and that both agree. -/

@[expose] public section
set_option maxRecDepth 16384
noncomputable section
namespace Cert.ReferenceCtxIdeal.Conv
open Idealize.ShloMosaic Idealize.ShloMosaic.TcCoe Idealize.SL.Sem Cert.ReferenceCtxIdeal Cert.ReferenceCtxIdeal.Gen Mix

section
variable (x : Vec Ideal S2048x1024 .f32) (sc sh : Vec Ideal S1x1x1024 .f32) (w : Vec Ideal S1024x3072 .f32) (cw : Vec Ideal S3x3x3072 .f32) (cb : Vec Ideal S3072 .f32)

/-- The scaled and shifted tokens, and their projection. -/
def hid : Vec Ideal S1x2048x1024 .f32 :=
  addf (F := Ideal) (φ := .f32) (mulf (F := Ideal) (φ := .f32) (shapeCast S1x2048x1024 x shapeCasts_S2048x1024_S1x2048x1024) (broadcastInDim S1x2048x1024 ![0, 1, 2] bcast_S1x1x1024_S1x2048x1024_0_1_2 (addf (F := Ideal) (φ := .f32) (broadcastInDim S1x1x1024 ![] bcast_S_S1x1x1024 (constant (F := Ideal) S_ .f32 0x3F800000#32)) sc))) (broadcastInDim S1x2048x1024 ![0, 1, 2] bcast_S1x1x1024_S1x2048x1024_0_1_2 sh)
def proj : Vec Ideal S1x2048x3072 .f32 :=
  Host.dotGeneral (F := Ideal) (φ₁ := .f32) (φ₂ := .f32) dot_S1x2048x1024_S1024x3072_S1x2048x3072_2_0_01_1_n_n none (hid x sc sh) w
/-- The projection as an image with a border of zeros. -/
def padded (p : Vec Ideal S1x2048x3072 .f32) : Vec Ideal S8x3x258x3072 .f32 :=
  pad S8x3x258x3072 ![0, 1, 1, 0] ![0, 1, 1, 0] ![0, 0, 0, 0] (shapeCast S8x1x256x3072 p shapeCasts_S1x2048x3072_S8x1x256x3072) (sitofp (F := Ideal) .f32 (constantI S_ 32 0#32)) pads_S8x1x256x3072_S8x3x258x3072_000_110_110_000 h_S_
/-- The weights of a tap over the image. -/
def wtap (r : Vec Ideal S1x1x3072 .f32) : Vec Ideal S8x1x256x3072 .f32 :=
  broadcastInDim S8x1x256x3072 ![0, 1, 2, 3] bcast_S1x1x1x3072_S8x1x256x3072_0_1_2_3 (broadcastInDim S1x1x1x3072 ![3] bcast_S3072_S1x1x1x3072_3 (shapeCast S3072 r shapeCasts_S1x1x3072_S3072))
/-- The nine taps. -/
def conv (u : Vec Ideal S8x3x258x3072 .f32) : Vec Ideal S8x1x256x3072 .f32 :=
  addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (broadcastInDim S8x1x256x3072 ![] bcast_S_S8x1x256x3072 (constant (F := Ideal) S_ .f32 0x00000000#32))
    (mulf (F := Ideal) (φ := .f32) (extractStridedSlice S8x1x256x3072 ![0, 0, 0, 0] u slices_S8x3x258x3072_S8x1x256x3072_0_0_0_0) (wtap (extractStridedSlice S1x1x3072 ![0, 0, 0] cw slices_S3x3x3072_S1x1x3072_0_0_0))))
    (mulf (F := Ideal) (φ := .f32) (extractStridedSlice S8x1x256x3072 ![0, 0, 1, 0] u slices_S8x3x258x3072_S8x1x256x3072_0_0_1_0) (wtap (extractStridedSlice S1x1x3072 ![0, 1, 0] cw slices_S3x3x3072_S1x1x3072_0_1_0))))
    (mulf (F := Ideal) (φ := .f32) (extractStridedSlice S8x1x256x3072 ![0, 0, 2, 0] u slices_S8x3x258x3072_S8x1x256x3072_0_0_2_0) (wtap (extractStridedSlice S1x1x3072 ![0, 2, 0] cw slices_S3x3x3072_S1x1x3072_0_2_0))))
    (mulf (F := Ideal) (φ := .f32) (extractStridedSlice S8x1x256x3072 ![0, 1, 0, 0] u slices_S8x3x258x3072_S8x1x256x3072_0_1_0_0) (wtap (extractStridedSlice S1x1x3072 ![1, 0, 0] cw slices_S3x3x3072_S1x1x3072_1_0_0))))
    (mulf (F := Ideal) (φ := .f32) (extractStridedSlice S8x1x256x3072 ![0, 1, 1, 0] u slices_S8x3x258x3072_S8x1x256x3072_0_1_1_0) (wtap (extractStridedSlice S1x1x3072 ![1, 1, 0] cw slices_S3x3x3072_S1x1x3072_1_1_0))))
    (mulf (F := Ideal) (φ := .f32) (extractStridedSlice S8x1x256x3072 ![0, 1, 2, 0] u slices_S8x3x258x3072_S8x1x256x3072_0_1_2_0) (wtap (extractStridedSlice S1x1x3072 ![1, 2, 0] cw slices_S3x3x3072_S1x1x3072_1_2_0))))
    (mulf (F := Ideal) (φ := .f32) (extractStridedSlice S8x1x256x3072 ![0, 2, 0, 0] u slices_S8x3x258x3072_S8x1x256x3072_0_2_0_0) (wtap (extractStridedSlice S1x1x3072 ![2, 0, 0] cw slices_S3x3x3072_S1x1x3072_2_0_0))))
    (mulf (F := Ideal) (φ := .f32) (extractStridedSlice S8x1x256x3072 ![0, 2, 1, 0] u slices_S8x3x258x3072_S8x1x256x3072_0_2_1_0) (wtap (extractStridedSlice S1x1x3072 ![2, 1, 0] cw slices_S3x3x3072_S1x1x3072_2_1_0))))
    (mulf (F := Ideal) (φ := .f32) (extractStridedSlice S8x1x256x3072 ![0, 2, 2, 0] u slices_S8x3x258x3072_S8x1x256x3072_0_2_2_0) (wtap (extractStridedSlice S1x1x3072 ![2, 2, 0] cw slices_S3x3x3072_S1x1x3072_2_2_0)))
/-- The sum with the bias, and its gated value. -/
def pre (p : Vec Ideal S1x2048x3072 .f32) : Vec Ideal S8x256x3072 .f32 :=
  addf (F := Ideal) (φ := .f32) (shapeCast S8x256x3072 (conv cw (padded p)) shapeCasts_S8x1x256x3072_S8x256x3072)
    (broadcastInDim S8x256x3072 ![0, 1, 2] bcast_S1x1x3072_S8x256x3072_0_1_2 (broadcastInDim S1x1x3072 ![2] bcast_S3072_S1x1x3072_2 cb))
def gated (s : Vec Ideal S8x256x3072 .f32) : Vec Ideal S8x256x3072 .f32 :=
  mulf (F := Ideal) (φ := .f32) s (Host.divf (F := Ideal) (φ := .f32) (broadcastInDim S8x256x3072 ![] bcast_S_S8x256x3072 (constant (F := Ideal) S_ .f32 0x3F800000#32))
    (addf (F := Ideal) (φ := .f32) (broadcastInDim S8x256x3072 ![] bcast_S_S8x256x3072 (constant (F := Ideal) S_ .f32 0x3F800000#32)) (Host.exp (F := Ideal) (φ := .f32) (Host.negf (F := Ideal) (φ := .f32) s))))
def res : Vec Ideal S2048x3072 .f32 :=
  shapeCast S2048x3072 (gated (pre cw cb (proj x sc sh w))) shapeCasts_S8x256x3072_S2048x3072

theorem hid_apply (t : Fin 2048) (k : Fin 1024) : hid x sc sh (ix3 0 t k)
    = Ctx.hx (fun t k => x (ix2 t k)) (fun k => sc (ix3 0 0 k)) (fun k => sh (ix3 0 0 k)) t k := by
  unfold Ctx.hx
  pointwise [hid]
theorem proj_apply (t : Fin 2048) (j : Fin 3072) : proj x sc sh w (ix3 0 t j)
    = Ctx.lin (fun t k => x (ix2 t k)) (fun k => sc (ix3 0 0 k)) (fun k => sh (ix3 0 0 k)) (fun k j => w (ix2 k j)) t j := by
  pointwise [proj]
  unfold Ctx.lin
  exact Finset.sum_congr rfl fun k _ => congrArg (· * w (ix2 k j)) (hid_apply x sc sh t k)

theorem zero_sitofp : (FloatOps.sitofp (F := Ideal) .f32 0#32 : EReal) = 0 := by
  show (((0#32 : BitVec 32).toInt : ℝ) : EReal) = 0
  simp

theorem padded_in (p : Vec Ideal S1x2048x3072 .f32) (b : Fin 8) (r : Fin 3) (q : Fin 258) (j : Fin 3072) (q' : Fin 256) (hr : r.val = 1) (hq : q.val = q'.val + 1) :
    padded p (ix4 b r q j) = p (ix3 0 (Ctx.row b q') j) := by
  refine (pad_apply_of_inside _ _ _ _ _ _ _ (ix4 b r q j) (ix4 b 0 q' j) fun a => ?_).trans ?_
  · fin_cases a
    · show b.val = 0 + b.val * 1; omega
    · show r.val = 1 + 0 * 1; omega
    · show q.val = 1 + q'.val * 1; omega
    · show j.val = 0 + j.val * 1; omega
  · pointwise [Ctx.row]
theorem padded_out (p : Vec Ideal S1x2048x3072 .f32) (b : Fin 8) (r : Fin 3) (q : Fin 258) (j : Fin 3072) (h : r.val ≠ 1 ∨ q.val = 0 ∨ q.val = 257) :
    padded p (ix4 b r q j) = 0 := by
  rcases h with h | h
  · refine (pad_apply_of_not_inside _ _ _ _ _ _ _ (ix4 b r q j) 1 ?_).trans ?_
    · rintro ⟨h1, _, h3⟩
      have h1 : 1 ≤ r.val := h1
      have h3 : (r.val - 1) / 1 < 1 := h3
      omega
    · pointwise
      exact zero_sitofp
  · refine (pad_apply_of_not_inside _ _ _ _ _ _ _ (ix4 b r q j) 2 ?_).trans ?_
    · rintro ⟨h1, _, h3⟩
      have h1 : 1 ≤ q.val := h1
      have h3 : (q.val - 1) / 1 < 256 := h3
      omega
    · pointwise
      exact zero_sitofp

theorem wtap_apply (c : Vec Ideal S1x1x3072 .f32) (b r q j) : wtap c (ix4 b r q j) = c (ix3 0 0 j) := by
  pointwise [wtap]

theorem conv_apply (p : Vec Ideal S1x2048x3072 .f32) (b : Fin 8) (q : Fin 256) (j : Fin 3072) :
    conv cw (padded p) (ix4 b 0 q j) = 0 + padded p (ix4 b 0 ⟨q.val, by omega⟩ j) * cw (ix3 0 0 j) + padded p (ix4 b 0 ⟨1 + q.val, by omega⟩ j) * cw (ix3 0 1 j) + padded p (ix4 b 0 ⟨2 + q.val, by omega⟩ j) * cw (ix3 0 2 j)
      + padded p (ix4 b 1 ⟨q.val, by omega⟩ j) * cw (ix3 1 0 j) + padded p (ix4 b 1 ⟨1 + q.val, by omega⟩ j) * cw (ix3 1 1 j) + padded p (ix4 b 1 ⟨2 + q.val, by omega⟩ j) * cw (ix3 1 2 j)
      + padded p (ix4 b 2 ⟨q.val, by omega⟩ j) * cw (ix3 2 0 j) + padded p (ix4 b 2 ⟨1 + q.val, by omega⟩ j) * cw (ix3 2 1 j) + padded p (ix4 b 2 ⟨2 + q.val, by omega⟩ j) * cw (ix3 2 2 j) := by
  pointwise [conv, wtap_apply]

/-- The rows above and below the context's are zeros, so that three of the nine products are left. -/
theorem conv_sum (p : Vec Ideal S1x2048x3072 .f32) (b : Fin 8) (l : Fin 256) (j : Fin 3072) :
    conv cw (padded p) (ix4 b 0 l j) + cb (ix1 j) = ctxSum (fun l => p (ix3 0 (Ctx.row b l) j)) (fun k => cw (ix3 1 k j)) (cb (ix1 j)) l := by
  have above : ∀ q, padded p (ix4 b 0 q j) = 0 := fun q => padded_out p b 0 q j (Or.inl (by decide))
  have below : ∀ q, padded p (ix4 b 2 q j) = 0 := fun q => padded_out p b 2 q j (Or.inl (by decide))
  rw [conv_apply]
  simp only [above, below, zero_mul, add_zero]
  unfold ctxSum
  rw [padded_in p b 1 ⟨1 + l.val, _⟩ j l rfl (Nat.add_comm _ _)]
  congr 1
  congr 1
  · congr 1
    congr 1
    split
    · rw [src_back l 1 (by omega) (by assumption), padded_in p b 1 _ j ⟨l.val - 1, by omega⟩ rfl (by show l.val = l.val - 1 + 1; omega)]
    · rw [padded_out p b 1 _ j (Or.inr (Or.inl (by show l.val = 0; omega))), zero_mul]
  · split
    · rw [src_fwd l 255 (by omega) (by assumption), padded_in p b 1 _ j ⟨l.val + 1, by omega⟩ rfl (by show 2 + l.val = l.val + 1 + 1; omega)]
    · rw [padded_out p b 1 _ j (Or.inr (Or.inr (by show 2 + l.val = 257; omega))), zero_mul]

theorem sum_read (y : Vec Ideal S8x1x256x3072 .f32) (b : Fin 8) (l : Fin 256) (j : Fin 3072) :
    addf (F := Ideal) (φ := .f32) (shapeCast S8x256x3072 y shapeCasts_S8x1x256x3072_S8x256x3072)
      (broadcastInDim S8x256x3072 ![0, 1, 2] bcast_S1x1x3072_S8x256x3072_0_1_2 (broadcastInDim S1x1x3072 ![2] bcast_S3072_S1x1x3072_2 cb)) (ix3 b l j)
      = y (ix4 b 0 l j) + cb (ix1 j) := by
  pointwise
theorem pre_apply (p : Vec Ideal S1x2048x3072 .f32) (b : Fin 8) (l : Fin 256) (j : Fin 3072) :
    pre cw cb p (ix3 b l j) = ctxSum (fun l => p (ix3 0 (Ctx.row b l) j)) (fun k => cw (ix3 1 k j)) (cb (ix1 j)) l := by
  unfold pre
  exact (sum_read cb _ b l j).trans (conv_sum cw cb p b l j)

theorem gated_apply (s : Vec Ideal S8x256x3072 .f32) (b l j) : gated s (ix3 b l j) = s (ix3 b l j) * Ideal.logistic (s (ix3 b l j)) := by
  unfold Ideal.logistic
  pointwise [gated]

theorem res_apply (t : Fin 2048) (j : Fin 3072) : res x sc sh w cw cb (ix2 t j)
    = ctxBlock (fun l => Ctx.lin (fun t k => x (ix2 t k)) (fun k => sc (ix3 0 0 k)) (fun k => sh (ix3 0 0 k)) (fun k j => w (ix2 k j)) (Ctx.row (Ctx.bat t) l) j)
      (fun k => cw (ix3 1 k j)) (cb (ix1 j)) (Ctx.pos t) := by
  have e : res x sc sh w cw cb (ix2 t j) = gated (pre cw cb (proj x sc sh w)) (ix3 (Ctx.bat t) (Ctx.pos t) j) := by
    pointwise [res, Ctx.bat, Ctx.pos]
  rw [e, gated_apply, pre_apply]
  simp only [proj_apply]
  rfl
end
end Cert.ReferenceCtxIdeal.Conv

namespace Mix.Ctx
open Idealize.ShloMosaic Idealize.ShloMosaic.TcCoe Idealize.SL.Sem

theorem algebraic : Cert.algebraic_KernelCtxIdeal_ReferenceCtxIdeal := fun m ρ m' ρ' _ hag =>
  ⟨fun c => fun i => Cert.KernelCtxIdeal.Conv.out m c (i 0) (i 1),
   (θ_run _ _ _).mono (fun _ h c => ⟨(h c).1.trans (Cert.KernelCtxIdeal.Conv.out_eq m c), (h c).2⟩) (Cert.KernelCtxIdeal.Value.run_blocks m ρ),
   (θ_run _ _ _).mono (fun _ h c => ⟨(h c).1.trans (by
      obtain ⟨h0, h1, h2, h3, h4, h5⟩ := hag c
      refine (rfl : _ = Cert.ReferenceCtxIdeal.Conv.res _ _ _ _ _ _).trans (funext fun i => ?_)
      obtain ⟨t, j, rfl⟩ : ∃ t j, i = ix2 t j := ⟨i 0, i 1, by ext a; fin_cases a <;> rfl⟩
      rw [h0, h1, h2, h3, h4, h5]
      exact Cert.ReferenceCtxIdeal.Conv.res_apply _ _ _ _ _ _ t j), (h c).2⟩) (Cert.ReferenceCtxIdeal.Value.run m' ρ')⟩
end Mix.Ctx
end
-- ==== Proof.Ssd.Ctx.Spec.lean ====
module

public import proofs.«01_k».proof.Proof.Ssd.Spec

/-! The scan of the context's rows: two chunks of 128, of which only the state at the end is kept. -/

@[expose] public section
set_option maxRecDepth 16384
noncomputable section
namespace Ssd
open Idealize.ShloMosaic

/-- Row `l` of the chunk read at step `c`: the first direction reads the chunks upwards, the second downwards. -/
def ctxRow (d : Fin 2) (c : ℕ) (l : Fin 128) : Fin 256 :=
  ⟨128 * (if d.val = 0 then c % 2 else 1 - c % 2) + l.val, by have := Nat.mod_lt c (by decide : 0 < 2); split <;> omega⟩

/-- The arguments of the scan, by coordinates. -/
structure CtxInputs where
  xbc : Fin 8 → Fin 256 → Fin 3072 → EReal
  dt : Fin 8 → Fin 256 → Fin 2 → Fin 32 → EReal
  an : Fin 2 → Fin 32 → EReal
  init : Fin 8 → Fin 2 → Fin 32 → Fin 64 → Fin 128 → EReal

/-- What step `c` of direction `d` reads; the state needs no C. -/
def CtxInputs.chunk (I : CtxInputs) (b : Fin 8) (d : Fin 2) (c : ℕ) : Chunk where
  x l col := I.xbc b (ctxRow d c l) (xcol col)
  b l k := I.xbc b (ctxRow d c l) (bcol k)
  c _ _ := 0
  dt l h := I.dt b (ctxRow d c l) d h
  an h := I.an d h

/-- The state before step `c`. -/
def CtxInputs.state (I : CtxInputs) (b : Fin 8) (d : Fin 2) : ℕ → Fin 2048 → Fin 128 → EReal
  | 0 => fun col n => I.init b d (hd col) ⟨col.val % 64, Nat.mod_lt _ (by decide)⟩ n
  | c + 1 => (I.chunk b d c).state d.val (I.state b d c)

/-- The step sizes and the decay rates are finite. -/
structure CtxInputs.Finite (I : CtxInputs) : Prop where
  dt : ∀ b t d h, Fi (I.dt b t d h)
  an : ∀ d h, Fi (I.an d h)

/-- The result. -/
def CtxInputs.fin (I : CtxInputs) (b : Fin 8) (d : Fin 2) (h : Fin 32) (p : Fin 64) (n : Fin 128) : EReal := I.state b d 2 (hcol h p) n
end Ssd
end
-- ==== Proof.Ssd.Ctx.Body.lean ====
module

public import proofs.«01_k».proof.Proof.Gen.KernelStatesIdeal.Frame
public import proofs.«01_k».proof.Proof.Ssd.Body
public import proofs.«01_k».proof.Proof.Ssd.Ctx.Spec

/-! One point of the context's scan: it stores the state as the long scan does, and no rows of a result. -/

@[expose] public section
set_option maxRecDepth 16384
noncomputable section
namespace Cert.KernelStatesIdeal.Body
open Idealize.ShloMosaic Cert.KernelStatesIdeal Cert.KernelStatesIdeal.Gen Ssd
open Cert.KernelIdeal.Body (bcOf bcOf_idx fin_apply)
open Cert.KernelIdeal.Group (groupS groupS_apply)
open Cert.KernelIdeal.Decay (keep_apply xw_apply)
open Cert.KernelIdeal.Pieces (rin cat cat_gp gp_cat rowsOf rowsOf_idx rows canon_rowsTo canon_rows_all)

/-- A point of this grid as a point of the long scan's grid, with the same direction. -/
def long (i : grid0.Coords) : Cert.KernelIdeal.grid0.Coords := fun a =>
  match a with
  | 0 => i 0
  | 1 => i 1
  | 2 => (0 : Fin 32)

section
variable (i : grid0.Coords) (xb : Vec Ideal S1x128x2048 .f32) (v4 : Vec Ideal S1x1x128x32 .f32) (v6 : Vec Ideal S1x1x32 .f32)

/-- The running sums of the exponents. -/
def acum : FVec Ideal S128x32 .f32 := k0_pay11 i v4 v6
/-- The running sums again, heads along the rows. -/
def acumT : FVec Ideal S32x128 .f32 := k0_pay14 (k0_pay6 i) (k0_pay9 v4 v6) (k0_pay10 v4 v6) (k0_pay12 i v4 v6) k0_pay13
/-- The rows weighted by what of them is left at the end of the chunk. -/
def xw : FVec Ideal S128x2048 .bf16 := k0_pay22 (acum i v4 v6) (k0_pay15 (k0_pay5 v4 v6)) k0_pay16 (k0_pay17 xb)
  (k0_pay18 (k0_pay4 v4)) (k0_pay20 (k0_pay4 v4)) (k0_pay21 (k0_pay4 v4)) (constant S128x2048 .f32 0x00000000#32)
/-- What is left of the state at the end of the chunk. -/
def keep : FVec Ideal S2048x128 .f32 := k0_pay23 (Scalar.cmpi .eq (BitVec.ofNat 32 (i 1).val) 0#32) (acumT i v4 v6) k0_pay16

/-- These are the long scan's values. -/
theorem xw_same : xw i xb v4 v6 = Cert.KernelIdeal.Decay.xw (long i) xb v4 v6 := rfl
theorem keep_same : keep i v4 v6 = Cert.KernelIdeal.Decay.keep (long i) v4 v6 := rfl
end

/-- A reading of the rows of a group through the earlier stores. -/
def rdA (v : View sig .tc .vmem S2048x128 .f32) (l : List (View.Piece (Elt Ideal) S2048x128 .f32)) (g : Fin 4) : Vec Ideal S512x128 .f32 :=
  v.readCov (Val := Elt Ideal) l (rowsOf g).toLoadRect

/-- Such a reading still finds the state before them: they lie in other groups. -/
theorem read_rows (v : View sig .tc .vmem S2048x128 .f32) (f L) (g : Fin 4) (r : Fin 512) (n : Fin 128) :
    rdA v (rows (rdA v) f L g.val) g (ix2 r n) = View.canon L (ix2 (cat g r) n) := by
  refine (congrFun (View.readCov_eq_canon' v _ (rowsOf g).toLoadRect) (ix2 r n)).trans ?_
  refine (congrArg (View.canon (rows (rdA v) f L g.val)) (rowsOf_idx g r n)).trans ?_
  rw [canon_rowsTo _ _ _ _ g.isLt.le, gp_cat, if_neg (lt_irrefl _)]

section
variable (i : grid0.Coords)
  (arg3 : Memref sig .tc .vmem S1x128x2048 .f32) (harg3 : arg3.IsWhole) (arg4 : Memref sig .tc .vmem S1x128x512 .f32) (harg4 : arg4.IsWhole)
  (arg5 : Memref sig .tc .vmem S1x128x512 .f32) (harg5 : arg5.IsWhole) (arg6 : Memref sig .tc .vmem S1x1x128x32 .f32) (harg6 : arg6.IsWhole)
  (arg7 : Memref sig .tc .vmem S1x1x32 .f32) (harg7 : arg7.IsWhole) (arg8 : Memref sig .tc .vmem S1x1x32x64x128 .f32) (harg8 : arg8.IsWhole)
  (arg9 : Memref sig .tc .vmem S1x1x32x64x128 .f32) (harg9 : arg9.IsWhole)
  (arg10 : Memref sig .tc .vmem S2048x128 .f32) (harg10 : arg10.IsWhole)
  (x0 : Vec Ideal S1x128x2048 .f32) (x1 x2 : Vec Ideal S1x128x512 .f32) (x3 : Vec Ideal S1x1x128x32 .f32) (x4 : Vec Ideal S1x1x32 .f32)
  (x5 : Vec Ideal S1x1x32x64x128 .f32) (xs0 : Vec Ideal S2048x128 .f32)

def ld3 : Vec Ideal S1x128x2048 .f32 := View.readAt (Elt Ideal) arg3.view (Rect.unit ![0, 0, 0] S1x128x2048.size Facts₀.inb_S1x128x2048_S1x128x2048_0_0_0).toLoadRect (harg3.unread x0)
def ld6 : Vec Ideal S1x1x128x32 .f32 := View.readAt (Elt Ideal) arg6.view (Rect.unit ![0, 0, 0, 0] S1x1x128x32.size Facts₀.inb_S1x1x128x32_S1x1x128x32_0_0_0_0).toLoadRect (harg6.unread x3)
def ld7 : Vec Ideal S1x1x32 .f32 := View.readAt (Elt Ideal) arg7.view (Rect.unit ![0, 0, 0] S1x1x32.size Facts₀.inb_S1x1x32_S1x1x32_0_0_0).toLoadRect (harg7.unread x4)
def ldB (g : Fin 4) : Vec Ideal S1x128x128 .f32 := View.readAt (Elt Ideal) arg4.view (bcOf g).toLoadRect (harg4.unread x1)

/-- What the body stores in the state's rows of group `g`, from what it reads there. -/
def fS (g : Fin 4) (st : Vec Ideal S512x128 .f32) : FVec Ideal S512x128 .f32 :=
  groupS (xw i (ld3 arg3 harg3 x0) (ld6 arg6 harg6 x3) (ld7 arg7 harg7 x4)) (keep i (ld6 arg6 harg6 x3) (ld7 arg7 harg7 x4)) (ldB arg4 harg4 x1 g) st g

def rdB (g : Fin 4) : Vec Ideal S512x128 .f32 := View.readAt (Elt Ideal) arg10.view (rowsOf g).toLoadRect (harg10.unread xs0)

/-- The store of the first state at the first chunk. -/
def initL : List (View.Piece (Elt Ideal) S2048x128 .f32) :=
  [⟨Rect.unit ![0, 0] S2048x128.size Facts₀.inb_S2048x128_S2048x128_0_0, k0_pay3 (View.readAt (Elt Ideal) arg8.view (Rect.unit ![0, 0, 0, 0, 0] S1x1x32x64x128.size Facts₀.inb_S1x1x32x64x128_S1x1x32x64x128_0_0_0_0_0).toLoadRect (harg8.unread x5))⟩]

/-- A reading of the whole state. -/
def rdW (v : View sig .tc .vmem S2048x128 .f32) (l : List (View.Piece (Elt Ideal) S2048x128 .f32)) : Vec Ideal S2048x128 .f32 :=
  v.readCov (Val := Elt Ideal) l (Rect.unit (s := S2048x128) ![0, 0] S2048x128.size Facts₀.inb_S2048x128_S2048x128_0_0).toLoadRect

theorem rdW_apply (v : View sig .tc .vmem S2048x128 .f32) (l) (col : Fin 2048) (n : Fin 128) :
    rdW v l (ix2 col n) = View.canon l (ix2 col n) := by
  unfold rdW
  rw [View.readCov_eq_canon']
  refine congrArg (View.canon l) ?_
  funext a; apply Fin.ext; fin_cases a <;> exact (Nat.zero_add _).trans (Nat.one_mul _)

theorem run_B_state (c : Dev nD) (hc0 : ¬cond0_0 i) :
    (kernelRun0_B (F := Ideal) c i arg3 harg3 arg4 harg4 arg5 harg5 arg6 harg6 arg7 harg7 arg8 harg8 arg9 harg9 arg10 harg10 hc0 x0 x1 x2 x3 x4 x5 xs0).2.1
      = rows (fun _ g => rdB arg10 harg10 xs0 g) (fS i arg3 harg3 arg4 harg4 arg6 harg6 arg7 harg7 x0 x1 x3 x4) [] 4 := rfl
theorem run_B_fin (c : Dev nD) (hc0 : ¬cond0_0 i) :
    (kernelRun0_B (F := Ideal) c i arg3 harg3 arg4 harg4 arg5 harg5 arg6 harg6 arg7 harg7 arg8 harg8 arg9 harg9 arg10 harg10 hc0 x0 x1 x2 x3 x4 x5 xs0).1
      = [⟨Rect.unit ![0, 0, 0, 0, 0] S1x1x32x64x128.size Facts₀.inb_S1x1x32x64x128_S1x1x32x64x128_0_0_0_0_0,
          k0_pay2 (rdW arg10.view (rows (fun _ g => rdB arg10 harg10 xs0 g) (fS i arg3 harg3 arg4 harg4 arg6 harg6 arg7 harg7 x0 x1 x3 x4) [] 4))⟩] := rfl

theorem run_A_state (c : Dev nD) (hc0 : cond0_0 i) :
    (kernelRun0_A (F := Ideal) c i arg3 harg3 arg4 harg4 arg5 harg5 arg6 harg6 arg7 harg7 arg8 harg8 arg9 harg9 arg10 harg10 hc0 x0 x1 x2 x3 x4 x5).2.1
      = rows (rdA arg10.view) (fS i arg3 harg3 arg4 harg4 arg6 harg6 arg7 harg7 x0 x1 x3 x4) (initL arg8 harg8 x5) 4 := rfl
theorem run_A_fin (c : Dev nD) (hc0 : cond0_0 i) :
    (kernelRun0_A (F := Ideal) c i arg3 harg3 arg4 harg4 arg5 harg5 arg6 harg6 arg7 harg7 arg8 harg8 arg9 harg9 arg10 harg10 hc0 x0 x1 x2 x3 x4 x5).1
      = [⟨Rect.unit ![0, 0, 0, 0, 0] S1x1x32x64x128.size Facts₀.inb_S1x1x32x64x128_S1x1x32x64x128_0_0_0_0_0,
          k0_pay2 (rdW arg10.view (rows (rdA arg10.view) (fS i arg3 harg3 arg4 harg4 arg6 harg6 arg7 harg7 x0 x1 x3 x4) (initL arg8 harg8 x5) 4))⟩] := rfl

/-- The point's blocks as a chunk. -/
def chunkOf : Chunk where
  x l c := x0 (ix3 0 l c)
  b l c := x1 (ix3 0 l c)
  c _ _ := 0
  dt l h := x3 (ix4 0 0 l h)
  an h := x4 (ix3 0 0 h)

theorem ld3_eq : ld3 arg3 harg3 x0 = x0 := by
  funext j
  refine (harg3.readAt_unread x0 (Rect.unit ![0, 0, 0] S1x128x2048.size Facts₀.inb_S1x128x2048_S1x128x2048_0_0_0).toLoadRect j).trans (congrArg x0 ?_)
  funext a; apply Fin.ext; fin_cases a <;> exact (Nat.zero_add _).trans (Nat.one_mul _)
theorem ld6_eq : ld6 arg6 harg6 x3 = x3 := by
  funext j
  refine (harg6.readAt_unread x3 (Rect.unit ![0, 0, 0, 0] S1x1x128x32.size Facts₀.inb_S1x1x128x32_S1x1x128x32_0_0_0_0).toLoadRect j).trans (congrArg x3 ?_)
  funext a; apply Fin.ext; fin_cases a <;> exact (Nat.zero_add _).trans (Nat.one_mul _)
theorem ld7_eq : ld7 arg7 harg7 x4 = x4 := by
  funext j
  refine (harg7.readAt_unread x4 (Rect.unit ![0, 0, 0] S1x1x32.size Facts₀.inb_S1x1x32_S1x1x32_0_0_0).toLoadRect j).trans (congrArg x4 ?_)
  funext a; apply Fin.ext; fin_cases a <;> exact (Nat.zero_add _).trans (Nat.one_mul _)
theorem ldB_apply (g : Fin 4) (l n : Fin 128) : ldB arg4 harg4 x1 g (ix3 0 l n) = x1 (ix3 0 l (gcol g n)) :=
  (harg4.readAt_unread x1 _ _).trans (congrArg x1 (bcOf_idx g l n))
theorem rdB_apply (g : Fin 4) (r : Fin 512) (n : Fin 128) : rdB arg10 harg10 xs0 g (ix2 r n) = xs0 (ix2 (cat g r) n) :=
  (harg10.readAt_unread xs0 _ _).trans (congrArg xs0 (rowsOf_idx g r n))

theorem initL_apply (col : Fin 2048) (n : Fin 128) :
    View.canon (initL arg8 harg8 x5) (ix2 col n) = x5 (ix5 0 0 (hd col) ⟨col.val % 64, Nat.mod_lt _ (by decide)⟩ n) := by
  refine (congrFun (View.canon_cons_unit_lit (Val := Elt Ideal) (e := .f32) Facts₀.inb_S2048x128_S2048x128_0_0 _ [] (by intro a; fin_cases a <;> rfl)) (ix2 col n)).trans ?_
  have e : (View.readAt (Elt Ideal) arg8.view (Rect.unit ![0, 0, 0, 0, 0] S1x1x32x64x128.size Facts₀.inb_S1x1x32x64x128_S1x1x32x64x128_0_0_0_0_0).toLoadRect (harg8.unread x5)) = x5 := by
    funext j
    refine (harg8.readAt_unread x5 (Rect.unit ![0, 0, 0, 0, 0] S1x1x32x64x128.size Facts₀.inb_S1x1x32x64x128_S1x1x32x64x128_0_0_0_0_0).toLoadRect j).trans (congrArg x5 ?_)
    funext a; apply Fin.ext; fin_cases a <;> exact (Nat.zero_add _).trans (Nat.one_mul _)
  rw [e]
  pointwise [k0_pay3]
  rfl

section
variable (h3 : ∀ s h, Fi (x3 (ix4 0 0 s h))) (h4 : ∀ h, Fi (x4 (ix3 0 0 h)))
include h3 h4

theorem fS_apply (S : Fin 2048 → Fin 128 → EReal) (col : Fin 2048) (n : Fin 128) (st : Vec Ideal S512x128 .f32)
    (hst : ∀ r n, st (ix2 r n) = S (cat (gp col) r) n) :
    fS i arg3 harg3 arg4 harg4 arg6 harg6 arg7 harg7 x0 x1 x3 x4 (gp col) st (ix2 (rin col) n)
      = (chunkOf x0 x1 x3 x4).state (i 1).val S col n := by
  rw [fS, xw_same, keep_same, groupS_apply _ _ _ _ (gp col) (rin col) n col (congrArg Fin.val (cat_gp col)).symm, hst, cat_gp, ld6_eq, ld7_eq, ld3_eq,
    keep_apply (long i) h3 h4]
  simp only [xw_apply (long i) x0 h3 h4, ldB_apply]
  rfl

theorem sout_B (c : Dev nD) (hc0 : ¬cond0_0 i) (col : Fin 2048) (n : Fin 128) :
    sout0_B_0 (F := Ideal) c i arg3 harg3 arg4 harg4 arg5 harg5 arg6 harg6 arg7 harg7 arg8 harg8 arg9 harg9 arg10 harg10 hc0 x0 x1 x2 x3 x4 x5 xs0 (ix2 col n)
      = (chunkOf x0 x1 x3 x4).state (i 1).val (fun col n => xs0 (ix2 col n)) col n := by
  refine (congrFun (View.read_writes_junk_eq_canon VS0_0 _) (ix2 col n)).trans ?_
  rw [run_B_state, canon_rows_all]
  exact fS_apply i arg3 harg3 arg4 harg4 arg6 harg6 arg7 harg7 x0 x1 x3 x4 h3 h4 (fun col n => xs0 (ix2 col n)) col n _ (fun r n => rdB_apply arg10 harg10 xs0 _ r n)

theorem fout_B (c : Dev nD) (hc0 : ¬cond0_0 i) (h : Fin 32) (p : Fin 64) (n : Fin 128) :
    out0_B_6 (F := Ideal) c i arg3 harg3 arg4 harg4 arg5 harg5 arg6 harg6 arg7 harg7 arg8 harg8 arg9 harg9 arg10 harg10 hc0 x0 x1 x2 x3 x4 x5 xs0 (ix5 0 0 h p n)
      = (chunkOf x0 x1 x3 x4).state (i 1).val (fun col n => xs0 (ix2 col n)) (hcol h p) n := by
  refine (congrFun (View.read_writes_junk_eq_canon VO0_6 _) (ix5 0 0 h p n)).trans ?_
  rw [run_B_fin]
  refine (congrFun (View.canon_cons_unit_lit (Val := Elt Ideal) (e := .f32) Facts₀.inb_S1x1x32x64x128_S1x1x32x64x128_0_0_0_0_0 _ [] (by intro a; fin_cases a <;> rfl)) (ix5 0 0 h p n)).trans ?_
  refine (fin_apply _ h p n).trans ?_
  refine (rdW_apply arg10.view _ (hcol h p) n).trans ((canon_rows_all _ _ _ (hcol h p) n).trans
    (fS_apply i arg3 harg3 arg4 harg4 arg6 harg6 arg7 harg7 x0 x1 x3 x4 h3 h4 (fun col n => xs0 (ix2 col n)) (hcol h p) n _ (fun r n => rdB_apply arg10 harg10 xs0 _ r n)))

theorem sout_A (c : Dev nD) (hc0 : cond0_0 i) (col : Fin 2048) (n : Fin 128) :
    sout0_A_0 (F := Ideal) c i arg3 harg3 arg4 harg4 arg5 harg5 arg6 harg6 arg7 harg7 arg8 harg8 arg9 harg9 arg10 harg10 hc0 x0 x1 x2 x3 x4 x5 (ix2 col n)
      = (chunkOf x0 x1 x3 x4).state (i 1).val (fun col n => x5 (ix5 0 0 (hd col) ⟨col.val % 64, Nat.mod_lt _ (by decide)⟩ n)) col n := by
  refine (congrFun (View.read_writes_junk_eq_canon VS0_0 _) (ix2 col n)).trans ?_
  rw [run_A_state, canon_rows_all]
  exact fS_apply i arg3 harg3 arg4 harg4 arg6 harg6 arg7 harg7 x0 x1 x3 x4 h3 h4 (fun col n => x5 (ix5 0 0 (hd col) ⟨col.val % 64, Nat.mod_lt _ (by decide)⟩ n)) col n _ (fun r n => (read_rows arg10.view _ _ _ r n).trans (initL_apply arg8 harg8 x5 _ n))

theorem fout_A (c : Dev nD) (hc0 : cond0_0 i) (h : Fin 32) (p : Fin 64) (n : Fin 128) :
    out0_A_6 (F := Ideal) c i arg3 harg3 arg4 harg4 arg5 harg5 arg6 harg6 arg7 harg7 arg8 harg8 arg9 harg9 arg10 harg10 hc0 x0 x1 x2 x3 x4 x5 (ix5 0 0 h p n)
      = (chunkOf x0 x1 x3 x4).state (i 1).val (fun col n => x5 (ix5 0 0 (hd col) ⟨col.val % 64, Nat.mod_lt _ (by decide)⟩ n)) (hcol h p) n := by
  refine (congrFun (View.read_writes_junk_eq_canon VO0_6 _) (ix5 0 0 h p n)).trans ?_
  rw [run_A_fin]
  refine (congrFun (View.canon_cons_unit_lit (Val := Elt Ideal) (e := .f32) Facts₀.inb_S1x1x32x64x128_S1x1x32x64x128_0_0_0_0_0 _ [] (by intro a; fin_cases a <;> rfl)) (ix5 0 0 h p n)).trans ?_
  refine (fin_apply _ h p n).trans ?_
  refine (rdW_apply arg10.view _ (hcol h p) n).trans ((canon_rows_all _ _ _ (hcol h p) n).trans
    (fS_apply i arg3 harg3 arg4 harg4 arg6 harg6 arg7 harg7 x0 x1 x3 x4 h3 h4 (fun col n => x5 (ix5 0 0 (hd col) ⟨col.val % 64, Nat.mod_lt _ (by decide)⟩ n)) (hcol h p) n _ (fun r n => (read_rows arg10.view _ _ _ r n).trans (initL_apply arg8 harg8 x5 _ n))))
end
end
end Cert.KernelStatesIdeal.Body
end
-- ==== Proof.Ssd.Ctx.Run.lean ====
module

public import proofs.«01_k».proof.Proof.Gen.KernelStatesIdeal.Value
public import proofs.«01_k».proof.Proof.Ssd.Ctx.Body
public import Idealize.ShloMosaic.Lib.Pipeline.Covers

/-! The grid of the context's scan as the recurrence over the chunks, and the array after the run. -/

@[expose] public section
set_option maxRecDepth 16384
noncomputable section
namespace Cert.KernelStatesIdeal.Scan
open Idealize.ShloMosaic Idealize.ShloMosaic.TcCoe Cert.KernelStatesIdeal Cert.KernelStatesIdeal.Gen Cert.KernelStatesIdeal.Body Ssd

variable (m : (ℓ : Loc nD τ sig) → Buf (Elt Ideal) ℓ)

/-- The chunk a point reads. -/
def chk (t : ℕ) : ℕ := if t / 2 % 2 = 0 then t % 2 else 1 - t % 2

theorem cd1 : ∀ t : Fin cfg0.N, (grid0.coords t 1).val = t.val / 2 % 2 := (by decide +kernel : ∀ t : Fin grid0.N, _)
theorem e0 : ∀ t : Fin cfg0.N, win0_0.index t = ![t.val / 4, chk t.val, 0] := (by decide +kernel : ∀ t : Fin grid0.N, _)
theorem e1 : ∀ t : Fin cfg0.N, win0_1.index t = ![t.val / 4, chk t.val, 4] := (by decide +kernel : ∀ t : Fin grid0.N, _)
theorem e3 : ∀ t : Fin cfg0.N, win0_3.index t = ![t.val / 4, t.val / 2 % 2, chk t.val, 0] := (by decide +kernel : ∀ t : Fin grid0.N, _)
theorem e4 : ∀ t : Fin cfg0.N, win0_4.index t = ![t.val / 2 % 2, 0, 0] := (by decide +kernel : ∀ t : Fin grid0.N, _)
theorem e5 : ∀ t : Fin cfg0.N, win0_5.index t = ![t.val / 4, t.val / 2 % 2, 0, 0, 0] := (by decide +kernel : ∀ t : Fin grid0.N, _)
theorem e6 : ∀ t : Fin cfg0.N, win0_6.index t = ![t.val / 4, t.val / 2 % 2, 0, 0, 0] := (by decide +kernel : ∀ t : Fin grid0.N, _)

/-- The arguments, by coordinates. -/
def inp (c : Dev nD) : CtxInputs where
  xbc b t k := m ((c : Thread nD τ).loc main_arg0) (ix3 b t k)
  dt b t d h := m ((c : Thread nD τ).loc main_arg1) (ix4 b t d h)
  an d h := m ((c : Thread nD τ).loc main_arg2) (ix2 d h)
  init b d h p n := m ((c : Thread nD τ).loc main_arg3) (ix5 b d h p n)

/-- The batch and the direction of a point. -/
def pb (t : Fin cfg0.N) : Fin 8 := ⟨t.val / 4, by have := lt_of_lt_of_eq t.isLt N_0; omega⟩
def pd (t : Fin cfg0.N) : Fin 2 := ⟨t.val / 2 % 2, by omega⟩

theorem row_val (t : Fin cfg0.N) (l : Fin 128) : (ctxRow (pd t) (t.val % 2) l).val = 128 * chk t.val + l.val := by
  simp only [ctxRow, pd, chk, Nat.mod_mod]

theorem V_v0 (c : Dev nD) (b : Fin 8) (d : Fin 2) (t : Fin 256) (h : Fin 32) :
    V m c main_v0 (ix4 b d t h) = m ((c : Thread nD τ).loc main_arg1) (ix4 b t d h) := by
  have e : V m c main_v0 = transpose S8x2x256x32 [0, 2, 1, 3] (m ((c : Thread nD τ).loc main_arg1)) transposes_S8x256x2x32_S8x2x256x32_0_2_1_3 := by
    unfold V hostOps0
    after_results
  rw [e]
  pointwise
theorem V_v1 (c : Dev nD) (d : Fin 2) (h : Fin 32) :
    V m c main_v1 (ix3 d 0 h) = m ((c : Thread nD τ).loc main_arg2) (ix2 d h) := by
  have e : V m c main_v1 = shapeCast S2x1x32 (m ((c : Thread nD τ).loc main_arg2)) shapeCasts_S2x32_S2x1x32 := by
    unfold V hostOps0
    after_results
    rfl
  rw [e]
  pointwise

theorem b0 (c : Dev nD) (t : Fin cfg0.N) (l : Fin 128) (col : Fin 2048) :
    X0_0 m c t (ix3 0 l col) = (inp m c).xbc (pb t) (ctxRow (pd t) (t.val % 2) l) (xcol col) := by
  unfold X0_0 Pipeline.Window.fill
  rw [dif_pos (moved0_0 t _)]
  unfold iblk
  blk_simp
  show V m c main_arg0 _ = _
  rw [V_main_arg0]
  refine congrArg (m ((c : Thread nD τ).loc main_arg0)) ?_
  have := row_val t l
  blk_ext [e0, pb, xcol]
theorem b1 (c : Dev nD) (t : Fin cfg0.N) (l : Fin 128) (k : Fin 512) :
    iblk m c 1 t (ix3 0 l k) = (inp m c).xbc (pb t) (ctxRow (pd t) (t.val % 2) l) (bcol k) := by
  unfold iblk
  blk_simp
  rw [V_main_arg0]
  refine congrArg (m ((c : Thread nD τ).loc main_arg0)) ?_
  have := row_val t l
  blk_ext [e1, pb, bcol]
theorem b3 (c : Dev nD) (t : Fin cfg0.N) (l : Fin 128) (h : Fin 32) :
    iblk m c 3 t (ix4 0 0 l h) = (inp m c).dt (pb t) (ctxRow (pd t) (t.val % 2) l) (pd t) h := by
  unfold iblk
  blk_simp
  refine Eq.trans (congrArg (V m c main_v0) ?_) (V_v0 m c (pb t) (pd t) (ctxRow (pd t) (t.val % 2) l) h)
  have := row_val t l
  have hd : (pd t).val = t.val / 2 % 2 := rfl
  blk_ext [e3, pb, hd]
theorem b4 (c : Dev nD) (t : Fin cfg0.N) (h : Fin 32) :
    iblk m c 4 t (ix3 0 0 h) = (inp m c).an (pd t) h := by
  unfold iblk
  blk_simp
  refine Eq.trans (congrArg (V m c main_v1) ?_) (V_v1 m c (pd t) h)
  blk_ext [e4, pd]
theorem b5 (c : Dev nD) (t : Fin cfg0.N) (h : Fin 32) (p : Fin 64) (n : Fin 128) :
    iblk m c 5 t (ix5 0 0 h p n) = (inp m c).init (pb t) (pd t) h p n := by
  unfold iblk
  blk_simp
  rw [V_main_arg3]
  refine congrArg (m ((c : Thread nD τ).loc main_arg3)) ?_
  blk_ext [e5, pb, pd]

/-- The chunk of a point. -/
theorem chunk_eq (c : Dev nD) (t : Fin cfg0.N) :
    chunkOf (X0_0 m c t) (iblk m c 1 t) (iblk m c 3 t) (iblk m c 4 t) = (inp m c).chunk (pb t) (pd t) (t.val % 2) := by
  unfold chunkOf CtxInputs.chunk
  congr 1
  · funext l col; exact b0 m c t l col
  · funext l col; exact b1 m c t l col
  · funext l col; exact b3 m c t l col
  · funext h; exact b4 m c t h

section
variable (c : Dev nD) (hf : (inp m c).Finite)
include hf

theorem f3 (t : Fin cfg0.N) (s : Fin 128) (h : Fin 32) : Fi (iblk m c 3 t (ix4 0 0 s h)) := by rw [b3]; exact hf.dt _ _ _ _
theorem f4 (t : Fin cfg0.N) (h : Fin 32) : Fi (iblk m c 4 t (ix3 0 0 h)) := by rw [b4]; exact hf.an _ _

/-- The state a point starts from: the argument's at a first chunk, else what the point before left. -/
def before (t : Fin cfg0.N) : Fin 2048 → Fin 128 → EReal := (inp m c).state (pb t) (pd t) (t.val % 2)

/-- What a point leaves, given the state it starts from. -/
def Leaves (t : Fin cfg0.N) : Prop :=
  (∀ col n, (outsAt0 m c t.val t.isLt).2 (ix2 col n) = (inp m c).state (pb t) (pd t) (t.val % 2 + 1) col n)
  ∧ (∀ h p n, (outsAt0 m c t.val t.isLt).1 (ix5 0 0 h p n) = (inp m c).state (pb t) (pd t) (t.val % 2 + 1) (hcol h p) n)

theorem leaves_first (t : Fin cfg0.N) (h0 : t.val % 2 = 0) : Leaves m c t := by
  have e : (fun (col : Fin 2048) (n : Fin 128) => iblk m c 5 t (ix5 0 0 (hd col) ⟨col.val % 64, Nat.mod_lt _ (by decide)⟩ n))
      = (inp m c).state (pb t) (pd t) (t.val % 2) := by
    rw [h0]; funext col n; exact b5 m c t _ _ _
  unfold Leaves
  simp only [outsAt0_A m c t h0]
  refine ⟨fun col n => ?_, fun h p n => ?_⟩
  · refine (sout_A (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (X0_0 m c t) (iblk m c 1 t) (iblk m c 2 t) (iblk m c 3 t) (iblk m c 4 t) (iblk m c 5 t) (f3 m c hf t) (f4 m c hf t) c ((hcond0_0 t).mpr h0) col n).trans ?_
    rw [chunk_eq, e, cd1]; rfl
  · refine (fout_A (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (X0_0 m c t) (iblk m c 1 t) (iblk m c 2 t) (iblk m c 3 t) (iblk m c 4 t) (iblk m c 5 t) (f3 m c hf t) (f4 m c hf t) c ((hcond0_0 t).mpr h0) h p n).trans ?_
    rw [chunk_eq, e, cd1]; rfl

theorem leaves_next (t : Fin cfg0.N) (h0 : ¬t.val % 2 = 0)
    (ih : ∀ col n, (outsAt0 m c (t.val - 1) (Nat.lt_of_le_of_lt (Nat.sub_le _ _) t.isLt)).2 (ix2 col n) = (inp m c).state (pb t) (pd t) (t.val % 2) col n) :
    Leaves m c t := by
  have e := funext fun col => funext fun n => ih col n
  unfold Leaves
  simp only [outsAt0_B m c t h0]
  refine ⟨fun col n => ?_, fun h p n => ?_⟩
  · refine (sout_B (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (X0_0 m c t) (iblk m c 1 t) (iblk m c 2 t) (iblk m c 3 t) (iblk m c 4 t) (iblk m c 5 t) (outsAt0 m c (t.val - 1) (Nat.lt_of_le_of_lt (Nat.sub_le _ _) t.isLt)).2 (f3 m c hf t) (f4 m c hf t) c (fun h => h0 ((hcond0_0 t).mp h)) col n).trans ?_
    rw [chunk_eq, e, cd1]; rfl
  · refine (fout_B (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (X0_0 m c t) (iblk m c 1 t) (iblk m c 2 t) (iblk m c 3 t) (iblk m c 4 t) (iblk m c 5 t) (outsAt0 m c (t.val - 1) (Nat.lt_of_le_of_lt (Nat.sub_le _ _) t.isLt)).2 (f3 m c hf t) (f4 m c hf t) c (fun h => h0 ((hcond0_0 t).mp h)) h p n).trans ?_
    rw [chunk_eq, e, cd1]; rfl

theorem leaves : ∀ (k : ℕ) (hk : k < cfg0.N), Leaves m c ⟨k, hk⟩
  | 0, hk => leaves_first m c hf ⟨0, hk⟩ rfl
  | k + 1, hk => by
    by_cases h0 : (k + 1) % 2 = 0
    · exact leaves_first m c hf ⟨k + 1, hk⟩ h0
    · refine leaves_next m c hf ⟨k + 1, hk⟩ h0 fun col n => ?_
      refine ((leaves k (Nat.lt_of_succ_lt hk)).1 col n).trans ?_
      have hb : pb ⟨k, Nat.lt_of_succ_lt hk⟩ = pb ⟨k + 1, hk⟩ := Fin.ext (show k / 4 = (k + 1) / 4 by omega)
      have hd : pd ⟨k, Nat.lt_of_succ_lt hk⟩ = pd ⟨k + 1, hk⟩ := Fin.ext (show k / 2 % 2 = (k + 1) / 2 % 2 by omega)
      have hc : k % 2 + 1 = (k + 1) % 2 := by omega
      rw [hb, hd]
      show (inp m c).state _ _ (k % 2 + 1) col n = (inp m c).state _ _ ((k + 1) % 2) col n
      rw [hc]

/-- The result after the run. -/
theorem fin_eq : (dats m 0 c).arrAt 6 cfg0.N = fun i => (inp m c).fin (i 0) (i 1) (i 2) (i 3) (i 4) := by
  refine (dats m 0 c).arrAt_eq_of_covers 6 _ (by decide +kernel) fun t hfl y => ?_
  have ht : t.val % 2 = 1 := (flush0_6 t).mp hfl
  blk_simp
  rw [after0_6]
  idx_bounds y
  obtain ⟨_, hy⟩ := leaves m c hf t.val t.isLt
  have ey : y = ix5 0 0 (y 2) (y 3) (y 4) := by
    blk_ext
  refine (congrArg _ ey).trans ((hy (y 2) (y 3) (y 4)).trans ?_)
  rw [show t.val % 2 + 1 = 2 by omega]
  have h0 : pb t = ((cfg0.win 6).blk t).view.emb y 0 := Fin.ext (by blk_simp [e6, pb])
  have h1 : pd t = ((cfg0.win 6).blk t).view.emb y 1 := Fin.ext (by blk_simp [e6, pd])
  have h2 : y 2 = ((cfg0.win 6).blk t).view.emb y 2 := Fin.ext (by blk_simp [e6])
  have h3 : y 3 = ((cfg0.win 6).blk t).view.emb y 3 := Fin.ext (by blk_simp [e6])
  have h4 : y 4 = ((cfg0.win 6).blk t).view.emb y 4 := Fin.ext (by blk_simp [e6])
  exact congr (congr (congr (congr (congrArg (inp m c).fin h0) h1) h2) h3) h4
end
end Cert.KernelStatesIdeal.Scan
end
-- ==== Proof.Ssd.Ctx.RefDefs.lean ====
module

public import proofs.«01_k».proof.Proof.Gen.ReferenceStatesIdeal.Run
public import proofs.«01_k».proof.Proof.Ssd.Ctx.Spec
public import proofs.«01_k».proof.Proof.Ssd.RefChunk
public import Idealize.ShloMosaic.Lib.Pointwise

/-! The arrays which the context's reference prepares for its loop, each as one term. -/

@[expose] public section
set_option maxRecDepth 16384
noncomputable section
namespace Cert.ReferenceStatesIdeal.Scan
open Idealize.ShloMosaic Idealize.ShloMosaic.TcCoe Idealize.ShloMosaic.StableHlo Cert.ReferenceStatesIdeal Cert.ReferenceStatesIdeal.Gen Cert.ReferenceStatesIdeal.Value Ssd
open Cert.ReferenceIdeal.Scan (foldl_plus Win win win_bijective window_sum turn head turn_turn sum_turn cum_turn hd_hcol gp_hcol)

section
variable (a0 : Vec Ideal S8x256x3072 .f32) (a1 : Vec Ideal S8x256x2x32 .f32) (a2 : Vec Ideal S2x32 .f32) (a3 : Vec Ideal S8x2x32x64x128 .f32)

/-- x and B of one direction, then of both, the second read from the end. -/
def xs1 : Vec Ideal S8x256x32x64 .f32 := shapeCast _ (extractStridedSlice S8x256x2048 ![0, 0, 0] a0 slices_S8x256x3072_S8x256x2048_0_0_0) shapeCasts_S8x256x2048_S8x256x32x64
def xs : Vec Ideal S2x8x256x32x64 .f32 := concatenate S2x8x256x32x64 0
  [⟨S1x8x256x32x64, broadcastInDim S1x8x256x32x64 ![1, 2, 3, 4] bcast_S8x256x32x64_S1x8x256x32x64_1_2_3_4 (xs1 a0)⟩,
   ⟨S1x8x256x32x64, broadcastInDim S1x8x256x32x64 ![1, 2, 3, 4] bcast_S8x256x32x64_S1x8x256x32x64_1_2_3_4 (Host.reverse [1] (xs1 a0))⟩]
  concatenates_S1x8x256x32x64_S1x8x256x32x64_S2x8x256x32x64_d0
def two (v : Vec Ideal S8x256x4x128 .f32) : Vec Ideal S2x8x2x128x4x128 .f32 := shapeCast _ (concatenate S2x8x256x4x128 0
  [⟨S1x8x256x4x128, broadcastInDim S1x8x256x4x128 ![1, 2, 3, 4] bcast_S8x256x4x128_S1x8x256x4x128_1_2_3_4 v⟩,
   ⟨S1x8x256x4x128, broadcastInDim S1x8x256x4x128 ![1, 2, 3, 4] bcast_S8x256x4x128_S1x8x256x4x128_1_2_3_4 (Host.reverse [1] v)⟩]
  concatenates_S1x8x256x4x128_S1x8x256x4x128_S2x8x256x4x128_d0) shapeCasts_S2x8x256x4x128_S2x8x2x128x4x128
def bs : Vec Ideal S2x8x2x128x4x128 .f32 :=
  two (shapeCast _ (extractStridedSlice S8x256x512 ![0, 0, 2048] a0 slices_S8x256x3072_S8x256x512_0_0_2048) shapeCasts_S8x256x512_S8x256x4x128)

/-- The step sizes of both directions. -/
def dts : Vec Ideal S2x8x256x32 .f32 := concatenate S2x8x256x32 0
  [⟨S1x8x256x32, broadcastInDim S1x8x256x32 ![1, 2, 3] bcast_S8x256x32_S1x8x256x32_1_2_3
      (shapeCast S8x256x32 (extractStridedSlice S8x256x1x32 ![0, 0, 0, 0] a1 slices_S8x256x2x32_S8x256x1x32_0_0_0_0) shapeCasts_S8x256x1x32_S8x256x32)⟩,
   ⟨S1x8x256x32, broadcastInDim S1x8x256x32 ![1, 2, 3] bcast_S8x256x32_S1x8x256x32_1_2_3
      (Host.reverse [1] (shapeCast S8x256x32 (extractStridedSlice S8x256x1x32 ![0, 0, 1, 0] a1 slices_S8x256x2x32_S8x256x1x32_0_0_1_0) shapeCasts_S8x256x1x32_S8x256x32))⟩]
  concatenates_S1x8x256x32_S1x8x256x32_S2x8x256x32_d0

def xd : Vec Ideal S2x8x2x128x4x8x64 .f32 := shapeCast _ (mulf (F := Ideal) (φ := .f32) (xs a0) (broadcastInDim S2x8x256x32x64 ![0, 1, 2, 3, 4] bcast_S2x8x256x32x1_S2x8x256x32x64_0_1_2_3_4
  (broadcastInDim S2x8x256x32x1 ![0, 1, 2, 3] bcast_S2x8x256x32_S2x8x256x32x1_0_1_2_3 (dts a1)))) shapeCasts_S2x8x256x32x64_S2x8x2x128x4x8x64
def ex : Vec Ideal S2x8x2x128x4x8 .f32 := shapeCast _ (mulf (F := Ideal) (φ := .f32) (dts a1) (broadcastInDim S2x8x256x32 ![0, 1, 2, 3] bcast_S2x1x1x32_S2x8x256x32_0_1_2_3
  (broadcastInDim S2x1x1x32 ![0, 3] bcast_S2x32_S2x1x1x32_0_3 a2))) shapeCasts_S2x8x256x32_S2x8x2x128x4x8
def cu : Vec Ideal S2x8x2x128x4x8 .f32 := Host.reduceWindowAdd (F := Ideal) (φ := .f32) ![1, 1, 1, 128, 1, 1] ![1, 1, 1, 1, 1, 1] ![0, 0, 0, 127, 0, 0] ![0, 0, 0, 0, 0, 0] (ex a1 a2)
  (broadcastInDim S_ ![] bcast_S_S_ (constant (F := Ideal) S_ .f32 0x00000000#32)) reduceWindows_S2x8x2x128x4x8_S2x8x2x128x4x8_w1s1p0_0_w1s1p0_0_w1s1p0_0_w128s1p127_0_w1s1p0_0_w1s1p0_0 h_S_

end

section
variable (x : Vec Ideal S2x8x2x128x4x8x64 .f32) (b : Vec Ideal S2x8x2x128x4x128 .f32) (u : Vec Ideal S2x8x2x128x4x8 .f32)

/-- The cumulative sum at the end of each chunk. -/
def la : Vec Ideal S2x8x2x1x4x8 .f32 := extractStridedSlice S2x8x2x1x4x8 ![0, 0, 0, 127, 0, 0] u slices_S2x8x2x128x4x8_S2x8x2x1x4x8_0_0_0_127_0_0
/-- What each chunk adds to the state, and how the state decays over it. -/
def add : Vec Ideal S2x8x2x4x8x64x128 .f32 := Host.dotGeneral (F := Ideal) (φ₁ := .f32) (φ₂ := .f32) dot_S2x8x2x128x4x8x64_S2x8x2x128x4x128_S2x8x2x4x8x64x128_3_3_56_5_0124_0124 none
  (mulf (F := Ideal) (φ := .f32) x (broadcastInDim S2x8x2x128x4x8x64 ![0, 1, 2, 3, 4, 5, 6] bcast_S2x8x2x128x4x8x1_S2x8x2x128x4x8x64_0_1_2_3_4_5_6
    (broadcastInDim S2x8x2x128x4x8x1 ![0, 1, 2, 3, 4, 5] bcast_S2x8x2x128x4x8_S2x8x2x128x4x8x1_0_1_2_3_4_5
      (Host.exp (F := Ideal) (φ := .f32) (subf (F := Ideal) (φ := .f32) (broadcastInDim S2x8x2x128x4x8 ![0, 1, 2, 3, 4, 5] bcast_S2x8x2x1x4x8_S2x8x2x128x4x8_0_1_2_3_4_5 (la u)) u)))))
  b
def dec : Vec Ideal S2x8x2x4x8 .f32 := Host.exp (F := Ideal) (φ := .f32) (shapeCast _ (la u) shapeCasts_S2x8x2x1x4x8_S2x8x2x4x8)
end

end Cert.ReferenceStatesIdeal.Scan
end
-- ==== Proof.Ssd.Ctx.RefValues.lean ====
module

public import proofs.«01_k».proof.Proof.Ssd.Ctx.RefDefs

/-! The prepared arrays, entry by entry, and in the terms of a chunk. -/

@[expose] public section
set_option maxRecDepth 16384
noncomputable section
namespace Cert.ReferenceStatesIdeal.Scan
open Idealize.ShloMosaic Idealize.ShloMosaic.TcCoe Idealize.ShloMosaic.StableHlo Cert.ReferenceStatesIdeal Cert.ReferenceStatesIdeal.Gen Cert.ReferenceStatesIdeal.Value Ssd
open Cert.ReferenceIdeal.Scan (foldl_plus Win win win_bijective window_sum turn head turn_turn sum_turn cum_turn hd_hcol gp_hcol)

/-- What the window of one entry reads at a place: an entry of the array, or the initial value before its first row. -/
def place (x : Vec Ideal S2x8x2x128x4x8 .f32) (v : S_.Idx → EReal) (d : Fin 2) (b : Fin 8) (c : Fin 2) (l : Fin 128) (g : Fin 4) (r : Fin 8) (w : Win.Idx) : EReal :=
  if hin : ∀ a : Fin 6, (![0, 0, 0, 127, 0, 0] : Fin 6 → ℕ) a ≤ ((ix6 d b c l g r : S2x8x2x128x4x8.Idx) a).val * (![1, 1, 1, 1, 1, 1] : Fin 6 → ℕ) a + (w a).val
      ∧ ((ix6 d b c l g r : S2x8x2x128x4x8.Idx) a).val * (![1, 1, 1, 1, 1, 1] : Fin 6 → ℕ) a + (w a).val - (![0, 0, 0, 127, 0, 0] : Fin 6 → ℕ) a < S2x8x2x128x4x8.size a then
    x (fun a => ⟨((ix6 d b c l g r : S2x8x2x128x4x8.Idx) a).val * (![1, 1, 1, 1, 1, 1] : Fin 6 → ℕ) a + (w a).val - (![0, 0, 0, 127, 0, 0] : Fin 6 → ℕ) a, (hin a).2⟩)
  else v (Shape.Idx.first h_S_)

theorem place_win (x : Vec Ideal S2x8x2x128x4x8 .f32) (v : S_.Idx → EReal) (hv : v (Shape.Idx.first h_S_) = 0) (d b c l g r) (k : Fin 128) :
    place x v d b c l g r (win k) = if h : 127 ≤ l.val + k.val then x (ix6 d b c ⟨l.val + k.val - 127, by omega⟩ g r) else 0 := by
  unfold place
  by_cases h : 127 ≤ l.val + k.val
  · have hin : ∀ a : Fin 6, (![0, 0, 0, 127, 0, 0] : Fin 6 → ℕ) a ≤ ((ix6 d b c l g r : S2x8x2x128x4x8.Idx) a).val * (![1, 1, 1, 1, 1, 1] : Fin 6 → ℕ) a + (win k a).val
      ∧ ((ix6 d b c l g r : S2x8x2x128x4x8.Idx) a).val * (![1, 1, 1, 1, 1, 1] : Fin 6 → ℕ) a + (win k a).val - (![0, 0, 0, 127, 0, 0] : Fin 6 → ℕ) a < S2x8x2x128x4x8.size a := by
      intro a
      fin_cases a
      · exact ⟨Nat.zero_le _, by show d.val * 1 + 0 - 0 < 2; omega⟩
      · exact ⟨Nat.zero_le _, by show b.val * 1 + 0 - 0 < 8; omega⟩
      · exact ⟨Nat.zero_le _, by show c.val * 1 + 0 - 0 < 2; omega⟩
      · exact ⟨by show 127 ≤ l.val * 1 + k.val; omega, by show l.val * 1 + k.val - 127 < 128; omega⟩
      · exact ⟨Nat.zero_le _, by show g.val * 1 + 0 - 0 < 4; omega⟩
      · exact ⟨Nat.zero_le _, by show r.val * 1 + 0 - 0 < 8; omega⟩
    rw [dif_pos hin, dif_pos h]
    refine congrArg x (funext fun a => Fin.ext ?_)
    fin_cases a
    · show d.val * 1 + 0 - 0 = d.val; omega
    · show b.val * 1 + 0 - 0 = b.val; omega
    · show c.val * 1 + 0 - 0 = c.val; omega
    · show l.val * 1 + k.val - 127 = l.val + k.val - 127; omega
    · show g.val * 1 + 0 - 0 = g.val; omega
    · show r.val * 1 + 0 - 0 = r.val; omega
  · rw [dif_neg (fun hin => h (by have := (hin 3).1; change 127 ≤ l.val * 1 + k.val at this; omega)), dif_neg h, hv]

theorem cum_window (x : Vec Ideal S2x8x2x128x4x8 .f32) (v : S_.Idx → EReal) (hv : v (Shape.Idx.first h_S_) = 0) (H) (d b c l g r) :
    Host.reduceWindow (s := S2x8x2x128x4x8) (t := S2x8x2x128x4x8) (fun r x : EReal => r + x) ![1, 1, 1, 128, 1, 1] ![1, 1, 1, 1, 1, 1] ![0, 0, 0, 127, 0, 0] ![0, 0, 0, 0, 0, 0] x v H h_S_ (ix6 d b c l g r)
      = ∑ s, if s ≤ l then x (ix6 d b c s g r) else 0 := by
  unfold Host.reduceWindow
  refine (foldl_plus _ _ _).trans ?_
  rw [show ∀ z : EReal, v (Shape.Idx.first h_S_) + z = z from fun z => by rw [hv, zero_add], ← List.ofFn_eq_map, List.sum_ofFn]
  refine Eq.trans (Finset.sum_congr rfl fun n _ => ?_) (((Equiv.sum_comp Win.rowMajor.symm (place x v d b c l g r)).trans (win_bijective.sum_comp (place x v d b c l g r)).symm).trans
    ((Finset.sum_congr rfl fun k _ => place_win x v hv d b c l g r k).trans (window_sum (fun s => x (ix6 d b c s g r)) l)))
  exact dite_congr rfl (fun _ => rfl) (fun _ => rfl)

section
variable (a0 : Vec Ideal S8x256x3072 .f32) (a1 : Vec Ideal S8x256x2x32 .f32) (a2 : Vec Ideal S2x32 .f32) (a3 : Vec Ideal S8x2x32x64x128 .f32)

/-! ## The arguments -/

theorem turn_row (d : Fin 2) (c : Fin 2) (l : Fin 128) (h : c.val * 128 + l.val < 256) : turn d (⟨c.val * 128 + l.val, h⟩ : Fin 256) = ctxRow d c.val (turn d l) := by
  refine Fin.ext ?_
  unfold turn ctxRow
  split <;> simp [Fin.val_rev] <;> omega

theorem xs1_apply (b t h p) : xs1 a0 (ix4 b t h p) = a0 (ix3 b t (xcol (hcol h p))) := by
  pointwise [xs1]
  rfl

theorem xs_apply (d b t h p) : xs a0 (ix5 d b t h p) = a0 (ix3 b (turn d t) (xcol (hcol h p))) := by
  pointwise [xs]
  unfold turn
  by_cases hd : d.val = 0
  · rw [dif_pos (by omega), if_pos hd, xs1_apply]
  · rw [dif_neg (by omega), if_neg hd]; exact xs1_apply a0 b t.rev h p

theorem dts_apply (d b t h) : dts a1 (ix4 d b t h) = a1 (ix4 b (turn d t) d h) := by
  pointwise [dts]
  unfold turn
  by_cases hd : d.val = 0
  · obtain rfl : d = 0 := Fin.ext hd
    rw [dif_pos (by decide), if_pos (by decide)]
  · obtain rfl : d = 1 := Fin.ext (by show d.val = 1; omega)
    rw [dif_neg (by decide), if_neg (by decide)]; rfl

theorem two_apply (v : Vec Ideal S8x256x4x128 .f32) (d b c l g n) : two v (ix6 d b c l g n) = v (ix4 b (ctxRow d c.val (turn d l)) g n) := by
  rw [← turn_row d c l (by omega)]
  pointwise [two]
  unfold turn
  by_cases hd : d.val = 0
  · rw [dif_pos (by omega), if_pos hd]
  · rw [dif_neg (by omega), if_neg hd]; rfl

theorem bs_apply (d b c l g n) : bs a0 (ix6 d b c l g n) = a0 (ix3 b (ctxRow d c.val (turn d l)) (bcol (gcol g n))) := by
  rw [bs, two_apply]
  pointwise
  unfold bcol gcol
  simp only [Nat.mul_comm 128]

theorem ex_apply (d b c l g r) : ex a1 a2 (ix6 d b c l g r) = a1 (ix4 b (ctxRow d c.val (turn d l)) d (head g r)) * a2 (ix2 d (head g r)) := by
  pointwise [ex]
  rw [dts_apply, turn_row]
  rfl

theorem xd_apply (d b c l g r p) : xd a0 a1 (ix7 d b c l g r p)
    = a0 (ix3 b (ctxRow d c.val (turn d l)) (xcol (hcol (head g r) p))) * a1 (ix4 b (ctxRow d c.val (turn d l)) d (head g r)) := by
  pointwise [xd]
  rw [dts_apply, xs_apply, turn_row]
  rfl

theorem cu_apply (d b c l g r) : cu a1 a2 (ix6 d b c l g r) = ∑ s, if s ≤ l then ex a1 a2 (ix6 d b c s g r) else 0 := by
  refine cum_window (ex a1 a2) _ ?_ reduceWindows_S2x8x2x128x4x8_S2x8x2x128x4x8_w1s1p0_0_w1s1p0_0_w1s1p0_0_w128s1p127_0_w1s1p0_0_w1s1p0_0 d b c l g r
  pointwise
end

section
variable (x : Vec Ideal S2x8x2x128x4x8x64 .f32) (bb : Vec Ideal S2x8x2x128x4x128 .f32) (u : Vec Ideal S2x8x2x128x4x8 .f32)

theorem add_apply (d b c g r p n) : add x bb u (ix7 d b c g r p n)
    = ∑ l, x (ix7 d b c l g r p) * Ideal.exp (u (ix6 d b c 127 g r) - u (ix6 d b c l g r)) * bb (ix6 d b c l g n) := by
  pointwise [add, la, forall_fin7]

theorem dec_apply (d b c g r) : dec u (ix5 d b c g r) = Ideal.exp (u (ix6 d b c 127 g r)) := by
  pointwise [dec, la]

end

section
variable (a0 : Vec Ideal S8x256x3072 .f32) (a1 : Vec Ideal S8x256x2x32 .f32) (a2 : Vec Ideal S2x32 .f32) (a3 : Vec Ideal S8x2x32x64x128 .f32)

/-- The arguments by coordinates. -/
def ins : CtxInputs where
  xbc b t k := a0 (ix3 b t k)
  dt b t d h := a1 (ix4 b t d h)
  an d h := a2 (ix2 d h)
  init b d h p n := a3 (ix5 b d h p n)

variable (d : Fin 2) (b : Fin 8) (c : Fin 2) (g : Fin 4) (r : Fin 8)

theorem cu_chunk (l : Fin 128) : cu a1 a2 (ix6 d b c l g r) = cum d.val (((ins a0 a1 a2 a3).chunk b d c.val).a (head g r)) (turn d l) := by
  rw [cu_apply, ← cum_turn]
  exact Finset.sum_congr rfl fun s _ => by rw [ex_apply]; rfl

theorem la_chunk : cu a1 a2 (ix6 d b c 127 g r) = ∑ s, ((ins a0 a1 a2 a3).chunk b d c.val).a (head g r) s := by
  rw [cu_apply]
  exact Eq.trans (Finset.sum_congr rfl fun s _ => by rw [if_pos (by rw [Fin.le_def]; show s.val ≤ 127 % 128; omega), ex_apply]; rfl) (sum_turn d fun s => ((ins a0 a1 a2 a3).chunk b d c.val).a (head g r) s)

theorem dec_chunk : dec (cu a1 a2) (ix5 d b c g r) = Ideal.exp (∑ s, ((ins a0 a1 a2 a3).chunk b d c.val).a (head g r) s) := by
  rw [dec_apply, la_chunk a0 a1 a2 a3]

theorem add_chunk (p : Fin 64) (n : Fin 128) : add (xd a0 a1) (bs a0) (cu a1 a2) (ix7 d b c g r p n)
    = ∑ l, ((ins a0 a1 a2 a3).chunk b d c.val).x l (hcol (head g r) p) * ((ins a0 a1 a2 a3).chunk b d c.val).dt l (head g r)
        * Ideal.exp ((∑ s, ((ins a0 a1 a2 a3).chunk b d c.val).a (head g r) s) - cum d.val (((ins a0 a1 a2 a3).chunk b d c.val).a (head g r)) l)
        * ((ins a0 a1 a2 a3).chunk b d c.val).b l (gcol g n) := by
  rw [add_apply]
  refine Eq.trans (Finset.sum_congr rfl fun l _ => ?_) (sum_turn d _)
  rw [la_chunk a0 a1 a2 a3, cu_chunk a0 a1 a2 a3, xd_apply, bs_apply]
  rfl

/-- One trip's state is the chunk's. -/
theorem state_chunk (S : Fin 2048 → Fin 128 → EReal) (p : Fin 64) (n : Fin 128) :
    S (hcol (head g r) p) n * dec (cu a1 a2) (ix5 d b c g r) + add (xd a0 a1) (bs a0) (cu a1 a2) (ix7 d b c g r p n)
      = ((ins a0 a1 a2 a3).chunk b d c.val).state d.val S (hcol (head g r) p) n := by
  rw [dec_chunk a0 a1 a2 a3, add_chunk a0 a1 a2 a3, Chunk.state, hd_hcol, gp_hcol]

end
end Cert.ReferenceStatesIdeal.Scan
end
-- ==== Proof.Ssd.Ctx.RefEntry.lean ====
module

public import proofs.«01_k».proof.Proof.Ssd.Ctx.RefDefs
public import Idealize.ShloMosaic.Lib.Tactic.CleanTypes

/-! What the lines of the context's reference leave in front of its loop. -/

@[expose] public section
set_option maxRecDepth 16384
noncomputable section
namespace Cert.ReferenceStatesIdeal.Scan
open Idealize.ShloMosaic Idealize.ShloMosaic.TcCoe Idealize.ShloMosaic.StableHlo Cert.ReferenceStatesIdeal Cert.ReferenceStatesIdeal.Gen Cert.ReferenceStatesIdeal.Value Ssd
open Cert.ReferenceIdeal.Scan (foldl_plus Win win win_bijective window_sum turn head turn_turn sum_turn cum_turn hd_hcol gp_hcol)

section
variable (X : Valuation τ sig (Elt Ideal))

/-- The lines of the reference up to the cumulative sum, and those from there to the loop. -/
abbrev linesA : List (List (HloOp τ sig (Elt Ideal))) := [hostOps0, hostOps0_1, hostOps0_2, hostOps0_3, hostOps0_4, hostOps0_5, hostOps0_6, hostOps0_7]
abbrev linesB : List (List (HloOp τ sig (Elt Ideal))) := [hostOps0_8]

theorem first_xd : afterL linesA X (Proc.devRef .tc main_v24) = xd (X (Proc.devRef .tc main_arg0)) (X (Proc.devRef .tc main_arg1)) := by
  simp only [afterL_cons, afterL_nil]
  after_reads_simp
  rfl
theorem first_bs : afterL linesA X (Proc.devRef .tc main_v25) = bs (X (Proc.devRef .tc main_arg0)) := by
  simp only [afterL_cons, afterL_nil]
  after_reads_simp
  rfl
theorem first_cu : afterL linesA X (Proc.devRef .tc main_v30) = cu (X (Proc.devRef .tc main_arg1)) (X (Proc.devRef .tc main_arg2)) := by
  simp only [afterL_cons, afterL_nil]
  after_reads_simp
  rfl
theorem first_init : afterL linesA X (Proc.devRef .tc main_v20) = transpose S2x8x32x64x128 [1, 0, 2, 3, 4] (X (Proc.devRef .tc main_arg3) : Vec Ideal S8x2x32x64x128 .f32) transposes_S8x2x32x64x128_S2x8x32x64x128_1_0_2_3_4 := by
  simp only [afterL_cons, afterL_nil]
  after_reads_simp
theorem then_0 : afterL linesB X (Proc.devRef .tc main_v45_0) = transpose S2x2x8x4x8x64x128 [2, 0, 1, 3, 4, 5, 6] (add (X (Proc.devRef .tc main_v24)) (X (Proc.devRef .tc main_v25)) (X (Proc.devRef .tc main_v30))) transposes_S2x8x2x4x8x64x128_S2x2x8x4x8x64x128_2_0_1_3_4_5_6 := by
  simp only [afterL_cons, afterL_nil]
  after_reads_simp
  rfl
theorem then_1 : afterL linesB X (Proc.devRef .tc main_v45_1) = transpose S2x2x8x4x8 [2, 0, 1, 3, 4] (dec (X (Proc.devRef .tc main_v30))) transposes_S2x8x2x4x8_S2x2x8x4x8_2_0_1_3_4 := by
  simp only [afterL_cons, afterL_nil]
  after_reads_simp
  rfl
theorem then_6 : afterL linesB X (Proc.devRef .tc main_v45_3) = shapeCast S2x8x4x8x64x128 (X (Proc.devRef .tc main_v20) : Vec Ideal S2x8x32x64x128 .f32) shapeCasts_S2x8x32x64x128_S2x8x4x8x64x128 := by
  simp only [afterL_cons, afterL_nil]
  after_reads_simp
  rfl
end

variable (m : (ℓ : Loc nD τ sig) → Buf (Elt Ideal) ℓ) (c : Dev nD)

theorem entry_two : entryContents preI m c = afterL linesB (afterL linesA (entryContents [] m c)) := by
  simp only [entryContents, afterL_cons, afterL_nil]

/-- The arguments, as the entry reads them. -/
abbrev xbc : Vec Ideal S8x256x3072 .f32 := m ((c : Thread nD τ).loc main_arg0)
abbrev dt : Vec Ideal S8x256x2x32 .f32 := m ((c : Thread nD τ).loc main_arg1)
abbrev an : Vec Ideal S2x32 .f32 := m ((c : Thread nD τ).loc main_arg2)
abbrev init : Vec Ideal S8x2x32x64x128 .f32 := m ((c : Thread nD τ).loc main_arg3)

/-- What the loop finds at its entry. -/
theorem entry_0 : entryContents preI m c (Proc.devRef .tc main_v45_0) = transpose S2x2x8x4x8x64x128 [2, 0, 1, 3, 4, 5, 6] (add (xd (xbc m c) (dt m c)) (bs (xbc m c)) (cu (dt m c) (an m c))) transposes_S2x8x2x4x8x64x128_S2x2x8x4x8x64x128_2_0_1_3_4_5_6 := by
  rw [entry_two, then_0, first_xd, first_bs, first_cu]; rfl
theorem entry_1 : entryContents preI m c (Proc.devRef .tc main_v45_1) = transpose S2x2x8x4x8 [2, 0, 1, 3, 4] (dec (cu (dt m c) (an m c))) transposes_S2x8x2x4x8_S2x2x8x4x8_2_0_1_3_4 := by
  rw [entry_two, then_1, first_cu]; rfl
theorem entry_6 : entryContents preI m c (Proc.devRef .tc main_v45_3) = shapeCast S2x8x4x8x64x128 (transpose S2x8x32x64x128 [1, 0, 2, 3, 4] (init m c) transposes_S8x2x32x64x128_S2x8x32x64x128_1_0_2_3_4) shapeCasts_S2x8x32x64x128_S2x8x4x8x64x128 := by
  rw [entry_two, then_6, first_init]; rfl

end Cert.ReferenceStatesIdeal.Scan
end
-- ==== Proof.Ssd.Ctx.RefLoop.lean ====
module

public import proofs.«01_k».proof.Proof.Ssd.Ctx.RefValues
public import proofs.«01_k».proof.Proof.Ssd.Ctx.RefEntry
public import Idealize.ShloMosaic.Lib.DynamicIndex
public import Idealize.ShloMosaic.Lib.Pipeline.Value

/-! The loop of the context's reference and its result. -/

@[expose] public section
set_option maxRecDepth 16384
noncomputable section
namespace Cert.ReferenceStatesIdeal.Scan
open Idealize.ShloMosaic Idealize.ShloMosaic.TcCoe Idealize.ShloMosaic.StableHlo Cert.ReferenceStatesIdeal Cert.ReferenceStatesIdeal.Gen Cert.ReferenceStatesIdeal.Value Ssd
open Cert.ReferenceIdeal.Scan (foldl_plus Win win win_bijective window_sum turn head turn_turn sum_turn cum_turn hd_hcol gp_hcol)

section
theorem toInt_small (k : Fin 2) : (BitVec.ofNat 32 k.val).toInt = (k.val : Int) := by
  rw [BitVec.toInt_eq_toNat_of_lt] <;> rw [BitVec.toNat_ofNat, Nat.mod_eq_of_lt] <;> omega

/-- The loop's index in front of zeros, as the starts of a slice of rank 5 or 7. -/
theorem start5 (k : Fin 2) : ∀ a : Fin 5, ((![fun _ => BitVec.ofNat 32 k.val, constantI S_ 32 0#32, constantI S_ 32 0#32, constantI S_ 32 0#32, constantI S_ 32 0#32] :
    Fin 5 → (⟨S_, .i32⟩ : BufTy).Contents (Elt Ideal)) a (Shape.Idx.first h_S_)).toInt = ((![k.val, 0, 0, 0, 0] : Fin 5 → ℕ) a : Int) := by
  refine Fin.cases (toInt_small k) fun a => ?_
  fin_cases a <;> rfl
theorem start7 (k : Fin 2) : ∀ a : Fin 7, ((![fun _ => BitVec.ofNat 32 k.val, constantI S_ 32 0#32, constantI S_ 32 0#32, constantI S_ 32 0#32, constantI S_ 32 0#32, constantI S_ 32 0#32, constantI S_ 32 0#32] :
    Fin 7 → (⟨S_, .i32⟩ : BufTy).Contents (Elt Ideal)) a (Shape.Idx.first h_S_)).toInt = ((![k.val, 0, 0, 0, 0, 0, 0] : Fin 7 → ℕ) a : Int) := by
  refine Fin.cases (toInt_small k) fun a => ?_
  fin_cases a <;> rfl

theorem off_dec (k : Fin 2) : S2x2x8x4x8.Slices ![k.val, 0, 0, 0, 0] S1x2x8x4x8 :=
  ⟨rfl, Fin.cases (show k.val + 1 ≤ 2 by omega) fun a => by fin_cases a <;> exact Nat.le_of_eq (Nat.zero_add _)⟩
theorem off_add (k : Fin 2) : S2x2x8x4x8x64x128.Slices ![k.val, 0, 0, 0, 0, 0, 0] S1x2x8x4x8x64x128 :=
  ⟨rfl, Fin.cases (show k.val + 1 ≤ 2 by omega) fun a => by fin_cases a <;> exact Nat.le_of_eq (Nat.zero_add _)⟩

theorem cut_dec (k : Fin 2) (x : Vec Ideal S2x2x8x4x8 .f32) : Host.dynamicSlice S1x2x8x4x8 x (fun a => ((![fun _ => BitVec.ofNat 32 k.val, constantI S_ 32 0#32, constantI S_ 32 0#32, constantI S_ 32 0#32, constantI S_ 32 0#32] : Fin 5 → (⟨S_, .i32⟩ : BufTy).Contents (Elt Ideal)) a (Shape.Idx.first h_S_)).toInt) sliceFits_S2x2x8x4x8_S1x2x8x4x8 = extractStridedSlice S1x2x8x4x8 ![k.val, 0, 0, 0, 0] x (off_dec k) :=
  Host.dynamicSlice_eq_extractStridedSlice _ _ _ _ _ (off_dec k) (start5 k)
theorem cut_add (k : Fin 2) (x : Vec Ideal S2x2x8x4x8x64x128 .f32) : Host.dynamicSlice S1x2x8x4x8x64x128 x (fun a => ((![fun _ => BitVec.ofNat 32 k.val, constantI S_ 32 0#32, constantI S_ 32 0#32, constantI S_ 32 0#32, constantI S_ 32 0#32, constantI S_ 32 0#32, constantI S_ 32 0#32] : Fin 7 → (⟨S_, .i32⟩ : BufTy).Contents (Elt Ideal)) a (Shape.Idx.first h_S_)).toInt) sliceFits_S2x2x8x4x8x64x128_S1x2x8x4x8x64x128 = extractStridedSlice S1x2x8x4x8x64x128 ![k.val, 0, 0, 0, 0, 0, 0] x (off_add k) :=
  Host.dynamicSlice_eq_extractStridedSlice _ _ _ _ _ (off_add k) (start7 k)
/-- One trip: the state from the carried arrays and the index. -/
def tripState (s : Vec Ideal S2x8x4x8x64x128 .f32) (s1 : Vec Ideal S2x2x8x4x8 .f32) (s0 : Vec Ideal S2x2x8x4x8x64x128 .f32) (i : IVec S_ 32) : Vec Ideal S2x8x4x8x64x128 .f32 :=
  addf (F := Ideal) (φ := .f32) (mulf (F := Ideal) (φ := .f32) s (broadcastInDim S2x8x4x8x64x128 ![0, 1, 2, 3, 4, 5] bcast_S2x8x4x8x1x1_S2x8x4x8x64x128_0_1_2_3_4_5
      (broadcastInDim S2x8x4x8x1x1 ![0, 1, 2, 3] bcast_S2x8x4x8_S2x8x4x8x1x1_0_1_2_3 (shapeCast S2x8x4x8
        (Host.dynamicSlice S1x2x8x4x8 s1 (fun a => ((![i, constantI S_ 32 0#32, constantI S_ 32 0#32, constantI S_ 32 0#32, constantI S_ 32 0#32] : Fin 5 → (⟨S_, .i32⟩ : BufTy).Contents (Elt Ideal)) a (Shape.Idx.first h_S_)).toInt) sliceFits_S2x2x8x4x8_S1x2x8x4x8) shapeCasts_S1x2x8x4x8_S2x8x4x8))))
    (shapeCast S2x8x4x8x64x128 (Host.dynamicSlice S1x2x8x4x8x64x128 s0 (fun a => ((![i, constantI S_ 32 0#32, constantI S_ 32 0#32, constantI S_ 32 0#32, constantI S_ 32 0#32, constantI S_ 32 0#32, constantI S_ 32 0#32] : Fin 7 → (⟨S_, .i32⟩ : BufTy).Contents (Elt Ideal)) a (Shape.Idx.first h_S_)).toInt) sliceFits_S2x2x8x4x8x64x128_S1x2x8x4x8x64x128) shapeCasts_S1x2x8x4x8x64x128_S2x8x4x8x64x128)
variable (V : Valuation τ sig (Elt Ideal)) (k : Fin 2) (hk : V (Proc.devRef .tc main_v45_2) = fun _ => BitVec.ofNat 32 k.val)

/-- The buffers that the loop carries, as arrays. -/
abbrev c0 : Vec Ideal S2x2x8x4x8x64x128 .f32 := V (Proc.devRef .tc main_v45_0)
abbrev c1 : Vec Ideal S2x2x8x4x8 .f32 := V (Proc.devRef .tc main_v45_1)
abbrev c3 : Vec Ideal S2x8x4x8x64x128 .f32 := V (Proc.devRef .tc main_v45_3)

include hk

theorem step_state (d b g r p n) : c3 (STEP V) (ix6 d b g r p n) = c3 V (ix6 d b g r p n) * c1 V (ix5 k d b g r) + c0 V (ix7 k d b g r p n) := by
  have e : c3 (STEP V) = tripState (c3 V) (c1 V) (c0 V) (fun _ => BitVec.ofNat 32 k.val) :=
    (STEP_main_v45_3 V).trans (congrArg (fun i : IVec S_ 32 => tripState (c3 V) (c1 V) (c0 V) i) hk)
  rw [e, tripState, cut_dec, cut_add]
  pointwise [forall_fin7]
end

section
variable (a0 : Vec Ideal S8x256x3072 .f32) (a1 : Vec Ideal S8x256x2x32 .f32) (a2 : Vec Ideal S2x32 .f32) (a3 : Vec Ideal S8x2x32x64x128 .f32)

/-- The carried buffers before trip `k`. -/
structure Inv (k : ℕ) (V : Valuation τ sig (Elt Ideal)) : Prop where
  ctr : (V (Proc.devRef .tc main_v45_2) : IVec S_ 32) = fun _ => BitVec.ofNat 32 k
  e0 : c0 V = transpose S2x2x8x4x8x64x128 [2, 0, 1, 3, 4, 5, 6] (add (xd a0 a1) (bs a0) (cu a1 a2)) transposes_S2x8x2x4x8x64x128_S2x2x8x4x8x64x128_2_0_1_3_4_5_6
  e1 : c1 V = transpose S2x2x8x4x8 [2, 0, 1, 3, 4] (dec (cu a1 a2)) transposes_S2x8x2x4x8_S2x2x8x4x8_2_0_1_3_4
  st : ∀ d b g r p n, c3 V (ix6 d b g r p n) = (ins a0 a1 a2 a3).state b d k (hcol (head g r) p) n

/-- The arrays of one trip, entry by entry. -/
theorem at_0 (k : Fin 2) (x : Vec Ideal S2x8x2x4x8x64x128 .f32) (d b g r p n) :
    transpose S2x2x8x4x8x64x128 [2, 0, 1, 3, 4, 5, 6] x transposes_S2x8x2x4x8x64x128_S2x2x8x4x8x64x128_2_0_1_3_4_5_6 (ix7 k d b g r p n) = x (ix7 d b k g r p n) := by
  pointwise [forall_fin7]
theorem at_1 (k : Fin 2) (x : Vec Ideal S2x8x2x4x8 .f32) (d b g r) :
    transpose S2x2x8x4x8 [2, 0, 1, 3, 4] x transposes_S2x8x2x4x8_S2x2x8x4x8_2_0_1_3_4 (ix5 k d b g r) = x (ix5 d b k g r) := by
  pointwise
theorem at_6 (d b g r p n) :
    shapeCast S2x8x4x8x64x128 (transpose S2x8x32x64x128 [1, 0, 2, 3, 4] a3 transposes_S8x2x32x64x128_S2x8x32x64x128_1_0_2_3_4) shapeCasts_S2x8x32x64x128_S2x8x4x8x64x128 (ix6 d b g r p n)
      = a3 (ix5 b d (head g r) p n) := by
  pointwise
  rfl

theorem state_zero (d b g r p n) : (ins a0 a1 a2 a3).state b d 0 (hcol (head g r) p) n = a3 (ix5 b d (head g r) p n) := by
  refine congrArg₂ (fun (h : Fin 32) (z : Fin 64) => a3 (ix5 b d h z n)) (hd_hcol (head g r) p) (Fin.ext ?_)
  show ((g.val * 8 + r.val) * 64 + p.val) % 64 = p.val
  omega

section
variable {a0 a1 a2 a3} {k : ℕ} (hk : k < 2) {V : Valuation τ sig (Elt Ideal)} (h : Inv a0 a1 a2 a3 k V)
include h

theorem next_ctr : (STEP V (Proc.devRef .tc main_v45_2) : IVec S_ 32) = fun _ => BitVec.ofNat 32 (k + 1) := by
  have e : (STEP V (Proc.devRef .tc main_v45_2) : IVec S_ 32) = addi (V (Proc.devRef .tc main_v45_2) : IVec S_ 32) (constantI S_ 32 1#32) := STEP_main_v45_2 V
  refine e.trans ?_
  rw [h.ctr]
  funext j
  exact (BitVec.ofNat_add k 1).symm

include hk
theorem next_state (d b g r p n) : c3 (STEP V) (ix6 d b g r p n) = (ins a0 a1 a2 a3).state b d (k + 1) (hcol (head g r) p) n := by
  rw [step_state V ⟨k, hk⟩ h.ctr, h.st, h.e1, h.e0, at_1, at_0]
  exact state_chunk a0 a1 a2 a3 d b ⟨k, hk⟩ g r _ p n

theorem inv_succ : Inv a0 a1 a2 a3 (k + 1) (STEP V) where
  ctr := next_ctr h
  e0 := (STEP_main_v45_0 V).trans h.e0
  e1 := (STEP_main_v45_1 V).trans h.e1
  st := next_state hk h
end

theorem inv_all {V : Valuation τ sig (Elt Ideal)} (h : Inv a0 a1 a2 a3 0 V) : ∀ k, k ≤ 2 → Inv a0 a1 a2 a3 k (STEP^[k] V)
  | 0, _ => h
  | k + 1, hk => by
    rw [Function.iterate_succ_apply']
    exact inv_succ (by omega) (inv_all h k (by omega))

variable {a0 a1 a2 a3} {V : Valuation τ sig (Elt Ideal)} (h : Inv a0 a1 a2 a3 2 V)
include h

theorem fin_of : (out_main_v47 V : Vec Ideal S8x2x32x64x128 .f32) = fun i => (ins a0 a1 a2 a3).fin (i 0) (i 1) (i 2) (i 3) (i 4) := by
  replace h := h.st
  funext i
  obtain ⟨b, d, hh, p, n, rfl⟩ : ∃ b d hh p n, i = ix5 b d hh p n := ⟨i 0, i 1, i 2, i 3, i 4, by ext a; fin_cases a <;> rfl⟩
  have e : (out_main_v47 V : Vec Ideal S8x2x32x64x128 .f32) = transpose S8x2x32x64x128 [1, 0, 2, 3, 4] (shapeCast S2x8x32x64x128 (c3 V) shapeCasts_S2x8x4x8x64x128_S2x8x32x64x128) transposes_S2x8x32x64x128_S8x2x32x64x128_1_0_2_3_4 := rfl
  rw [e]
  pointwise
  rw [h]
  refine congrArg (fun z => (ins a0 a1 a2 a3).state b d 2 (hcol z p) n) (Fin.ext ?_)
  show hh.val / 8 * 8 + hh.val % 8 = hh.val
  omega

end

section
variable (m : (ℓ : Loc nD τ sig) → Buf (Elt Ideal) ℓ) (c : Dev nD)

/-- The arguments of the scan. -/
def inp : CtxInputs := ins (xbc m c) (dt m c) (an m c) (init m c)

theorem inv_entry : Inv (xbc m c) (dt m c) (an m c) (init m c) 0 (entryContents preI m c) where
  ctr := ctr_entry m c
  e0 := entry_0 m c
  e1 := entry_1 m c
  st d b g r p n := by
    rw [state_zero]
    exact (congrFun (entry_6 m c) _).trans (at_6 _ _ _ _ _ _ _)

/-- The result of the reference. -/
theorem fin_eq : (out_main_v47 (STEP^[2] (entryContents preI m c)) : Vec Ideal S8x2x32x64x128 .f32) = fun i => (inp m c).fin (i 0) (i 1) (i 2) (i 3) (i 4) :=
  fin_of (inv_all _ _ _ _ (inv_entry m c) 2 le_rfl)
end
end Cert.ReferenceStatesIdeal.Scan
end
-- ==== Proof.Ssd.Ctx.Meet.lean ====
module

public import proofs.«01_k».proof.Defs
public import proofs.«01_k».proof.Proof.Gen.Pre_context_steps_finite
public import proofs.«01_k».proof.Proof.Ssd.Meet
public import proofs.«01_k».proof.Proof.Ssd.Ctx.Run
public import proofs.«01_k».proof.Proof.Ssd.Ctx.RefLoop

/-! What the precondition says of the context, and that kernel and reference compute the same state. -/

@[expose] public section
set_option maxRecDepth 16384
noncomputable section
namespace Ssd.Ctx
open Idealize.ShloMosaic Idealize.ShloMosaic.TcCoe Idealize.SL.Sem

section Pre
open Cert.Pre_context_steps_finite Cert.Pre_context_steps_finite.Gen
variable (x : FVec Ideal Cert.Pre_context_steps_finite.S8x256x3072 .f32) (dt : FVec Ideal Cert.Pre_context_steps_finite.S8x256x2x32 .f32) (an : FVec Ideal Cert.Pre_context_steps_finite.S2x32 .f32) (s : FVec Ideal Cert.Pre_context_steps_finite.S8x2x32x64x128 .f32)

theorem pre_at (b t d h) : fn (F := Ideal) x dt an s (ix4 b t d h)
    = Ideal.cmp .olt (FloatOps.absf (F := Ideal) (φ := .f32) (dt (ix4 b t d h))) (Ideal.ofBits .f32 0x7F800000#32) &&& Ideal.cmp .olt (FloatOps.absf (F := Ideal) (φ := .f32) (an (ix2 d h))) (Ideal.ofBits .f32 0x7F800000#32) := by
  pointwise [fn]
  rfl

theorem finite_of_pre (h : fn (F := Ideal) x dt an s = fun _ => 1#1) :
    (∀ b t d k, Fi (dt (ix4 b t d k))) ∧ ∀ d k, Fi (an (ix2 d k)) :=
  ⟨fun b t d k => fi_of_abs _ (and_one _ _ ((pre_at x dt an s b t d k).symm.trans (congrFun h _))).1,
   fun d k => fi_of_abs _ (and_one _ _ ((pre_at x dt an s 0 0 d k).symm.trans (congrFun h _))).2⟩
end Pre

section
variable (m : (ℓ : Loc Cert.KernelStatesIdeal.nD Cert.KernelStatesIdeal.τ Cert.KernelStatesIdeal.sig) → Buf (Elt Ideal) ℓ)
  (m' : (ℓ : Loc Cert.ReferenceStatesIdeal.nD Cert.ReferenceStatesIdeal.τ Cert.ReferenceStatesIdeal.sig) → Buf (Elt Ideal) ℓ)

theorem finite_inp (h : Cert.Pre_KernelStatesIdeal_context_steps_finite m) (c : Dev Cert.KernelStatesIdeal.nD) : (Cert.KernelStatesIdeal.Scan.inp m c).Finite :=
  let f := finite_of_pre _ _ _ _ (h c)
  ⟨fun b t d k => f.1 b t d k, fun d k => f.2 d k⟩

theorem same_inp (c : Dev Cert.KernelStatesIdeal.nD)
    (h0 : Cert.ReferenceStatesIdeal.Scan.xbc m' c = m ((c.tc : Thread Cert.KernelStatesIdeal.nD Cert.KernelStatesIdeal.τ).loc Cert.KernelStatesIdeal.main_arg0))
    (h1 : Cert.ReferenceStatesIdeal.Scan.dt m' c = m ((c.tc : Thread Cert.KernelStatesIdeal.nD Cert.KernelStatesIdeal.τ).loc Cert.KernelStatesIdeal.main_arg1))
    (h2 : Cert.ReferenceStatesIdeal.Scan.an m' c = m ((c.tc : Thread Cert.KernelStatesIdeal.nD Cert.KernelStatesIdeal.τ).loc Cert.KernelStatesIdeal.main_arg2))
    (h3 : Cert.ReferenceStatesIdeal.Scan.init m' c = m ((c.tc : Thread Cert.KernelStatesIdeal.nD Cert.KernelStatesIdeal.τ).loc Cert.KernelStatesIdeal.main_arg3)) :
    Cert.ReferenceStatesIdeal.Scan.inp m' c = Cert.KernelStatesIdeal.Scan.inp m c := by
  unfold Cert.ReferenceStatesIdeal.Scan.inp
  rw [h0, h1, h2, h3]
  rfl

/-- Kernel and reference agree. -/
theorem algebraic : Cert.algebraic_KernelStatesIdeal_ReferenceStatesIdeal_pre_context_steps_finite := fun m ρ m' ρ' hpre hag =>
  have e := fun c => same_inp m m' c (hag c).1 (hag c).2.1 (hag c).2.2.1 (hag c).2.2.2
  ⟨fun c => fun i => (Cert.KernelStatesIdeal.Scan.inp m c).fin (i 0) (i 1) (i 2) (i 3) (i 4),
   (θ_run _ _ _).mono (fun _ h c =>
      ⟨(h c).1.trans (Cert.KernelStatesIdeal.Scan.fin_eq m c (finite_inp m hpre c)), (h c).2⟩)
     (Cert.KernelStatesIdeal.Value.run_blocks m ρ),
   (θ_run _ _ _).mono (fun _ h c =>
      ⟨(h c).1.trans ((Cert.ReferenceStatesIdeal.Scan.fin_eq m' c).trans (by rw [e c]; rfl)), (h c).2⟩)
     (Cert.ReferenceStatesIdeal.Value.run m' ρ')⟩
end
end Ssd.Ctx
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_steps_finite
public import proofs.«01_k».proof.Proof.Ssd.Meet
public import proofs.«01_k».proof.Proof.Gen.KernelZ.Frame
public import proofs.«01_k».proof.Proof.Gen.KernelZIdeal.Frame
public import proofs.«01_k».proof.Proof.Gen.ReferenceZIdeal.Run
public import proofs.«01_k».proof.Proof.Mix.Z
public import proofs.«01_k».proof.Proof.Gen.KernelGrid.Frame
public import proofs.«01_k».proof.Proof.Gen.KernelGridIdeal.Frame
public import proofs.«01_k».proof.Proof.Gen.ReferenceGridIdeal.Run
public import proofs.«01_k».proof.Proof.Mix.Grid
public import proofs.«01_k».proof.Proof.Gen.KernelSeq.Frame
public import proofs.«01_k».proof.Proof.Gen.KernelSeqIdeal.Frame
public import proofs.«01_k».proof.Proof.Gen.ReferenceSeqIdeal.Run
public import proofs.«01_k».proof.Proof.Mix.Seq
public import proofs.«01_k».proof.Proof.Gen.KernelOut.Frame
public import proofs.«01_k».proof.Proof.Gen.KernelOutIdeal.Frame
public import proofs.«01_k».proof.Proof.Gen.ReferenceOutIdeal.Run
public import proofs.«01_k».proof.Proof.Mix.Out
public import proofs.«01_k».proof.Proof.Gen.KernelProj.Frame
public import proofs.«01_k».proof.Proof.Gen.KernelProjIdeal.Frame
public import proofs.«01_k».proof.Proof.Gen.ReferenceProjIdeal.Run
public import proofs.«01_k».proof.Proof.Mix.Proj
public import proofs.«01_k».proof.Proof.Gen.KernelDt.Frame
public import proofs.«01_k».proof.Proof.Gen.KernelDtIdeal.Frame
public import proofs.«01_k».proof.Proof.Gen.ReferenceDtIdeal.Run
public import proofs.«01_k».proof.Proof.Mix.Dt
public import proofs.«01_k».proof.Proof.Gen.KernelCtxDt.Frame
public import proofs.«01_k».proof.Proof.Gen.KernelCtxDtIdeal.Frame
public import proofs.«01_k».proof.Proof.Gen.ReferenceCtxDtIdeal.Run
public import proofs.«01_k».proof.Proof.Mix.CtxDt
public import proofs.«01_k».proof.Proof.Gen.KernelCtx.Frame
public import proofs.«01_k».proof.Proof.Gen.KernelCtxIdeal.Frame
public import proofs.«01_k».proof.Proof.Gen.ReferenceCtxIdeal.Run
public import proofs.«01_k».proof.Proof.Mix.Ctx
public import proofs.«01_k».proof.Proof.Gen.Pre_context_steps_finite
public import proofs.«01_k».proof.Proof.Gen.KernelStates.Frame
public import proofs.«01_k».proof.Proof.Gen.KernelStatesIdeal.Frame
public import proofs.«01_k».proof.Proof.Gen.ReferenceStatesIdeal.Run
public import proofs.«01_k».proof.Proof.Ssd.Ctx.Meet
public import Idealize.ShloMosaic.Adequacy
public import Idealize.ShloMosaic.Init
public import Idealize.ShloMosaic.Lib.Quiescent

@[expose] public section

noncomputable section

namespace Cert.Proof

open Idealize.ShloMosaic Idealize.SL.Sem

/-- The reference declares no semaphore, and its run leaves the arguments as they were. -/
theorem reference_frame : Cert.quiescent_ReferenceIdeal := fun m ρ _ =>
  (θ_run _ _ _).mono (fun r h => ⟨fun c => (h c).2.2, sem_eq_zero_of_no_sems (by decide) r.2⟩) (Cert.ReferenceIdeal.Value.run m ρ)

/-- The same of the other references. -/
theorem reference_frame_z : Cert.quiescent_ReferenceZIdeal := fun m ρ _ =>
  (θ_run _ _ _).mono (fun r h => ⟨fun c => (h c).2, sem_eq_zero_of_no_sems (by decide) r.2⟩) (Cert.ReferenceZIdeal.Value.run m ρ)
theorem reference_frame_grid : Cert.quiescent_ReferenceGridIdeal := fun m ρ _ =>
  (θ_run _ _ _).mono (fun r h => ⟨fun c => (h c).2, sem_eq_zero_of_no_sems (by decide) r.2⟩) (Cert.ReferenceGridIdeal.Value.run m ρ)
theorem reference_frame_seq : Cert.quiescent_ReferenceSeqIdeal := fun m ρ _ =>
  (θ_run _ _ _).mono (fun r h => ⟨fun c => (h c).2, sem_eq_zero_of_no_sems (by decide) r.2⟩) (Cert.ReferenceSeqIdeal.Value.run m ρ)
theorem reference_frame_out : Cert.quiescent_ReferenceOutIdeal := fun m ρ _ =>
  (θ_run _ _ _).mono (fun r h => ⟨fun c => (h c).2, sem_eq_zero_of_no_sems (by decide) r.2⟩) (Cert.ReferenceOutIdeal.Value.run m ρ)
theorem reference_frame_proj : Cert.quiescent_ReferenceProjIdeal := fun m ρ _ =>
  (θ_run _ _ _).mono (fun r h => ⟨fun c => (h c).2, sem_eq_zero_of_no_sems (by decide) r.2⟩) (Cert.ReferenceProjIdeal.Value.run m ρ)
theorem reference_frame_dt : Cert.quiescent_ReferenceDtIdeal := fun m ρ _ =>
  (θ_run _ _ _).mono (fun r h => ⟨fun c => (h c).2, sem_eq_zero_of_no_sems (by decide) r.2⟩) (Cert.ReferenceDtIdeal.Value.run m ρ)
theorem reference_frame_ctxdt : Cert.quiescent_ReferenceCtxDtIdeal := fun m ρ _ =>
  (θ_run _ _ _).mono (fun r h => ⟨fun c => (h c).2, sem_eq_zero_of_no_sems (by decide) r.2⟩) (Cert.ReferenceCtxDtIdeal.Value.run m ρ)
theorem reference_frame_ctx : Cert.quiescent_ReferenceCtxIdeal := fun m ρ _ =>
  (θ_run _ _ _).mono (fun r h => ⟨fun c => (h c).2, sem_eq_zero_of_no_sems (by decide) r.2⟩) (Cert.ReferenceCtxIdeal.Value.run m ρ)
theorem reference_frame_states : Cert.quiescent_ReferenceStatesIdeal := fun m ρ _ =>
  (θ_run _ _ _).mono (fun r h => ⟨fun c => (h c).2, sem_eq_zero_of_no_sems (by decide) r.2⟩) (Cert.ReferenceStatesIdeal.Value.run m ρ)

theorem claim : Cert.Claim :=
  ⟨Cert.Kernel.Gen.facts, Cert.KernelIdeal.Gen.facts, Cert.ReferenceIdeal.Gen.facts, Cert.KernelZ.Gen.facts, Cert.KernelZIdeal.Gen.facts, Cert.ReferenceZIdeal.Gen.facts, Cert.KernelGrid.Gen.facts, Cert.KernelGridIdeal.Gen.facts, Cert.ReferenceGridIdeal.Gen.facts, Cert.KernelSeq.Gen.facts, Cert.KernelSeqIdeal.Gen.facts, Cert.ReferenceSeqIdeal.Gen.facts, Cert.KernelOut.Gen.facts, Cert.KernelOutIdeal.Gen.facts, Cert.ReferenceOutIdeal.Gen.facts, Cert.KernelProj.Gen.facts, Cert.KernelProjIdeal.Gen.facts, Cert.ReferenceProjIdeal.Gen.facts, Cert.KernelDt.Gen.facts, Cert.KernelDtIdeal.Gen.facts, Cert.ReferenceDtIdeal.Gen.facts, Cert.KernelCtxDt.Gen.facts, Cert.KernelCtxDtIdeal.Gen.facts, Cert.ReferenceCtxDtIdeal.Gen.facts, Cert.KernelCtx.Gen.facts, Cert.KernelCtxIdeal.Gen.facts, Cert.ReferenceCtxIdeal.Gen.facts, Cert.KernelStates.Gen.facts, Cert.KernelStatesIdeal.Gen.facts, Cert.ReferenceStatesIdeal.Gen.facts, Cert.Pre_steps_finite.Gen.facts, Cert.Pre_context_steps_finite.Gen.facts,
   fun m ρ _ => Cert.Kernel.Gen.frame m ρ,
   fun m ρ _ => Cert.KernelIdeal.Gen.frame m ρ,
   fun m ρ _ => Cert.KernelIdeal.Gen.frame m ρ,
   reference_frame,
   fun m ρ _ => reference_frame m ρ trivial,
   fun m ρ _ => Cert.KernelZ.Gen.frame m ρ,
   fun m ρ _ => Cert.KernelZIdeal.Gen.frame m ρ,
   reference_frame_z,
   fun m ρ _ => Cert.KernelGrid.Gen.frame m ρ,
   fun m ρ _ => Cert.KernelGridIdeal.Gen.frame m ρ,
   reference_frame_grid,
   fun m ρ _ => Cert.KernelSeq.Gen.frame m ρ,
   fun m ρ _ => Cert.KernelSeqIdeal.Gen.frame m ρ,
   reference_frame_seq,
   fun m ρ _ => Cert.KernelOut.Gen.frame m ρ,
   fun m ρ _ => Cert.KernelOutIdeal.Gen.frame m ρ,
   reference_frame_out,
   fun m ρ _ => Cert.KernelProj.Gen.frame m ρ,
   fun m ρ _ => Cert.KernelProjIdeal.Gen.frame m ρ,
   reference_frame_proj,
   fun m ρ _ => Cert.KernelDt.Gen.frame m ρ,
   fun m ρ _ => Cert.KernelDtIdeal.Gen.frame m ρ,
   reference_frame_dt,
   fun m ρ _ => Cert.KernelCtxDt.Gen.frame m ρ,
   fun m ρ _ => Cert.KernelCtxDtIdeal.Gen.frame m ρ,
   reference_frame_ctxdt,
   fun m ρ _ => Cert.KernelCtx.Gen.frame m ρ,
   fun m ρ _ => Cert.KernelCtxIdeal.Gen.frame m ρ,
   reference_frame_ctx,
   fun m ρ _ => Cert.KernelStates.Gen.frame m ρ,
   fun m ρ _ => Cert.KernelStatesIdeal.Gen.frame m ρ,
   fun m ρ _ => Cert.KernelStatesIdeal.Gen.frame m ρ,
   reference_frame_states,
   fun m ρ _ => reference_frame_states m ρ trivial,
   trivial,
   Ssd.algebraic,
   trivial,
   Mix.Z.algebraic,
   trivial,
   Mix.Grid.algebraic,
   trivial,
   Mix.Seq.algebraic,
   trivial,
   Mix.Out.algebraic,
   trivial,
   Mix.Proj.algebraic,
   trivial,
   Mix.Dt.algebraic,
   trivial,
   Mix.CtxDt.algebraic,
   trivial,
   Mix.Ctx.algebraic,
   trivial,
   Ssd.Ctx.algebraic⟩

end Cert.Proof

end
